-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v200) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Kernel.lean ====
abbrev S8x4096x1024 : Shape := ⟨3, ![8, 4096, 1024]⟩
abbrev S1024x1024 : Shape := ⟨2, ![1024, 1024]⟩
abbrev S2x8x4096x256 : Shape := ⟨4, ![2, 8, 4096, 256]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S32768x1024 : Shape := ⟨2, ![32768, 1024]⟩
abbrev S65536x256 : Shape := ⟨2, ![65536, 256]⟩
abbrev S1x1024 : Shape := ⟨2, ![1, 1024]⟩
abbrev S512x1024 : Shape := ⟨2, ![512, 1024]⟩
abbrev S512x256 : Shape := ⟨2, ![512, 256]⟩
abbrev S512x2816 : Shape := ⟨2, ![512, 2816]⟩
abbrev S2x520x256 : Shape := ⟨3, ![2, 520, 256]⟩
abbrev S8x5632 : Shape := ⟨2, ![8, 5632]⟩
abbrev S512 : Shape := ⟨1, ![512]⟩
abbrev S512x1 : Shape := ⟨2, ![512, 1]⟩
abbrev S1024x256 : Shape := ⟨2, ![1024, 256]⟩
abbrev S8x256 : Shape := ⟨2, ![8, 256]⟩
abbrev S1x8x256 : Shape := ⟨3, ![1, 8, 256]⟩
abbrev S1x512x256 : Shape := ⟨3, ![1, 512, 256]⟩
abbrev S3x256 : Shape := ⟨2, ![3, 256]⟩
abbrev S1x256 : Shape := ⟨2, ![1, 256]⟩

abbrev nBuf : Space → Nat
  | .hbm => 24
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S2x8x4096x256, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S32768x1024, .bf16⟩
  | .hbm, ⟨13, _⟩ => ⟨S1024x1024, .bf16⟩
  | .hbm, ⟨14, _⟩ => ⟨S32768x1024, .f32⟩
  | .hbm, ⟨15, _⟩ => ⟨S65536x256, .f32⟩
  | .hbm, ⟨16, _⟩ => ⟨S1x1024, .f32⟩
  | .hbm, ⟨17, _⟩ => ⟨S1024x5632, .bf16⟩
  | .hbm, ⟨18, _⟩ => ⟨S2816x1024, .bf16⟩
  | .hbm, ⟨19, _⟩ => ⟨S1x1024, .f32⟩
  | .hbm, ⟨20, _⟩ => ⟨S1024x1024, .bf16⟩
  | .hbm, ⟨21, _⟩ => ⟨S256x1024, .bf16⟩
  | .hbm, ⟨22, _⟩ => ⟨S1x1024, .f32⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x256, .f32⟩
  | .local _ .vmem, ⟨6, _⟩ => ⟨S512x256, .f32⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2816, .bf16⟩
  | .local _ .vmem, ⟨18, _⟩ => ⟨S2x520x256, .f32⟩
  | .local _ .vmem, ⟨19, _⟩ => ⟨S8x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x4096x1024 : Shape := ⟨3, ![8, 4096, 1024]⟩
abbrev S1024x1024 : Shape := ⟨2, ![1024, 1024]⟩
abbrev S2x8x4096x256 : Shape := ⟨4, ![2, 8, 4096, 256]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S1x8x4096x256 : Shape := ⟨4, ![1, 8, 4096, 256]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S5632 : Shape := ⟨1, ![5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S1024x1024, .f32⟩
  | .hbm, ⟨3, _⟩ => ⟨S2x8x4096x256, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S256x1024, .f32⟩
  | .hbm, ⟨11, _⟩ => ⟨S1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S1x8x4096x256, .f32⟩
  | .hbm, ⟨16, _⟩ => ⟨S8x4096x256, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x4096x5632, .f32⟩
  | .hbm, ⟨34, _⟩ => ⟨S_, .i32⟩
  | .hbm, ⟨35, _⟩ => ⟨S_, .f32⟩
  | .hbm, ⟨36, _⟩ => ⟨S8x4098x5632, .f32⟩
  | .hbm, ⟨37, _⟩ => ⟨S8x4096x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S8x4096x5632, .f32⟩
  | .hbm, ⟨42, _⟩ => ⟨S8x4096x5632, .f32⟩
  | .hbm, ⟨43, _⟩ => ⟨S_, .f32⟩
  | .hbm, ⟨44, _⟩ => ⟨S8x4096x5632, .f32⟩
  | .hbm, ⟨45, _⟩ => ⟨S8x4096x5632, .f32⟩
  | .hbm, ⟨46, _⟩ => ⟨S8x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S8x4096x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S8x4096x5632, .f32⟩
  | .hbm, ⟨58, _⟩ => ⟨S8x4096x5632, .f32⟩
  | .hbm, ⟨59, _⟩ => ⟨S8x4096x5632, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x1024, .f32⟩
  | .hbm, ⟨86, _⟩ => ⟨S8x4096x1024, .f32⟩
  | .hbm, ⟨87, _⟩ => ⟨S1x1x1024, .f32⟩
  | .hbm, ⟨88, _⟩ => ⟨S8x4096x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S_, .f32⟩
  | .hbm, ⟨94, _⟩ => ⟨S8x4096x1024, .f32⟩
  | .hbm, ⟨95, _⟩ => ⟨S8x4096x1024, .f32⟩
  | .hbm, ⟨96, _⟩ => ⟨S_, .f32⟩
  | .hbm, ⟨97, _⟩ => ⟨S8x4096x1024, .f32⟩
  | .hbm, ⟨98, _⟩ => ⟨S8x4096x1024, .f32⟩
  | .hbm, ⟨99, _⟩ => ⟨S8x4096x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S_, .f32⟩
  | .hbm, ⟨104, _⟩ => ⟨S8x4096, .f32⟩
  | .hbm, ⟨105, _⟩ => ⟨S8x4096x1, .f32⟩
  | .hbm, ⟨106, _⟩ => ⟨S_, .f32⟩
  | .hbm, ⟨107, _⟩ => ⟨S8x4096x1, .f32⟩
  | .hbm, ⟨108, _⟩ => ⟨S8x4096x1, .f32⟩
  | .hbm, ⟨109, _⟩ => ⟨S_, .f32⟩
  | .hbm, ⟨110, _⟩ => ⟨S8x4096x1, .f32⟩
  | .hbm, ⟨111, _⟩ => ⟨S8x4096x1, .f32⟩
  | .hbm, ⟨112, _⟩ => ⟨S8x4096x1, .f32⟩
  | .hbm, ⟨113, _⟩ => ⟨S8x4096x1024, .f32⟩
  | .hbm, ⟨114, _⟩ => ⟨S8x4096x1024, .f32⟩
  | .hbm, ⟨115, _⟩ => ⟨S1x1x1024, .f32⟩
  | .hbm, ⟨116, _⟩ => ⟨S8x4096x1024, .f32⟩
  | .hbm, ⟨117, _⟩ => ⟨S8x4096x1024, .f32⟩
  | .hbm, ⟨118, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_8 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_cst_10 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩

abbrev nD : Nat := 1
abbrev τ : Topo := Topo.v7x

variable {F : FTy → Type} [FloatOps F]
-- ==== Kernel2.lean ====
abbrev S8x4096x1024 : Shape := ⟨3, ![8, 4096, 1024]⟩
abbrev S32768x2048 : Shape := ⟨2, ![32768, 2048]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S2x8x4096x256 : Shape := ⟨4, ![2, 8, 4096, 256]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S32768x512 : Shape := ⟨2, ![32768, 512]⟩
abbrev S1x512 : Shape := ⟨2, ![1, 512]⟩
abbrev S32768x1024 : Shape := ⟨2, ![32768, 1024]⟩
abbrev S65536x256 : Shape := ⟨2, ![65536, 256]⟩
abbrev S1x1024 : Shape := ⟨2, ![1, 1024]⟩
abbrev S512x1024 : Shape := ⟨2, ![512, 1024]⟩
abbrev S512x512 : Shape := ⟨2, ![512, 512]⟩
abbrev S16x512 : Shape := ⟨2, ![16, 512]⟩
abbrev S512x256 : Shape := ⟨2, ![512, 256]⟩
abbrev S528x512 : Shape := ⟨2, ![528, 512]⟩
abbrev S512x2816 : Shape := ⟨2, ![512, 2816]⟩
abbrev S2x520x256 : Shape := ⟨3, ![2, 520, 256]⟩
abbrev S8x5632 : Shape := ⟨2, ![8, 5632]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1024x256 : Shape := ⟨2, ![1024, 256]⟩
abbrev S8x256 : Shape := ⟨2, ![8, 256]⟩
abbrev S1x8x256 : Shape := ⟨3, ![1, 8, 256]⟩
abbrev S1x512x256 : Shape := ⟨3, ![1, 512, 256]⟩
abbrev S3x256 : Shape := ⟨2, ![3, 256]⟩
abbrev S1x256 : Shape := ⟨2, ![1, 256]⟩

abbrev nBuf : Space → Nat
  | .hbm => 29
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S32768x2048, .bf16⟩
  | .hbm, ⟨2, _⟩ => ⟨S8x4096x512, .bf16⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S2x8x4096x256, .f32⟩
  | .hbm, ⟨7, _⟩ => ⟨S1024, .f32⟩
  | .hbm, ⟨8, _⟩ => ⟨S1024x5632, .f32⟩
  | .hbm, ⟨9, _⟩ => ⟨S3x5632, .f32⟩
  | .hbm, ⟨10, _⟩ => ⟨S2816x1024, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S1024, .f32⟩
  | .hbm, ⟨15, _⟩ => ⟨S32768x512, .bf16⟩
  | .hbm, ⟨16, _⟩ => ⟨S4x128x128, .bf16⟩
  | .hbm, ⟨17, _⟩ => ⟨S1x512, .f32⟩
  | .hbm, ⟨18, _⟩ => ⟨S1024x1024, .bf16⟩
  | .hbm, ⟨19, _⟩ => ⟨S32768x1024, .f32⟩
  | .hbm, ⟨20, _⟩ => ⟨S65536x256, .f32⟩
  | .hbm, ⟨21, _⟩ => ⟨S1x1024, .f32⟩
  | .hbm, ⟨22, _⟩ => ⟨S1024x5632, .bf16⟩
  | .hbm, ⟨23, _⟩ => ⟨S2816x1024, .bf16⟩
  | .hbm, ⟨24, _⟩ => ⟨S1x1024, .f32⟩
  | .hbm, ⟨25, _⟩ => ⟨S1024x1024, .bf16⟩
  | .hbm, ⟨26, _⟩ => ⟨S256x1024, .bf16⟩
  | .hbm, ⟨27, _⟩ => ⟨S1x1024, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S512x512, .bf16⟩
  | .local _ .vmem, ⟨7, _⟩ => ⟨S512x512, .bf16⟩
  | .local _ .vmem, ⟨8, _⟩ => ⟨S4x128x128, .bf16⟩
  | .local _ .vmem, ⟨9, _⟩ => ⟨S1x512, .f32⟩
  | .local _ .vmem, ⟨10, _⟩ => ⟨S1024x1024, .bf16⟩
  | .local _ .vmem, ⟨11, _⟩ => ⟨S512x256, .f32⟩
  | .local _ .vmem, ⟨12, _⟩ => ⟨S512x256, .f32⟩
  | .local _ .vmem, ⟨13, _⟩ => ⟨S1x1024, .f32⟩
  | .local _ .vmem, ⟨14, _⟩ => ⟨S1024x5632, .bf16⟩
  | .local _ .vmem, ⟨15, _⟩ => ⟨S3x5632, .f32⟩
  | .local _ .vmem, ⟨16, _⟩ => ⟨S2816x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S528x512, .f32⟩
  | .local _ .vmem, ⟨24, _⟩ => ⟨S512x2816, .bf16⟩
  | .local _ .vmem, ⟨25, _⟩ => ⟨S2x520x256, .f32⟩
  | .local _ .vmem, ⟨26, _⟩ => ⟨S8x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S8x4096x1024 : Shape := ⟨3, ![8, 4096, 1024]⟩
abbrev S32768x2048 : Shape := ⟨2, ![32768, 2048]⟩
abbrev S8x4096x512 : Shape := ⟨3, ![8, 4096, 512]⟩
abbrev S4x128x128 : Shape := ⟨3, ![4, 128, 128]⟩
abbrev S512 : Shape := ⟨1, ![512]⟩
abbrev S1024x1024 : Shape := ⟨2, ![1024, 1024]⟩
abbrev S2x8x4096x256 : Shape := ⟨4, ![2, 8, 4096, 256]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S256x1024 : Shape := ⟨2, ![256, 1024]⟩
abbrev S32768x512 : Shape := ⟨2, ![32768, 512]⟩
abbrev S4096 : Shape := ⟨1, ![4096]⟩
abbrev S8x4096x128 : Shape := ⟨3, ![8, 4096, 128]⟩
abbrev S_ : Shape := ⟨0, ![]⟩
abbrev S8x4097x128 : Shape := ⟨3, ![8, 4097, 128]⟩
abbrev S1x4096x1 : Shape := ⟨3, ![1, 4096, 1]⟩
abbrev S1x128x128 : Shape := ⟨3, ![1, 128, 128]⟩
abbrev S128x128 : Shape := ⟨2, ![128, 128]⟩
abbrev S8x4099x128 : Shape := ⟨3, ![8, 4099, 128]⟩
abbrev S8x4103x128 : Shape := ⟨3, ![8, 4103, 128]⟩
abbrev S8x4111x128 : Shape := ⟨3, ![8, 4111, 128]⟩
abbrev S1x1x512 : Shape := ⟨3, ![1, 1, 512]⟩
abbrev S1x8x4096x256 : Shape := ⟨4, ![1, 8, 4096, 256]⟩
abbrev S8x4096x256 : Shape := ⟨3, ![8, 4096, 256]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S5632 : Shape := ⟨1, ![5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 255
  | .vmem => 0
  | .smem => 0
  | _ => 0

abbrev hbmTy0_0 (i : Nat) : BufTy := match i % 128 with
  | 0 => ⟨S8x4096x1024, .f32⟩
  | 1 => ⟨S32768x2048, .bf16⟩
  | 2 => ⟨S8x4096x512, .bf16⟩
  | 3 => ⟨S4x128x128, .f32⟩
  | 4 => ⟨S512, .f32⟩
  | 5 => ⟨S1024x1024, .f32⟩
  | 6 => ⟨S2x8x4096x256, .f32⟩
  | 7 => ⟨S1024, .f32⟩
  | 8 => ⟨S1024x5632, .f32⟩
  | 9 => ⟨S3x5632, .f32⟩
  | 10 => ⟨S2816x1024, .f32⟩
  | 11 => ⟨S1024, .f32⟩
  | 12 => ⟨S1024x1024, .f32⟩
  | 13 => ⟨S256x1024, .f32⟩
  | 14 => ⟨S1024, .f32⟩
  | 15 => ⟨S32768x512, .bf16⟩
  | 16 => ⟨S32768x512, .f32⟩
  | 17 => ⟨S8x4096x512, .f32⟩
  | 18 => ⟨S4096, .i32⟩
  | 19 => ⟨S8x4096x128, .f32⟩
  | 20 => ⟨S_, .i32⟩
  | 21 => ⟨S_, .f32⟩
  | 22 => ⟨S8x4097x128, .f32⟩
  | 23 => ⟨S8x4096x128, .f32⟩
  | 24 => ⟨S_, .f32⟩
  | 25 => ⟨S8x4096x128, .f32⟩
  | 26 => ⟨S8x4096x128, .f32⟩
  | 27 => ⟨S8x4096x128, .f32⟩
  | 28 => ⟨S8x4096x128, .f32⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S4096, .f32⟩
  | 36 => ⟨S1x4096x1, .f32⟩
  | 37 => ⟨S8x4096x128, .f32⟩
  | 38 => ⟨S8x4096x128, .f32⟩
  | 39 => ⟨S8x4096x128, .f32⟩
  | 40 => ⟨S1x128x128, .f32⟩
  | 41 => ⟨S128x128, .f32⟩
  | 42 => ⟨S8x4096x128, .f32⟩
  | 43 => ⟨S8x4096x128, .f32⟩
  | 44 => ⟨S_, .i32⟩
  | 45 => ⟨S_, .f32⟩
  | 46 => ⟨S8x4099x128, .f32⟩
  | 47 => ⟨S8x4096x128, .f32⟩
  | 48 => ⟨S_, .f32⟩
  | 49 => ⟨S8x4096x128, .f32⟩
  | 50 => ⟨S8x4096x128, .f32⟩
  | 51 => ⟨S8x4096x128, .f32⟩
  | 52 => ⟨S8x4096x128, .f32⟩
  | 53 => ⟨S8x4096x128, .f32⟩
  | 54 => ⟨S8x4096x128, .f32⟩
  | 55 => ⟨S8x4096x128, .f32⟩
  | 56 => ⟨S8x4096x128, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S1x4096x1, .f32⟩
  | 65 => ⟨S8x4096x128, .f32⟩
  | 66 => ⟨S8x4096x128, .f32⟩
  | 67 => ⟨S8x4096x128, .f32⟩
  | 68 => ⟨S1x128x128, .f32⟩
  | 69 => ⟨S128x128, .f32⟩
  | 70 => ⟨S8x4096x128, .f32⟩
  | 71 => ⟨S8x4096x128, .f32⟩
  | 72 => ⟨S_, .i32⟩
  | 73 => ⟨S_, .f32⟩
  | 74 => ⟨S8x4103x128, .f32⟩
  | 75 => ⟨S8x4096x128, .f32⟩
  | 76 => ⟨S_, .f32⟩
  | 77 => ⟨S8x4096x128, .f32⟩
  | 78 => ⟨S8x4096x128, .f32⟩
  | 79 => ⟨S8x4096x128, .f32⟩
  | 80 => ⟨S8x4096x128, .f32⟩
  | 81 => ⟨S8x4096x128, .f32⟩
  | 82 => ⟨S8x4096x128, .f32⟩
  | 83 => ⟨S8x4096x128, .f32⟩
  | 84 => ⟨S8x4096x128, .f32⟩
  | 85 => ⟨S8x4096x128, .f32⟩
  | 86 => ⟨S8x4096x128, .f32⟩
  | 87 => ⟨S8x4096x128, .f32⟩
  | 88 => ⟨S8x4096x128, .f32⟩
  | 89 => ⟨S8x4096x128, .f32⟩
  | 90 => ⟨S8x4096x128, .f32⟩
  | 91 => ⟨S8x4096x128, .f32⟩
  | 92 => ⟨S8x4096x128, .f32⟩
  | 93 => ⟨S_, .i32⟩
  | 94 => ⟨S4096, .i32⟩
  | 95 => ⟨S4096, .i32⟩
  | 96 => ⟨S_, .i32⟩
  | 97 => ⟨S4096, .i32⟩
  | 98 => ⟨S4096, .i32⟩
  | 99 => ⟨S4096, .f32⟩
  | 100 => ⟨S1x4096x1, .f32⟩
  | 101 => ⟨S8x4096x128, .f32⟩
  | 102 => ⟨S8x4096x128, .f32⟩
  | 103 => ⟨S8x4096x128, .f32⟩
  | 104 => ⟨S1x128x128, .f32⟩
  | 105 => ⟨S128x128, .f32⟩
  | 106 => ⟨S8x4096x128, .f32⟩
  | 107 => ⟨S8x4096x128, .f32⟩
  | 108 => ⟨S_, .i32⟩
  | 109 => ⟨S_, .f32⟩
  | 110 => ⟨S8x4111x128, .f32⟩
  | 111 => ⟨S8x4096x128, .f32⟩
  | 112 => ⟨S_, .f32⟩
  | 113 => ⟨S8x4096x128, .f32⟩
  | 114 => ⟨S8x4096x128, .f32⟩
  | 115 => ⟨S8x4096x128, .f32⟩
  | 116 => ⟨S8x4096x128, .f32⟩
  | 117 => ⟨S8x4096x128, .f32⟩
  | 118 => ⟨S8x4096x128, .f32⟩
  | 119 => ⟨S8x4096x128, .f32⟩
  | 120 => ⟨S8x4096x128, .f32⟩
  | 121 => ⟨S8x4096x128, .f32⟩
  | 122 => ⟨S8x4096x128, .f32⟩
  | 123 => ⟨S8x4096x128, .f32⟩
  | 124 => ⟨S8x4096x128, .f32⟩
  | 125 => ⟨S8x4096x128, .f32⟩
  | 126 => ⟨S8x4096x128, .f32⟩
  | 127 => ⟨S8x4096x128, .f32⟩
  | _ => ⟨S8x4096x1024, .f32⟩

abbrev hbmTy0_1 (i : Nat) : BufTy := match i % 128 with
  | 0 => ⟨S8x4096x128, .f32⟩
  | 1 => ⟨S8x4096x128, .f32⟩
  | 2 => ⟨S8x4096x128, .f32⟩
  | 3 => ⟨S8x4096x128, .f32⟩
  | 4 => ⟨S8x4096x128, .f32⟩
  | 5 => ⟨S8x4096x128, .f32⟩
  | 6 => ⟨S8x4096x128, .f32⟩
  | 7 => ⟨S8x4096x128, .f32⟩
  | 8 => ⟨S8x4096x128, .f32⟩
  | 9 => ⟨S8x4096x128, .f32⟩
  | 10 => ⟨S8x4096x128, .f32⟩
  | 11 => ⟨S8x4096x128, .f32⟩
  | 12 => ⟨S8x4096x128, .f32⟩
  | 13 => ⟨S8x4096x128, .f32⟩
  | 14 => ⟨S8x4096x128, .f32⟩
  | 15 => ⟨S8x4096x128, .f32⟩
  | 16 => ⟨S8x4096x128, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096, .f32⟩
  | 24 => ⟨S1x4096x1, .f32⟩
  | 25 => ⟨S8x4096x128, .f32⟩
  | 26 => ⟨S8x4096x128, .f32⟩
  | 27 => ⟨S8x4096x128, .f32⟩
  | 28 => ⟨S1x128x128, .f32⟩
  | 29 => ⟨S128x128, .f32⟩
  | 30 => ⟨S8x4096x128, .f32⟩
  | 31 => ⟨S8x4096x512, .f32⟩
  | 32 => ⟨S1x1x512, .f32⟩
  | 33 => ⟨S8x4096x512, .f32⟩
  | 34 => ⟨S8x4096x512, .f32⟩
  | 35 => ⟨S8x4096x512, .f32⟩
  | 36 => ⟨S8x4096x1024, .f32⟩
  | 37 => ⟨S8x4096x1024, .f32⟩
  | 38 => ⟨S8x4096x1024, .f32⟩
  | 39 => ⟨S1x8x4096x256, .f32⟩
  | 40 => ⟨S8x4096x256, .f32⟩
  | 41 => ⟨S8x4096x1024, .f32⟩
  | 42 => ⟨S_, .f32⟩
  | 43 => ⟨S8x4096, .f32⟩
  | 44 => ⟨S8x4096x1, .f32⟩
  | 45 => ⟨S_, .f32⟩
  | 46 => ⟨S8x4096x1, .f32⟩
  | 47 => ⟨S8x4096x1, .f32⟩
  | 48 => ⟨S_, .f32⟩
  | 49 => ⟨S8x4096x1, .f32⟩
  | 50 => ⟨S8x4096x1, .f32⟩
  | 51 => ⟨S8x4096x1, .f32⟩
  | 52 => ⟨S8x4096x1024, .f32⟩
  | 53 => ⟨S8x4096x1024, .f32⟩
  | 54 => ⟨S1x1x1024, .f32⟩
  | 55 => ⟨S8x4096x1024, .f32⟩
  | 56 => ⟨S8x4096x1024, .f32⟩
  | 57 => ⟨S8x4096x5632, .f32⟩
  | 58 => ⟨S_, .i32⟩
  | 59 => ⟨S_, .f32⟩
  | 60 => ⟨S8x4098x5632, .f32⟩
  | 61 => ⟨S8x4096x5632, .f32⟩
  | 62 => ⟨S1x5632, .f32⟩
  | 63 => ⟨S5632, .f32⟩
  | 64 => ⟨S1x1x5632, .f32⟩
  | 65 => ⟨S8x4096x5632, .f32⟩
  | 66 => ⟨S8x4096x5632, .f32⟩
  | 67 => ⟨S_, .f32⟩
  | 68 => ⟨S8x4096x5632, .f32⟩
  | 69 => ⟨S8x4096x5632, .f32⟩
  | 70 => ⟨S8x4096x5632, .f32⟩
  | 71 => ⟨S1x5632, .f32⟩
  | 72 => ⟨S5632, .f32⟩
  | 73 => ⟨S1x1x5632, .f32⟩
  | 74 => ⟨S8x4096x5632, .f32⟩
  | 75 => ⟨S8x4096x5632, .f32⟩
  | 76 => ⟨S8x4096x5632, .f32⟩
  | 77 => ⟨S8x4096x5632, .f32⟩
  | 78 => ⟨S1x5632, .f32⟩
  | 79 => ⟨S5632, .f32⟩
  | 80 => ⟨S1x1x5632, .f32⟩
  | 81 => ⟨S8x4096x5632, .f32⟩
  | 82 => ⟨S8x4096x5632, .f32⟩
  | 83 => ⟨S8x4096x5632, .f32⟩
  | 84 => ⟨S8x4096x2816, .f32⟩
  | 85 => ⟨S8x4096x2816, .f32⟩
  | 86 => ⟨S8x4096x2816, .f32⟩
  | 87 => ⟨S8x4096x2816, .f32⟩
  | 88 => ⟨S_, .f32⟩
  | 89 => ⟨S8x4096x2816, .f32⟩
  | 90 => ⟨S8x4096x2816, .f32⟩
  | 91 => ⟨S_, .f32⟩
  | 92 => ⟨S8x4096x2816, .f32⟩
  | 93 => ⟨S8x4096x2816, .f32⟩
  | 94 => ⟨S8x4096x2816, .f32⟩
  | 95 => ⟨S8x4096x2816, .f32⟩
  | 96 => ⟨S8x4096x1024, .f32⟩
  | 97 => ⟨S8x4096x1024, .f32⟩
  | 98 => ⟨S8x4096x1024, .f32⟩
  | 99 => ⟨S_, .f32⟩
  | 100 => ⟨S8x4096, .f32⟩
  | 101 => ⟨S8x4096x1, .f32⟩
  | 102 => ⟨S_, .f32⟩
  | 103 => ⟨S8x4096x1, .f32⟩
  | 104 => ⟨S8x4096x1, .f32⟩
  | 105 => ⟨S_, .f32⟩
  | 106 => ⟨S8x4096x1, .f32⟩
  | 107 => ⟨S8x4096x1, .f32⟩
  | 108 => ⟨S8x4096x1, .f32⟩
  | 109 => ⟨S8x4096x1024, .f32⟩
  | 110 => ⟨S8x4096x1024, .f32⟩
  | 111 => ⟨S1x1x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S8x4096x1024, .f32⟩
  | 117 => ⟨S_, .f32⟩
  | 118 => ⟨S8x4096x1024, .f32⟩
  | 119 => ⟨S8x4096x1024, .f32⟩
  | 120 => ⟨S_, .f32⟩
  | 121 => ⟨S8x4096x1024, .f32⟩
  | 122 => ⟨S8x4096x1024, .f32⟩
  | 123 => ⟨S8x4096x1024, .f32⟩
  | 124 => ⟨S8x4096x1024, .f32⟩
  | 125 => ⟨S8x4096x1024, .f32⟩
  | 126 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_6 : Ref sig .tc := ⟨.hbm, 72, rfl⟩
abbrev main_call2_v0 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_8 : Ref sig .tc := ⟨.hbm, 93, rfl⟩
abbrev main_v65 : Ref sig .tc := ⟨.hbm, 94, rfl⟩
abbrev main_v66 : Ref sig .tc := ⟨.hbm, 95, rfl⟩
abbrev main_c_9 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_10 : Ref sig .tc := ⟨.hbm, 108, rfl⟩
abbrev main_call3_v0 : Ref sig .tc := ⟨.hbm, 109, rfl⟩
abbrev main_v78 : Ref sig .tc := ⟨.hbm, 110, rfl⟩
abbrev main_v79 : Ref sig .tc := ⟨.hbm, 111, rfl⟩
abbrev main_cst_11 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_c_12 : Ref sig .tc := ⟨.hbm, 145, rfl⟩
abbrev main_v112 : Ref sig .tc := ⟨.hbm, 146, rfl⟩
abbrev main_v113 : Ref sig .tc := ⟨.hbm, 147, rfl⟩
abbrev main_c_13 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_14 : Ref sig .tc := ⟨.hbm, 170, rfl⟩
abbrev main_v135 : Ref sig .tc := ⟨.hbm, 171, rfl⟩
abbrev main_v136 : Ref sig .tc := ⟨.hbm, 172, rfl⟩
abbrev main_cst_15 : Ref sig .tc := ⟨.hbm, 173, rfl⟩
abbrev main_v137 : Ref sig .tc := ⟨.hbm, 174, rfl⟩
abbrev main_v138 : Ref sig .tc := ⟨.hbm, 175, rfl⟩
abbrev main_cst_16 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_c_17 : Ref sig .tc := ⟨.hbm, 186, rfl⟩
abbrev main_call4_v0 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_18 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_call5_v0 : Ref sig .tc := ⟨.hbm, 214, rfl⟩
abbrev main_call5_v1 : Ref sig .tc := ⟨.hbm, 215, rfl⟩
abbrev main_call5_cst : Ref sig .tc := ⟨.hbm, 216, rfl⟩
abbrev main_call5_v2 : Ref sig .tc := ⟨.hbm, 217, rfl⟩
abbrev main_call5_v3 : Ref sig .tc := ⟨.hbm, 218, rfl⟩
abbrev main_call5_cst_0 : Ref sig .tc := ⟨.hbm, 219, rfl⟩
abbrev main_call5_v4 : Ref sig .tc := ⟨.hbm, 220, rfl⟩
abbrev main_call5_v5 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_19 : Ref sig .tc := ⟨.hbm, 227, rfl⟩
abbrev main_v178 : Ref sig .tc := ⟨.hbm, 228, rfl⟩
abbrev main_v179 : Ref sig .tc := ⟨.hbm, 229, rfl⟩
abbrev main_cst_20 : Ref sig .tc := ⟨.hbm, 230, rfl⟩
abbrev main_v180 : Ref sig .tc := ⟨.hbm, 231, rfl⟩
abbrev main_v181 : Ref sig .tc := ⟨.hbm, 232, rfl⟩
abbrev main_cst_21 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_22 : Ref sig .tc := ⟨.hbm, 245, rfl⟩
abbrev main_v193 : Ref sig .tc := ⟨.hbm, 246, rfl⟩
abbrev main_v194 : Ref sig .tc := ⟨.hbm, 247, rfl⟩
abbrev main_cst_23 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2048 : Shape := ⟨2, ![1024, 2048]⟩
abbrev S_ : Shape := ⟨0, ![]⟩
abbrev S512 : Shape := ⟨1, ![512]⟩
abbrev S2048 : Shape := ⟨1, ![2048]⟩
abbrev S32768x1024 : Shape := ⟨2, ![32768, 1024]⟩
abbrev S1x1024 : Shape := ⟨2, ![1, 1024]⟩
abbrev S1x2048 : Shape := ⟨2, ![1, 2048]⟩
abbrev S32768x2048 : Shape := ⟨2, ![32768, 2048]⟩
abbrev S512x1024 : Shape := ⟨2, ![512, 1024]⟩
abbrev S512x2048 : Shape := ⟨2, ![512, 2048]⟩
abbrev S512x1 : Shape := ⟨2, ![512, 1]⟩
abbrev S1024x512 : Shape := ⟨2, ![1024, 512]⟩
abbrev S512x512 : Shape := ⟨2, ![512, 512]⟩

abbrev nBuf : Space → Nat
  | .hbm => 17
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S1024, .f32⟩
  | .hbm, ⟨9, _⟩ => ⟨S2048, .f32⟩
  | .hbm, ⟨10, _⟩ => ⟨S32768x1024, .f32⟩
  | .hbm, ⟨11, _⟩ => ⟨S1x1024, .f32⟩
  | .hbm, ⟨12, _⟩ => ⟨S1x2048, .f32⟩
  | .hbm, ⟨13, _⟩ => ⟨S1024x2048, .f32⟩
  | .hbm, ⟨14, _⟩ => ⟨S1024x2048, .f32⟩
  | .hbm, ⟨15, _⟩ => ⟨S1024x2048, .bf16⟩
  | .hbm, ⟨16, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x4096x1024 : Shape := ⟨3, ![8, 4096, 1024]⟩
abbrev S1024 : Shape := ⟨1, ![1024]⟩
abbrev S1024x2048 : Shape := ⟨2, ![1024, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x512 : Shape := ⟨3, ![8, 4096, 512]⟩
abbrev S32768x2048 : Shape := ⟨2, ![32768, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x2048, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096x512, .f32⟩
  | .hbm, ⟨26, _⟩ => ⟨S8x4096x512, .f32⟩
  | .hbm, ⟨27, _⟩ => ⟨S8x4096x2048, .f32⟩
  | .hbm, ⟨28, _⟩ => ⟨S32768x2048, .f32⟩
  | .hbm, ⟨29, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S8x4x64x192x256 : Shape := ⟨5, ![8, 4, 64, 192, 256]⟩
abbrev S8x4x64x128x256 : Shape := ⟨5, ![8, 4, 64, 128, 256]⟩
abbrev S8x4096x1024 : Shape := ⟨3, ![8, 4096, 1024]⟩
abbrev S8x4x64x8x256 : Shape := ⟨5, ![8, 4, 64, 8, 256]⟩
abbrev S8x4096x4096 : Shape := ⟨3, ![8, 4096, 4096]⟩
abbrev S128 : Shape := ⟨1, ![128]⟩
abbrev S1x128 : Shape := ⟨2, ![1, 128]⟩
abbrev S2x4x8x192x256 : Shape := ⟨5, ![2, 4, 8, 192, 256]⟩
abbrev S2x4x8x128x256 : Shape := ⟨5, ![2, 4, 8, 128, 256]⟩
abbrev S2x512x1024 : Shape := ⟨3, ![2, 512, 1024]⟩
abbrev S2x4x8x8x256 : Shape := ⟨5, ![2, 4, 8, 8, 256]⟩
abbrev S2x4x128x256 : Shape := ⟨4, ![2, 4, 128, 256]⟩
abbrev S128x128 : Shape := ⟨2, ![128, 128]⟩
abbrev S1x1x128x256 : Shape := ⟨4, ![1, 1, 128, 256]⟩
abbrev S128x256 : Shape := ⟨2, ![128, 256]⟩
abbrev S256x256 : Shape := ⟨2, ![256, 256]⟩
abbrev S1x1x1x192x256 : Shape := ⟨5, ![1, 1, 1, 192, 256]⟩
abbrev S192x256 : Shape := ⟨2, ![192, 256]⟩
abbrev S1x1x1x8x256 : Shape := ⟨5, ![1, 1, 1, 8, 256]⟩
abbrev S8x256 : Shape := ⟨2, ![8, 256]⟩
abbrev S1x1x1x128x256 : Shape := ⟨5, ![1, 1, 1, 128, 256]⟩
abbrev S64x256 : Shape := ⟨2, ![64, 256]⟩
abbrev S1x64x256 : Shape := ⟨3, ![1, 64, 256]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 8
  | .vmem => 14
  | .smem => 0
  | _ => 0

abbrev bufTy : (tb : Table) → Fin (tcTables nBuf tb) → BufTy
  | .hbm, ⟨0, _⟩ => ⟨S8x4x64x192x256, .bf16⟩
  | .hbm, ⟨1, _⟩ => ⟨S8x4x64x128x256, .bf16⟩
  | .hbm, ⟨2, _⟩ => ⟨S8x4096x1024, .bf16⟩
  | .hbm, ⟨3, _⟩ => ⟨S8x4x64x8x256, .f32⟩
  | .hbm, ⟨4, _⟩ => ⟨S8x4096x4096, .bf16⟩
  | .hbm, ⟨5, _⟩ => ⟨S128, .f32⟩
  | .hbm, ⟨6, _⟩ => ⟨S1x128, .f32⟩
  | .hbm, ⟨7, _⟩ => ⟨S8x4096x1024, .bf16⟩
  | .local _ .vmem, ⟨0, _⟩ => ⟨S2x4x8x192x256, .bf16⟩
  | .local _ .vmem, ⟨1, _⟩ => ⟨S2x4x8x192x256, .bf16⟩
  | .local _ .vmem, ⟨2, _⟩ => ⟨S2x4x8x128x256, .bf16⟩
  | .local _ .vmem, ⟨3, _⟩ => ⟨S2x4x8x128x256, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x4x8x8x256, .f32⟩
  | .local _ .vmem, ⟨7, _⟩ => ⟨S2x4x8x8x256, .f32⟩
  | .local _ .vmem, ⟨8, _⟩ => ⟨S2x512x1024, .bf16⟩
  | .local _ .vmem, ⟨9, _⟩ => ⟨S2x512x1024, .bf16⟩
  | .local _ .vmem, ⟨10, _⟩ => ⟨S1x128, .f32⟩
  | .local _ .vmem, ⟨11, _⟩ => ⟨S2x512x1024, .bf16⟩
  | .local _ .vmem, ⟨12, _⟩ => ⟨S2x512x1024, .bf16⟩
  | .local _ .vmem, ⟨13, _⟩ => ⟨S2x4x128x256, .f32⟩
  | _, _ => ⟨S8x4x64x192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  v5
def k0_off1 (k0_t1 : Fin k0_t1_loop.trips) : Fin 5 → Nat :=
  let c0_31 : Index := 0#32
  let c0_32 : Index := 0#32
  let c0_i32_1 : BitVec 32 := 0#32
  let c1_i32 : BitVec 32 := 1#32
  let arg10 : BitVec 32 := Scf.iv c0_i32_1 c1_i32 k0_t1
  let v71 : Index := Scalar.indexCast arg10
  let c0_33 : Index := 0#32
  let c0_34 : Index := 0#32
  ![0, 0, v71.toNat, 0, 0]
def k0_off2 (k0_t1 : Fin k0_t1_loop.trips) : Fin 5 → Nat :=
  let c0_36 : Index := 0#32
  let c1_37 : Index := 1#32
  let c0_i32_1 : BitVec 32 := 0#32
  let c1_i32 : BitVec 32 := 1#32
  let arg10 : BitVec 32 := Scf.iv c0_i32_1 c1_i32 k0_t1
  let v75 : Index := Scalar.indexCast arg10
  let c0_38 : Index := 0#32
  let c0_39 : Index := 0#32
  ![0, 1, v75.toNat, 0, 0]
def k0_off3 (k0_t1 : Fin k0_t1_loop.trips) : Fin 5 → Nat :=
  let c0_41 : Index := 0#32
  let c2_42 : Index := 2#32
  let c0_i32_1 : BitVec 32 := 0#32
  let c1_i32 : BitVec 32 := 1#32
  let arg10 : BitVec 32 := Scf.iv c0_i32_1 c1_i32 k0_t1
  let v79 : Index := Scalar.indexCast arg10
  let c0_43 : Index := 0#32
  let c0_44 : Index := 0#32
  ![0, 2, v79.toNat, 0, 0]
def k0_off4 (k0_t1 : Fin k0_t1_loop.trips) : Fin 5 → Nat :=
  let c0_46 : Index := 0#32
  let c3_47 : Index := 3#32
  let c0_i32_1 : BitVec 32 := 0#32
  let c1_i32 : BitVec 32 := 1#32
  let arg10 : BitVec 32 := Scf.iv c0_i32_1 c1_i32 k0_t1
  let v83 : Index := Scalar.indexCast arg10
  let c0_48 : Index := 0#32
  let c0_49 : Index := 0#32
  ![0, 3, v83.toNat, 0, 0]
def k0_off5 (k0_t1 : Fin k0_t1_loop.trips) : Fin 5 → Nat :=
  let c1_51 : Index := 1#32
  let c0_52 : Index := 0#32
  let c0_i32_1 : BitVec 32 := 0#32
  let c1_i32 : BitVec 32 := 1#32
  let arg10 : BitVec 32 := Scf.iv c0_i32_1 c1_i32 k0_t1
  let v87 : Index := Scalar.indexCast arg10
  let c0_53 : Index := 0#32
  let c0_54 : Index := 0#32
  ![1, 0, v87.toNat, 0, 0]
def k0_off6 (k0_t1 : Fin k0_t1_loop.trips) : Fin 5 → Nat :=
  let c1_56 : Index := 1#32
  let c1_57 : Index := 1#32
  let c0_i32_1 : BitVec 32 := 0#32
  let c1_i32 : BitVec 32 := 1#32
  let arg10 : BitVec 32 := Scf.iv c0_i32_1 c1_i32 k0_t1
  let v91 : Index := Scalar.indexCast arg10
  let c0_58 : Index := 0#32
  let c0_59 : Index := 0#32
  ![1, 1, v91.toNat, 0, 0]
def k0_off7 (k0_t1 : Fin k0_t1_loop.trips) : Fin 5 → Nat :=
  let c1_61 : Index := 1#32
  let c2_62 : Index := 2#32
  let c0_i32_1 : BitVec 32 := 0#32
  let c1_i32 : BitVec 32 := 1#32
  let arg10 : BitVec 32 := Scf.iv c0_i32_1 c1_i32 k0_t1
  let v95 : Index := Scalar.indexCast arg10
  let c0_63 : Index := 0#32
  let c0_64 : Index := 0#32
  ![1, 2, v95.toNat, 0, 0]
def k0_off8 (k0_t1 : Fin k0_t1_loop.trips) : Fin 5 → Nat :=
  let c1_66 : Index := 1#32
  let c3_67 : Index := 3#32
  let c0_i32_1 : BitVec 32 := 0#32
  let c1_i32 : BitVec 32 := 1#32
  let arg10 : BitVec 32 := Scf.iv c0_i32_1 c1_i32 k0_t1
  let v99 : Index := Scalar.indexCast arg10
  let c0_68 : Index := 0#32
  let c0_69 : Index := 0#32
  ![1, 3, v99.toNat, 0, 0]
def k0_off9 (k0_t1 : Fin k0_t1_loop.trips) : Fin 5 → Nat :=
  let c0_71 : Index := 0#32
  let c0_72 : Index := 0#32
  let c0_i32_1 : BitVec 32 := 0#32
  let c1_i32 : BitVec 32 := 1#32
  let arg10 : BitVec 32 := Scf.iv c0_i32_1 c1_i32 k0_t1
  let v103 : Index := Scalar.indexCast arg10
  let c0_73 : Index := 0#32
  let c0_74 : Index := 0#32
  ![0, 0, v103.toNat, 0, 0]
def k0_off10 (k0_t1 : Fin k0_t1_loop.trips) : Fin 5 → Nat :=
  let c0_75 : Index := 0#32
  let c0_76 : Index := 0#32
  let c0_i32_1 : BitVec 32 := 0#32
  let c1_i32 : BitVec 32 := 1#32
  let arg10 : BitVec 32 := Scf.iv c0_i32_1 c1_i32 k0_t1
  let v108 : Index := Scalar.indexCast arg10
  let c0_77 : Index := 0#32
  let c0_78 : Index := 0#32
  ![0, 0, v108.toNat, 0, 0]
def k0_off11 (k0_t1 : Fin k0_t1_loop.trips) : Fin 5 → Nat :=
  let c0_83 : Index := 0#32
  let c1_84 : Index := 1#32
  let c0_i32_1 : BitVec 32 := 0#32
  let c1_i32 : BitVec 32 := 1#32
  let arg10 : BitVec 32 := Scf.iv c0_i32_1 c1_i32 k0_t1
  let v118 : Index := Scalar.indexCast arg10
  let c0_85 : Index := 0#32
  let c0_86 : Index := 0#32
  ![0, 1, v118.toNat, 0, 0]
def k0_off12 (k0_t1 : Fin k0_t1_loop.trips) : Fin 5 → Nat :=
  let c0_87 : Index := 0#32
  let c1_88 : Index := 1#32
  let c0_i32_1 : BitVec 32 := 0#32
  let c1_i32 : BitVec 32 := 1#32
  let arg10 : BitVec 32 := Scf.iv c0_i32_1 c1_i32 k0_t1
  let v123 : Index := Scalar.indexCast arg10
  let c0_89 : Index := 0#32
  let c0_90 : Index := 0#32
  ![0, 1, v123.toNat, 0, 0]
def k0_off13 (k0_t1 : Fin k0_t1_loop.trips) : Fin 5 → Nat :=
  let c0_95 : Index := 0#32
  let c2_96 : Index := 2#32
  let c0_i32_1 : BitVec 32 := 0#32
  let c1_i32 : BitVec 32 := 1#32
  let arg10 : BitVec 32 := Scf.iv c0_i32_1 c1_i32 k0_t1
  let v133 : Index := Scalar.indexCast arg10
  let c0_97 : Index := 0#32
  let c0_98 : Index := 0#32
  ![0, 2, v133.toNat, 0, 0]
def k0_off14 (k0_t1 : Fin k0_t1_loop.trips) : Fin 5 → Nat :=
  let c0_99 : Index := 0#32
  let c2_100 : Index := 2#32
  let c0_i32_1 : BitVec 32 := 0#32
  let c1_i32 : BitVec 32 := 1#32
  let arg10 : BitVec 32 := Scf.iv c0_i32_1 c1_i32 k0_t1
  let v138 : Index := Scalar.indexCast arg10
  let c0_101 : Index := 0#32
  let c0_102 : Index := 0#32
  ![0, 2, v138.toNat, 0, 0]
def k0_off15 (k0_t1 : Fin k0_t1_loop.trips) : Fin 5 → Nat :=
  let c0_107 : Index := 0#32
  let c3_108 : Index := 3#32
  let c0_i32_1 : BitVec 32 := 0#32
  let c1_i32 : BitVec 32 := 1#32
  let arg10 : BitVec 32 := Scf.iv c0_i32_1 c1_i32 k0_t1
  let v148 : Index := Scalar.indexCast arg10
  let c0_109 : Index := 0#32
  let c0_110 : Index := 0#32
  ![0, 3, v148.toNat, 0, 0]
def k0_off16 (k0_t1 : Fin k0_t1_loop.trips) : Fin 5 → Nat :=
  let c0_111 : Index := 0#32
  let c3_112 : Index := 3#32
  let c0_i32_1 : BitVec 32 := 0#32
  let c1_i32 : BitVec 32 := 1#32
  let arg10 : BitVec 32 := Scf.iv c0_i32_1 c1_i32 k0_t1
  let v153 : Index := Scalar.indexCast arg10
  let c0_113 : Index := 0#32
  let c0_114 : Index := 0#32
  ![0, 3, v153.toNat, 0, 0]
def k0_off17 (k0_t1 : Fin k0_t1_loop.trips) : Fin 5 → Nat :=
  let c1_119 : Index := 1#32
  let c0_120 : Index := 0#32
  let c0_i32_1 : BitVec 32 := 0#32
  let c1_i32 : BitVec 32 := 1#32
  let arg10 : BitVec 32 := Scf.iv c0_i32_1 c1_i32 k0_t1
  let v163 : Index := Scalar.indexCast arg10
  let c0_121 : Index := 0#32
  let c0_122 : Index := 0#32
  ![1, 0, v163.toNat, 0, 0]
def k0_off18 (k0_t1 : Fin k0_t1_loop.trips) : Fin 5 → Nat :=
  let c1_123 : Index := 1#32
  let c0_124 : Index := 0#32
  let c0_i32_1 : BitVec 32 := 0#32
  let c1_i32 : BitVec 32 := 1#32
  let arg10 : BitVec 32 := Scf.iv c0_i32_1 c1_i32 k0_t1
  let v168 : Index := Scalar.indexCast arg10
  let c0_125 : Index := 0#32
  let c0_126 : Index := 0#32
  ![1, 0, v168.toNat, 0, 0]
def k0_off19 (k0_t1 : Fin k0_t1_loop.trips) : Fin 5 → Nat :=
  let c1_131 : Index := 1#32
  let c1_132 : Index := 1#32
  let c0_i32_1 : BitVec 32 := 0#32
  let c1_i32 : BitVec 32 := 1#32
  let arg10 : BitVec 32 := Scf.iv c0_i32_1 c1_i32 k0_t1
  let v178 : Index := Scalar.indexCast arg10
  let c0_133 : Index := 0#32
  let c0_134 : Index := 0#32
  ![1, 1, v178.toNat, 0, 0]
def k0_off20 (k0_t1 : Fin k0_t1_loop.trips) : Fin 5 → Nat :=
  let c1_135 : Index := 1#32
  let c1_136 : Index := 1#32
  let c0_i32_1 : BitVec 32 := 0#32
  let c1_i32 : BitVec 32 := 1#32
  let arg10 : BitVec 32 := Scf.iv c0_i32_1 c1_i32 k0_t1
  let v183 : Index := Scalar.indexCast arg10
  let c0_137 : Index := 0#32
  let c0_138 : Index := 0#32
  ![1, 1, v183.toNat, 0, 0]
def k0_off21 (k0_t1 : Fin k0_t1_loop.trips) : Fin 5 → Nat :=
  let c1_143 : Index := 1#32
  let c2_144 : Index := 2#32
  let c0_i32_1 : BitVec 32 := 0#32
  let c1_i32 : BitVec 32 := 1#32
  let arg10 : BitVec 32 := Scf.iv c0_i32_1 c1_i32 k0_t1
  let v193 : Index := Scalar.indexCast arg10
  let c0_145 : Index := 0#32
  let c0_146 : Index := 0#32
  ![1, 2, v193.toNat, 0, 0]
def k0_off22 (k0_t1 : Fin k0_t1_loop.trips) : Fin 5 → Nat :=
  let c1_147 : Index := 1#32
  let c2_148 : Index := 2#32
  let c0_i32_1 : BitVec 32 := 0#32
  let c1_i32 : BitVec 32 := 1#32
  let arg10 : BitVec 32 := Scf.iv c0_i32_1 c1_i32 k0_t1
  let v198 : Index := Scalar.indexCast arg10
  let c0_149 : Index := 0#32
  let c0_150 : Index := 0#32
  ![1, 2, v198.toNat, 0, 0]
def k0_off23 (k0_t1 : Fin k0_t1_loop.trips) : Fin 5 → Nat :=
  let c1_155 : Index := 1#32
  let c3_156 : Index := 3#32
  let c0_i32_1 : BitVec 32 := 0#32
  let c1_i32 : BitVec 32 := 1#32
  let arg10 : BitVec 32 := Scf.iv c0_i32_1 c1_i32 k0_t1
  let v208 : Index := Scalar.indexCast arg10
  let c0_157 : Index := 0#32
  let c0_158 : Index := 0#32
  ![1, 3, v208.toNat, 0, 0]
def k0_off24 (k0_t1 : Fin k0_t1_loop.trips) : Fin 5 → Nat :=
  let c1_159 : Index := 1#32
  let c3_160 : Index := 3#32
  let c0_i32_1 : BitVec 32 := 0#32
  let c1_i32 : BitVec 32 := 1#32
  let arg10 : BitVec 32 := Scf.iv c0_i32_1 c1_i32 k0_t1
  let v213 : Index := Scalar.indexCast arg10
  let c0_161 : Index := 0#32
  let c0_162 : Index := 0#32
  ![1, 3, v213.toNat, 0, 0]
def k0_off25 (k0_t1 : Fin k0_t1_loop.trips) : Fin 3 → Nat :=
  let c0_167 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v224 : Index := Scalar.indexCast v6
  let c0_168 : Index := 0#32
  ![0, v224.toNat, 0]
def k0_off26 (k0_t1 : Fin k0_t1_loop.trips) : Fin 3 → Nat :=
  let c0_174 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v244 : Index := Scalar.indexCast v6
  let c0_175 : Index := 0#32
  ![0, v244.toNat, 0]
def k0_off27 (k0_t1 : Fin k0_t1_loop.trips) : Fin 3 → Nat :=
  let c0_183 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v271 : Index := Scalar.indexCast v6
  let c128 : Index := 128#32
  ![0, v271.toNat, 128]
def k0_off28 (k0_t1 : Fin k0_t1_loop.trips) : Fin 3 → Nat :=
  let c0_186 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v284 : Index := Scalar.indexCast v6
  let c256 : Index := 256#32
  ![0, v284.toNat, 256]
def k0_off29 (k0_t1 : Fin k0_t1_loop.trips) : Fin 3 → Nat :=
  let c0_192 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v304 : Index := Scalar.indexCast v6
  let c256_193 : Index := 256#32
  ![0, v304.toNat, 256]
def k0_off30 (k0_t1 : Fin k0_t1_loop.trips) : Fin 3 → Nat :=
  let c0_201 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v331 : Index := Scalar.indexCast v6
  let c384 : Index := 384#32
  ![0, v331.toNat, 384]
def k0_off31 (k0_t1 : Fin k0_t1_loop.trips) : Fin 3 → Nat :=
  let c0_204 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v344 : Index := Scalar.indexCast v6
  let c512 : Index := 512#32
  ![0, v344.toNat, 512]
def k0_off32 (k0_t1 : Fin k0_t1_loop.trips) : Fin 3 → Nat :=
  let c0_210 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v364 : Index := Scalar.indexCast v6
  let c512_211 : Index := 512#32
  ![0, v364.toNat, 512]
def k0_off33 (k0_t1 : Fin k0_t1_loop.trips) : Fin 3 → Nat :=
  let c0_219 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v391 : Index := Scalar.indexCast v6
  let c640 : Index := 640#32
  ![0, v391.toNat, 640]
def k0_off34 (k0_t1 : Fin k0_t1_loop.trips) : Fin 3 → Nat :=
  let c0_222 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v404 : Index := Scalar.indexCast v6
  let c768 : Index := 768#32
  ![0, v404.toNat, 768]
def k0_off35 (k0_t1 : Fin k0_t1_loop.trips) : Fin 3 → Nat :=
  let c0_228 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v424 : Index := Scalar.indexCast v6
  let c768_229 : Index := 768#32
  ![0, v424.toNat, 768]
def k0_off36 (k0_t1 : Fin k0_t1_loop.trips) : Fin 3 → Nat :=
  let c0_237 : Index := 0#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v451 : Index := Scalar.indexCast v6
  let c896 : Index := 896#32
  ![0, v451.toNat, 896]
def k0_off37 (k0_t1 : Fin k0_t1_loop.trips) : Fin 3 → Nat :=
  let c1_240 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v464 : Index := Scalar.indexCast v6
  let c0_241 : Index := 0#32
  ![1, v464.toNat, 0]
def k0_off38 (k0_t1 : Fin k0_t1_loop.trips) : Fin 3 → Nat :=
  let c1_247 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v484 : Index := Scalar.indexCast v6
  let c0_248 : Index := 0#32
  ![1, v484.toNat, 0]
def k0_off39 (k0_t1 : Fin k0_t1_loop.trips) : Fin 3 → Nat :=
  let c1_256 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v511 : Index := Scalar.indexCast v6
  let c128_257 : Index := 128#32
  ![1, v511.toNat, 128]
def k0_off40 (k0_t1 : Fin k0_t1_loop.trips) : Fin 3 → Nat :=
  let c1_260 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v524 : Index := Scalar.indexCast v6
  let c256_261 : Index := 256#32
  ![1, v524.toNat, 256]
def k0_off41 (k0_t1 : Fin k0_t1_loop.trips) : Fin 3 → Nat :=
  let c1_267 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v544 : Index := Scalar.indexCast v6
  let c256_268 : Index := 256#32
  ![1, v544.toNat, 256]
def k0_off42 (k0_t1 : Fin k0_t1_loop.trips) : Fin 3 → Nat :=
  let c1_276 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v571 : Index := Scalar.indexCast v6
  let c384_277 : Index := 384#32
  ![1, v571.toNat, 384]
def k0_off43 (k0_t1 : Fin k0_t1_loop.trips) : Fin 3 → Nat :=
  let c1_280 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v584 : Index := Scalar.indexCast v6
  let c512_281 : Index := 512#32
  ![1, v584.toNat, 512]
def k0_off44 (k0_t1 : Fin k0_t1_loop.trips) : Fin 3 → Nat :=
  let c1_287 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v604 : Index := Scalar.indexCast v6
  let c512_288 : Index := 512#32
  ![1, v604.toNat, 512]
def k0_off45 (k0_t1 : Fin k0_t1_loop.trips) : Fin 3 → Nat :=
  let c1_296 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v631 : Index := Scalar.indexCast v6
  let c640_297 : Index := 640#32
  ![1, v631.toNat, 640]
def k0_off46 (k0_t1 : Fin k0_t1_loop.trips) : Fin 3 → Nat :=
  let c1_300 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v644 : Index := Scalar.indexCast v6
  let c768_301 : Index := 768#32
  ![1, v644.toNat, 768]
def k0_off47 (k0_t1 : Fin k0_t1_loop.trips) : Fin 3 → Nat :=
  let c1_307 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v664 : Index := Scalar.indexCast v6
  let c768_308 : Index := 768#32
  ![1, v664.toNat, 768]
def k0_off48 (k0_t1 : Fin k0_t1_loop.trips) : Fin 3 → Nat :=
  let c1_316 : Index := 1#32
  let c0_i32_1 : BitVec 32 := 0#32
  let c1_i32 : BitVec 32 := 1#32
  let arg10 : BitVec 32 := Scf.iv c0_i32_1 c1_i32 k0_t1
  let c64_i32 : BitVec 32 := 64#32
  let v5 : BitVec 32 := Scalar.muli arg10 c64_i32
  let v6 : BitVec 32 := v5
  let v691 : Index := Scalar.indexCast v6
  let c896_317 : Index := 896#32
  ![1, v691.toNat, 896]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x4x8x192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4x8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x4x8x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x4x64x192x256 : Shape := ⟨5, ![8, 4, 64, 192, 256]⟩
abbrev S8x4x64x128x256 : Shape := ⟨5, ![8, 4, 64, 128, 256]⟩
abbrev S8x4096x1024 : Shape := ⟨3, ![8, 4096, 1024]⟩
abbrev S8x4x64x8x256 : Shape := ⟨5, ![8, 4, 64, 8, 256]⟩
abbrev S8x4096x4096 : Shape := ⟨3, ![8, 4096, 4096]⟩
abbrev S128 : Shape := ⟨1, ![128]⟩
abbrev S8x4x64x192x2x128 : Shape := ⟨6, ![8, 4, 64, 192, 2, 128]⟩
abbrev S64x8x4x2x192x128 : Shape := ⟨6, ![64, 8, 4, 2, 192, 128]⟩
abbrev S64x8x8x192x128 : Shape := ⟨5, ![64, 8, 8, 192, 128]⟩
abbrev S8x4x64x8x2x128 : Shape := ⟨6, ![8, 4, 64, 8, 2, 128]⟩
abbrev S64x8x4x2x8x128 : Shape := ⟨6, ![64, 8, 4, 2, 8, 128]⟩
abbrev S64x8x8x8x128 : Shape := ⟨5, ![64, 8, 8, 8, 128]⟩
abbrev S64x8x8x1x8x128 : Shape := ⟨6, ![64, 8, 8, 1, 8, 128]⟩
abbrev S64x8x8x16x8x128 : Shape := ⟨6, ![64, 8, 8, 16, 8, 128]⟩
abbrev S64x8x8x128x128 : Shape := ⟨5, ![64, 8, 8, 128, 128]⟩
abbrev S8x64x64x8x128 : Shape := ⟨5, ![8, 64, 64, 8, 128]⟩
abbrev S64x8x8x64x128 : Shape := ⟨5, ![64, 8, 8, 64, 128]⟩
abbrev S8x4x64x128x2x128 : Shape := ⟨6, ![8, 4, 64, 128, 2, 128]⟩
abbrev S64x8x4x2x128x128 : Shape := ⟨6, ![64, 8, 4, 2, 128, 128]⟩
abbrev S_ : Shape := ⟨0, ![]⟩
abbrev S8x8x128x128 : Shape := ⟨4, ![8, 8, 128, 128]⟩
abbrev S1x8x8x128x128 : Shape := ⟨5, ![1, 8, 8, 128, 128]⟩
abbrev S1x8x8x64x128 : Shape := ⟨5, ![1, 8, 8, 64, 128]⟩
abbrev S8x8x64x128 : Shape := ⟨4, ![8, 8, 64, 128]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S8x4x64x192x256, .bf16⟩
  | .hbm, ⟨1, _⟩ => ⟨S8x4x64x128x256, .bf16⟩
  | .hbm, ⟨2, _⟩ => ⟨S8x4096x1024, .bf16⟩
  | .hbm, ⟨3, _⟩ => ⟨S8x4x64x8x256, .f32⟩
  | .hbm, ⟨4, _⟩ => ⟨S8x4096x4096, .bf16⟩
  | .hbm, ⟨5, _⟩ => ⟨S128, .f32⟩
  | .hbm, ⟨6, _⟩ => ⟨S8x4x64x192x256, .f32⟩
  | .hbm, ⟨7, _⟩ => ⟨S8x4x64x192x2x128, .f32⟩
  | .hbm, ⟨8, _⟩ => ⟨S64x8x4x2x192x128, .f32⟩
  | .hbm, ⟨9, _⟩ => ⟨S64x8x8x192x128, .f32⟩
  | .hbm, ⟨10, _⟩ => ⟨S8x4x64x8x2x128, .f32⟩
  | .hbm, ⟨11, _⟩ => ⟨S64x8x4x2x8x128, .f32⟩
  | .hbm, ⟨12, _⟩ => ⟨S64x8x8x8x128, .f32⟩
  | .hbm, ⟨13, _⟩ => ⟨S64x8x8x1x8x128, .f32⟩
  | .hbm, ⟨14, _⟩ => ⟨S64x8x8x16x8x128, .f32⟩
  | .hbm, ⟨15, _⟩ => ⟨S64x8x8x128x128, .f32⟩
  | .hbm, ⟨16, _⟩ => ⟨S8x4096x1024, .f32⟩
  | .hbm, ⟨17, _⟩ => ⟨S8x64x64x8x128, .f32⟩
  | .hbm, ⟨18, _⟩ => ⟨S64x8x8x64x128, .f32⟩
  | .hbm, ⟨19, _⟩ => ⟨S64x8x8x128x128, .f32⟩
  | .hbm, ⟨20, _⟩ => ⟨S64x8x8x64x128, .f32⟩
  | .hbm, ⟨21, _⟩ => ⟨S8x4x64x128x256, .f32⟩
  | .hbm, ⟨22, _⟩ => ⟨S8x4x64x128x2x128, .f32⟩
  | .hbm, ⟨23, _⟩ => ⟨S64x8x4x2x128x128, .f32⟩
  | .hbm, ⟨24, _⟩ => ⟨S64x8x8x128x128, .f32⟩
  | .hbm, ⟨25, _⟩ => ⟨S_, .f32⟩
  | .hbm, ⟨26, _⟩ => ⟨S8x8x128x128, .f32⟩
  | .hbm, ⟨27, _⟩ => ⟨S_, .f32⟩
  | .hbm, ⟨28, _⟩ => ⟨S64x8x8x64x128, .f32⟩
  | .hbm, ⟨29, _⟩ => ⟨S_, .i32⟩
  | .hbm, ⟨30, _⟩ => ⟨S64x8x8x128x128, .f32⟩
  | .hbm, ⟨31, _⟩ => ⟨S64x8x8x64x128, .f32⟩
  | .hbm, ⟨32, _⟩ => ⟨S64x8x8x128x128, .f32⟩
  | .hbm, ⟨33, _⟩ => ⟨S64x8x8x64x128, .f32⟩
  | .hbm, ⟨34, _⟩ => ⟨S64x8x8x128x128, .f32⟩
  | .hbm, ⟨35, _⟩ => ⟨S_, .i32⟩
  | .hbm, ⟨36, _⟩ => ⟨S8x8x128x128, .f32⟩
  | .hbm, ⟨37, _⟩ => ⟨S64x8x8x64x128, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x8x8x128x128, .f32⟩
  | .hbm, ⟨45, _⟩ => ⟨S8x8x128x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x8x8x64x128, .f32⟩
  | .hbm, ⟨51, _⟩ => ⟨S8x8x64x128, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x8x8x128x128, .f32⟩
  | .hbm, ⟨57, _⟩ => ⟨S8x8x128x128, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x8x8x64x128, .f32⟩
  | .hbm, ⟨63, _⟩ => ⟨S8x8x64x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x8x8x128x128, .f32⟩
  | .hbm, ⟨69, _⟩ => ⟨S8x8x128x128, .f32⟩
  | .hbm, ⟨70, _⟩ => ⟨S8x8x64x128, .f32⟩
  | .hbm, ⟨71, _⟩ => ⟨S8x8x64x128, .f32⟩
  | .hbm, ⟨72, _⟩ => ⟨S8x8x128x128, .f32⟩
  | .hbm, ⟨73, _⟩ => ⟨S8x8x128x128, .f32⟩
  | .hbm, ⟨74, _⟩ => ⟨S8x8x128x128, .f32⟩
  | .hbm, ⟨75, _⟩ => ⟨S8x8x128x128, .f32⟩
  | .hbm, ⟨76, _⟩ => ⟨S1x8x8x64x128, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S64x8x8x64x128, .f32⟩
  | .hbm, ⟨82, _⟩ => ⟨S_, .i32⟩
  | .hbm, ⟨83, _⟩ => ⟨S_, .i32⟩
  | .hbm, ⟨84, _⟩ => ⟨S8x64x64x8x128, .f32⟩
  | .hbm, ⟨85, _⟩ => ⟨S8x4096x8x128, .f32⟩
  | .hbm, ⟨86, _⟩ => ⟨S8x4096x8x128, .f32⟩
  | .hbm, ⟨87, _⟩ => ⟨S_, .f32⟩
  | .hbm, ⟨88, _⟩ => ⟨S8x4096x8, .f32⟩
  | .hbm, ⟨89, _⟩ => ⟨S8x4096x8x1, .f32⟩
  | .hbm, ⟨90, _⟩ => ⟨S_, .f32⟩
  | .hbm, ⟨91, _⟩ => ⟨S8x4096x8x1, .f32⟩
  | .hbm, ⟨92, _⟩ => ⟨S8x4096x8x1, .f32⟩
  | .hbm, ⟨93, _⟩ => ⟨S_, .f32⟩
  | .hbm, ⟨94, _⟩ => ⟨S8x4096x8x1, .f32⟩
  | .hbm, ⟨95, _⟩ => ⟨S8x4096x8x1, .f32⟩
  | .hbm, ⟨96, _⟩ => ⟨S8x4096x8x1, .f32⟩
  | .hbm, ⟨97, _⟩ => ⟨S8x4096x8x128, .f32⟩
  | .hbm, ⟨98, _⟩ => ⟨S8x4096x8x128, .f32⟩
  | .hbm, ⟨99, _⟩ => ⟨S1x1x1x128, .f32⟩
  | .hbm, ⟨100, _⟩ => ⟨S8x4096x8x128, .f32⟩
  | .hbm, ⟨101, _⟩ => ⟨S8x4096x8x128, .f32⟩
  | .hbm, ⟨102, _⟩ => ⟨S8x4096x1024, .bf16⟩
  | .hbm, ⟨103, _⟩ => ⟨S8x4096x1024, .f32⟩
  | .hbm, ⟨104, _⟩ => ⟨S8x4096x8x128, .f32⟩
  | .hbm, ⟨105, _⟩ => ⟨S8x4096x8x128, .f32⟩
  | .hbm, ⟨106, _⟩ => ⟨S8x4096x8x128, .f32⟩
  | .hbm, ⟨107, _⟩ => ⟨S_, .f32⟩
  | .hbm, ⟨108, _⟩ => ⟨S8x4096x8x128, .f32⟩
  | .hbm, ⟨109, _⟩ => ⟨S8x4096x8x128, .f32⟩
  | .hbm, ⟨110, _⟩ => ⟨S_, .f32⟩
  | .hbm, ⟨111, _⟩ => ⟨S8x4096x8x128, .f32⟩
  | .hbm, ⟨112, _⟩ => ⟨S8x4096x8x128, .f32⟩
  | .hbm, ⟨113, _⟩ => ⟨S8x4096x8x128, .f32⟩
  | .hbm, ⟨114, _⟩ => ⟨S8x4096x8x128, .f32⟩
  | .hbm, ⟨115, _⟩ => ⟨S8x4096x1024, .f32⟩
  | .hbm, ⟨116, _⟩ => ⟨S8x4096x1024, .bf16⟩
  | _, _ => ⟨S8x4x64x192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_c : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev main_v21_7 : Ref sig .tc := ⟨.hbm, 37, rfl⟩
abbrev main_while0c_c_11 : Ref sig .tc := ⟨.hbm, 38, rfl⟩
abbrev main_while0c_v44 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_v0 : Ref sig .tc := ⟨.hbm, 44, rfl⟩
abbrev main_while0b_v44 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_c_2 : Ref sig .tc := ⟨.hbm, 49, rfl⟩
abbrev main_while0b_call1_v0 : Ref sig .tc := ⟨.hbm, 50, rfl⟩
abbrev main_while0b_v45 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_call2_v0 : Ref sig .tc := ⟨.hbm, 56, rfl⟩
abbrev main_while0b_v46 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_c_2 : Ref sig .tc := ⟨.hbm, 61, rfl⟩
abbrev main_while0b_call3_v0 : Ref sig .tc := ⟨.hbm, 62, rfl⟩
abbrev main_while0b_v47 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_c_2 : Ref sig .tc := ⟨.hbm, 67, rfl⟩
abbrev main_while0b_call4_v0 : Ref sig .tc := ⟨.hbm, 68, rfl⟩
abbrev main_while0b_v48 : Ref sig .tc := ⟨.hbm, 69, rfl⟩
abbrev main_while0b_v49 : Ref sig .tc := ⟨.hbm, 70, rfl⟩
abbrev main_while0b_v50 : Ref sig .tc := ⟨.hbm, 71, rfl⟩
abbrev main_while0b_v51 : Ref sig .tc := ⟨.hbm, 72, rfl⟩
abbrev main_while0b_v52 : Ref sig .tc := ⟨.hbm, 73, rfl⟩
abbrev main_while0b_v53 : Ref sig .tc := ⟨.hbm, 74, rfl⟩
abbrev main_while0b_v54 : Ref sig .tc := ⟨.hbm, 75, rfl⟩
abbrev main_while0b_call5_v0 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_c_1 : Ref sig .tc := ⟨.hbm, 79, rfl⟩
abbrev main_while0b_call5_c_2 : Ref sig .tc := ⟨.hbm, 80, rfl⟩
abbrev main_while0b_v55 : Ref sig .tc := ⟨.hbm, 81, rfl⟩
abbrev main_while0b_c_11 : Ref sig .tc := ⟨.hbm, 82, rfl⟩
abbrev main_while0b_v56 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_cst_1 : Ref sig .tc := ⟨.hbm, 87, rfl⟩
abbrev main_v25 : Ref sig .tc := ⟨.hbm, 88, rfl⟩
abbrev main_v26 : Ref sig .tc := ⟨.hbm, 89, rfl⟩
abbrev main_cst_2 : Ref sig .tc := ⟨.hbm, 90, rfl⟩
abbrev main_v27 : Ref sig .tc := ⟨.hbm, 91, rfl⟩
abbrev main_v28 : Ref sig .tc := ⟨.hbm, 92, rfl⟩
abbrev main_cst_3 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_call6_v0 : Ref sig .tc := ⟨.hbm, 105, rfl⟩
abbrev main_call6_v1 : Ref sig .tc := ⟨.hbm, 106, rfl⟩
abbrev main_call6_cst : Ref sig .tc := ⟨.hbm, 107, rfl⟩
abbrev main_call6_v2 : Ref sig .tc := ⟨.hbm, 108, rfl⟩
abbrev main_call6_v3 : Ref sig .tc := ⟨.hbm, 109, rfl⟩
abbrev main_call6_cst_0 : Ref sig .tc := ⟨.hbm, 110, rfl⟩
abbrev main_call6_v4 : Ref sig .tc := ⟨.hbm, 111, rfl⟩
abbrev main_call6_v5 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩

abbrev nD : Nat := 1
abbrev τ : Topo := Topo.v7x

variable {F : FTy → Type} [FloatOps F]

abbrev main_while0_count : Scf.Loop 32 := ⟨0#32, 64#32, 1#32⟩
-- ==== Kernel5.lean ====
abbrev S8x4096x4096 : Shape := ⟨3, ![8, 4096, 4096]⟩
abbrev S8x4096x128 : Shape := ⟨3, ![8, 4096, 128]⟩
abbrev S8x4x64x192x256 : Shape := ⟨5, ![8, 4, 64, 192, 256]⟩
abbrev S8x4x64x128x256 : Shape := ⟨5, ![8, 4, 64, 128, 256]⟩
abbrev S8x4096x1024 : Shape := ⟨3, ![8, 4096, 1024]⟩
abbrev S8x4x64x8x256 : Shape := ⟨5, ![8, 4, 64, 8, 256]⟩
abbrev S1x2048x256 : Shape := ⟨3, ![1, 2048, 256]⟩
abbrev S1x2048x128 : Shape := ⟨3, ![1, 2048, 128]⟩
abbrev S1x1x32x192x256 : Shape := ⟨5, ![1, 1, 32, 192, 256]⟩
abbrev S1x1x32x128x256 : Shape := ⟨5, ![1, 1, 32, 128, 256]⟩
abbrev S1x1x32x8x256 : Shape := ⟨5, ![1, 1, 32, 8, 256]⟩
abbrev S8x128x256 : Shape := ⟨3, ![8, 128, 256]⟩
abbrev S256x256 : Shape := ⟨2, ![256, 256]⟩
abbrev S256x128 : Shape := ⟨2, ![256, 128]⟩
abbrev S1x256x128 : Shape := ⟨3, ![1, 256, 128]⟩
abbrev S128x256 : Shape := ⟨2, ![128, 256]⟩
abbrev S1x128x256 : Shape := ⟨3, ![1, 128, 256]⟩
abbrev S256 : Shape := ⟨1, ![256]⟩
abbrev S256x1 : Shape := ⟨2, ![256, 1]⟩
abbrev S4x64x128 : Shape := ⟨3, ![4, 64, 128]⟩
abbrev S4x1x128 : Shape := ⟨3, ![4, 1, 128]⟩
abbrev S1x1x256 : Shape := ⟨3, ![1, 1, 256]⟩
abbrev S1x256 : Shape := ⟨2, ![1, 256]⟩
abbrev S512x128 : Shape := ⟨2, ![512, 128]⟩
abbrev S512x256 : Shape := ⟨2, ![512, 256]⟩
abbrev S64x256 : Shape := ⟨2, ![64, 256]⟩
abbrev S64x128 : Shape := ⟨2, ![64, 128]⟩
abbrev S128x128 : Shape := ⟨2, ![128, 128]⟩
abbrev S1x1x1x128x128 : Shape := ⟨5, ![1, 1, 1, 128, 128]⟩
abbrev S1x1x1x64x128 : Shape := ⟨5, ![1, 1, 1, 64, 128]⟩
abbrev S8x128 : Shape := ⟨2, ![8, 128]⟩
abbrev S1x1x1x8x128 : Shape := ⟨5, ![1, 1, 1, 8, 128]⟩

abbrev nBuf : Space → Nat
  | .hbm => 6
  | .vmem => 17
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x128, .f32⟩
  | .hbm, ⟨2, _⟩ => ⟨S8x4x64x192x256, .bf16⟩
  | .hbm, ⟨3, _⟩ => ⟨S8x4x64x128x256, .bf16⟩
  | .hbm, ⟨4, _⟩ => ⟨S8x4096x1024, .bf16⟩
  | .hbm, ⟨5, _⟩ => ⟨S8x4x64x8x256, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x32x192x256, .bf16⟩
  | .local _ .vmem, ⟨9, _⟩ => ⟨S1x1x32x192x256, .bf16⟩
  | .local _ .vmem, ⟨10, _⟩ => ⟨S1x1x32x128x256, .bf16⟩
  | .local _ .vmem, ⟨11, _⟩ => ⟨S1x1x32x128x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x1x32x8x256, .f32⟩
  | .local _ .vmem, ⟨15, _⟩ => ⟨S1x1x32x8x256, .f32⟩
  | .local _ .vmem, ⟨16, _⟩ => ⟨S8x128x256, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 2], ![false, false, false]⟩

def k0_off1 (i : grid0.Coords) (c0_i32_11 : BitVec 32) : Fin 3 → Nat :=
  let c0_321 : Index := 0#32
  let c8_i32_320 : BitVec 32 := 8#32
  let arg1 : BitVec 32 := BitVec.ofNat 32 (i 1).val
  let c2_i32 : BitVec 32 := 2#32
  let v56 : BitVec 32 := Scalar.muli arg1 c2_i32
  let v57 : BitVec 32 := Scalar.addi v56 c0_i32_11
  let v616 : BitVec 32 := Scalar.addi c8_i32_320 v57
  let v617 : Index := Scalar.indexCast v616
  let c0_322 : Index := 0#32
  ![0, v617.toNat, 0]
def k0_off2 (i : grid0.Coords) (c0_i32_15 : BitVec 32) : Fin 3 → Nat :=
  let c1_327 : Index := 1#32
  let c8_i32_326 : BitVec 32 := 8#32
  let arg1 : BitVec 32 := BitVec.ofNat 32 (i 1).val
  let c2_i32_14 : BitVec 32 := 2#32
  let v60 : BitVec 32 := Scalar.muli arg1 c2_i32_14
  let v61 : BitVec 32 := Scalar.addi v60 c0_i32_15
  let v624 : BitVec 32 := Scalar.addi c8_i32_326 v61
  let v625 : Index := Scalar.indexCast v624
  let c0_328 : Index := 0#32
  ![1, v625.toNat, 0]
def k0_off3 (i : grid0.Coords) (c0_i32_19 : BitVec 32) : Fin 3 → Nat :=
  let c2_333 : Index := 2#32
  let c8_i32_332 : BitVec 32 := 8#32
  let arg1 : BitVec 32 := BitVec.ofNat 32 (i 1).val
  let c2_i32_18 : BitVec 32 := 2#32
  let v64 : BitVec 32 := Scalar.muli arg1 c2_i32_18
  let v65 : BitVec 32 := Scalar.addi v64 c0_i32_19
  let v632 : BitVec 32 := Scalar.addi c8_i32_332 v65
  let v633 : Index := Scalar.indexCast v632
  let c0_334 : Index := 0#32
  ![2, v633.toNat, 0]
def k0_off4 (i : grid0.Coords) (c0_i32_23 : BitVec 32) : Fin 3 → Nat :=
  let c3_339 : Index := 3#32
  let c8_i32_338 : BitVec 32 := 8#32
  let arg1 : BitVec 32 := BitVec.ofNat 32 (i 1).val
  let c2_i32_22 : BitVec 32 := 2#32
  let v68 : BitVec 32 := Scalar.muli arg1 c2_i32_22
  let v69 : BitVec 32 := Scalar.addi v68 c0_i32_23
  let v640 : BitVec 32 := Scalar.addi c8_i32_338 v69
  let v641 : Index := Scalar.indexCast v640
  let c0_340 : Index := 0#32
  ![3, v641.toNat, 0]
def k0_off5 (i : grid0.Coords) (c0_i32_27 : BitVec 32) : Fin 3 → Nat :=
  let c4_345 : Index := 4#32
  let c8_i32_344 : BitVec 32 := 8#32
  let arg1 : BitVec 32 := BitVec.ofNat 32 (i 1).val
  let c2_i32_26 : BitVec 32 := 2#32
  let v72 : BitVec 32 := Scalar.muli arg1 c2_i32_26
  let v73 : BitVec 32 := Scalar.addi v72 c0_i32_27
  let v648 : BitVec 32 := Scalar.addi c8_i32_344 v73
  let v649 : Index := Scalar.indexCast v648
  let c0_346 : Index := 0#32
  ![4, v649.toNat, 0]
def k0_off6 (i : grid0.Coords) (c0_i32_31 : BitVec 32) : Fin 3 → Nat :=
  let c5_351 : Index := 5#32
  let c8_i32_350 : BitVec 32 := 8#32
  let arg1 : BitVec 32 := BitVec.ofNat 32 (i 1).val
  let c2_i32_30 : BitVec 32 := 2#32
  let v76 : BitVec 32 := Scalar.muli arg1 c2_i32_30
  let v77 : BitVec 32 := Scalar.addi v76 c0_i32_31
  let v656 : BitVec 32 := Scalar.addi c8_i32_350 v77
  let v657 : Index := Scalar.indexCast v656
  let c0_352 : Index := 0#32
  ![5, v657.toNat, 0]
def k0_off7 (i : grid0.Coords) (c0_i32_35 : BitVec 32) : Fin 3 → Nat :=
  let c6_357 : Index := 6#32
  let c8_i32_356 : BitVec 32 := 8#32
  let arg1 : BitVec 32 := BitVec.ofNat 32 (i 1).val
  let c2_i32_34 : BitVec 32 := 2#32
  let v80 : BitVec 32 := Scalar.muli arg1 c2_i32_34
  let v81 : BitVec 32 := Scalar.addi v80 c0_i32_35
  let v664 : BitVec 32 := Scalar.addi c8_i32_356 v81
  let v665 : Index := Scalar.indexCast v664
  let c0_358 : Index := 0#32
  ![6, v665.toNat, 0]
def k0_off8 (i : grid0.Coords) (c0_i32_39 : BitVec 32) : Fin 3 → Nat :=
  let c7_363 : Index := 7#32
  let c8_i32_362 : BitVec 32 := 8#32
  let arg1 : BitVec 32 := BitVec.ofNat 32 (i 1).val
  let c2_i32_38 : BitVec 32 := 2#32
  let v84 : BitVec 32 := Scalar.muli arg1 c2_i32_38
  let v85 : BitVec 32 := Scalar.addi v84 c0_i32_39
  let v672 : BitVec 32 := Scalar.addi c8_i32_362 v85
  let v673 : Index := Scalar.indexCast v672
  let c0_364 : Index := 0#32
  ![7, v673.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x32x192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x32x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Proof.TailSpec.lean ====
/- What one grid point of a layer tail computes, as functions of its input blocks: the vocabulary in which both tails'
   stores are read. Float type generic, so that it serves the compiled kernel and its idealisation alike. -/
module

public import proofs.«01_k».proof.Proof.Gen.KernelIdeal
public import Idealize.ShloMosaic.Lib.Pipeline.FrameBody
public import Idealize.ShloMosaic.Lib.Pipeline.Value
public import Idealize.ShloMosaic.Lib.Pipeline.ReadBack
public import Idealize.ShloMosaic.Lib.ValueIdx

@[expose] public section

set_option maxRecDepth 16384

noncomputable section

namespace Cert.Tail

open Cert.KernelIdeal Cert.KernelIdeal.Gen
open Idealize.ShloMosaic Idealize.ShloMosaic.ValueIdx

variable {F : FTy → Type} [FloatOps F]

/-! ## One chunk of 256 hidden columns -/

/-- The up-projection of a block of normed rows by 256 columns of the weights. -/
def upc (xn : FVec F S512x1024 .bf16) (w : Vec F S1024x256 .bf16) : FVec F S512x256 .f32 :=
  matmul dot_S512x1024_S1024x256_S512x256_1_0_0_1_n_n none xn (shapeCast S1024x256 w shapeCasts_S1024x256_S1024x256)
    (constant S512x256 .f32 0x00000000#32)

/-- Its last eight rows, which the next block needs. -/
def lastRows (y : FVec F S512x256 .f32) : FVec F S8x256 .f32 :=
  shapeCast S8x256 (extractStridedSlice S8x256 ![504, 0] y slices_S512x256_o504_0_S8x256) shapeCasts_S8x256_S8x256

/-- The eight rows before the block: zeros at the start of a sequence, the rows carried over otherwise. -/
def before (first : BitVec 1) (v : Vec F S8x256 .f32) : FVec F S1x8x256 .f32 :=
  shapeCast S1x8x256 (Scalar.select first (broadcast S8x256 (Scalar.ofBits .f32 0x00000000#32 : F .f32)) v)
    shapeCasts_S8x256_S1x8x256

/-- The block's rows as a plane of the row buffer. -/
def plane (y : FVec F S512x256 .f32) : FVec F S1x512x256 .f32 := shapeCast S1x512x256 y shapeCasts_S512x256_S1x512x256

/-- The rows `k` steps earlier: of the block itself, the first `k` of them from the eight rows before it. -/
def late (k : ℕ) (hk : k ≤ 8) (P : FVec F S1x8x256 .f32) (Y : FVec F S1x512x256 .f32) : FVec F S1x512x256 .f32 := fun x =>
  if h : (x 1).val + (8 - k) < 8 then P (ix3 0 ⟨(x 1).val + (8 - k), h⟩ (x 2))
  else Y (ix3 0 ⟨(x 1).val - k, Nat.lt_of_le_of_lt (Nat.sub_le _ _) (x 1).isLt⟩ (x 2))

/-- The causal convolution of width three, on the rows and the two buffered shifts of them. -/
def conv3 (w : Vec F S3x256 .f32) (y : FVec F S512x256 .f32) (s1 s2 : Vec F S1x512x256 .f32) : FVec F S512x256 .f32 :=
  addf (addf (mulf (broadcastTo S512x256 (extractStridedSlice S1x256 ![2, 0] w slices_S3x256_o2_0_S1x256) broadcasts_S1x256_S512x256) y)
      (mulf (broadcastTo S512x256 (extractStridedSlice S1x256 ![1, 0] w slices_S3x256_o1_0_S1x256) broadcasts_S1x256_S512x256)
        (shapeCast S512x256 s1 shapeCasts_S1x512x256_S512x256)))
    (mulf (broadcastTo S512x256 (extractStridedSlice S1x256 ![0, 0] w slices_S3x256_o0_0_S1x256) broadcasts_S1x256_S512x256)
      (shapeCast S512x256 s2 shapeCasts_S1x512x256_S512x256))

/-- The gated activation of one chunk. -/
def glu (zg zv : FVec F S512x256 .f32) : FVec F S512x256 .bf16 :=
  shapeCast S512x256 (truncf .bf16 (mulf (mulf zg (logistic zg)) zv) bitsLt_bf16_f32) shapeCasts_S512x256_S512x256

/-- The activation of one chunk from the row buffers as read. -/
def hidden (xn : FVec F S512x1024 .bf16) (wg wv : Vec F S1024x256 .bf16) (cg cv : Vec F S3x256 .f32)
    (g1 g2 v1 v2 : Vec F S1x512x256 .f32) : FVec F S512x256 .bf16 :=
  glu (conv3 cg (upc xn wg) g1 g2) (conv3 cv (upc xn wv) v1 v2)

/-- One of the convolution's two buffered shifts, from the weights and the carried rows. -/
def shiftOf (k : ℕ) (hk : k ≤ 8) (first : BitVec 1) (xn : FVec F S512x1024 .bf16) (w : Vec F S1024x256 .bf16)
    (v : Vec F S8x256 .f32) : FVec F S1x512x256 .f32 :=
  late k hk (before first v) (plane (upc xn w))

/-! ## Column windows of the wide arrays -/

/-- The 256 columns from `off` on of an array of `n` rows and 5632 columns. -/
def cols {α : Type} {n : ℕ} (off : ℕ) (X : (⟨2, ![n, 5632]⟩ : Shape).Idx → α) : (⟨2, ![n, 256]⟩ : Shape).Idx → α := fun x =>
  X (ix2 (x 0) ⟨(off + (x 1).val) % 5632, Nat.mod_lt _ (by decide)⟩)

/-- The activation of chunk `k`. -/
def chunk (first : BitVec 1) (xn : FVec F S512x1024 .bf16) (wup : Vec F S1024x5632 .bf16) (cw : Vec F S3x5632 .f32)
    (xc : Vec F S8x5632 .f32) (k : ℕ) : FVec F S512x256 .bf16 :=
  hidden xn (cols (256 * k) wup) (cols (2816 + 256 * k) wup) (cols (256 * k) cw) (cols (2816 + 256 * k) cw)
    (shiftOf 1 (by decide) first xn (cols (256 * k) wup) (cols (256 * k) xc))
    (shiftOf 2 (by decide) first xn (cols (256 * k) wup) (cols (256 * k) xc))
    (shiftOf 1 (by decide) first xn (cols (2816 + 256 * k) wup) (cols (2816 + 256 * k) xc))
    (shiftOf 2 (by decide) first xn (cols (2816 + 256 * k) wup) (cols (2816 + 256 * k) xc))

/-- The activations of the block, all chunks side by side. -/
def hiddenAll (first : BitVec 1) (xn : FVec F S512x1024 .bf16) (wup : Vec F S1024x5632 .bf16) (cw : Vec F S3x5632 .f32)
    (xc : Vec F S8x5632 .f32) : Vec F S512x2816 .bf16 := fun y =>
  chunk first xn wup cw xc ((y 1).val / 256) (ix2 (y 0) ⟨(y 1).val % 256, Nat.mod_lt _ (by decide)⟩)

/-- The rows carried to the next block: the last eight of the up-projection, all columns. -/
def carryRows (xn : FVec F S512x1024 .bf16) (wup : Vec F S1024x5632 .bf16) : Vec F S8x5632 .f32 := fun y =>
  lastRows (upc xn (cols (256 * ((y 1).val / 256)) wup)) (ix2 (y 0) ⟨(y 1).val % 256, Nat.mod_lt _ (by decide)⟩)

/-! ## The rest of the block -/

/-- The sums of squares of the rows. -/
def sumsq (x : FVec F S512x1024 .f32) : FVec F S512x1 .f32 :=
  shapeCast S512x1 (multiReduction .add [1] S512 (mulf x x) 0x00000000#32 reduces_S512x1024_S512 (.inl rfl) rfl) shapeCasts_S512_S512x1

/-- The root-mean-square norm of the rows, times the gain. -/
def norm (x : FVec F S512x1024 .f32) (g : Vec F S1x1024 .f32) : FVec F S512x1024 .f32 :=
  mulf (mulf x (broadcastTo S512x1024 (rsqrt (addf (divf (sumsq x) (broadcast S512x1 (Scalar.ofBits .f32 0x44800000#32 : F .f32)))
      (broadcast S512x1 (Scalar.ofBits .f32 0x358637BD#32 : F .f32)))) broadcasts_S512x1_S512x1024))
    (broadcastTo S512x1024 (shapeCast S1x1024 g shapeCasts_S1x1024_S1x1024) broadcasts_S1x1024_S512x1024)

/-- The normed rows, narrowed. -/
def normed (x : FVec F S512x1024 .f32) (g : Vec F S1x1024 .f32) : FVec F S512x1024 .bf16 := truncf .bf16 (norm x g) bitsLt_bf16_f32

/-- The mixer's output projection of the odd layer, added to the stream. -/
def oddIn (x : Vec F S512x1024 .f32) (o : Vec F S512x1024 .bf16) (w : Vec F S1024x1024 .bf16) : FVec F S512x1024 .f32 :=
  addf (shapeCast S512x1024 x shapeCasts_S512x1024_S512x1024)
    (matmul dot_S512x1024_S1024x1024_S512x1024_1_0_0_1_n_n none (shapeCast S512x1024 o shapeCasts_S512x1024_S512x1024)
      (shapeCast S1024x1024 w shapeCasts_S1024x1024_S1024x1024) (constant S512x1024 .f32 0x00000000#32))

/-- The gated MLP's down-projection, added to the stream. -/
def ffn (x : FVec F S512x1024 .f32) (h : Vec F S512x2816 .bf16) (w : Vec F S2816x1024 .bf16) : FVec F S512x1024 .f32 :=
  addf x (matmul dot_S512x2816_S2816x1024_S512x1024_1_0_0_1_n_n none h (shapeCast S2816x1024 w shapeCasts_S2816x1024_S2816x1024)
    (constant S512x1024 .f32 0x00000000#32))

/-- The gated per-layer embedding, added to the stream. -/
def ple (x : FVec F S512x1024 .f32) (g : Vec F S1x1024 .f32) (wg : Vec F S1024x1024 .bf16) (p : Vec F S512x256 .f32)
    (wp : Vec F S256x1024 .bf16) : FVec F S512x1024 .f32 :=
  addf x (mulf
    (matmul dot_S512x256_S256x1024_S512x1024_1_0_0_1_n_n none
      (truncf .bf16 (shapeCast S512x256 p shapeCasts_S512x256_S512x256) bitsLt_bf16_f32)
      (shapeCast S256x1024 wp shapeCasts_S256x1024_S256x1024) (constant S512x1024 .f32 0x00000000#32))
    (logistic (matmul dot_S512x1024_S1024x1024_S512x1024_1_0_0_1_n_n none (normed x g)
      (shapeCast S1024x1024 wg shapeCasts_S1024x1024_S1024x1024) (constant S512x1024 .f32 0x00000000#32))))

/-- Everything after the mixer's output `x` but the last norm. -/
def ffnPle (first : BitVec 1) (x : FVec F S512x1024 .f32) (p : Vec F S512x256 .f32) (fg : Vec F S1x1024 .f32)
    (wup : Vec F S1024x5632 .bf16) (cw : Vec F S3x5632 .f32) (wdn : Vec F S2816x1024 .bf16) (pg : Vec F S1x1024 .f32)
    (wg : Vec F S1024x1024 .bf16) (wp : Vec F S256x1024 .bf16) (xc : Vec F S8x5632 .f32) : FVec F S512x1024 .f32 :=
  ple (ffn x (hiddenAll first (normed x fg) wup cw xc) wdn) pg wg p wp

/-- At the start of a sequence the carried rows are not read. -/
theorem ffnPle_first (x : FVec F S512x1024 .f32) (p : Vec F S512x256 .f32) (fg : Vec F S1x1024 .f32)
    (wup : Vec F S1024x5632 .bf16) (cw : Vec F S3x5632 .f32) (wdn : Vec F S2816x1024 .bf16) (pg : Vec F S1x1024 .f32)
    (wg : Vec F S1024x1024 .bf16) (wp : Vec F S256x1024 .bf16) (xc xc' : Vec F S8x5632 .f32) :
    ffnPle 1#1 x p fg wup cw wdn pg wg wp xc = ffnPle 1#1 x p fg wup cw wdn pg wg wp xc' := by
  have e : ∀ v v' : Vec F S8x256 .f32, before 1#1 v = before 1#1 v' := fun _ _ => rfl
  have h : ∀ k, chunk 1#1 (normed x fg) wup cw xc k = chunk 1#1 (normed x fg) wup cw xc' k := fun k => by
    unfold chunk shiftOf
    rw [e (cols (256 * k) xc) (cols (256 * k) xc'), e (cols (2816 + 256 * k) xc) (cols (2816 + 256 * k) xc')]
  unfold ffnPle hiddenAll
  simp only [h]

/-! ## Reading the row buffer back -/

section Rows
variable {sig : RefSig} {κ : Kind} {sp : Space}

theorem canon_rows (p : Fin 2) {i8 i0} (Y : FVec F S1x512x256 .f32) (P : FVec F S1x8x256 .f32)
    (L : List (View.Piece (Elt F) S2x520x256 .f32)) (a : Fin 520) (b : Fin 256) :
    View.canon ((⟨Rect.unit ![p.val, 8, 0] S1x512x256.size i8, Y⟩ : View.Piece (Elt F) S2x520x256 .f32)
        :: ⟨Rect.unit ![p.val, 0, 0] S1x8x256.size i0, P⟩ :: L) (ix3 p a b)
      = if h : a.val < 8 then P (ix3 0 ⟨a.val, h⟩ b) else Y (ix3 0 ⟨a.val - 8, by have := a.isLt; omega⟩ b) := by
  by_cases h : a.val < 8
  · rw [dif_pos h, View.canon_cons_of_not_mem]
    · have e : (ix3 p a b : S2x520x256.Idx) = (Rect.unit (s := S2x520x256) ![p.val, 0, 0] S1x8x256.size i0).emb (ix3 0 ⟨a.val, h⟩ b) := by
        funext d; match d with
          | ⟨0, _⟩ => exact Fin.ext (by simp [Rect.emb, Rect.unit])
          | ⟨1, _⟩ => exact Fin.ext (by simp [Rect.emb, Rect.unit])
          | ⟨2, _⟩ => exact Fin.ext (by simp [Rect.emb, Rect.unit])
      rw [e, View.canon_cons_emb]
    · intro hm
      obtain ⟨j, hj, e⟩ := (LoadRect.mem_set _).mp hm 1
      have e' : a.val = 8 + 1 * j := e
      omega
  · have e : (ix3 p a b : S2x520x256.Idx) = (Rect.unit (s := S2x520x256) ![p.val, 8, 0] S1x512x256.size i8).emb (ix3 0 ⟨a.val - 8, by have := a.isLt; omega⟩ b) := by
      funext d; match d with
        | ⟨0, _⟩ => exact Fin.ext (by simp [Rect.emb, Rect.unit])
        | ⟨1, _⟩ => exact Fin.ext (show a.val = 8 + 1 * (a.val - 8) by omega)
        | ⟨2, _⟩ => exact Fin.ext (by simp [Rect.emb, Rect.unit])
    rw [dif_neg h, e, View.canon_cons_emb]

theorem read_rows (v : View sig κ sp (S2x520x256 : Shape) .f32) (p : Fin 2) (k : ℕ) (hk : k ≤ 8) {i8 i0 ik} (Y : FVec F S1x512x256 .f32)
    (P : FVec F S1x8x256 .f32) (L : List (View.Piece (Elt F) S2x520x256 .f32)) :
    View.readCov v ((⟨Rect.unit ![p.val, 8, 0] S1x512x256.size i8, Y⟩ : View.Piece (Elt F) S2x520x256 .f32)
        :: ⟨Rect.unit ![p.val, 0, 0] S1x8x256.size i0, P⟩ :: L)
      (Rect.toLoadRect (Rect.unit (s := S2x520x256) ![p.val, 8 - k, 0] S1x512x256.size ik)) = late k hk P Y := by
  rw [View.readCov_eq_canon']
  funext x
  have hx0 : (x 0).val = 0 := Nat.lt_one_iff.mp (x 0).isLt
  have hx1 : (x 1).val < 512 := (x 1).isLt
  have e : (Rect.toLoadRect (Rect.unit (s := S2x520x256) ![p.val, 8 - k, 0] S1x512x256.size ik)).idx x
      = ix3 p (⟨(x 1).val + (8 - k), by omega⟩ : Fin 520) (x 2 : Fin 256) := by
    funext d; match d with
      | ⟨0, _⟩ => exact Fin.ext (show p.val + 1 * (x 0).val = p.val by omega)
      | ⟨1, _⟩ => exact Fin.ext (show (8 - k) + 1 * (x 1).val = (x 1).val + (8 - k) by omega)
      | ⟨2, _⟩ => exact Fin.ext (show 0 + 1 * (x 2).val = (x 2).val by omega)
  refine (congrArg _ e).trans ((canon_rows p Y P L ⟨(x 1).val + (8 - k), by omega⟩ (x 2)).trans ?_)
  unfold late
  by_cases h : (x 1).val + (8 - k) < 8
  · rw [dif_pos h, dif_pos h]
  · rw [dif_neg h, dif_neg h]
    congr 2
    exact Fin.ext (show (x 1).val + (8 - k) - 8 = (x 1).val - k by omega)

/-- A load of 256 columns from an array staged whole. -/
theorem read_cols {n : ℕ} {e : EltTy} (a : Memref sig κ sp (⟨2, ![n, 5632]⟩ : Shape) e) (h : a.IsWhole)
    (X : Vec F (⟨2, ![n, 5632]⟩ : Shape) e) (off : ℕ)
    (hb : ∀ d, (![0, off] : Fin 2 → ℕ) d + (⟨2, ![n, 256]⟩ : Shape).size d ≤ (⟨2, ![n, 5632]⟩ : Shape).size d) :
    View.readAt (Elt F) a.view (Rect.toLoadRect (Rect.unit (s := (⟨2, ![n, 5632]⟩ : Shape)) ![0, off] (⟨2, ![n, 256]⟩ : Shape).size hb)) (h.unread X)
      = cols off X := by
  rw [View.readAt_eq_ld, Memref.IsWhole.read_unread]
  funext x
  have h1 : off + 256 ≤ 5632 := hb 1
  have hx : (x 1).val < 256 := (x 1).isLt
  refine congrArg X (funext fun d => ?_)
  match d with
  | ⟨0, _⟩ => exact Fin.ext (show 0 + 1 * (x 0).val = (x 0).val by omega)
  | ⟨1, _⟩ => exact Fin.ext (show off + 1 * (x 1).val = (off + (x 1).val) % 5632 by rw [Nat.mod_eq_of_lt (by omega)]; omega)

/-- A load of the whole of an array staged whole. -/
theorem read_whole {n k : ℕ} {e : EltTy} (a : Memref sig κ sp (⟨2, ![n, k]⟩ : Shape) e) (h : a.IsWhole)
    (X : Vec F (⟨2, ![n, k]⟩ : Shape) e)
    (hb : ∀ d, (![0, 0] : Fin 2 → ℕ) d + (⟨2, ![n, k]⟩ : Shape).size d ≤ (⟨2, ![n, k]⟩ : Shape).size d) :
    View.readAt (Elt F) a.view (Rect.toLoadRect (Rect.unit (s := (⟨2, ![n, k]⟩ : Shape)) ![0, 0] (⟨2, ![n, k]⟩ : Shape).size hb)) (h.unread X) = X := by
  rw [View.readAt_eq_ld, Memref.IsWhole.read_unread]
  funext x
  refine congrArg X (funext fun d => ?_)
  match d with
  | ⟨0, _⟩ => exact Fin.ext (show 0 + 1 * (x 0).val = (x 0).val by omega)
  | ⟨1, _⟩ => exact Fin.ext (show 0 + 1 * (x 1).val = (x 1).val by omega)

end Rows

/-! ## Pieces of 256 columns -/

/-- Pieces that are blocks of one array and cover it read as that array. -/
theorem canon_blocks {s : Shape} {e : EltTy} (G : Vec F s e) (L : List (View.Piece (Elt F) s e))
    (hL : View.PiecesOf G L) (hc : ∀ y, ∃ p ∈ L, y ∈ p.1.set) : View.canon L = G :=
  funext fun y => View.canon_apply_of_pieces G L hL.mem y (hc y)

theorem hiddenAll_emb (first : BitVec 1) (xn : FVec F S512x1024 .bf16) (wup : Vec F S1024x5632 .bf16) (cw : Vec F S3x5632 .f32)
    (xc : Vec F S8x5632 .f32) (k : ℕ) (hb : ∀ d, (![0, 256 * k] : Fin 2 → ℕ) d + S512x256.size d ≤ S512x2816.size d) (x : S512x256.Idx) :
    chunk first xn wup cw xc k x
      = hiddenAll first xn wup cw xc ((Rect.unit (s := S512x2816) ![0, 256 * k] S512x256.size hb).emb x) := by
  have hx : (x 1).val < 256 := (x 1).isLt
  have e1 : ((Rect.unit (s := S512x2816) ![0, 256 * k] S512x256.size hb).emb x 1).val = 256 * k + (x 1).val :=
    (show 256 * k + 1 * (x 1).val = _ by omega)
  refine congrArg₂ (fun k y => chunk first xn wup cw xc k y) (show k = _ / 256 by rw [e1]; omega) (funext fun d => ?_)
  match d with
  | ⟨0, _⟩ => exact Fin.ext (show (x 0).val = 0 + 1 * (x 0).val by omega)
  | ⟨1, _⟩ => exact Fin.ext (show (x 1).val = _ % 256 by rw [e1]; omega)

theorem carryRows_emb (xn : FVec F S512x1024 .bf16) (wup : Vec F S1024x5632 .bf16) (q : ℕ)
    (hb : ∀ d, (![0, 256 * q] : Fin 2 → ℕ) d + S8x256.size d ≤ S8x5632.size d) (x : S8x256.Idx) :
    lastRows (upc xn (cols (256 * q) wup)) x
      = carryRows xn wup ((Rect.unit (s := S8x5632) ![0, 256 * q] S8x256.size hb).emb x) := by
  have hx : (x 1).val < 256 := (x 1).isLt
  have e1 : ((Rect.unit (s := S8x5632) ![0, 256 * q] S8x256.size hb).emb x 1).val = 256 * q + (x 1).val :=
    (show 256 * q + 1 * (x 1).val = _ by omega)
  refine congrArg₂ (fun q y => lastRows (upc xn (cols (256 * q) wup)) y) (show q = _ / 256 by rw [e1]; omega) (funext fun d => ?_)
  match d with
  | ⟨0, _⟩ => exact Fin.ext (show (x 0).val = 0 + 1 * (x 0).val by omega)
  | ⟨1, _⟩ => exact Fin.ext (show (x 1).val = _ % 256 by rw [e1]; omega)

end Cert.Tail

end
-- ==== Proof.OddRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Tail

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run walks the whole body once: its proof term is long
set_option maxHeartbeats 4000000 in
/-- What one grid point's body stores in the output block and in the carried rows, as pieces (last first), with the
    proof that the body, run on its input blocks and on carried rows `xc`, ends with exactly these pieces stored. -/
noncomputable def bodyRun (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x520x256 .f32) (harg15 : arg15.IsWhole) (arg16 : Memref sig .tc .vmem S8x5632 .f32) (harg16 : arg16.IsWhole)
    (x0 : Vec F S512x1024 .f32) (x1 : Vec F S512x1024 .bf16) (x2 : Vec F S1024x1024 .bf16) (x3 : Vec F S512x256 .f32) (x4 : Vec F S1x1024 .f32) (x5 : Vec F S1024x5632 .bf16) (x6 : Vec F S3x5632 .f32) (x7 : Vec F S2816x1024 .bf16) (x8 : Vec F S1x1024 .f32) (x9 : Vec F S1024x1024 .bf16) (x10 : Vec F S256x1024 .bf16) (x11 : Vec F S1x1024 .f32) (xc : Vec F S8x5632 .f32) :
    { L : List (View.Piece (Elt F) S512x1024 .f32) × List (View.Piece (Elt F) S8x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L.1) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f L.2)) -∗ K ⟨⟩))
          ⊢ wp frame (wpE (defs₀ (F := F)) Variants.none c none) E (cc0_odd_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨⟨?_, ?_⟩, fun E K => ?run⟩
  case run =>
    simp only [cc0_odd_tail_eq_skeleton]; unfold cc0_odd_tail_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%dO, %fO, -, HO⟩, ⟨%dS0, %fS0, -, HS0⟩, ⟨%dS1, %fS1, -, HS1⟩, ⟨%fC, %hfC, HC⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg16.eq_unread hfC
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HO]
    · iexists _; iexact HO
    isplitl [HS0]
    · iexists _, _; isplitr; swap; · iexact HS0
      ipureintro; rfl
    isplitl [HS1]
    · iexists _, _; isplitr; swap; · iexact HS1
      ipureintro; rfl
    iexists _; iexact HC

end Cert.KernelIdeal.Tail

end
-- ==== Proof.OddBlocks.lean ====
/- What the odd layer's tail stores at one grid point, read off the run of its body: the output block and the rows it
   carries over are the vocabulary's `oddOut` and `carryRows`. -/
module

public import proofs.«01_k».proof.Proof.TailSpec
public import proofs.«01_k».proof.Proof.OddRun

@[expose] public section

set_option maxRecDepth 16384

noncomputable section

namespace Cert.KernelIdeal.Tail

open Cert.KernelIdeal.Gen Cert.Tail
open Idealize.ShloMosaic Idealize.ShloMosaic.TcCoe

variable {F : FTy → Type} [FloatOps F]

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x2816 .bf16) (harg14 : arg14.IsWhole) (arg15 : Memref sig .tc .vmem S2x520x256 .f32) (harg15 : arg15.IsWhole) (arg16 : Memref sig .tc .vmem S8x5632 .f32) (harg16 : arg16.IsWhole) (x0 : Vec F S512x1024 .f32) (x1 : Vec F S512x1024 .bf16) (x2 : Vec F S1024x1024 .bf16) (x3 : Vec F S512x256 .f32) (x4 : Vec F S1x1024 .f32) (x5 : Vec F S1024x5632 .bf16) (x6 : Vec F S3x5632 .f32) (x7 : Vec F S2816x1024 .bf16) (x8 : Vec F S1x1024 .f32) (x9 : Vec F S1024x1024 .bf16) (x10 : Vec F S256x1024 .bf16) (x11 : Vec F S1x1024 .f32) (xc : Vec F S8x5632 .f32)

theorem stream_eq : (bodyRun.sl.r c arg1 harg1 arg2 harg2 arg3 harg3 x0 x1 x2) = oddIn x0 x1 x2 := by
  refine (show _ = oddIn (F := F) _ _ _ from rfl).trans ?_
  rw [read_whole, read_whole, read_whole]

theorem normed_eq : (bodyRun.sl.r_1 c arg1 harg1 arg2 harg2 arg3 harg3 arg5 harg5 x0 x1 x2 x4) = (normed (oddIn x0 x1 x2) x4) := by
  refine (show _ = normed (oddIn (F := F) _ _ _) _ from rfl).trans ?_
  rw [read_whole, read_whole, read_whole, read_whole]

theorem v236_eq : (bodyRun.sl.v236 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 3328 x5) (cols 3328 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 3328] S1024x256.size inb_S1024x5632_S1024x256_0_3328)) (harg6.unread x5))
    (View.readAt (Elt F) arg16.view (Rect.toLoadRect (Rect.unit ![0, 3328] S8x256.size inb_S8x5632_S8x256_0_3328)) (harg16.unread xc))
    from read_rows _ 1 2 (by decide) _ _ _).trans ?_
  rw [read_cols arg6, read_cols arg16, normed_eq]

theorem v766_eq : (bodyRun.sl.v766 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 2560 x5) (cols 2560 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 2560] S1024x256.size inb_S1024x5632_S1024x256_0_2560)) (harg6.unread x5))
    (View.readAt (Elt F) arg16.view (Rect.toLoadRect (Rect.unit ![0, 2560] S8x256.size inb_S8x5632_S8x256_0_2560)) (harg16.unread xc))
    from read_rows _ 0 1 (by decide) _ _ _).trans ?_
  rw [read_cols arg6, read_cols arg16, normed_eq]

theorem v804_eq : (bodyRun.sl.v804 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 5376 x5) (cols 5376 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 5376] S1024x256.size inb_S1024x5632_S1024x256_0_5376)) (harg6.unread x5))
    (View.readAt (Elt F) arg16.view (Rect.toLoadRect (Rect.unit ![0, 5376] S8x256.size inb_S8x5632_S8x256_0_5376)) (harg16.unread xc))
    from read_rows _ 1 2 (by decide) _ _ _).trans ?_
  rw [read_cols arg6, read_cols arg16, normed_eq]

theorem v269_eq : (bodyRun.sl.v269 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 768 x5) (cols 768 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 768] S1024x256.size inb_S1024x5632_S1024x256_0_768)) (harg6.unread x5))
    (View.readAt (Elt F) arg16.view (Rect.toLoadRect (Rect.unit ![0, 768] S8x256.size inb_S8x5632_S8x256_0_768)) (harg16.unread xc))
    from read_rows _ 0 1 (by decide) _ _ _).trans ?_
  rw [read_cols arg6, read_cols arg16, normed_eq]

theorem v695_eq : (bodyRun.sl.v695 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 2304 x5) (cols 2304 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 2304] S1024x256.size inb_S1024x5632_S1024x256_0_2304)) (harg6.unread x5))
    (View.readAt (Elt F) arg16.view (Rect.toLoadRect (Rect.unit ![0, 2304] S8x256.size inb_S8x5632_S8x256_0_2304)) (harg16.unread xc))
    from read_rows _ 0 1 (by decide) _ _ _).trans ?_
  rw [read_cols arg6, read_cols arg16, normed_eq]

theorem v624_eq : (bodyRun.sl.v624 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 2048 x5) (cols 2048 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 2048] S1024x256.size inb_S1024x5632_S1024x256_0_2048)) (harg6.unread x5))
    (View.readAt (Elt F) arg16.view (Rect.toLoadRect (Rect.unit ![0, 2048] S8x256.size inb_S8x5632_S8x256_0_2048)) (harg16.unread xc))
    from read_rows _ 0 1 (by decide) _ _ _).trans ?_
  rw [read_cols arg6, read_cols arg16, normed_eq]

theorem v56_eq : (bodyRun.sl.v56 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 0 x5) (cols 0 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 0] S1024x256.size inb_S1024x5632_S1024x256_0_0)) (harg6.unread x5))
    (View.readAt (Elt F) arg16.view (Rect.toLoadRect (Rect.unit ![0, 0] S8x256.size inb_S8x5632_S8x256_0_0)) (harg16.unread xc))
    from read_rows _ 0 1 (by decide) _ _ _).trans ?_
  rw [read_cols arg6, read_cols arg16, normed_eq]

theorem v88_eq : (bodyRun.sl.v88 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 2816 x5) (cols 2816 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 2816] S1024x256.size inb_S1024x5632_S1024x256_0_2816)) (harg6.unread x5))
    (View.readAt (Elt F) arg16.view (Rect.toLoadRect (Rect.unit ![0, 2816] S8x256.size inb_S8x5632_S8x256_0_2816)) (harg16.unread xc))
    from read_rows _ 1 1 (by decide) _ _ _).trans ?_
  rw [read_cols arg6, read_cols arg16, normed_eq]

theorem v733_eq : (bodyRun.sl.v733 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 5120 x5) (cols 5120 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 5120] S1024x256.size inb_S1024x5632_S1024x256_0_5120)) (harg6.unread x5))
    (View.readAt (Elt F) arg16.view (Rect.toLoadRect (Rect.unit ![0, 5120] S8x256.size inb_S8x5632_S8x256_0_5120)) (harg16.unread xc))
    from read_rows _ 1 2 (by decide) _ _ _).trans ?_
  rw [read_cols arg6, read_cols arg16, normed_eq]

theorem v585_eq : (bodyRun.sl.v585 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 4608 x5) (cols 4608 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 4608] S1024x256.size inb_S1024x5632_S1024x256_0_4608)) (harg6.unread x5))
    (View.readAt (Elt F) arg16.view (Rect.toLoadRect (Rect.unit ![0, 4608] S8x256.size inb_S8x5632_S8x256_0_4608)) (harg16.unread xc))
    from read_rows _ 1 1 (by decide) _ _ _).trans ?_
  rw [read_cols arg6, read_cols arg16, normed_eq]

theorem v198_eq : (bodyRun.sl.v198 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 512 x5) (cols 512 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 512] S1024x256.size inb_S1024x5632_S1024x256_0_512)) (harg6.unread x5))
    (View.readAt (Elt F) arg16.view (Rect.toLoadRect (Rect.unit ![0, 512] S8x256.size inb_S8x5632_S8x256_0_512)) (harg16.unread xc))
    from read_rows _ 0 1 (by decide) _ _ _).trans ?_
  rw [read_cols arg6, read_cols arg16, normed_eq]

theorem v488_eq : (bodyRun.sl.v488 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 1536 x5) (cols 1536 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 1536] S1024x256.size inb_S1024x5632_S1024x256_0_1536)) (harg6.unread x5))
    (View.readAt (Elt F) arg16.view (Rect.toLoadRect (Rect.unit ![0, 1536] S8x256.size inb_S8x5632_S8x256_0_1536)) (harg16.unread xc))
    from read_rows _ 0 2 (by decide) _ _ _).trans ?_
  rw [read_cols arg6, read_cols arg16, normed_eq]

theorem v372_eq : (bodyRun.sl.v372 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 3840 x5) (cols 3840 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 3840] S1024x256.size inb_S1024x5632_S1024x256_0_3840)) (harg6.unread x5))
    (View.readAt (Elt F) arg16.view (Rect.toLoadRect (Rect.unit ![0, 3840] S8x256.size inb_S8x5632_S8x256_0_3840)) (harg16.unread xc))
    from read_rows _ 1 1 (by decide) _ _ _).trans ?_
  rw [read_cols arg6, read_cols arg16, normed_eq]

theorem v275_eq : (bodyRun.sl.v275 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 768 x5) (cols 768 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 768] S1024x256.size inb_S1024x5632_S1024x256_0_768)) (harg6.unread x5))
    (View.readAt (Elt F) arg16.view (Rect.toLoadRect (Rect.unit ![0, 768] S8x256.size inb_S8x5632_S8x256_0_768)) (harg16.unread xc))
    from read_rows _ 0 2 (by decide) _ _ _).trans ?_
  rw [read_cols arg6, read_cols arg16, normed_eq]

theorem v553_eq : (bodyRun.sl.v553 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 1792 x5) (cols 1792 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 1792] S1024x256.size inb_S1024x5632_S1024x256_0_1792)) (harg6.unread x5))
    (View.readAt (Elt F) arg16.view (Rect.toLoadRect (Rect.unit ![0, 1792] S8x256.size inb_S8x5632_S8x256_0_1792)) (harg16.unread xc))
    from read_rows _ 0 1 (by decide) _ _ _).trans ?_
  rw [read_cols arg6, read_cols arg16, normed_eq]

theorem v727_eq : (bodyRun.sl.v727 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 5120 x5) (cols 5120 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 5120] S1024x256.size inb_S1024x5632_S1024x256_0_5120)) (harg6.unread x5))
    (View.readAt (Elt F) arg16.view (Rect.toLoadRect (Rect.unit ![0, 5120] S8x256.size inb_S8x5632_S8x256_0_5120)) (harg16.unread xc))
    from read_rows _ 1 1 (by decide) _ _ _).trans ?_
  rw [read_cols arg6, read_cols arg16, normed_eq]

theorem v482_eq : (bodyRun.sl.v482 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 1536 x5) (cols 1536 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 1536] S1024x256.size inb_S1024x5632_S1024x256_0_1536)) (harg6.unread x5))
    (View.readAt (Elt F) arg16.view (Rect.toLoadRect (Rect.unit ![0, 1536] S8x256.size inb_S8x5632_S8x256_0_1536)) (harg16.unread xc))
    from read_rows _ 0 1 (by decide) _ _ _).trans ?_
  rw [read_cols arg6, read_cols arg16, normed_eq]

theorem v378_eq : (bodyRun.sl.v378 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 3840 x5) (cols 3840 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 3840] S1024x256.size inb_S1024x5632_S1024x256_0_3840)) (harg6.unread x5))
    (View.readAt (Elt F) arg16.view (Rect.toLoadRect (Rect.unit ![0, 3840] S8x256.size inb_S8x5632_S8x256_0_3840)) (harg16.unread xc))
    from read_rows _ 1 2 (by decide) _ _ _).trans ?_
  rw [read_cols arg6, read_cols arg16, normed_eq]

theorem v559_eq : (bodyRun.sl.v559 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 1792 x5) (cols 1792 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 1792] S1024x256.size inb_S1024x5632_S1024x256_0_1792)) (harg6.unread x5))
    (View.readAt (Elt F) arg16.view (Rect.toLoadRect (Rect.unit ![0, 1792] S8x256.size inb_S8x5632_S8x256_0_1792)) (harg16.unread xc))
    from read_rows _ 0 2 (by decide) _ _ _).trans ?_
  rw [read_cols arg6, read_cols arg16, normed_eq]

theorem v127_eq : (bodyRun.sl.v127 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 256 x5) (cols 256 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 256] S1024x256.size inb_S1024x5632_S1024x256_0_256)) (harg6.unread x5))
    (View.readAt (Elt F) arg16.view (Rect.toLoadRect (Rect.unit ![0, 256] S8x256.size inb_S8x5632_S8x256_0_256)) (harg16.unread xc))
    from read_rows _ 0 1 (by decide) _ _ _).trans ?_
  rw [read_cols arg6, read_cols arg16, normed_eq]

theorem v307_eq : (bodyRun.sl.v307 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 3584 x5) (cols 3584 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 3584] S1024x256.size inb_S1024x5632_S1024x256_0_3584)) (harg6.unread x5))
    (View.readAt (Elt F) arg16.view (Rect.toLoadRect (Rect.unit ![0, 3584] S8x256.size inb_S8x5632_S8x256_0_3584)) (harg16.unread xc))
    from read_rows _ 1 2 (by decide) _ _ _).trans ?_
  rw [read_cols arg6, read_cols arg16, normed_eq]

theorem v301_eq : (bodyRun.sl.v301 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 3584 x5) (cols 3584 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 3584] S1024x256.size inb_S1024x5632_S1024x256_0_3584)) (harg6.unread x5))
    (View.readAt (Elt F) arg16.view (Rect.toLoadRect (Rect.unit ![0, 3584] S8x256.size inb_S8x5632_S8x256_0_3584)) (harg16.unread xc))
    from read_rows _ 1 1 (by decide) _ _ _).trans ?_
  rw [read_cols arg6, read_cols arg16, normed_eq]

theorem v443_eq : (bodyRun.sl.v443 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 4096 x5) (cols 4096 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 4096] S1024x256.size inb_S1024x5632_S1024x256_0_4096)) (harg6.unread x5))
    (View.readAt (Elt F) arg16.view (Rect.toLoadRect (Rect.unit ![0, 4096] S8x256.size inb_S8x5632_S8x256_0_4096)) (harg16.unread xc))
    from read_rows _ 1 1 (by decide) _ _ _).trans ?_
  rw [read_cols arg6, read_cols arg16, normed_eq]

theorem v159_eq : (bodyRun.sl.v159 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 3072 x5) (cols 3072 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 3072] S1024x256.size inb_S1024x5632_S1024x256_0_3072)) (harg6.unread x5))
    (View.readAt (Elt F) arg16.view (Rect.toLoadRect (Rect.unit ![0, 3072] S8x256.size inb_S8x5632_S8x256_0_3072)) (harg16.unread xc))
    from read_rows _ 1 1 (by decide) _ _ _).trans ?_
  rw [read_cols arg6, read_cols arg16, normed_eq]

theorem v346_eq : (bodyRun.sl.v346 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 1024 x5) (cols 1024 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 1024] S1024x256.size inb_S1024x5632_S1024x256_0_1024)) (harg6.unread x5))
    (View.readAt (Elt F) arg16.view (Rect.toLoadRect (Rect.unit ![0, 1024] S8x256.size inb_S8x5632_S8x256_0_1024)) (harg16.unread xc))
    from read_rows _ 0 2 (by decide) _ _ _).trans ?_
  rw [read_cols arg6, read_cols arg16, normed_eq]

theorem v591_eq : (bodyRun.sl.v591 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 4608 x5) (cols 4608 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 4608] S1024x256.size inb_S1024x5632_S1024x256_0_4608)) (harg6.unread x5))
    (View.readAt (Elt F) arg16.view (Rect.toLoadRect (Rect.unit ![0, 4608] S8x256.size inb_S8x5632_S8x256_0_4608)) (harg16.unread xc))
    from read_rows _ 1 2 (by decide) _ _ _).trans ?_
  rw [read_cols arg6, read_cols arg16, normed_eq]

theorem v798_eq : (bodyRun.sl.v798 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 5376 x5) (cols 5376 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 5376] S1024x256.size inb_S1024x5632_S1024x256_0_5376)) (harg6.unread x5))
    (View.readAt (Elt F) arg16.view (Rect.toLoadRect (Rect.unit ![0, 5376] S8x256.size inb_S8x5632_S8x256_0_5376)) (harg16.unread xc))
    from read_rows _ 1 1 (by decide) _ _ _).trans ?_
  rw [read_cols arg6, read_cols arg16, normed_eq]

theorem v62_eq : (bodyRun.sl.v62 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 0 x5) (cols 0 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 0] S1024x256.size inb_S1024x5632_S1024x256_0_0)) (harg6.unread x5))
    (View.readAt (Elt F) arg16.view (Rect.toLoadRect (Rect.unit ![0, 0] S8x256.size inb_S8x5632_S8x256_0_0)) (harg16.unread xc))
    from read_rows _ 0 2 (by decide) _ _ _).trans ?_
  rw [read_cols arg6, read_cols arg16, normed_eq]

theorem v340_eq : (bodyRun.sl.v340 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 1024 x5) (cols 1024 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 1024] S1024x256.size inb_S1024x5632_S1024x256_0_1024)) (harg6.unread x5))
    (View.readAt (Elt F) arg16.view (Rect.toLoadRect (Rect.unit ![0, 1024] S8x256.size inb_S8x5632_S8x256_0_1024)) (harg16.unread xc))
    from read_rows _ 0 1 (by decide) _ _ _).trans ?_
  rw [read_cols arg6, read_cols arg16, normed_eq]

theorem v449_eq : (bodyRun.sl.v449 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 4096 x5) (cols 4096 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 4096] S1024x256.size inb_S1024x5632_S1024x256_0_4096)) (harg6.unread x5))
    (View.readAt (Elt F) arg16.view (Rect.toLoadRect (Rect.unit ![0, 4096] S8x256.size inb_S8x5632_S8x256_0_4096)) (harg16.unread xc))
    from read_rows _ 1 2 (by decide) _ _ _).trans ?_
  rw [read_cols arg6, read_cols arg16, normed_eq]

theorem v230_eq : (bodyRun.sl.v230 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 3328 x5) (cols 3328 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 3328] S1024x256.size inb_S1024x5632_S1024x256_0_3328)) (harg6.unread x5))
    (View.readAt (Elt F) arg16.view (Rect.toLoadRect (Rect.unit ![0, 3328] S8x256.size inb_S8x5632_S8x256_0_3328)) (harg16.unread xc))
    from read_rows _ 1 1 (by decide) _ _ _).trans ?_
  rw [read_cols arg6, read_cols arg16, normed_eq]

theorem v701_eq : (bodyRun.sl.v701 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 2304 x5) (cols 2304 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 2304] S1024x256.size inb_S1024x5632_S1024x256_0_2304)) (harg6.unread x5))
    (View.readAt (Elt F) arg16.view (Rect.toLoadRect (Rect.unit ![0, 2304] S8x256.size inb_S8x5632_S8x256_0_2304)) (harg16.unread xc))
    from read_rows _ 0 2 (by decide) _ _ _).trans ?_
  rw [read_cols arg6, read_cols arg16, normed_eq]

theorem v94_eq : (bodyRun.sl.v94 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 2816 x5) (cols 2816 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 2816] S1024x256.size inb_S1024x5632_S1024x256_0_2816)) (harg6.unread x5))
    (View.readAt (Elt F) arg16.view (Rect.toLoadRect (Rect.unit ![0, 2816] S8x256.size inb_S8x5632_S8x256_0_2816)) (harg16.unread xc))
    from read_rows _ 1 2 (by decide) _ _ _).trans ?_
  rw [read_cols arg6, read_cols arg16, normed_eq]

theorem v656_eq : (bodyRun.sl.v656 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 4864 x5) (cols 4864 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 4864] S1024x256.size inb_S1024x5632_S1024x256_0_4864)) (harg6.unread x5))
    (View.readAt (Elt F) arg16.view (Rect.toLoadRect (Rect.unit ![0, 4864] S8x256.size inb_S8x5632_S8x256_0_4864)) (harg16.unread xc))
    from read_rows _ 1 1 (by decide) _ _ _).trans ?_
  rw [read_cols arg6, read_cols arg16, normed_eq]

theorem v165_eq : (bodyRun.sl.v165 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 3072 x5) (cols 3072 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 3072] S1024x256.size inb_S1024x5632_S1024x256_0_3072)) (harg6.unread x5))
    (View.readAt (Elt F) arg16.view (Rect.toLoadRect (Rect.unit ![0, 3072] S8x256.size inb_S8x5632_S8x256_0_3072)) (harg16.unread xc))
    from read_rows _ 1 2 (by decide) _ _ _).trans ?_
  rw [read_cols arg6, read_cols arg16, normed_eq]

theorem v133_eq : (bodyRun.sl.v133 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 256 x5) (cols 256 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 256] S1024x256.size inb_S1024x5632_S1024x256_0_256)) (harg6.unread x5))
    (View.readAt (Elt F) arg16.view (Rect.toLoadRect (Rect.unit ![0, 256] S8x256.size inb_S8x5632_S8x256_0_256)) (harg16.unread xc))
    from read_rows _ 0 2 (by decide) _ _ _).trans ?_
  rw [read_cols arg6, read_cols arg16, normed_eq]

theorem v514_eq : (bodyRun.sl.v514 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 4352 x5) (cols 4352 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 4352] S1024x256.size inb_S1024x5632_S1024x256_0_4352)) (harg6.unread x5))
    (View.readAt (Elt F) arg16.view (Rect.toLoadRect (Rect.unit ![0, 4352] S8x256.size inb_S8x5632_S8x256_0_4352)) (harg16.unread xc))
    from read_rows _ 1 1 (by decide) _ _ _).trans ?_
  rw [read_cols arg6, read_cols arg16, normed_eq]

theorem v630_eq : (bodyRun.sl.v630 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 2048 x5) (cols 2048 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 2048] S1024x256.size inb_S1024x5632_S1024x256_0_2048)) (harg6.unread x5))
    (View.readAt (Elt F) arg16.view (Rect.toLoadRect (Rect.unit ![0, 2048] S8x256.size inb_S8x5632_S8x256_0_2048)) (harg16.unread xc))
    from read_rows _ 0 2 (by decide) _ _ _).trans ?_
  rw [read_cols arg6, read_cols arg16, normed_eq]

theorem v204_eq : (bodyRun.sl.v204 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 512 x5) (cols 512 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 512] S1024x256.size inb_S1024x5632_S1024x256_0_512)) (harg6.unread x5))
    (View.readAt (Elt F) arg16.view (Rect.toLoadRect (Rect.unit ![0, 512] S8x256.size inb_S8x5632_S8x256_0_512)) (harg16.unread xc))
    from read_rows _ 0 2 (by decide) _ _ _).trans ?_
  rw [read_cols arg6, read_cols arg16, normed_eq]

theorem v417_eq : (bodyRun.sl.v417 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 1280 x5) (cols 1280 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 1280] S1024x256.size inb_S1024x5632_S1024x256_0_1280)) (harg6.unread x5))
    (View.readAt (Elt F) arg16.view (Rect.toLoadRect (Rect.unit ![0, 1280] S8x256.size inb_S8x5632_S8x256_0_1280)) (harg16.unread xc))
    from read_rows _ 0 2 (by decide) _ _ _).trans ?_
  rw [read_cols arg6, read_cols arg16, normed_eq]

theorem v520_eq : (bodyRun.sl.v520 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 4352 x5) (cols 4352 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 4352] S1024x256.size inb_S1024x5632_S1024x256_0_4352)) (harg6.unread x5))
    (View.readAt (Elt F) arg16.view (Rect.toLoadRect (Rect.unit ![0, 4352] S8x256.size inb_S8x5632_S8x256_0_4352)) (harg16.unread xc))
    from read_rows _ 1 2 (by decide) _ _ _).trans ?_
  rw [read_cols arg6, read_cols arg16, normed_eq]

theorem v411_eq : (bodyRun.sl.v411 c i arg1 harg1 arg2 harg2 arg3 harg3 arg5 harg5 arg6 harg6 arg15 arg16 harg16 x0 x1 x2 x4 x5 xc)
    = shiftOf 1 (by decide) (bodyRun.sl.v19 i) (normed (oddIn x0 x1 x2) x4) (cols 1280 x5) (cols 1280 xc) := by
  refine (show _ = shiftOf (F := F) 1 (by decide) _ (bodyRun.sl.r_1 c arg1 harg1 arg2 harg2 arg3 harg3 arg5 harg5 x0 x1 x2 x4)
    (View.readAt (Elt F) arg6.view (Rect.toLoadRect (Rect.unit ![0, 1280] S1024x256.size inb_S1024x5632_S1024x256_0_1280)) (harg6.unread x5))
    (View.readAt (Elt F) arg16.view (Rect.toLoadRect (Rect.unit ![0, 1280] S8x256.size inb_S8x5632_S8x256_0_1280)) (harg16.unread xc))
    from read_rows _ 0 1 (by decide) _ _ _).trans ?_
  rw [read_cols arg6, read_cols arg16, normed_eq]

theorem v772_eq : (bodyRun.sl.v772 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 2560 x5) (cols 2560 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 2560] S1024x256.size inb_S1024x5632_S1024x256_0_2560)) (harg6.unread x5))
    (View.readAt (Elt F) arg16.view (Rect.toLoadRect (Rect.unit ![0, 2560] S8x256.size inb_S8x5632_S8x256_0_2560)) (harg16.unread xc))
    from read_rows _ 0 2 (by decide) _ _ _).trans ?_
  rw [read_cols arg6, read_cols arg16, normed_eq]

theorem v662_eq : (bodyRun.sl.v662 c i arg1 harg1 arg2 harg2 arg3 harg3 arg5 harg5 arg6 harg6 arg15 arg16 harg16 x0 x1 x2 x4 x5 xc)
    = shiftOf 2 (by decide) (bodyRun.sl.v19 i) (normed (oddIn x0 x1 x2) x4) (cols 4864 x5) (cols 4864 xc) := by
  refine (show _ = shiftOf (F := F) 2 (by decide) _ (bodyRun.sl.r_1 c arg1 harg1 arg2 harg2 arg3 harg3 arg5 harg5 x0 x1 x2 x4)
    (View.readAt (Elt F) arg6.view (Rect.toLoadRect (Rect.unit ![0, 4864] S1024x256.size inb_S1024x5632_S1024x256_0_4864)) (harg6.unread x5))
    (View.readAt (Elt F) arg16.view (Rect.toLoadRect (Rect.unit ![0, 4864] S8x256.size inb_S8x5632_S8x256_0_4864)) (harg16.unread xc))
    from read_rows _ 1 2 (by decide) _ _ _).trans ?_
  rw [read_cols arg6, read_cols arg16, normed_eq]

theorem chunk0_eq : k0_pay14 (bodyRun.sl.r_3 c i arg1 harg1 arg2 harg2 arg3 harg3 arg5 harg5 arg6 harg6 arg7 harg7 arg15 arg16 harg16 x0 x1 x2 x4 x5 x6 xc) (bodyRun.sl.r_4 c arg1 harg1 arg2 harg2 arg3 harg3 arg5 harg5 arg6 harg6 x0 x1 x2 x4 x5) (View.readAt (Elt F) (Memref.view arg7) (Rect.toLoadRect (Rect.unit ![0, 2816] (Shape.size S3x256) inb_S3x5632_S3x256_0_2816)) (Memref.IsWhole.unread harg7 x6)) (bodyRun.sl.v88 c i arg1 harg1 arg2 harg2 arg3 harg3 arg5 harg5 arg6 harg6 arg15 arg16 harg16 x0 x1 x2 x4 x5 xc) (bodyRun.sl.v94 c i arg1 harg1 arg2 harg2 arg3 harg3 arg5 harg5 arg6 harg6 arg15 arg16 harg16 x0 x1 x2 x4 x5 xc)
    = chunk (bodyRun.sl.v19 i) (normed (oddIn x0 x1 x2) x4) x5 x6 xc 0 := by
  refine (show _ = hidden (F := F) (bodyRun.sl.r_1 c arg1 harg1 arg2 harg2 arg3 harg3 arg5 harg5 x0 x1 x2 x4) (View.readAt (Elt F) arg6.view (Rect.toLoadRect (Rect.unit ![0, 0] S1024x256.size inb_S1024x5632_S1024x256_0_0)) (harg6.unread x5)) (View.readAt (Elt F) arg6.view (Rect.toLoadRect (Rect.unit ![0, 2816] S1024x256.size inb_S1024x5632_S1024x256_0_2816)) (harg6.unread x5))
    (View.readAt (Elt F) arg7.view (Rect.toLoadRect (Rect.unit ![0, 0] S3x256.size inb_S3x5632_S3x256_0_0)) (harg7.unread x6)) (View.readAt (Elt F) arg7.view (Rect.toLoadRect (Rect.unit ![0, 2816] S3x256.size inb_S3x5632_S3x256_0_2816)) (harg7.unread x6))
    (bodyRun.sl.v56 c i arg1 harg1 arg2 harg2 arg3 harg3 arg5 harg5 arg6 harg6 arg15 arg16 harg16 x0 x1 x2 x4 x5 xc)
    (bodyRun.sl.v62 c i arg1 harg1 arg2 harg2 arg3 harg3 arg5 harg5 arg6 harg6 arg15 arg16 harg16 x0 x1 x2 x4 x5 xc)
    (bodyRun.sl.v88 c i arg1 harg1 arg2 harg2 arg3 harg3 arg5 harg5 arg6 harg6 arg15 arg16 harg16 x0 x1 x2 x4 x5 xc)
    (bodyRun.sl.v94 c i arg1 harg1 arg2 harg2 arg3 harg3 arg5 harg5 arg6 harg6 arg15 arg16 harg16 x0 x1 x2 x4 x5 xc) from rfl).trans ?_
  rw [v56_eq, v62_eq, v88_eq, v94_eq, normed_eq, read_cols arg6, read_cols arg6, read_cols arg7, read_cols arg7]
  rfl

theorem chunk1_eq : k0_pay25 (bodyRun.sl.r_7 c i arg1 harg1 arg2 harg2 arg3 harg3 arg5 harg5 arg6 harg6 arg7 harg7 arg15 arg16 harg16 x0 x1 x2 x4 x5 x6 xc)
    = chunk (bodyRun.sl.v19 i) (normed (oddIn x0 x1 x2) x4) x5 x6 xc 1 := by
  refine (show _ = hidden (F := F) (bodyRun.sl.r_1 c arg1 harg1 arg2 harg2 arg3 harg3 arg5 harg5 x0 x1 x2 x4) (View.readAt (Elt F) arg6.view (Rect.toLoadRect (Rect.unit ![0, 256] S1024x256.size inb_S1024x5632_S1024x256_0_256)) (harg6.unread x5)) (View.readAt (Elt F) arg6.view (Rect.toLoadRect (Rect.unit ![0, 3072] S1024x256.size inb_S1024x5632_S1024x256_0_3072)) (harg6.unread x5))
    (View.readAt (Elt F) arg7.view (Rect.toLoadRect (Rect.unit ![0, 256] S3x256.size inb_S3x5632_S3x256_0_256)) (harg7.unread x6)) (View.readAt (Elt F) arg7.view (Rect.toLoadRect (Rect.unit ![0, 3072] S3x256.size inb_S3x5632_S3x256_0_3072)) (harg7.unread x6))
    (bodyRun.sl.v127 c i arg1 harg1 arg2 harg2 arg3 harg3 arg5 harg5 arg6 harg6 arg15 arg16 harg16 x0 x1 x2 x4 x5 xc)
    (bodyRun.sl.v133 c i arg1 harg1 arg2 harg2 arg3 harg3 arg5 harg5 arg6 harg6 arg15 arg16 harg16 x0 x1 x2 x4 x5 xc)
    (bodyRun.sl.v159 c i arg1 harg1 arg2 harg2 arg3 harg3 arg5 harg5 arg6 harg6 arg15 arg16 harg16 x0 x1 x2 x4 x5 xc)
    (bodyRun.sl.v165 c i arg1 harg1 arg2 harg2 arg3 harg3 arg5 harg5 arg6 harg6 arg15 arg16 harg16 x0 x1 x2 x4 x5 xc) from rfl).trans ?_
  rw [v127_eq, v133_eq, v159_eq, v165_eq, normed_eq, read_cols arg6, read_cols arg6, read_cols arg7, read_cols arg7]
  rfl

theorem chunk2_eq : k0_pay38 (bodyRun.sl.r_10 c i arg1 harg1 arg2 harg2 arg3 harg3 arg5 harg5 arg6 harg6 arg7 harg7 arg15 arg16 harg16 x0 x1 x2 x4 x5 x6 xc) (bodyRun.sl.r_11 c i arg1 harg1 arg2 harg2 arg3 harg3 arg5 harg5 arg6 harg6 arg7 harg7 arg15 arg16 harg16 x0 x1 x2 x4 x5 x6 xc)
    = chunk (bodyRun.sl.v19 i) (normed (oddIn x0 x1 x2) x4) x5 x6 xc 2 := by
  refine (show _ = hidden (F := F) (bodyRun.sl.r_1 c arg1 harg1 arg2 harg2 arg3 harg3 arg5 harg5 x0 x1 x2 x4) (View.readAt (Elt F) arg6.view (Rect.toLoadRect (Rect.unit ![0, 512] S1024x256.size inb_S1024x5632_S1024x256_0_512)) (harg6.unread x5)) (View.readAt (Elt F) arg6.view (Rect.toLoadRect (Rect.unit ![0, 3328] S1024x256.size inb_S1024x5632_S1024x256_0_3328)) (harg6.unread x5))
    (View.readAt (Elt F) arg7.view (Rect.toLoadRect (Rect.unit ![0, 512] S3x256.size inb_S3x5632_S3x256_0_512)) (harg7.unread x6)) (View.readAt (Elt F) arg7.view (Rect.toLoadRect (Rect.unit ![0, 3328] S3x256.size inb_S3x5632_S3x256_0_3328)) (harg7.unread x6))
    (bodyRun.sl.v198 c i arg1 harg1 arg2 harg2 arg3 harg3 arg5 harg5 arg6 harg6 arg15 arg16 harg16 x0 x1 x2 x4 x5 xc)
    (bodyRun.sl.v204 c i arg1 harg1 arg2 harg2 arg3 harg3 arg5 harg5 arg6 harg6 arg15 arg16 harg16 x0 x1 x2 x4 x5 xc)
    (bodyRun.sl.v230 c i arg1 harg1 arg2 harg2 arg3 harg3 arg5 harg5 arg6 harg6 arg15 arg16 harg16 x0 x1 x2 x4 x5 xc)
    (bodyRun.sl.v236 c i arg1 harg1 arg2 harg2 arg3 harg3 arg5 harg5 arg6 harg6 arg15 arg16 harg16 x0 x1 x2 x4 x5 xc) from rfl).trans ?_
  rw [v198_eq, v204_eq, v230_eq, v236_eq, normed_eq, read_cols arg6, read_cols arg6, read_cols arg7, read_cols arg7]
  rfl

theorem chunk3_eq : k0_pay53 (bodyRun.sl.r_14 c i arg1 harg1 arg2 harg2 arg3 harg3 arg5 harg5 arg6 harg6 arg7 harg7 arg15 arg16 harg16 x0 x1 x2 x4 x5 x6 xc) (bodyRun.sl.r_15 c i arg1 harg1 arg2 harg2 arg3 harg3 arg5 harg5 arg6 harg6 arg7 harg7 arg15 arg16 harg16 x0 x1 x2 x4 x5 x6 xc) (bodyRun.sl.r_16 c i arg1 harg1 arg2 harg2 arg3 harg3 arg5 harg5 arg6 harg6 arg15 arg16 harg16 x0 x1 x2 x4 x5 xc) (bodyRun.sl.r_17 c arg7 harg7 x6)
    = chunk (bodyRun.sl.v19 i) (normed (oddIn x0 x1 x2) x4) x5 x6 xc 3 := by
  refine (show _ = hidden (F := F) (bodyRun.sl.r_1 c arg1 harg1 arg2 harg2 arg3 harg3 arg5 harg5 x0 x1 x2 x4) (View.readAt (Elt F) arg6.view (Rect.toLoadRect (Rect.unit ![0, 768] S1024x256.size inb_S1024x5632_S1024x256_0_768)) (harg6.unread x5)) (View.readAt (Elt F) arg6.view (Rect.toLoadRect (Rect.unit ![0, 3584] S1024x256.size inb_S1024x5632_S1024x256_0_3584)) (harg6.unread x5))
    (View.readAt (Elt F) arg7.view (Rect.toLoadRect (Rect.unit ![0, 768] S3x256.size inb_S3x5632_S3x256_0_768)) (harg7.unread x6)) (View.readAt (Elt F) arg7.view (Rect.toLoadRect (Rect.unit ![0, 3584] S3x256.size inb_S3x5632_S3x256_0_3584)) (harg7.unread x6))
    (bodyRun.sl.v269 c i arg1 harg1 arg2 harg2 arg3 harg3 arg5 harg5 arg6 harg6 arg15 arg16 harg16 x0 x1 x2 x4 x5 xc)
    (bodyRun.sl.v275 c i arg1 harg1 arg2 harg2 arg3 harg3 arg5 harg5 arg6 harg6 arg15 arg16 harg16 x0 x1 x2 x4 x5 xc)
    (bodyRun.sl.v301 c i arg1 harg1 arg2 harg2 arg3 harg3 arg5 harg5 arg6 harg6 arg15 arg16 harg16 x0 x1 x2 x4 x5 xc)
    (bodyRun.sl.v307 c i arg1 harg1 arg2 harg2 arg3 harg3 arg5 harg5 arg6 harg6 arg15 arg16 harg16 x0 x1 x2 x4 x5 xc) from rfl).trans ?_
  rw [v269_eq, v275_eq, v301_eq, v307_eq, normed_eq, read_cols arg6, read_cols arg6, read_cols arg7, read_cols arg7]
  rfl

theorem chunk4_eq : k0_pay66 (bodyRun.sl.r_20 c i arg1 harg1 arg2 harg2 arg3 harg3 arg5 harg5 arg6 harg6 arg7 harg7 arg15 arg16 harg16 x0 x1 x2 x4 x5 x6 xc) (bodyRun.sl.r_21 c i arg1 harg1 arg2 harg2 arg3 harg3 arg5 harg5 arg6 harg6 arg7 harg7 arg15 arg16 harg16 x0 x1 x2 x4 x5 x6 xc) (bodyRun.sl.r_22 c arg7 harg7 x6) (bodyRun.sl.v378 c i arg1 harg1 arg2 harg2 arg3 harg3 arg5 harg5 arg6 harg6 arg15 arg16 harg16 x0 x1 x2 x4 x5 xc)
    = chunk (bodyRun.sl.v19 i) (normed (oddIn x0 x1 x2) x4) x5 x6 xc 4 := by
  refine (show _ = hidden (F := F) (bodyRun.sl.r_1 c arg1 harg1 arg2 harg2 arg3 harg3 arg5 harg5 x0 x1 x2 x4) (View.readAt (Elt F) arg6.view (Rect.toLoadRect (Rect.unit ![0, 1024] S1024x256.size inb_S1024x5632_S1024x256_0_1024)) (harg6.unread x5)) (View.readAt (Elt F) arg6.view (Rect.toLoadRect (Rect.unit ![0, 3840] S1024x256.size inb_S1024x5632_S1024x256_0_3840)) (harg6.unread x5))
    (View.readAt (Elt F) arg7.view (Rect.toLoadRect (Rect.unit ![0, 1024] S3x256.size inb_S3x5632_S3x256_0_1024)) (harg7.unread x6)) (View.readAt (Elt F) arg7.view (Rect.toLoadRect (Rect.unit ![0, 3840] S3x256.size inb_S3x5632_S3x256_0_3840)) (harg7.unread x6))
    (bodyRun.sl.v340 c i arg1 harg1 arg2 harg2 arg3 harg3 arg5 harg5 arg6 harg6 arg15 arg16 harg16 x0 x1 x2 x4 x5 xc)
    (bodyRun.sl.v346 c i arg1 harg1 arg2 harg2 arg3 harg3 arg5 harg5 arg6 harg6 arg15 arg16 harg16 x0 x1 x2 x4 x5 xc)
    (bodyRun.sl.v372 c i arg1 harg1 arg2 harg2 arg3 harg3 arg5 harg5 arg6 harg6 arg15 arg16 harg16 x0 x1 x2 x4 x5 xc)
    (bodyRun.sl.v378 c i arg1 harg1 arg2 harg2 arg3 harg3 arg5 harg5 arg6 harg6 arg15 arg16 harg16 x0 x1 x2 x4 x5 xc) from rfl).trans ?_
  rw [v340_eq, v346_eq, v372_eq, v378_eq, normed_eq, read_cols arg6, read_cols arg6, read_cols arg7, read_cols arg7]
  rfl

theorem chunk5_eq : k0_pay80 (bodyRun.sl.r_26 c i arg1 harg1 arg2 harg2 arg3 harg3 arg5 harg5 arg6 harg6 arg7 harg7 arg15 arg16 harg16 x0 x1 x2 x4 x5 x6 xc) (bodyRun.sl.r_27 c arg7 harg7 x6) (bodyRun.sl.r_28 c arg1 harg1 arg2 harg2 arg3 harg3 arg5 harg5 arg6 harg6 arg7 harg7 x0 x1 x2 x4 x5 x6) (bodyRun.sl.r_29 c i arg1 harg1 arg2 harg2 arg3 harg3 arg5 harg5 arg6 harg6 arg7 harg7 arg15 arg16 harg16 x0 x1 x2 x4 x5 x6 xc) (bodyRun.sl.v449 c i arg1 harg1 arg2 harg2 arg3 harg3 arg5 harg5 arg6 harg6 arg15 arg16 harg16 x0 x1 x2 x4 x5 xc)
    = chunk (bodyRun.sl.v19 i) (normed (oddIn x0 x1 x2) x4) x5 x6 xc 5 := by
  refine (show _ = hidden (F := F) (bodyRun.sl.r_1 c arg1 harg1 arg2 harg2 arg3 harg3 arg5 harg5 x0 x1 x2 x4) (View.readAt (Elt F) arg6.view (Rect.toLoadRect (Rect.unit ![0, 1280] S1024x256.size inb_S1024x5632_S1024x256_0_1280)) (harg6.unread x5)) (View.readAt (Elt F) arg6.view (Rect.toLoadRect (Rect.unit ![0, 4096] S1024x256.size inb_S1024x5632_S1024x256_0_4096)) (harg6.unread x5))
    (View.readAt (Elt F) arg7.view (Rect.toLoadRect (Rect.unit ![0, 1280] S3x256.size inb_S3x5632_S3x256_0_1280)) (harg7.unread x6)) (View.readAt (Elt F) arg7.view (Rect.toLoadRect (Rect.unit ![0, 4096] S3x256.size inb_S3x5632_S3x256_0_4096)) (harg7.unread x6))
    (bodyRun.sl.v411 c i arg1 harg1 arg2 harg2 arg3 harg3 arg5 harg5 arg6 harg6 arg15 arg16 harg16 x0 x1 x2 x4 x5 xc)
    (bodyRun.sl.v417 c i arg1 harg1 arg2 harg2 arg3 harg3 arg5 harg5 arg6 harg6 arg15 arg16 harg16 x0 x1 x2 x4 x5 xc)
    (bodyRun.sl.v443 c i arg1 harg1 arg2 harg2 arg3 harg3 arg5 harg5 arg6 harg6 arg15 arg16 harg16 x0 x1 x2 x4 x5 xc)
    (bodyRun.sl.v449 c i arg1 harg1 arg2 harg2 arg3 harg3 arg5 harg5 arg6 harg6 arg15 arg16 harg16 x0 x1 x2 x4 x5 xc) from rfl).trans ?_
  rw [v411_eq, v417_eq, v443_eq, v449_eq, normed_eq, read_cols arg6, read_cols arg6, read_cols arg7, read_cols arg7]
  rfl

theorem chunk6_eq : k0_pay94 (bodyRun.sl.r_33 c i arg1 harg1 arg2 harg2 arg3 harg3 arg5 harg5 arg6 harg6 arg7 harg7 arg15 arg16 harg16 x0 x1 x2 x4 x5 x6 xc) (bodyRun.sl.r_34 c arg7 harg7 x6) (bodyRun.sl.r_35 c arg1 harg1 arg2 harg2 arg3 harg3 arg5 harg5 arg6 harg6 arg7 harg7 x0 x1 x2 x4 x5 x6) (bodyRun.sl.r_36 c arg7 harg7 x6) (bodyRun.sl.v514 c i arg1 harg1 arg2 harg2 arg3 harg3 arg5 harg5 arg6 harg6 arg15 arg16 harg16 x0 x1 x2 x4 x5 xc) (bodyRun.sl.v520 c i arg1 harg1 arg2 harg2 arg3 harg3 arg5 harg5 arg6 harg6 arg15 arg16 harg16 x0 x1 x2 x4 x5 xc)
    = chunk (bodyRun.sl.v19 i) (normed (oddIn x0 x1 x2) x4) x5 x6 xc 6 := by
  refine (show _ = hidden (F := F) (bodyRun.sl.r_1 c arg1 harg1 arg2 harg2 arg3 harg3 arg5 harg5 x0 x1 x2 x4) (View.readAt (Elt F) arg6.view (Rect.toLoadRect (Rect.unit ![0, 1536] S1024x256.size inb_S1024x5632_S1024x256_0_1536)) (harg6.unread x5)) (View.readAt (Elt F) arg6.view (Rect.toLoadRect (Rect.unit ![0, 4352] S1024x256.size inb_S1024x5632_S1024x256_0_4352)) (harg6.unread x5))
    (View.readAt (Elt F) arg7.view (Rect.toLoadRect (Rect.unit ![0, 1536] S3x256.size inb_S3x5632_S3x256_0_1536)) (harg7.unread x6)) (View.readAt (Elt F) arg7.view (Rect.toLoadRect (Rect.unit ![0, 4352] S3x256.size inb_S3x5632_S3x256_0_4352)) (harg7.unread x6))
    (bodyRun.sl.v482 c i arg1 harg1 arg2 harg2 arg3 harg3 arg5 harg5 arg6 harg6 arg15 arg16 harg16 x0 x1 x2 x4 x5 xc)
    (bodyRun.sl.v488 c i arg1 harg1 arg2 harg2 arg3 harg3 arg5 harg5 arg6 harg6 arg15 arg16 harg16 x0 x1 x2 x4 x5 xc)
    (bodyRun.sl.v514 c i arg1 harg1 arg2 harg2 arg3 harg3 arg5 harg5 arg6 harg6 arg15 arg16 harg16 x0 x1 x2 x4 x5 xc)
    (bodyRun.sl.v520 c i arg1 harg1 arg2 harg2 arg3 harg3 arg5 harg5 arg6 harg6 arg15 arg16 harg16 x0 x1 x2 x4 x5 xc) from rfl).trans ?_
  rw [v482_eq, v488_eq, v514_eq, v520_eq, normed_eq, read_cols arg6, read_cols arg6, read_cols arg7, read_cols arg7]
  rfl

theorem chunk7_eq : k0_pay105 (bodyRun.sl.r_39 c i arg1 harg1 arg2 harg2 arg3 harg3 arg5 harg5 arg6 harg6 arg7 harg7 arg15 arg16 harg16 x0 x1 x2 x4 x5 x6 xc) (bodyRun.sl.r_40 c arg7 harg7 x6) (bodyRun.sl.r_41 c arg1 harg1 arg2 harg2 arg3 harg3 arg5 harg5 arg6 harg6 arg7 harg7 x0 x1 x2 x4 x5 x6) (bodyRun.sl.v585 c i arg1 harg1 arg2 harg2 arg3 harg3 arg5 harg5 arg6 harg6 arg15 arg16 harg16 x0 x1 x2 x4 x5 xc) (bodyRun.sl.v591 c i arg1 harg1 arg2 harg2 arg3 harg3 arg5 harg5 arg6 harg6 arg15 arg16 harg16 x0 x1 x2 x4 x5 xc)
    = chunk (bodyRun.sl.v19 i) (normed (oddIn x0 x1 x2) x4) x5 x6 xc 7 := by
  refine (show _ = hidden (F := F) (bodyRun.sl.r_1 c arg1 harg1 arg2 harg2 arg3 harg3 arg5 harg5 x0 x1 x2 x4) (View.readAt (Elt F) arg6.view (Rect.toLoadRect (Rect.unit ![0, 1792] S1024x256.size inb_S1024x5632_S1024x256_0_1792)) (harg6.unread x5)) (View.readAt (Elt F) arg6.view (Rect.toLoadRect (Rect.unit ![0, 4608] S1024x256.size inb_S1024x5632_S1024x256_0_4608)) (harg6.unread x5))
    (View.readAt (Elt F) arg7.view (Rect.toLoadRect (Rect.unit ![0, 1792] S3x256.size inb_S3x5632_S3x256_0_1792)) (harg7.unread x6)) (View.readAt (Elt F) arg7.view (Rect.toLoadRect (Rect.unit ![0, 4608] S3x256.size inb_S3x5632_S3x256_0_4608)) (harg7.unread x6))
    (bodyRun.sl.v553 c i arg1 harg1 arg2 harg2 arg3 harg3 arg5 harg5 arg6 harg6 arg15 arg16 harg16 x0 x1 x2 x4 x5 xc)
    (bodyRun.sl.v559 c i arg1 harg1 arg2 harg2 arg3 harg3 arg5 harg5 arg6 harg6 arg15 arg16 harg16 x0 x1 x2 x4 x5 xc)
    (bodyRun.sl.v585 c i arg1 harg1 arg2 harg2 arg3 harg3 arg5 harg5 arg6 harg6 arg15 arg16 harg16 x0 x1 x2 x4 x5 xc)
    (bodyRun.sl.v591 c i arg1 harg1 arg2 harg2 arg3 harg3 arg5 harg5 arg6 harg6 arg15 arg16 harg16 x0 x1 x2 x4 x5 xc) from rfl).trans ?_
  rw [v553_eq, v559_eq, v585_eq, v591_eq, normed_eq, read_cols arg6, read_cols arg6, read_cols arg7, read_cols arg7]
  rfl

theorem chunk8_eq : k0_pay115 (bodyRun.sl.r_44 c i arg1 harg1 arg2 harg2 arg3 harg3 arg5 harg5 arg6 harg6 arg7 harg7 arg15 arg16 harg16 x0 x1 x2 x4 x5 x6 xc) (bodyRun.sl.r_45 c arg1 harg1 arg2 harg2 arg3 harg3 arg5 harg5 arg6 harg6 x0 x1 x2 x4 x5) (View.readAt (Elt F) (Memref.view arg7) (Rect.toLoadRect (Rect.unit ![0, 4864] (Shape.size S3x256) inb_S3x5632_S3x256_0_4864)) (Memref.IsWhole.unread harg7 x6)) (bodyRun.sl.v656 c i arg1 harg1 arg2 harg2 arg3 harg3 arg5 harg5 arg6 harg6 arg15 arg16 harg16 x0 x1 x2 x4 x5 xc) (bodyRun.sl.v662 c i arg1 harg1 arg2 harg2 arg3 harg3 arg5 harg5 arg6 harg6 arg15 arg16 harg16 x0 x1 x2 x4 x5 xc)
    = chunk (bodyRun.sl.v19 i) (normed (oddIn x0 x1 x2) x4) x5 x6 xc 8 := by
  refine (show _ = hidden (F := F) (bodyRun.sl.r_1 c arg1 harg1 arg2 harg2 arg3 harg3 arg5 harg5 x0 x1 x2 x4) (View.readAt (Elt F) arg6.view (Rect.toLoadRect (Rect.unit ![0, 2048] S1024x256.size inb_S1024x5632_S1024x256_0_2048)) (harg6.unread x5)) (View.readAt (Elt F) arg6.view (Rect.toLoadRect (Rect.unit ![0, 4864] S1024x256.size inb_S1024x5632_S1024x256_0_4864)) (harg6.unread x5))
    (View.readAt (Elt F) arg7.view (Rect.toLoadRect (Rect.unit ![0, 2048] S3x256.size inb_S3x5632_S3x256_0_2048)) (harg7.unread x6)) (View.readAt (Elt F) arg7.view (Rect.toLoadRect (Rect.unit ![0, 4864] S3x256.size inb_S3x5632_S3x256_0_4864)) (harg7.unread x6))
    (bodyRun.sl.v624 c i arg1 harg1 arg2 harg2 arg3 harg3 arg5 harg5 arg6 harg6 arg15 arg16 harg16 x0 x1 x2 x4 x5 xc)
    (bodyRun.sl.v630 c i arg1 harg1 arg2 harg2 arg3 harg3 arg5 harg5 arg6 harg6 arg15 arg16 harg16 x0 x1 x2 x4 x5 xc)
    (bodyRun.sl.v656 c i arg1 harg1 arg2 harg2 arg3 harg3 arg5 harg5 arg6 harg6 arg15 arg16 harg16 x0 x1 x2 x4 x5 xc)
    (bodyRun.sl.v662 c i arg1 harg1 arg2 harg2 arg3 harg3 arg5 harg5 arg6 harg6 arg15 arg16 harg16 x0 x1 x2 x4 x5 xc) from rfl).trans ?_
  rw [v624_eq, v630_eq, v656_eq, v662_eq, normed_eq, read_cols arg6, read_cols arg6, read_cols arg7, read_cols arg7]
  rfl

theorem chunk9_eq : k0_pay127 (bodyRun.sl.r_48 c i arg1 harg1 arg2 harg2 arg3 harg3 arg5 harg5 arg6 harg6 arg7 harg7 arg15 arg16 harg16 x0 x1 x2 x4 x5 x6 xc) (bodyRun.sl.r_49 c arg1 harg1 arg2 harg2 arg3 harg3 arg5 harg5 arg6 harg6 x0 x1 x2 x4 x5) (View.readAt (Elt F) (Memref.view arg7) (Rect.toLoadRect (Rect.unit ![0, 5120] (Shape.size S3x256) inb_S3x5632_S3x256_0_5120)) (Memref.IsWhole.unread harg7 x6)) (bodyRun.sl.v727 c i arg1 harg1 arg2 harg2 arg3 harg3 arg5 harg5 arg6 harg6 arg15 arg16 harg16 x0 x1 x2 x4 x5 xc) (bodyRun.sl.v733 c i arg1 harg1 arg2 harg2 arg3 harg3 arg5 harg5 arg6 harg6 arg15 arg16 harg16 x0 x1 x2 x4 x5 xc)
    = chunk (bodyRun.sl.v19 i) (normed (oddIn x0 x1 x2) x4) x5 x6 xc 9 := by
  refine (show _ = hidden (F := F) (bodyRun.sl.r_1 c arg1 harg1 arg2 harg2 arg3 harg3 arg5 harg5 x0 x1 x2 x4) (View.readAt (Elt F) arg6.view (Rect.toLoadRect (Rect.unit ![0, 2304] S1024x256.size inb_S1024x5632_S1024x256_0_2304)) (harg6.unread x5)) (View.readAt (Elt F) arg6.view (Rect.toLoadRect (Rect.unit ![0, 5120] S1024x256.size inb_S1024x5632_S1024x256_0_5120)) (harg6.unread x5))
    (View.readAt (Elt F) arg7.view (Rect.toLoadRect (Rect.unit ![0, 2304] S3x256.size inb_S3x5632_S3x256_0_2304)) (harg7.unread x6)) (View.readAt (Elt F) arg7.view (Rect.toLoadRect (Rect.unit ![0, 5120] S3x256.size inb_S3x5632_S3x256_0_5120)) (harg7.unread x6))
    (bodyRun.sl.v695 c i arg1 harg1 arg2 harg2 arg3 harg3 arg5 harg5 arg6 harg6 arg15 arg16 harg16 x0 x1 x2 x4 x5 xc)
    (bodyRun.sl.v701 c i arg1 harg1 arg2 harg2 arg3 harg3 arg5 harg5 arg6 harg6 arg15 arg16 harg16 x0 x1 x2 x4 x5 xc)
    (bodyRun.sl.v727 c i arg1 harg1 arg2 harg2 arg3 harg3 arg5 harg5 arg6 harg6 arg15 arg16 harg16 x0 x1 x2 x4 x5 xc)
    (bodyRun.sl.v733 c i arg1 harg1 arg2 harg2 arg3 harg3 arg5 harg5 arg6 harg6 arg15 arg16 harg16 x0 x1 x2 x4 x5 xc) from rfl).trans ?_
  rw [v695_eq, v701_eq, v727_eq, v733_eq, normed_eq, read_cols arg6, read_cols arg6, read_cols arg7, read_cols arg7]
  rfl

theorem chunk10_eq : k0_pay138 (bodyRun.sl.r_52 c i arg1 harg1 arg2 harg2 arg3 harg3 arg5 harg5 arg6 harg6 arg7 harg7 arg15 arg16 harg16 x0 x1 x2 x4 x5 x6 xc) (bodyRun.sl.r_53 c arg1 harg1 arg2 harg2 arg3 harg3 arg5 harg5 arg6 harg6 x0 x1 x2 x4 x5) (View.readAt (Elt F) (Memref.view arg7) (Rect.toLoadRect (Rect.unit ![0, 5376] (Shape.size S3x256) inb_S3x5632_S3x256_0_5376)) (Memref.IsWhole.unread harg7 x6)) (bodyRun.sl.v798 c i arg1 harg1 arg2 harg2 arg3 harg3 arg5 harg5 arg6 harg6 arg15 arg16 harg16 x0 x1 x2 x4 x5 xc) (bodyRun.sl.v804 c i arg1 harg1 arg2 harg2 arg3 harg3 arg5 harg5 arg6 harg6 arg15 arg16 harg16 x0 x1 x2 x4 x5 xc)
    = chunk (bodyRun.sl.v19 i) (normed (oddIn x0 x1 x2) x4) x5 x6 xc 10 := by
  refine (show _ = hidden (F := F) (bodyRun.sl.r_1 c arg1 harg1 arg2 harg2 arg3 harg3 arg5 harg5 x0 x1 x2 x4) (View.readAt (Elt F) arg6.view (Rect.toLoadRect (Rect.unit ![0, 2560] S1024x256.size inb_S1024x5632_S1024x256_0_2560)) (harg6.unread x5)) (View.readAt (Elt F) arg6.view (Rect.toLoadRect (Rect.unit ![0, 5376] S1024x256.size inb_S1024x5632_S1024x256_0_5376)) (harg6.unread x5))
    (View.readAt (Elt F) arg7.view (Rect.toLoadRect (Rect.unit ![0, 2560] S3x256.size inb_S3x5632_S3x256_0_2560)) (harg7.unread x6)) (View.readAt (Elt F) arg7.view (Rect.toLoadRect (Rect.unit ![0, 5376] S3x256.size inb_S3x5632_S3x256_0_5376)) (harg7.unread x6))
    (bodyRun.sl.v766 c i arg1 harg1 arg2 harg2 arg3 harg3 arg5 harg5 arg6 harg6 arg15 arg16 harg16 x0 x1 x2 x4 x5 xc)
    (bodyRun.sl.v772 c i arg1 harg1 arg2 harg2 arg3 harg3 arg5 harg5 arg6 harg6 arg15 arg16 harg16 x0 x1 x2 x4 x5 xc)
    (bodyRun.sl.v798 c i arg1 harg1 arg2 harg2 arg3 harg3 arg5 harg5 arg6 harg6 arg15 arg16 harg16 x0 x1 x2 x4 x5 xc)
    (bodyRun.sl.v804 c i arg1 harg1 arg2 harg2 arg3 harg3 arg5 harg5 arg6 harg6 arg15 arg16 harg16 x0 x1 x2 x4 x5 xc) from rfl).trans ?_
  rw [v766_eq, v772_eq, v798_eq, v804_eq, normed_eq, read_cols arg6, read_cols arg6, read_cols arg7, read_cols arg7]
  rfl

theorem hidden_eq : (bodyRun.sl.v816 c i arg1 harg1 arg2 harg2 arg3 harg3 arg5 harg5 arg6 harg6 arg7 harg7 arg14 arg15 arg16 harg16 x0 x1 x2 x4 x5 x6 xc)
    = hiddenAll (bodyRun.sl.v19 i) (normed (oddIn x0 x1 x2) x4) x5 x6 xc := by
  refine (View.readCov_eq_canon' _ _ _).trans ?_
  rw [canon_blocks (hiddenAll (bodyRun.sl.v19 i) (normed (oddIn x0 x1 x2) x4) x5 x6 xc) (bodyRun.sl.HS0_11 c i arg1 harg1 arg2 harg2 arg3 harg3 arg5 harg5 arg6 harg6 arg7 harg7 arg15 arg16 harg16 x0 x1 x2 x4 x5 x6 xc)
    ⟨fun x => (congrFun (chunk10_eq (F := F) ..) x).trans (hiddenAll_emb _ _ _ _ _ 10 inb_S512x2816_S512x256_0_2560 x),
     fun x => (congrFun (chunk9_eq (F := F) ..) x).trans (hiddenAll_emb _ _ _ _ _ 9 inb_S512x2816_S512x256_0_2304 x),
     fun x => (congrFun (chunk8_eq (F := F) ..) x).trans (hiddenAll_emb _ _ _ _ _ 8 inb_S512x2816_S512x256_0_2048 x),
     fun x => (congrFun (chunk7_eq (F := F) ..) x).trans (hiddenAll_emb _ _ _ _ _ 7 inb_S512x2816_S512x256_0_1792 x),
     fun x => (congrFun (chunk6_eq (F := F) ..) x).trans (hiddenAll_emb _ _ _ _ _ 6 inb_S512x2816_S512x256_0_1536 x),
     fun x => (congrFun (chunk5_eq (F := F) ..) x).trans (hiddenAll_emb _ _ _ _ _ 5 inb_S512x2816_S512x256_0_1280 x),
     fun x => (congrFun (chunk4_eq (F := F) ..) x).trans (hiddenAll_emb _ _ _ _ _ 4 inb_S512x2816_S512x256_0_1024 x),
     fun x => (congrFun (chunk3_eq (F := F) ..) x).trans (hiddenAll_emb _ _ _ _ _ 3 inb_S512x2816_S512x256_0_768 x),
     fun x => (congrFun (chunk2_eq (F := F) ..) x).trans (hiddenAll_emb _ _ _ _ _ 2 inb_S512x2816_S512x256_0_512 x),
     fun x => (congrFun (chunk1_eq (F := F) ..) x).trans (hiddenAll_emb _ _ _ _ _ 1 inb_S512x2816_S512x256_0_256 x),
     fun x => (congrFun (chunk0_eq (F := F) ..) x).trans (hiddenAll_emb _ _ _ _ _ 0 inb_S512x2816_S512x256_0_0 x), trivial⟩
    (View.cover_of_tiledL _ S512x256.size (by sl_kernel_rfl))]
  funext x
  refine congrArg _ (funext fun d => ?_)
  match d with
  | ⟨0, _⟩ => exact Fin.ext (show 0 + 1 * (x 0).val = (x 0).val by omega)
  | ⟨1, _⟩ => exact Fin.ext (show 0 + 1 * (x 1).val = (x 1).val by omega)

theorem carry0_eq : k0_pay8 (bodyRun.sl.r_1 c arg1 harg1 arg2 harg2 arg3 harg3 arg5 harg5 x0 x1 x2 x4) (bodyRun.sl.r_2 c arg6 harg6 x5)
    = lastRows (upc (normed (oddIn x0 x1 x2) x4) (cols 0 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 0] S1024x256.size inb_S1024x5632_S1024x256_0_0)) (harg6.unread x5))) from rfl).trans ?_
  rw [normed_eq, read_cols arg6]

theorem carry1_eq : k0_pay18 (bodyRun.sl.r_1 c arg1 harg1 arg2 harg2 arg3 harg3 arg5 harg5 x0 x1 x2 x4) (View.readAt (Elt F) (Memref.view arg6) (Rect.toLoadRect (Rect.unit ![0, 256] (Shape.size S1024x256) inb_S1024x5632_S1024x256_0_256)) (Memref.IsWhole.unread harg6 x5))
    = lastRows (upc (normed (oddIn x0 x1 x2) x4) (cols 256 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 256] S1024x256.size inb_S1024x5632_S1024x256_0_256)) (harg6.unread x5))) from rfl).trans ?_
  rw [normed_eq, read_cols arg6]

theorem carry2_eq : k0_pay29 (bodyRun.sl.r_1 c arg1 harg1 arg2 harg2 arg3 harg3 arg5 harg5 x0 x1 x2 x4) (View.readAt (Elt F) (Memref.view arg6) (Rect.toLoadRect (Rect.unit ![0, 512] (Shape.size S1024x256) inb_S1024x5632_S1024x256_0_512)) (Memref.IsWhole.unread harg6 x5))
    = lastRows (upc (normed (oddIn x0 x1 x2) x4) (cols 512 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 512] S1024x256.size inb_S1024x5632_S1024x256_0_512)) (harg6.unread x5))) from rfl).trans ?_
  rw [normed_eq, read_cols arg6]

theorem carry3_eq : k0_pay42 (bodyRun.sl.r_1 c arg1 harg1 arg2 harg2 arg3 harg3 arg5 harg5 x0 x1 x2 x4) (View.readAt (Elt F) (Memref.view arg6) (Rect.toLoadRect (Rect.unit ![0, 768] (Shape.size S1024x256) inb_S1024x5632_S1024x256_0_768)) (Memref.IsWhole.unread harg6 x5))
    = lastRows (upc (normed (oddIn x0 x1 x2) x4) (cols 768 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 768] S1024x256.size inb_S1024x5632_S1024x256_0_768)) (harg6.unread x5))) from rfl).trans ?_
  rw [normed_eq, read_cols arg6]

theorem carry4_eq : k0_pay57 (bodyRun.sl.r_1 c arg1 harg1 arg2 harg2 arg3 harg3 arg5 harg5 x0 x1 x2 x4) (View.readAt (Elt F) (Memref.view arg6) (Rect.toLoadRect (Rect.unit ![0, 1024] (Shape.size S1024x256) inb_S1024x5632_S1024x256_0_1024)) (Memref.IsWhole.unread harg6 x5))
    = lastRows (upc (normed (oddIn x0 x1 x2) x4) (cols 1024 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 1024] S1024x256.size inb_S1024x5632_S1024x256_0_1024)) (harg6.unread x5))) from rfl).trans ?_
  rw [normed_eq, read_cols arg6]

theorem carry5_eq : k0_pay70 (bodyRun.sl.r_1 c arg1 harg1 arg2 harg2 arg3 harg3 arg5 harg5 x0 x1 x2 x4) (View.readAt (Elt F) (Memref.view arg6) (Rect.toLoadRect (Rect.unit ![0, 1280] (Shape.size S1024x256) inb_S1024x5632_S1024x256_0_1280)) (Memref.IsWhole.unread harg6 x5))
    = lastRows (upc (normed (oddIn x0 x1 x2) x4) (cols 1280 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 1280] S1024x256.size inb_S1024x5632_S1024x256_0_1280)) (harg6.unread x5))) from rfl).trans ?_
  rw [normed_eq, read_cols arg6]

theorem carry6_eq : k0_pay84 (bodyRun.sl.r_1 c arg1 harg1 arg2 harg2 arg3 harg3 arg5 harg5 x0 x1 x2 x4) (View.readAt (Elt F) (Memref.view arg6) (Rect.toLoadRect (Rect.unit ![0, 1536] (Shape.size S1024x256) inb_S1024x5632_S1024x256_0_1536)) (Memref.IsWhole.unread harg6 x5))
    = lastRows (upc (normed (oddIn x0 x1 x2) x4) (cols 1536 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 1536] S1024x256.size inb_S1024x5632_S1024x256_0_1536)) (harg6.unread x5))) from rfl).trans ?_
  rw [normed_eq, read_cols arg6]

theorem carry7_eq : k0_pay98 (bodyRun.sl.r_1 c arg1 harg1 arg2 harg2 arg3 harg3 arg5 harg5 x0 x1 x2 x4) (View.readAt (Elt F) (Memref.view arg6) (Rect.toLoadRect (Rect.unit ![0, 1792] (Shape.size S1024x256) inb_S1024x5632_S1024x256_0_1792)) (Memref.IsWhole.unread harg6 x5))
    = lastRows (upc (normed (oddIn x0 x1 x2) x4) (cols 1792 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 1792] S1024x256.size inb_S1024x5632_S1024x256_0_1792)) (harg6.unread x5))) from rfl).trans ?_
  rw [normed_eq, read_cols arg6]

theorem carry8_eq : bodyRun.sl.r_43 c arg1 harg1 arg2 harg2 arg3 harg3 arg5 harg5 arg6 harg6 x0 x1 x2 x4 x5
    = lastRows (upc (normed (oddIn x0 x1 x2) x4) (cols 2048 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 2048] S1024x256.size inb_S1024x5632_S1024x256_0_2048)) (harg6.unread x5))) from rfl).trans ?_
  rw [normed_eq, read_cols arg6]

theorem carry9_eq : k0_pay120 (bodyRun.sl.r_47 c arg1 harg1 arg2 harg2 arg3 harg3 arg5 harg5 arg6 harg6 x0 x1 x2 x4 x5)
    = lastRows (upc (normed (oddIn x0 x1 x2) x4) (cols 2304 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 2304] S1024x256.size inb_S1024x5632_S1024x256_0_2304)) (harg6.unread x5))) from rfl).trans ?_
  rw [normed_eq, read_cols arg6]

theorem carry10_eq : k0_pay131 (bodyRun.sl.r_51 c arg1 harg1 arg2 harg2 arg3 harg3 arg5 harg5 arg6 harg6 x0 x1 x2 x4 x5)
    = lastRows (upc (normed (oddIn x0 x1 x2) x4) (cols 2560 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 2560] S1024x256.size inb_S1024x5632_S1024x256_0_2560)) (harg6.unread x5))) from rfl).trans ?_
  rw [normed_eq, read_cols arg6]

theorem carry11_eq : k0_pay13 (bodyRun.sl.r_4 c arg1 harg1 arg2 harg2 arg3 harg3 arg5 harg5 arg6 harg6 x0 x1 x2 x4 x5)
    = lastRows (upc (normed (oddIn x0 x1 x2) x4) (cols 2816 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 2816] S1024x256.size inb_S1024x5632_S1024x256_0_2816)) (harg6.unread x5))) from rfl).trans ?_
  rw [normed_eq, read_cols arg6]

theorem carry12_eq : k0_pay23 (bodyRun.sl.r_1 c arg1 harg1 arg2 harg2 arg3 harg3 arg5 harg5 x0 x1 x2 x4) (bodyRun.sl.r_6 c arg6 harg6 x5)
    = lastRows (upc (normed (oddIn x0 x1 x2) x4) (cols 3072 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 3072] S1024x256.size inb_S1024x5632_S1024x256_0_3072)) (harg6.unread x5))) from rfl).trans ?_
  rw [normed_eq, read_cols arg6]

theorem carry13_eq : k0_pay35 (bodyRun.sl.r_1 c arg1 harg1 arg2 harg2 arg3 harg3 arg5 harg5 x0 x1 x2 x4) (View.readAt (Elt F) (Memref.view arg6) (Rect.toLoadRect (Rect.unit ![0, 3328] (Shape.size S1024x256) inb_S1024x5632_S1024x256_0_3328)) (Memref.IsWhole.unread harg6 x5))
    = lastRows (upc (normed (oddIn x0 x1 x2) x4) (cols 3328 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 3328] S1024x256.size inb_S1024x5632_S1024x256_0_3328)) (harg6.unread x5))) from rfl).trans ?_
  rw [normed_eq, read_cols arg6]

theorem carry14_eq : k0_pay49 (bodyRun.sl.r_1 c arg1 harg1 arg2 harg2 arg3 harg3 arg5 harg5 x0 x1 x2 x4) (View.readAt (Elt F) (Memref.view arg6) (Rect.toLoadRect (Rect.unit ![0, 3584] (Shape.size S1024x256) inb_S1024x5632_S1024x256_0_3584)) (Memref.IsWhole.unread harg6 x5))
    = lastRows (upc (normed (oddIn x0 x1 x2) x4) (cols 3584 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 3584] S1024x256.size inb_S1024x5632_S1024x256_0_3584)) (harg6.unread x5))) from rfl).trans ?_
  rw [normed_eq, read_cols arg6]

theorem carry15_eq : k0_pay63 (bodyRun.sl.r_1 c arg1 harg1 arg2 harg2 arg3 harg3 arg5 harg5 x0 x1 x2 x4) (View.readAt (Elt F) (Memref.view arg6) (Rect.toLoadRect (Rect.unit ![0, 3840] (Shape.size S1024x256) inb_S1024x5632_S1024x256_0_3840)) (Memref.IsWhole.unread harg6 x5))
    = lastRows (upc (normed (oddIn x0 x1 x2) x4) (cols 3840 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 3840] S1024x256.size inb_S1024x5632_S1024x256_0_3840)) (harg6.unread x5))) from rfl).trans ?_
  rw [normed_eq, read_cols arg6]

theorem carry16_eq : k0_pay77 (bodyRun.sl.r_1 c arg1 harg1 arg2 harg2 arg3 harg3 arg5 harg5 x0 x1 x2 x4) (View.readAt (Elt F) (Memref.view arg6) (Rect.toLoadRect (Rect.unit ![0, 4096] (Shape.size S1024x256) inb_S1024x5632_S1024x256_0_4096)) (Memref.IsWhole.unread harg6 x5))
    = lastRows (upc (normed (oddIn x0 x1 x2) x4) (cols 4096 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 4096] S1024x256.size inb_S1024x5632_S1024x256_0_4096)) (harg6.unread x5))) from rfl).trans ?_
  rw [normed_eq, read_cols arg6]

theorem carry17_eq : k0_pay91 (bodyRun.sl.r_1 c arg1 harg1 arg2 harg2 arg3 harg3 arg5 harg5 x0 x1 x2 x4) (View.readAt (Elt F) (Memref.view arg6) (Rect.toLoadRect (Rect.unit ![0, 4352] (Shape.size S1024x256) inb_S1024x5632_S1024x256_0_4352)) (Memref.IsWhole.unread harg6 x5))
    = lastRows (upc (normed (oddIn x0 x1 x2) x4) (cols 4352 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 4352] S1024x256.size inb_S1024x5632_S1024x256_0_4352)) (harg6.unread x5))) from rfl).trans ?_
  rw [normed_eq, read_cols arg6]

theorem carry18_eq : k0_pay103 (bodyRun.sl.r_1 c arg1 harg1 arg2 harg2 arg3 harg3 arg5 harg5 x0 x1 x2 x4) (View.readAt (Elt F) (Memref.view arg6) (Rect.toLoadRect (Rect.unit ![0, 4608] (Shape.size S1024x256) inb_S1024x5632_S1024x256_0_4608)) (Memref.IsWhole.unread harg6 x5))
    = lastRows (upc (normed (oddIn x0 x1 x2) x4) (cols 4608 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 4608] S1024x256.size inb_S1024x5632_S1024x256_0_4608)) (harg6.unread x5))) from rfl).trans ?_
  rw [normed_eq, read_cols arg6]

theorem carry19_eq : k0_pay114 (bodyRun.sl.r_1 c arg1 harg1 arg2 harg2 arg3 harg3 arg5 harg5 x0 x1 x2 x4) (View.readAt (Elt F) (Memref.view arg6) (Rect.toLoadRect (Rect.unit ![0, 4864] (Shape.size S1024x256) inb_S1024x5632_S1024x256_0_4864)) (Memref.IsWhole.unread harg6 x5))
    = lastRows (upc (normed (oddIn x0 x1 x2) x4) (cols 4864 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 4864] S1024x256.size inb_S1024x5632_S1024x256_0_4864)) (harg6.unread x5))) from rfl).trans ?_
  rw [normed_eq, read_cols arg6]

theorem carry20_eq : k0_pay126 (bodyRun.sl.r_50 c arg1 harg1 arg2 harg2 arg3 harg3 arg5 harg5 arg6 harg6 x0 x1 x2 x4 x5)
    = lastRows (upc (normed (oddIn x0 x1 x2) x4) (cols 5120 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 5120] S1024x256.size inb_S1024x5632_S1024x256_0_5120)) (harg6.unread x5))) from rfl).trans ?_
  rw [normed_eq, read_cols arg6]

theorem carry21_eq : k0_pay137 (bodyRun.sl.r_54 c arg1 harg1 arg2 harg2 arg3 harg3 arg5 harg5 arg6 harg6 x0 x1 x2 x4 x5)
    = lastRows (upc (normed (oddIn x0 x1 x2) x4) (cols 5376 x5)) := by
  refine (show _ = lastRows (F := F) (upc (bodyRun.sl.r_1 c arg1 harg1 arg2 harg2 arg3 harg3 arg5 harg5 x0 x1 x2 x4) (View.readAt (Elt F) arg6.view (Rect.toLoadRect (Rect.unit ![0, 5376] S1024x256.size inb_S1024x5632_S1024x256_0_5376)) (harg6.unread x5))) from rfl).trans ?_
  rw [normed_eq, read_cols arg6]

theorem carry_cover : ∀ y, ∃ p ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xc).1.2, y ∈ p.1.set :=
  View.cover_of_tiledL _ S8x256.size (by sl_kernel_rfl)

theorem out_cover : ∀ y, ∃ p ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xc).1.1, y ∈ p.1.set :=
  View.cover_of_tiledL _ S512x1024.size (by sl_kernel_rfl)

/-- The rows carried over. -/
theorem canon_carry : View.canon (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xc).1.2 = carryRows (normed (oddIn x0 x1 x2) x4) x5 :=
  canon_blocks _ _
    ⟨fun x => (congrFun (carry21_eq (F := F) ..) x).trans (carryRows_emb _ _ 21 inb_S8x5632_S8x256_0_5376 x),
     fun x => (congrFun (carry10_eq (F := F) ..) x).trans (carryRows_emb _ _ 10 inb_S8x5632_S8x256_0_2560 x),
     fun x => (congrFun (carry20_eq (F := F) ..) x).trans (carryRows_emb _ _ 20 inb_S8x5632_S8x256_0_5120 x),
     fun x => (congrFun (carry9_eq (F := F) ..) x).trans (carryRows_emb _ _ 9 inb_S8x5632_S8x256_0_2304 x),
     fun x => (congrFun (carry19_eq (F := F) ..) x).trans (carryRows_emb _ _ 19 inb_S8x5632_S8x256_0_4864 x),
     fun x => (congrFun (carry8_eq (F := F) ..) x).trans (carryRows_emb _ _ 8 inb_S8x5632_S8x256_0_2048 x),
     fun x => (congrFun (carry18_eq (F := F) ..) x).trans (carryRows_emb _ _ 18 inb_S8x5632_S8x256_0_4608 x),
     fun x => (congrFun (carry7_eq (F := F) ..) x).trans (carryRows_emb _ _ 7 inb_S8x5632_S8x256_0_1792 x),
     fun x => (congrFun (carry17_eq (F := F) ..) x).trans (carryRows_emb _ _ 17 inb_S8x5632_S8x256_0_4352 x),
     fun x => (congrFun (carry6_eq (F := F) ..) x).trans (carryRows_emb _ _ 6 inb_S8x5632_S8x256_0_1536 x),
     fun x => (congrFun (carry16_eq (F := F) ..) x).trans (carryRows_emb _ _ 16 inb_S8x5632_S8x256_0_4096 x),
     fun x => (congrFun (carry5_eq (F := F) ..) x).trans (carryRows_emb _ _ 5 inb_S8x5632_S8x256_0_1280 x),
     fun x => (congrFun (carry15_eq (F := F) ..) x).trans (carryRows_emb _ _ 15 inb_S8x5632_S8x256_0_3840 x),
     fun x => (congrFun (carry4_eq (F := F) ..) x).trans (carryRows_emb _ _ 4 inb_S8x5632_S8x256_0_1024 x),
     fun x => (congrFun (carry14_eq (F := F) ..) x).trans (carryRows_emb _ _ 14 inb_S8x5632_S8x256_0_3584 x),
     fun x => (congrFun (carry3_eq (F := F) ..) x).trans (carryRows_emb _ _ 3 inb_S8x5632_S8x256_0_768 x),
     fun x => (congrFun (carry13_eq (F := F) ..) x).trans (carryRows_emb _ _ 13 inb_S8x5632_S8x256_0_3328 x),
     fun x => (congrFun (carry2_eq (F := F) ..) x).trans (carryRows_emb _ _ 2 inb_S8x5632_S8x256_0_512 x),
     fun x => (congrFun (carry12_eq (F := F) ..) x).trans (carryRows_emb _ _ 12 inb_S8x5632_S8x256_0_3072 x),
     fun x => (congrFun (carry1_eq (F := F) ..) x).trans (carryRows_emb _ _ 1 inb_S8x5632_S8x256_0_256 x),
     fun x => (congrFun (carry11_eq (F := F) ..) x).trans (carryRows_emb _ _ 11 inb_S8x5632_S8x256_0_2816 x),
     fun x => (congrFun (carry0_eq (F := F) ..) x).trans (carryRows_emb _ _ 0 inb_S8x5632_S8x256_0_0 x), trivial⟩
    (View.cover_of_tiledL _ S8x256.size (by sl_kernel_rfl))

theorem ple_eq : (bodyRun.sl.r_58 c i arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xc)
    = (ffnPle (bodyRun.sl.v19 i) (oddIn x0 x1 x2) x3 x4 x5 x6 x7 x8 x9 x10 xc) := by
  refine (show _ = ple (ffn (F := F) (bodyRun.sl.r c arg1 harg1 arg2 harg2 arg3 harg3 x0 x1 x2) (bodyRun.sl.v816 c i arg1 harg1 arg2 harg2 arg3 harg3 arg5 harg5 arg6 harg6 arg7 harg7 arg14 arg15 arg16 harg16 x0 x1 x2 x4 x5 x6 xc) (View.readAt (Elt F) arg8.view (Rect.toLoadRect (Rect.unit ![0, 0] S2816x1024.size inb_S2816x1024_S2816x1024_0_0)) (harg8.unread x7))) (View.readAt (Elt F) arg9.view (Rect.toLoadRect (Rect.unit ![0, 0] S1x1024.size inb_S1x1024_S1x1024_0_0)) (harg9.unread x8)) (View.readAt (Elt F) arg10.view (Rect.toLoadRect (Rect.unit ![0, 0] S1024x1024.size inb_S1024x1024_S1024x1024_0_0)) (harg10.unread x9))
    (View.readAt (Elt F) arg4.view (Rect.toLoadRect (Rect.unit ![0, 0] S512x256.size inb_S512x256_S512x256_0_0)) (harg4.unread x3)) (View.readAt (Elt F) arg11.view (Rect.toLoadRect (Rect.unit ![0, 0] S256x1024.size inb_S256x1024_S256x1024_0_0)) (harg11.unread x10)) from rfl).trans ?_
  rw [stream_eq, hidden_eq, read_whole arg8, read_whole arg9, read_whole arg10, read_whole arg4, read_whole arg11]
  rfl

theorem sq_eq : (bodyRun.sl.r_60 c i arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xc) = mulf (bodyRun.sl.r_58 c i arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xc) (bodyRun.sl.r_58 c i arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xc) := rfl

theorem gain_eq : (bodyRun.sl.r_59 c arg12 harg12 x11) = shapeCast S1x1024 x11 shapeCasts_S1x1024_S1x1024 := by
  refine (show _ = shapeCast S1x1024 (View.readAt (Elt F) arg12.view (Rect.toLoadRect (Rect.unit ![0, 0] S1x1024.size inb_S1x1024_S1x1024_0_0)) (harg12.unread x11)) shapeCasts_S1x1024_S1x1024 from rfl).trans ?_
  rw [read_whole]

theorem pay_eq (a : FVec F S512x1024 .f32) (g : Vec F S1x1024 .f32) :
    k0_pay1 a (shapeCast S1x1024 g shapeCasts_S1x1024_S1x1024) (mulf a a) = norm a g := rfl

/-- The output block. -/
theorem canon_out : View.canon (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 xc).1.1
    = norm (ffnPle (bodyRun.sl.v19 i) (oddIn x0 x1 x2) x3 x4 x5 x6 x7 x8 x9 x10 xc) x11 := by
  refine (show _ = View.canon [(⟨Rect.unit ![0, 0] S512x1024.size inb_S512x1024_S512x1024_0_0,
    k0_pay1 (bodyRun.sl.r_58 c i arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xc) (bodyRun.sl.r_59 c arg12 harg12 x11) (bodyRun.sl.r_60 c i arg1 harg1 arg2 harg2 arg3 harg3 arg4 harg4 arg5 harg5 arg6 harg6 arg7 harg7 arg8 harg8 arg9 harg9 arg10 harg10 arg11 harg11 arg14 arg15 arg16 harg16 x0 x1 x2 x3 x4 x5 x6 x7 x8 x9 x10 xc)⟩ : View.Piece (Elt F) S512x1024 .f32)] from rfl).trans ?_
  rw [sq_eq, gain_eq, pay_eq, ple_eq]
  exact View.canon_unit_zero (by funext d; match d with | ⟨0, _⟩ => rfl | ⟨1, _⟩ => rfl) _ _

end Cert.KernelIdeal.Tail

end
-- ==== Proof.OddFrame.lean ====
/- The frame of the odd layer's tail at any float type: the body's run at every grid point, the rows carried between
   points as the invariant, and from them the launch's final arrays. -/
module

public import proofs.«01_k».proof.Proof.OddBlocks
public import Idealize.ShloMosaic.Lib.Pipeline.Frame
public import Idealize.ShloMosaic.Lib.Claim

@[expose] public section

set_option maxRecDepth 16384

noncomputable section

namespace Cert.KernelIdeal.Tail

open Cert.KernelIdeal.Gen Cert.Tail
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Whether a point is the first of its sequence. -/
theorem first_eq : ∀ t : Fin cfg0.N, bodyRun.sl.v19 (grid0.coords t) = if t.val % 8 = 0 then 1#1 else 0#1 :=
  (by decide +kernel : ∀ t : Fin grid0.N, bodyRun.sl.v19 (grid0.coords t) = if t.val % 8 = 0 then 1#1 else 0#1)

/-- The rows carried on from point `t`. -/
def carryAt (c : Dev nD) (t : Fin cfg0.N) : Vec F S8x5632 .f32 := carryRows (normed (oddIn (iblk m c 0 t) (iblk m c 1 t) (iblk m c 2 t)) (iblk m c 4 t)) (iblk m c 5 t)

/-- The rows the point before `t` carried on. -/
def prevAt (c : Dev nD) (t : Fin cfg0.N) : Vec F S8x5632 .f32 :=
  carryAt m c ⟨t.val - 1, Nat.lt_of_le_of_lt (Nat.sub_le _ _) t.isLt⟩

/-- The output block of point `t`, from the rows `xc` before it. -/
def outFrom (c : Dev nD) (t : Fin cfg0.N) (xc : Vec F S8x5632 .f32) : Vec F S512x1024 .f32 :=
  norm (ffnPle (bodyRun.sl.v19 (grid0.coords t)) (oddIn (iblk m c 0 t) (iblk m c 1 t) (iblk m c 2 t)) (iblk m c 3 t) (iblk m c 4 t)
    (iblk m c 5 t) (iblk m c 6 t) (iblk m c 7 t) (iblk m c 8 t) (iblk m c 9 t) (iblk m c 10 t) xc) (iblk m c 11 t)

/-- At the start of a sequence nothing is carried in. -/
theorem outFrom_first (c : Dev nD) (t : Fin cfg0.N) (h : t.val % 8 = 0) (xc xc' : Vec F S8x5632 .f32) :
    outFrom m c t xc = outFrom m c t xc' := by
  unfold outFrom
  rw [first_eq, if_pos h, ffnPle_first _ _ _ _ _ _ _ _ _ xc xc']

/-! ## The pipeline's proof data -/

abbrev scM0 : Memref sig .tc .vmem S512x2816 .bf16 := Memref.whole cc0_scratch0
abbrev scM1 : Memref sig .tc .vmem S2x520x256 .f32 := Memref.whole cc0_scratch1
abbrev scM2 : Memref sig .tc .vmem S8x5632 .f32 := Memref.whole cc0_scratch2

/-- The scratch buffers at anything and the generator register at some state. -/
theorem PhiA_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- The invariant before position `n`: the carried rows are those of the point before. -/
def PhiS (c : Dev nD) : (n : ℕ) → n ≤ cfg0.N → sProp 𝕄
  | 0, _ => Pipeline.ΦA spec0 c
  | n + 1, hn => iprop(iprop((∃ d, owns (c : Thread nD τ) scM0 fullShare d) ∗ (∃ d, owns (c : Thread nD τ) scM1 fullShare d) ∗ owns (c : Thread nD τ) scM2 fullShare (carryAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop((∃ d, owns (c : Thread nD τ) scM0 fullShare d) ∗ (∃ d, owns (c : Thread nD τ) scM1 fullShare d) ∗ owns (c : Thread nD τ) scM2 fullShare (carryAt m c t)) ∗ (∃ r, prngReg c r)) := rfl

theorem PhiS_pos (c : Dev nD) (n : ℕ) (h : n ≤ cfg0.N) (hz : n ≠ 0) :
    PhiS m c n h = iprop(iprop((∃ d, owns (c : Thread nD τ) scM0 fullShare d) ∗ (∃ d, owns (c : Thread nD τ) scM1 fullShare d) ∗ owns (c : Thread nD τ) scM2 fullShare (carryAt m c ⟨n - 1, by omega⟩)) ∗ (∃ r, prngReg c r)) := by
  cases n with
  | zero => exact absurd rfl hz
  | succ n => rfl

/-- The proof data: each input's buffer at its block, the output's at the point's block, the carried rows invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outFrom m c t (prevAt m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outFrom m c t (prevAt m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.succ = PhiS m c (t.val + 1) t.isLt from rfl, PhiS_succ]
  by_cases hz : t.val = 0
  · rw [PhiS_castSucc m c t, PhiS_zero m c _ _ hz, PhiA_eq]
    iintro ⟨⟨⟨HS0, HS1, ⟨%xc, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xc).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%eo, H12⟩, HS0, HS1, ⟨%es, HS2⟩⟩
    isplitl [HS0 HS1 HS2 Hg]
    · isplitl [HS0 HS1 HS2]
      · isplitl [HS0]; · iexact HS0
        isplitl [HS1]; · iexact HS1
        unfold owns; iexists _; isplitr
        swap; · iexact HS2
        ipureintro; exact (View.read_writes_eq_canon _ _ _ (fun _ => carry_cover ..)).trans (canon_carry ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact (View.read_writes_eq_canon _ _ _ (fun _ => out_cover ..)).trans ((canon_out ..).trans (outFrom_first m c t (by rw [hz]) _ _))
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, ⟨%eo, H12⟩, HS0, HS1, ⟨%es, HS2⟩⟩
    isplitl [HS0 HS1 HS2 Hg]
    · isplitl [HS0 HS1 HS2]
      · isplitl [HS0]; · iexact HS0
        isplitl [HS1]; · iexact HS1
        unfold owns; iexists _; isplitr
        swap; · iexact HS2
        ipureintro; exact (View.read_writes_eq_canon _ _ _ (fun _ => carry_cover ..)).trans (canon_carry ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact (View.read_writes_eq_canon _ _ _ (fun _ => out_cover ..)).trans ((canon_out ..).trans rfl)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexact HS0
    isplitl [HS1]; · iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

-- the run's implicit arguments are found by unifying its conclusion with this one
set_option backward.isDefEq.respectTransparency.types false in
/-- The launch: every final state has the windows' arrays as the proof data say and all counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Tail

end
-- ==== Proof.TailValue.lean ====
/- What a layer tail computes over the extended reals, row by row, and the block functions read that way. -/
module

public import proofs.«01_k».proof.Proof.TailSpec
public import Idealize.ShloMosaic.Lib.Pointwise

@[expose] public section

set_option maxRecDepth 16384

noncomputable section

namespace Cert.Tail

open Cert.KernelIdeal Cert.KernelIdeal.Gen
open Idealize.ShloMosaic

/-! ## The rows -/

/-- The normed row. -/
def nrm (x g : Fin 1024 → EReal) (d : Fin 1024) : EReal :=
  x d * Ideal.rsqrt (Ideal.div (∑ k, x k * x k) (Ideal.ofBits .f32 0x44800000#32) + Ideal.ofBits .f32 0x358637BD#32) * g d

/-- The up-projection of a row. -/
def upr (x : Fin 1024 → EReal) (w : Fin 1024 → Fin 5632 → EReal) (j : Fin 5632) : EReal := ∑ k, x k * w k j

/-- The convolution of width three over a row and the two before it. -/
def cvl (w : Fin 3 → Fin 5632 → EReal) (U0 U1 U2 : Fin 5632 → EReal) (j : Fin 5632) : EReal :=
  w 2 j * U0 j + w 1 j * U1 j + w 0 j * U2 j

/-- The gated activation of the convolved row. -/
def hidr (w : Fin 3 → Fin 5632 → EReal) (U0 U1 U2 : Fin 5632 → EReal) (j : Fin 2816) : EReal :=
  cvl w U0 U1 U2 ⟨j.val, by omega⟩ * Ideal.logistic (cvl w U0 U1 U2 ⟨j.val, by omega⟩) * cvl w U0 U1 U2 ⟨2816 + j.val, by omega⟩

/-- The row after the gated MLP. -/
def mlpr (x : Fin 1024 → EReal) (w : Fin 3 → Fin 5632 → EReal) (U0 U1 U2 : Fin 5632 → EReal) (wdn : Fin 2816 → Fin 1024 → EReal)
    (d : Fin 1024) : EReal := x d + ∑ j, hidr w U0 U1 U2 j * wdn j d

/-- The row after the per-layer embedding. -/
def pler (x : Fin 1024 → EReal) (p : Fin 256 → EReal) (g : Fin 1024 → EReal) (wg : Fin 1024 → Fin 1024 → EReal)
    (wp : Fin 256 → Fin 1024 → EReal) (d : Fin 1024) : EReal :=
  x d + (∑ k, p k * wp k d) * Ideal.logistic (∑ k, nrm x g k * wg k d)

/-- The up-projection of the row `k` before row `n`, zero before the start of its sequence. -/
def ups (X : ℕ → Fin 1024 → EReal) (fg : Fin 1024 → EReal) (wup : Fin 1024 → Fin 5632 → EReal) (k n : ℕ) (j : Fin 5632) : EReal :=
  if n % 4096 < k then 0 else upr (nrm (X (n - k)) fg) wup j

/-- Row `n` after the tail, the rows `X` being those after the mixer and `p` the row's embedding. -/
def tailRow (X : ℕ → Fin 1024 → EReal) (p : Fin 256 → EReal) (fg : Fin 1024 → EReal) (wup : Fin 1024 → Fin 5632 → EReal)
    (cw : Fin 3 → Fin 5632 → EReal) (wdn : Fin 2816 → Fin 1024 → EReal) (pg : Fin 1024 → EReal) (wg : Fin 1024 → Fin 1024 → EReal)
    (wp : Fin 256 → Fin 1024 → EReal) (n : ℕ) : Fin 1024 → EReal :=
  pler (mlpr (X n) cw (ups X fg wup 0 n) (ups X fg wup 1 n) (ups X fg wup 2 n) wdn) p pg wg wp

theorem tailRow_congr (X : ℕ → Fin 1024 → EReal) {p p' : Fin 256 → EReal} (hp : p = p') {fg fg' : Fin 1024 → EReal} (hfg : fg = fg')
    {wup wup' : Fin 1024 → Fin 5632 → EReal} (hwup : wup = wup') {cw cw' : Fin 3 → Fin 5632 → EReal} (hcw : cw = cw')
    {wdn wdn' : Fin 2816 → Fin 1024 → EReal} (hwdn : wdn = wdn') {pg pg' : Fin 1024 → EReal} (hpg : pg = pg')
    {wg wg' : Fin 1024 → Fin 1024 → EReal} (hwg : wg = wg') {wp wp' : Fin 256 → Fin 1024 → EReal} (hwp : wp = wp') (n : ℕ) (d : Fin 1024) :
    tailRow X p fg wup cw wdn pg wg wp n d = tailRow X p' fg' wup' cw' wdn' pg' wg' wp' n d := by
  subst hp hfg hwup hcw hwdn hpg hwg hwp; rfl

/-! ## The block functions at an index -/

theorem norm_at (x : FVec Ideal S512x1024 .f32) (g : Vec Ideal S1x1024 .f32) (r : Fin 512) (d : Fin 1024) :
    norm x g (ix2 r d) = nrm (fun k => x (ix2 r k)) (fun k => g (ix2 0 k)) d := by
  pointwise [norm, sumsq, nrm]

theorem normed_at (x : FVec Ideal S512x1024 .f32) (g : Vec Ideal S1x1024 .f32) (r : Fin 512) (d : Fin 1024) :
    normed x g (ix2 r d) = nrm (fun k => x (ix2 r k)) (fun k => g (ix2 0 k)) d := norm_at x g r d

theorem upc_at (xn : FVec Ideal S512x1024 .bf16) (w : Vec Ideal S1024x256 .bf16) (r : Fin 512) (c : Fin 256) :
    upc xn w (ix2 r c) = ∑ k : Fin 1024, xn (ix2 r k) * w (ix2 k c) := by
  pointwise [upc]

theorem glu_at (a b : FVec Ideal S512x256 .f32) (r : Fin 512) (c : Fin 256) :
    glu a b (ix2 r c) = a (ix2 r c) * Ideal.logistic (a (ix2 r c)) * b (ix2 r c) := by
  pointwise [glu]

theorem conv3_at (w : Vec Ideal S3x256 .f32) (y : FVec Ideal S512x256 .f32) (s1 s2 : Vec Ideal S1x512x256 .f32) (r : Fin 512) (c : Fin 256) :
    conv3 w y s1 s2 (ix2 r c) = w (ix2 2 c) * y (ix2 r c) + w (ix2 1 c) * s1 (ix3 0 r c) + w (ix2 0 c) * s2 (ix3 0 r c) := by
  pointwise [conv3]

theorem ffn_at (x : FVec Ideal S512x1024 .f32) (h : Vec Ideal S512x2816 .bf16) (w : Vec Ideal S2816x1024 .bf16) (r : Fin 512) (d : Fin 1024) :
    ffn x h w (ix2 r d) = x (ix2 r d) + ∑ k : Fin 2816, h (ix2 r k) * w (ix2 k d) := by
  pointwise [ffn]

theorem oddIn_at (x : Vec Ideal S512x1024 .f32) (o : Vec Ideal S512x1024 .bf16) (w : Vec Ideal S1024x1024 .bf16) (r : Fin 512) (d : Fin 1024) :
    oddIn x o w (ix2 r d) = x (ix2 r d) + ∑ k : Fin 1024, o (ix2 r k) * w (ix2 k d) := by
  pointwise [oddIn]

theorem ple_at (x : FVec Ideal S512x1024 .f32) (g : Vec Ideal S1x1024 .f32) (wg : Vec Ideal S1024x1024 .bf16) (p : Vec Ideal S512x256 .f32)
    (wp : Vec Ideal S256x1024 .bf16) (r : Fin 512) (d : Fin 1024) :
    ple x g wg p wp (ix2 r d) = pler (fun k => x (ix2 r k)) (fun k => p (ix2 r k)) (fun k => g (ix2 0 k)) (fun a b => wg (ix2 a b))
      (fun a b => wp (ix2 a b)) d := by
  pointwise [ple, pler, normed_at]

theorem lastRows_at (y : FVec Ideal S512x256 .f32) (r : Fin 8) (c : Fin 256) :
    lastRows y (ix2 r c) = y (ix2 ⟨504 + r.val, by omega⟩ c) := by
  pointwise [lastRows]

theorem plane_at (y : FVec Ideal S512x256 .f32) (r : Fin 512) (c : Fin 256) : plane y (ix3 0 r c) = y (ix2 r c) := by
  pointwise [plane]

theorem before_at (first : BitVec 1) (v : Vec Ideal S8x256 .f32) (r : Fin 8) (c : Fin 256) :
    before first v (ix3 0 r c) = if first = 1#1 then (0 : EReal) else v (ix2 r c) := by
  pointwise [before]
  rfl

theorem shiftOf_at (k : ℕ) (hk : k ≤ 8) (first : BitVec 1) (xn : FVec Ideal S512x1024 .bf16) (w : Vec Ideal S1024x256 .bf16)
    (v : Vec Ideal S8x256 .f32) (r : Fin 512) (c : Fin 256) :
    shiftOf k hk first xn w v (ix3 0 r c) = if h : r.val + (8 - k) < 8 then (if first = 1#1 then (0 : EReal) else v (ix2 ⟨r.val + (8 - k), h⟩ c))
      else ∑ kk : Fin 1024, xn (ix2 ⟨r.val - k, by omega⟩ kk) * w (ix2 kk c) := by
  by_cases h : r.val + (8 - k) < 8
  · rw [dif_pos h]
    exact (dif_pos h).trans (before_at first v ⟨r.val + (8 - k), h⟩ c)
  · rw [dif_neg h]
    exact (dif_neg h).trans ((plane_at _ ⟨r.val - k, by omega⟩ c).trans (upc_at _ _ _ _))

/-- The up-projection `k` rows before row `r` of a block, from the block and the rows before it. -/
def upb (first : BitVec 1) (xn : FVec Ideal S512x1024 .bf16) (wup : Vec Ideal S1024x5632 .bf16) (xc : Vec Ideal S8x5632 .f32) (k : ℕ) (r : Fin 512)
    (j : Fin 5632) : EReal :=
  if h : r.val + (8 - k) < 8 then (if first = 1#1 then (0 : EReal) else xc (ix2 ⟨r.val + (8 - k), h⟩ j))
  else upr (fun kk => xn (ix2 ⟨r.val - k, by omega⟩ kk)) (fun a b => wup (ix2 a b)) j

theorem shiftOf_cols (k : ℕ) (hk : k ≤ 8) (first : BitVec 1) (xn : FVec Ideal S512x1024 .bf16) (wup : Vec Ideal S1024x5632 .bf16)
    (xc : Vec Ideal S8x5632 .f32) (off : ℕ) (r : Fin 512) (c : Fin 256) (j : Fin 5632) (hj : j.val = (off + c.val) % 5632) :
    shiftOf k hk first xn (cols off wup) (cols off xc) (ix3 0 r c) = upb first xn wup xc k r j := by
  obtain rfl : j = ⟨(off + c.val) % 5632, Nat.mod_lt _ (by decide)⟩ := Fin.ext hj
  exact shiftOf_at k hk first xn _ _ r c

theorem upc_cols (first : BitVec 1) (xn : FVec Ideal S512x1024 .bf16) (wup : Vec Ideal S1024x5632 .bf16) (xc : Vec Ideal S8x5632 .f32) (off : ℕ)
    (r : Fin 512) (c : Fin 256) (j : Fin 5632) (hj : j.val = (off + c.val) % 5632) :
    upc xn (cols off wup) (ix2 r c) = upb first xn wup xc 0 r j := by
  obtain rfl : j = ⟨(off + c.val) % 5632, Nat.mod_lt _ (by decide)⟩ := Fin.ext hj
  unfold upb
  rw [dif_neg (by omega), upc_at]
  rfl

theorem conv3_cols (first : BitVec 1) (xn : FVec Ideal S512x1024 .bf16) (wup : Vec Ideal S1024x5632 .bf16) (cw : Vec Ideal S3x5632 .f32)
    (xc : Vec Ideal S8x5632 .f32) (off : ℕ) (r : Fin 512) (c : Fin 256) (j : Fin 5632) (hj : j.val = (off + c.val) % 5632) :
    conv3 (cols off cw) (upc xn (cols off wup)) (shiftOf 1 (by decide) first xn (cols off wup) (cols off xc))
        (shiftOf 2 (by decide) first xn (cols off wup) (cols off xc)) (ix2 r c)
      = cvl (fun a b => cw (ix2 a b)) (upb first xn wup xc 0 r) (upb first xn wup xc 1 r) (upb first xn wup xc 2 r) j := by
  rw [conv3_at, upc_cols first xn wup xc off r c j hj, shiftOf_cols 1 _ first xn wup xc off r c j hj, shiftOf_cols 2 _ first xn wup xc off r c j hj]
  obtain rfl : j = ⟨(off + c.val) % 5632, Nat.mod_lt _ (by decide)⟩ := Fin.ext hj
  rfl

theorem hiddenAll_at (first : BitVec 1) (xn : FVec Ideal S512x1024 .bf16) (wup : Vec Ideal S1024x5632 .bf16) (cw : Vec Ideal S3x5632 .f32)
    (xc : Vec Ideal S8x5632 .f32) (r : Fin 512) (j : Fin 2816) :
    hiddenAll first xn wup cw xc (ix2 r j)
      = hidr (fun a b => cw (ix2 a b)) (upb first xn wup xc 0 r) (upb first xn wup xc 1 r) (upb first xn wup xc 2 r) j := by
  have hj : j.val < 2816 := j.isLt
  refine (glu_at _ _ r ⟨j.val % 256, Nat.mod_lt _ (by decide)⟩).trans ?_
  have e1 := conv3_cols first xn wup cw xc (256 * (j.val / 256)) r ⟨j.val % 256, Nat.mod_lt _ (by decide)⟩ ⟨j.val, by omega⟩
    (by show j.val = (256 * (j.val / 256) + j.val % 256) % 5632; omega)
  have e2 := conv3_cols first xn wup cw xc (2816 + 256 * (j.val / 256)) r ⟨j.val % 256, Nat.mod_lt _ (by decide)⟩ ⟨2816 + j.val, by omega⟩
    (by show 2816 + j.val = (2816 + 256 * (j.val / 256) + j.val % 256) % 5632; omega)
  exact congrArg₂ (fun a b : EReal => a * Ideal.logistic a * b) e1 e2

theorem carryRows_at (xn : FVec Ideal S512x1024 .bf16) (wup : Vec Ideal S1024x5632 .bf16) (r : Fin 8) (j : Fin 5632) :
    carryRows xn wup (ix2 r j) = upr (fun kk => xn (ix2 ⟨504 + r.val, by omega⟩ kk)) (fun a b => wup (ix2 a b)) j := by
  refine (lastRows_at _ r ⟨j.val % 256, Nat.mod_lt _ (by decide)⟩).trans ?_
  rw [upc_at]
  refine Finset.sum_congr rfl fun k _ => congrArg (xn _ * ·) (congrArg wup (congrArg (ix2 k) (Fin.ext ?_)))
  have := j.isLt
  show (256 * (j.val / 256) + j.val % 256) % 5632 = j.val
  omega

theorem ffnPle_at (first : BitVec 1) (x : FVec Ideal S512x1024 .f32) (p : Vec Ideal S512x256 .f32) (fg : Vec Ideal S1x1024 .f32)
    (wup : Vec Ideal S1024x5632 .bf16) (cw : Vec Ideal S3x5632 .f32) (wdn : Vec Ideal S2816x1024 .bf16) (pg : Vec Ideal S1x1024 .f32)
    (wg : Vec Ideal S1024x1024 .bf16) (wp : Vec Ideal S256x1024 .bf16) (xc : Vec Ideal S8x5632 .f32) (r : Fin 512) (d : Fin 1024) :
    ffnPle first x p fg wup cw wdn pg wg wp xc (ix2 r d)
      = pler (mlpr (fun k => x (ix2 r k)) (fun a b => cw (ix2 a b)) (upb first (normed x fg) wup xc 0 r) (upb first (normed x fg) wup xc 1 r)
          (upb first (normed x fg) wup xc 2 r) (fun a b => wdn (ix2 a b))) (fun k => p (ix2 r k)) (fun k => pg (ix2 0 k)) (fun a b => wg (ix2 a b))
          (fun a b => wp (ix2 a b)) d := by
  unfold ffnPle
  rw [ple_at]
  congr 1
  funext k
  rw [ffn_at]
  unfold mlpr
  simp only [hiddenAll_at]

/-- A block whose rows are the rows `512 t, …` of `X`, the rows before it the last eight of the block before. -/
theorem ffnPle_row (X : ℕ → Fin 1024 → EReal) (t : ℕ) (first : BitVec 1) (hf : first = if t % 8 = 0 then 1#1 else 0#1)
    (x x' : FVec Ideal S512x1024 .f32) (hx : ∀ r d, x (ix2 r d) = X (512 * t + r.val) d) (hx' : t % 8 ≠ 0 → ∀ r d, x' (ix2 r d) = X (512 * (t - 1) + r.val) d)
    (p : Vec Ideal S512x256 .f32) (fg : Vec Ideal S1x1024 .f32)
    (wup : Vec Ideal S1024x5632 .bf16) (cw : Vec Ideal S3x5632 .f32) (wdn : Vec Ideal S2816x1024 .bf16) (pg : Vec Ideal S1x1024 .f32)
    (wg : Vec Ideal S1024x1024 .bf16) (wp : Vec Ideal S256x1024 .bf16) (r : Fin 512) (d : Fin 1024) :
    ffnPle first x p fg wup cw wdn pg wg wp (carryRows (normed x' fg) wup) (ix2 r d)
      = tailRow X (fun k => p (ix2 r k)) (fun k => fg (ix2 0 k)) (fun a b => wup (ix2 a b)) (fun a b => cw (ix2 a b)) (fun a b => wdn (ix2 a b))
          (fun k => pg (ix2 0 k)) (fun a b => wg (ix2 a b)) (fun a b => wp (ix2 a b)) (512 * t + r.val) d := by
  have hn : ∀ r : Fin 512, (fun k => normed x fg (ix2 r k)) = nrm (X (512 * t + r.val)) (fun k => fg (ix2 0 k)) := fun r => by
    funext k; rw [normed_at]; simp only [hx]
  have hn' : t % 8 ≠ 0 → ∀ r : Fin 512, (fun k => normed x' fg (ix2 r k)) = nrm (X (512 * (t - 1) + r.val)) (fun k => fg (ix2 0 k)) := fun h r => by
    funext k; rw [normed_at]; simp only [hx' h]
  have hU : ∀ k, k ≤ 8 → upb first (normed x fg) wup (carryRows (normed x' fg) wup) k r
      = ups X (fun k => fg (ix2 0 k)) (fun a b => wup (ix2 a b)) k (512 * t + r.val) := fun k hk => by
    funext j
    have hr : r.val < 512 := r.isLt
    unfold upb ups
    by_cases h : r.val + (8 - k) < 8
    · rw [dif_pos h]
      by_cases ht : t % 8 = 0
      · rw [hf, if_pos ht, if_pos rfl, if_pos (by omega)]
      · rw [hf, if_neg ht, if_neg (by decide), if_neg (by omega), carryRows_at]
        rw [hn' ht]
        exact congrArg (fun q => upr (nrm (X q) _) _ j) (show 512 * (t - 1) + (504 + (r.val + (8 - k))) = 512 * t + r.val - k by omega)
    · rw [dif_neg h, if_neg (by omega), hn]
      exact congrArg (fun q => upr (nrm (X q) _) _ j) (show 512 * t + (r.val - k) = 512 * t + r.val - k by omega)
  rw [ffnPle_at, hU 0 (by decide), hU 1 (by decide), hU 2 (by decide)]
  unfold tailRow
  congr 2
  funext k
  exact hx r k

end Cert.Tail

end
-- ==== Proof.OddValue.lean ====
/- The odd tail's result array over the extended reals, from the arguments. -/
module

public import proofs.«01_k».proof.Proof.OddFrame
public import proofs.«01_k».proof.Proof.TailValue
public import Idealize.ShloMosaic.Lib.Pipeline.ValueKit

@[expose] public section

set_option maxRecDepth 16384

noncomputable section

namespace Cert.KernelIdeal.Tail

open Cert.KernelIdeal Cert.KernelIdeal.Gen Cert.Tail
open Idealize.ShloMosaic Idealize.ShloMosaic.TcCoe Idealize.SL.Sem
open Idealize.ShloMosaic.Pipeline (Dat)

/-- The sequence of global row `n`. -/
def bi (n : ℕ) : Fin 8 := ⟨n / 4096 % 8, Nat.mod_lt _ (by decide)⟩

/-- The place of global row `n` in its sequence. -/
def ti (n : ℕ) : Fin 4096 := ⟨n % 4096, Nat.mod_lt _ (by decide)⟩

/-- The rows after the mixer's output projection. -/
def oddX (x0 : FVec Ideal S8x4096x1024 .f32) (x1 : FVec Ideal S8x4096x1024 .bf16) (x2 : FVec Ideal S1024x1024 .f32) (n : ℕ) (d : Fin 1024) : EReal :=
  x0 (ix3 (bi n) (ti n) d) + ∑ k : Fin 1024, x1 (ix3 (bi n) (ti n) k) * x2 (ix2 k d)

/-- The result array of the odd tail, from the twelve arguments. -/
def oddTail (x0 : FVec Ideal S8x4096x1024 .f32) (x1 : FVec Ideal S8x4096x1024 .bf16) (x2 : FVec Ideal S1024x1024 .f32)
    (x3 : FVec Ideal S2x8x4096x256 .f32) (x4 : FVec Ideal S1024 .f32) (x5 : FVec Ideal S1024x5632 .f32) (x6 : FVec Ideal S3x5632 .f32)
    (x7 : FVec Ideal S2816x1024 .f32) (x8 : FVec Ideal S1024 .f32) (x9 : FVec Ideal S1024x1024 .f32) (x10 : FVec Ideal S256x1024 .f32)
    (x11 : FVec Ideal S1024 .f32) (n : ℕ) (d : Fin 1024) : EReal :=
  nrm (tailRow (oddX x0 x1 x2) (fun k => x3 (ix4 1 (bi n) (ti n) k)) (fun k => x4 (ix1 k)) (fun a b => x5 (ix2 a b)) (fun a b => x6 (ix2 a b))
    (fun a b => x7 (ix2 a b)) (fun k => x8 (ix1 k)) (fun a b => x9 (ix2 a b)) (fun a b => x10 (ix2 a b)) n) (fun k => x11 (ix1 k)) d

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![64 + t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ t.val < 64 :=
  (by decide +kernel : ∀ t : Fin grid0.N, _)

theorem iblk0_at (c : Dev nD) (t : Fin cfg0.N) (r : Fin 512) (d : Fin 1024) :
    (show FVec Ideal S512x1024 .f32 from iblk m c 0 t) (ix2 r d) = (show FVec Ideal S8x4096x1024 .f32 from m ((c : Thread nD τ).loc main_arg0)) (ix3 (bi (512 * t.val + r.val)) (ti (512 * t.val + r.val)) d) := by
  have e := idx t
  blk_point [iblk, V, e, bi, ti]

theorem iblk1_at (c : Dev nD) (t : Fin cfg0.N) (r : Fin 512) (d : Fin 1024) :
    (show FVec Ideal S512x1024 .bf16 from iblk m c 1 t) (ix2 r d) = (show FVec Ideal S8x4096x1024 .bf16 from m ((c : Thread nD τ).loc main_arg1)) (ix3 (bi (512 * t.val + r.val)) (ti (512 * t.val + r.val)) d) := by
  have e := idx t
  blk_point [iblk, V, e, bi, ti]

theorem iblk2_at (c : Dev nD) (t : Fin cfg0.N) (a : Fin 1024) (b : Fin 1024) :
    (show FVec Ideal S1024x1024 .bf16 from iblk m c 2 t) (ix2 a b) = (show FVec Ideal S1024x1024 .f32 from m ((c : Thread nD τ).loc main_arg2)) (ix2 a b) := by
  have e := idx t
  blk_point [iblk, V, e, bi, ti]

theorem iblk3_at (c : Dev nD) (t : Fin cfg0.N) (r : Fin 512) (d : Fin 256) :
    (show FVec Ideal S512x256 .f32 from iblk m c 3 t) (ix2 r d) = (show FVec Ideal S2x8x4096x256 .f32 from m ((c : Thread nD τ).loc main_arg3)) (ix4 1 (bi (512 * t.val + r.val)) (ti (512 * t.val + r.val)) d) := by
  have e := idx t
  blk_point [iblk, V, e, bi, ti]

theorem iblk4_at (c : Dev nD) (t : Fin cfg0.N) (d : Fin 1024) :
    (show FVec Ideal S1x1024 .f32 from iblk m c 4 t) (ix2 0 d) = (show FVec Ideal S1024 .f32 from m ((c : Thread nD τ).loc main_arg4)) (ix1 d) := by
  have e := idx t
  blk_point [iblk, V, e, bi, ti]

theorem iblk5_at (c : Dev nD) (t : Fin cfg0.N) (a : Fin 1024) (b : Fin 5632) :
    (show FVec Ideal S1024x5632 .bf16 from iblk m c 5 t) (ix2 a b) = (show FVec Ideal S1024x5632 .f32 from m ((c : Thread nD τ).loc main_arg5)) (ix2 a b) := by
  have e := idx t
  blk_point [iblk, V, e, bi, ti]

theorem iblk6_at (c : Dev nD) (t : Fin cfg0.N) (a : Fin 3) (b : Fin 5632) :
    (show FVec Ideal S3x5632 .f32 from iblk m c 6 t) (ix2 a b) = (show FVec Ideal S3x5632 .f32 from m ((c : Thread nD τ).loc main_arg6)) (ix2 a b) := by
  have e := idx t
  blk_point [iblk, V, e, bi, ti]

theorem iblk7_at (c : Dev nD) (t : Fin cfg0.N) (a : Fin 2816) (b : Fin 1024) :
    (show FVec Ideal S2816x1024 .bf16 from iblk m c 7 t) (ix2 a b) = (show FVec Ideal S2816x1024 .f32 from m ((c : Thread nD τ).loc main_arg7)) (ix2 a b) := by
  have e := idx t
  blk_point [iblk, V, e, bi, ti]

theorem iblk8_at (c : Dev nD) (t : Fin cfg0.N) (d : Fin 1024) :
    (show FVec Ideal S1x1024 .f32 from iblk m c 8 t) (ix2 0 d) = (show FVec Ideal S1024 .f32 from m ((c : Thread nD τ).loc main_arg8)) (ix1 d) := by
  have e := idx t
  blk_point [iblk, V, e, bi, ti]

theorem iblk9_at (c : Dev nD) (t : Fin cfg0.N) (a : Fin 1024) (b : Fin 1024) :
    (show FVec Ideal S1024x1024 .bf16 from iblk m c 9 t) (ix2 a b) = (show FVec Ideal S1024x1024 .f32 from m ((c : Thread nD τ).loc main_arg9)) (ix2 a b) := by
  have e := idx t
  blk_point [iblk, V, e, bi, ti]

theorem iblk10_at (c : Dev nD) (t : Fin cfg0.N) (a : Fin 256) (b : Fin 1024) :
    (show FVec Ideal S256x1024 .bf16 from iblk m c 10 t) (ix2 a b) = (show FVec Ideal S256x1024 .f32 from m ((c : Thread nD τ).loc main_arg10)) (ix2 a b) := by
  have e := idx t
  blk_point [iblk, V, e, bi, ti]

theorem iblk11_at (c : Dev nD) (t : Fin cfg0.N) (d : Fin 1024) :
    (show FVec Ideal S1x1024 .f32 from iblk m c 11 t) (ix2 0 d) = (show FVec Ideal S1024 .f32 from m ((c : Thread nD τ).loc main_arg11)) (ix1 d) := by
  have e := idx t
  blk_point [iblk, V, e, bi, ti]

/-- The gain's block is the same at every point. -/
theorem iblk4_eq (c : Dev nD) (t t' : Fin cfg0.N) : @Eq (FVec Ideal S1x1024 .f32) (iblk m c 4 t) (iblk m c 4 t') := by
  funext (y : S1x1024.Idx)
  obtain ⟨a, d, rfl⟩ : ∃ (a : Fin 1) (d : Fin 1024), y = ix2 a d := ⟨y 0, y 1, eq_ix2 y⟩
  obtain rfl : a = 0 := Subsingleton.elim _ _
  exact (iblk4_at m c t d).trans (iblk4_at m c t' d).symm

/-- The up-projection's weights are the same block at every point. -/
theorem iblk5_eq (c : Dev nD) (t t' : Fin cfg0.N) : @Eq (FVec Ideal S1024x5632 .bf16) (iblk m c 5 t) (iblk m c 5 t') := by
  funext (y : S1024x5632.Idx)
  obtain ⟨a, d, rfl⟩ : ∃ (a : Fin 1024) (d : Fin 5632), y = ix2 a d := ⟨y 0, y 1, eq_ix2 y⟩
  exact (iblk5_at m c t a d).trans (iblk5_at m c t' a d).symm

/-- The rows a point's block holds after the mixer's output projection. -/
theorem oddIn_row (c : Dev nD) (t : Fin cfg0.N) (r : Fin 512) (d : Fin 1024) :
    oddIn (iblk m c 0 t) (iblk m c 1 t) (iblk m c 2 t) (ix2 r d)
      = oddX (m ((c : Thread nD τ).loc main_arg0)) (m ((c : Thread nD τ).loc main_arg1)) (m ((c : Thread nD τ).loc main_arg2)) (512 * t.val + r.val) d := by
  refine (oddIn_at _ _ _ r d).trans ?_
  unfold oddX
  exact Ideal.add_congr (iblk0_at m c t r d) (Finset.sum_congr rfl fun k _ => Ideal.mul_congr (iblk1_at m c t r k) (iblk2_at m c t k d))

/-- What point `t` leaves in the output block. -/
theorem point (c : Dev nD) (t : Fin cfg0.N) (r : Fin 512) (d : Fin 1024) :
    outFrom m c t (prevAt m c t) (ix2 r d)
      = oddTail (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (512 * t.val + r.val) d := by
  unfold outFrom prevAt carryAt oddTail
  rw [iblk4_eq m c ⟨t.val - 1, Nat.lt_of_le_of_lt (Nat.sub_le _ _) t.isLt⟩ t, iblk5_eq m c ⟨t.val - 1, Nat.lt_of_le_of_lt (Nat.sub_le _ _) t.isLt⟩ t]
  refine (norm_at _ _ r d).trans ?_
  have e := fun k => ffnPle_row (oddX (m ((c : Thread nD τ).loc main_arg0)) (m ((c : Thread nD τ).loc main_arg1)) (m ((c : Thread nD τ).loc main_arg2)))
    t.val _ (first_eq t) _ (oddIn (iblk m c 0 ⟨t.val - 1, Nat.lt_of_le_of_lt (Nat.sub_le _ _) t.isLt⟩) (iblk m c 1 ⟨t.val - 1, Nat.lt_of_le_of_lt (Nat.sub_le _ _) t.isLt⟩)
      (iblk m c 2 ⟨t.val - 1, Nat.lt_of_le_of_lt (Nat.sub_le _ _) t.isLt⟩))
    (oddIn_row m c t) (fun _ => oddIn_row m c ⟨t.val - 1, Nat.lt_of_le_of_lt (Nat.sub_le _ _) t.isLt⟩) (iblk m c 3 t) (iblk m c 4 t)
    (iblk m c 5 t) (iblk m c 6 t) (iblk m c 7 t) (iblk m c 8 t) (iblk m c 9 t) (iblk m c 10 t) r k
  refine congrArg₂ (fun u v => nrm u v d) (funext fun k => (e k).trans ?_) (funext fun k => iblk11_at m c t k)
  exact tailRow_congr _ (funext fun k => iblk3_at m c t r k) (funext fun k => iblk4_at m c t k)
    (funext fun a => funext fun b => iblk5_at m c t a b) (funext fun a => funext fun b => iblk6_at m c t a b)
    (funext fun a => funext fun b => iblk7_at m c t a b) (funext fun k => iblk8_at m c t k)
    (funext fun a => funext fun b => iblk9_at m c t a b) (funext fun a => funext fun b => iblk10_at m c t a b) _ _

/-- The result array after the run. -/
theorem final (c : Dev nD) : (dats m 0 c).arrAt 12 (cfgs 0).N
    = (show FVec Ideal S32768x1024 .f32 from fun i => oddTail (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (i 0).val (i 1)) := by
  refine (dats m 0 c).arrAt_eq_of_covers 12 _ (by decide +kernel) fun t _ y => ?_
  have e := idx t
  blk_simp
  rw [after_12]
  refine (congrArg (outFrom m c t (prevAt m c t)) (eq_ix2 y)).trans ((point m c t (y 0) (y 1)).trans ?_)
  refine congrArg₂ (oddTail _ _ _ _ _ _ _ _ _ _ _ _) ?_ (Fin.ext ?_)
  · blk_simp [e]
    omega
  · blk_simp [e]

end Cert.KernelIdeal.Tail

end
-- ==== Proof.OddRef.lean ====
/- The odd tail's reference over the extended reals, row by row. -/
module

public import proofs.«01_k».proof.Proof.OddValue
public import proofs.«01_k».proof.Proof.Gen.ReferenceIdeal.Read
public import Idealize.ShloMosaic.Lib.KernelVsHost

@[expose] public section

set_option maxRecDepth 16384

noncomputable section

namespace Cert.ReferenceIdeal.Tail

open Cert.ReferenceIdeal Cert.ReferenceIdeal.Gen Cert.ReferenceIdeal.Read Cert.Tail Cert.KernelIdeal.Tail
open Idealize.ShloMosaic Idealize.ShloMosaic.TcCoe Idealize.SL.Sem

variable (x0 : FVec Ideal S8x4096x1024 .f32) (x1 : FVec Ideal S8x4096x1024 .bf16) (x2 : FVec Ideal S1024x1024 .f32)
    (x3 : FVec Ideal S2x8x4096x256 .f32) (x4 : FVec Ideal S1024 .f32) (x5 : FVec Ideal S1024x5632 .f32) (x6 : FVec Ideal S3x5632 .f32)
    (x7 : FVec Ideal S2816x1024 .f32) (x8 : FVec Ideal S1024 .f32) (x9 : FVec Ideal S1024x1024 .f32) (x10 : FVec Ideal S256x1024 .f32)
    (x11 : FVec Ideal S1024 .f32) (b : Fin 8) (t : Fin 4096)

theorem v2_at (d : Fin 1024) : val_main_v2 (F := Ideal) x0 x1 x2 (ix3 b t d) = x0 (ix3 b t d) + ∑ k : Fin 1024, x1 (ix3 b t k) * x2 (ix2 k d) := by
  pointwise [val_main_v2, val_main_v1, val_main_v0]

theorem v17_at (d : Fin 1024) : val_main_v17 (F := Ideal) x0 x1 x2 x4 (ix3 b t d)
    = nrm (fun k => val_main_v2 (F := Ideal) x0 x1 x2 (ix3 b t k)) (fun k => x4 (ix1 k)) d := by
  pointwise [val_main_v17, val_main_v16, val_main_v15, val_main_v14, val_main_v13, val_main_v12, val_main_v11, val_main_v10, val_main_v9,
    val_main_v8, val_main_v7, val_main_v6, val_main_v5, val_main_cst, val_main_cst_0, val_main_cst_1, nrm]

theorem v18_at (j : Fin 5632) : val_main_v18 (F := Ideal) x0 x1 x2 x4 x5 (ix3 b t j)
    = upr (fun k => val_main_v17 (F := Ideal) x0 x1 x2 x4 (ix3 b t k)) (fun k j => x5 (ix2 k j)) j := by
  pointwise [val_main_v18, upr]

/-- The up-projection `k` rows earlier, zero before the start. -/
def upk (k : ℕ) (j : Fin 5632) : EReal :=
  if t.val < k then 0 else val_main_v18 (F := Ideal) x0 x1 x2 x4 x5 (ix3 b ⟨t.val - k, by omega⟩ j)

theorem v41_at (j : Fin 5632) : val_main_v41 (F := Ideal) x0 x1 x2 x4 x5 x6 (ix3 b t j)
    = cvl (fun a j => x6 (ix2 a j)) (upk x0 x1 x2 x4 x5 b t 0) (upk x0 x1 x2 x4 x5 b t 1) (upk x0 x1 x2 x4 x5 b t 2) j := by
  pointwise [val_main_v41, val_main_v40, val_main_v39, val_main_v38, val_main_v37, val_main_v36, val_main_v35, val_main_v34, val_main_v33,
   val_main_v32, val_main_v31, val_main_v30, val_main_v29, val_main_v28, val_main_v27, val_main_v26, val_main_v25, val_main_v24, val_main_v23,
   val_main_v22, val_main_v21, val_main_v20, val_main_v19, val_main_cst_2, val_main_call0_v0, val_main_c]
  have hz : (FloatOps.sitofp .f32 (0#32 : BitVec 32) : Ideal .f32) = (0 : EReal) := sitofp_zero
  have ht : t.val < 4096 := t.isLt
  unfold cvl upk
  rw [hz, add_comm, add_comm (_ * x6 (ix2 0 j)), ← add_assoc]
  refine congrArg₂ (· + ·) (congrArg₂ (· + ·) ?_ ?_) ?_
  · rw [if_neg (by omega), mul_comm]; rfl
  · rw [mul_comm]
    refine congrArg (_ * ·) ?_
    by_cases h : t.val < 1
    · rw [dif_neg (by omega), if_pos h]
    · rw [dif_pos ⟨by omega, by omega⟩, if_neg h]
      exact congrArg (fun q => val_main_v18 (F := Ideal) x0 x1 x2 x4 x5 (ix3 b q j)) (Fin.ext (show 1 + t.val - 2 = t.val - 1 by omega))
  · rw [mul_comm]
    refine congrArg (_ * ·) ?_
    by_cases h : t.val < 2
    · rw [dif_neg (by omega), if_pos h]
    · rw [dif_pos ⟨by omega, by omega⟩, if_neg h]

theorem v45_at (j : Fin 2816) : val_main_v45 (F := Ideal) x0 x1 x2 x4 x5 x6 (ix3 b t j)
    = hidr (fun a j => x6 (ix2 a j)) (upk x0 x1 x2 x4 x5 b t 0) (upk x0 x1 x2 x4 x5 b t 1) (upk x0 x1 x2 x4 x5 b t 2) j := by
  pointwise [val_main_v45, val_main_v44, val_main_v43, val_main_v42, val_main_call1_v0, val_main_call1_v1, val_main_call1_v2,
    val_main_call1_v3, val_main_call1_v4, val_main_call1_v5, val_main_call1_cst, val_main_call1_cst_0, v41_at]
  rfl

theorem v47_at (d : Fin 1024) : val_main_v47 (F := Ideal) x0 x1 x2 x4 x5 x6 x7 (ix3 b t d) = val_main_v2 (F := Ideal) x0 x1 x2 (ix3 b t d)
    + ∑ j : Fin 2816, val_main_v45 (F := Ideal) x0 x1 x2 x4 x5 x6 (ix3 b t j) * x7 (ix2 j d) := by
  pointwise [val_main_v47, val_main_v46]

theorem v60_at (d : Fin 1024) : val_main_v60 (F := Ideal) x0 x1 x2 x4 x5 x6 x7 x8 (ix3 b t d)
    = nrm (fun k => val_main_v47 (F := Ideal) x0 x1 x2 x4 x5 x6 x7 (ix3 b t k)) (fun k => x8 (ix1 k)) d := by
  pointwise [val_main_v60, val_main_v59, val_main_v58, val_main_v57, val_main_v56, val_main_v55, val_main_v54, val_main_v53, val_main_v52,
    val_main_v51, val_main_v50, val_main_v49, val_main_v48, val_main_cst_3, val_main_cst_4, val_main_cst_5, nrm]

theorem v70_at (d : Fin 1024) : val_main_v70 (F := Ideal) x0 x1 x2 x3 x4 x5 x6 x7 x8 x9 x10 (ix3 b t d)
    = pler (fun k => val_main_v47 (F := Ideal) x0 x1 x2 x4 x5 x6 x7 (ix3 b t k)) (fun k => x3 (ix4 1 b t k)) (fun k => x8 (ix1 k))
      (fun a b => x9 (ix2 a b)) (fun a b => x10 (ix2 a b)) d := by
  pointwise [val_main_v70, val_main_v69, val_main_v68, val_main_v67, val_main_v66, val_main_v65, val_main_v64, val_main_v63, val_main_v62,
    val_main_v61, val_main_v4, val_main_v3, val_main_cst_6, val_main_cst_7, pler, v60_at]
  rfl

theorem v83_at (d : Fin 1024) : val_main_v83 (F := Ideal) x0 x1 x2 x3 x4 x5 x6 x7 x8 x9 x10 x11 (ix3 b t d)
    = nrm (fun k => val_main_v70 (F := Ideal) x0 x1 x2 x3 x4 x5 x6 x7 x8 x9 x10 (ix3 b t k)) (fun k => x11 (ix1 k)) d := by
  pointwise [val_main_v83, val_main_v82, val_main_v81, val_main_v80, val_main_v79, val_main_v78, val_main_v77, val_main_v76, val_main_v75,
    val_main_v74, val_main_v73, val_main_v72, val_main_v71, val_main_cst_8, val_main_cst_9, val_main_cst_10, nrm]

theorem v84_at (n : Fin 32768) (d : Fin 1024) : val_main_v84 (F := Ideal) x0 x1 x2 x3 x4 x5 x6 x7 x8 x9 x10 x11 (ix2 n d)
    = val_main_v83 (F := Ideal) x0 x1 x2 x3 x4 x5 x6 x7 x8 x9 x10 x11 (ix3 ⟨n.val / 4096, by omega⟩ ⟨n.val % 4096, by omega⟩ d) := by
  pointwise [val_main_v84]

/-- The rows after the mixer, by global row. -/
theorem v2_row (n : ℕ) : (fun d => val_main_v2 (F := Ideal) x0 x1 x2 (ix3 (bi n) (ti n) d)) = oddX x0 x1 x2 n :=
  funext fun d => v2_at x0 x1 x2 (bi n) (ti n) d

theorem upk_row (n k : ℕ) : upk x0 x1 x2 x4 x5 (bi n) (ti n) k
    = ups (oddX x0 x1 x2) (fun k => x4 (ix1 k)) (fun a b => x5 (ix2 a b)) k n := by
  funext j
  unfold upk ups
  by_cases h : n % 4096 < k
  · rw [if_pos h]; exact if_pos h
  · have e1 : bi n = bi (n - k) := Fin.ext (show n / 4096 % 8 = (n - k) / 4096 % 8 by omega)
    have e2 : (⟨(ti n).val - k, Nat.lt_of_le_of_lt (Nat.sub_le _ _) (ti n).isLt⟩ : Fin 4096) = ti (n - k) :=
      Fin.ext (show n % 4096 - k = (n - k) % 4096 by omega)
    rw [if_neg h]
    refine (if_neg h).trans ?_
    rw [e1]
    refine (congrArg (fun q => val_main_v18 (F := Ideal) x0 x1 x2 x4 x5 (ix3 (bi (n - k)) q j)) e2).trans ?_
    rw [v18_at]
    refine congrArg (fun q => upr q _ j) (funext fun d => ?_)
    rw [v17_at, v2_row]

theorem v47_row (n : ℕ) : (fun d => val_main_v47 (F := Ideal) x0 x1 x2 x4 x5 x6 x7 (ix3 (bi n) (ti n) d))
    = mlpr (oddX x0 x1 x2 n) (fun a j => x6 (ix2 a j)) (ups (oddX x0 x1 x2) (fun k => x4 (ix1 k)) (fun a b => x5 (ix2 a b)) 0 n)
        (ups (oddX x0 x1 x2) (fun k => x4 (ix1 k)) (fun a b => x5 (ix2 a b)) 1 n)
        (ups (oddX x0 x1 x2) (fun k => x4 (ix1 k)) (fun a b => x5 (ix2 a b)) 2 n) (fun a b => x7 (ix2 a b)) := by
  funext d
  rw [v47_at]
  unfold mlpr
  simp only [v45_at, upk_row]
  exact congrArg (· + _) (congrFun (v2_row x0 x1 x2 n) d)

/-- The reference's result, row by row. -/
theorem result (n : Fin 32768) (d : Fin 1024) : val_main_v84 (F := Ideal) x0 x1 x2 x3 x4 x5 x6 x7 x8 x9 x10 x11 (ix2 n d)
    = oddTail x0 x1 x2 x3 x4 x5 x6 x7 x8 x9 x10 x11 n.val d := by
  have hn : n.val < 32768 := n.isLt
  have e1 : (⟨n.val / 4096, by omega⟩ : Fin 8) = bi n.val := Fin.ext (show n.val / 4096 = n.val / 4096 % 8 by omega)
  rw [v84_at, e1]
  refine (v83_at x0 x1 x2 x3 x4 x5 x6 x7 x8 x9 x10 x11 (bi n.val) (ti n.val) d).trans ?_
  unfold oddTail tailRow
  refine congrArg (fun q => nrm q _ d) (funext fun k => ?_)
  rw [v70_at, v47_row]

end Cert.ReferenceIdeal.Tail

end
-- ==== Proof.OddClaim.lean ====
/- The claims about the odd layer's tail: both kernels' frames, the reference's, and the equality of results. -/
module

public import proofs.«01_k».proof.Defs
public import proofs.«01_k».proof.Proof.Gen.Kernel
public import proofs.«01_k».proof.Proof.OddRef
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem odd_defs₀ (F : FTy → Type) [FloatOps F] :
    @Eq (Defs Cert.Kernel.nD Cert.Kernel.τ Cert.Kernel.sig (Elt F) Cert.Kernel.Λ₀) (Cert.Kernel.defs₀ (F := F)) (Cert.KernelIdeal.defs₀ (F := F)) := by
  unfold Cert.Kernel.defs₀ Cert.KernelIdeal.defs₀
  refine congrArg Defs.onTc (funext fun l => funext fun a => ?_)
  match l, a with
  | 0, (t, s) => rfl

/-- The compiled kernel and its idealisation are one text. -/
theorem odd_defs (F : FTy → Type) [FloatOps F] :
    @Eq (Defs Cert.Kernel.nD Cert.Kernel.τ Cert.Kernel.sig (Elt F) (Pipeline.Sig Cert.Kernel.Λ₀ (Fin 1) fun p => (Cert.Kernel.pcfgs (F := F) p).Adm))
      (Cert.Kernel.defs (F := F)) (Cert.KernelIdeal.defs (F := F)) :=
  congrArg (Pipeline.defs (Cert.Kernel.pcfgs (F := F))) (odd_defs₀ F)

theorem frame_odd_kernel : Cert.quiescent_Kernel (hKernel := Cert.Kernel.Gen.facts) := by
  intro m g _
  rw [odd_defs]
  exact Cert.KernelIdeal.Tail.frame (F := Bits) m g

theorem frame_odd_ideal : Cert.quiescent_KernelIdeal (hKernelIdeal := Cert.KernelIdeal.Gen.facts) := by
  intro m g _
  exact Cert.KernelIdeal.Tail.frame (F := Ideal) m g

theorem frame_odd_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The reference's result is the kernel's array. -/
theorem odd_values (m : (ℓ : Loc Cert.KernelIdeal.nD Cert.KernelIdeal.τ Cert.KernelIdeal.sig) → Buf (Elt Ideal) ℓ) (c : Dev Cert.KernelIdeal.nD) :
    Cert.ReferenceIdeal.Read.val_main_v84 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))
      = (Cert.KernelIdeal.Tail.dats m 0 c).arrAt 12 (Cert.KernelIdeal.cfgs 0).N := by
  rw [Cert.KernelIdeal.Tail.final m c]
  funext (i : Cert.KernelIdeal.S32768x1024.Idx)
  exact (congrArg (Cert.ReferenceIdeal.Read.val_main_v84 (F := Ideal) _ _ _ _ _ _ _ _ _ _ _ _) (eq_ix2 i)).trans
    (Cert.ReferenceIdeal.Tail.result _ _ _ _ _ _ _ _ _ _ _ _ (i 0) (i 1))

/-- The reference's run, its result read as a function of the arguments. -/
theorem odd_reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => ∀ c : Dev Cert.ReferenceIdeal.nD,
      r.2.mem ((c.tc : Thread Cert.ReferenceIdeal.nD Cert.ReferenceIdeal.τ).loc Cert.ReferenceIdeal.main_v84)
        = Cert.ReferenceIdeal.Read.val_main_v84 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) :=
  (θ_run Cert.ReferenceIdeal.defs _ _).mono (fun r h c => ⟨(h c).1.trans (Cert.ReferenceIdeal.Read.val_main_v84_eq (F := Ideal) (StableHlo.launchContents m c)), (h c).2⟩)
    (Cert.ReferenceIdeal.Value.run (F := Ideal) m g)

theorem algebraic_odd : Cert.algebraic_KernelIdeal_ReferenceIdeal (hKernelIdeal := Cert.KernelIdeal.Gen.facts) (hReferenceIdeal := Cert.ReferenceIdeal.Gen.facts) := by
  pair_intro
  · run_from Cert.KernelIdeal.Tail.run_main m g
  · run_from odd_reference_run m' g'
    exact odd_values m c

end Cert.Proof

end
-- ==== Proof.EvenSpec.lean ====
/- The pooling mixer's part of one grid point of the even layer's tail, as a function of its input blocks. -/
module

public import proofs.«01_k».proof.Proof.TailSpec
public import proofs.«01_k».proof.Proof.Gen.Kernel2Ideal.Skeleton

@[expose] public section

set_option maxRecDepth 16384

noncomputable section

namespace Cert.Kernel2Ideal.Tail

open Cert.Kernel2Ideal.Gen Cert.Tail
open Idealize.ShloMosaic Idealize.ShloMosaic.ValueIdx

variable {F : FTy → Type} [FloatOps F]

/-- The rows `k` steps earlier, 128 columns from `off` on: of the block `U` itself, the first `k` of them from the
    sixteen rows `P` before it. -/
def lateCols (k off : ℕ) (hk : k ≤ 16) (P : FVec F S16x512 .f32) (U : FVec F S512x512 .f32) : FVec F S512x128 .f32 := fun x =>
  if h : (x 0).val + (16 - k) < 16 then P (ix2 ⟨(x 0).val + (16 - k), h⟩ ⟨(off + (x 1).val) % 512, Nat.mod_lt _ (by decide)⟩)
  else U (ix2 ⟨(x 0).val - k, Nat.lt_of_le_of_lt (Nat.sub_le _ _) (x 0).isLt⟩ ⟨(off + (x 1).val) % 512, Nat.mod_lt _ (by decide)⟩)

/-- The `g`-th of the four mixing matrices. -/
def planeOf (g : Fin 4) (w : Vec F S4x128x128 .bf16) : Vec F S1x128x128 .bf16 := fun x => w (ix3 g (x 1) (x 2))

/-- The 128 scales from `off` on. -/
def scaleOf (off : ℕ) (s : Vec F S1x512 .f32) : Vec F S1x128 .f32 := fun x =>
  s (ix2 (x 0) ⟨(off + (x 1).val) % 512, Nat.mod_lt _ (by decide)⟩)

/-- The stream with the mixer's output projection added: each group of 128 columns averaged over its trailing window,
    mixed and scaled, beside the attention's output. -/
def evenIn (i : grid0.Coords) (x0 : Vec F S512x1024 .f32) (x1 : Vec F S512x512 .bf16) (x2 : Vec F S16x512 .bf16)
    (x3 : Vec F S512x512 .bf16) (x4 : Vec F S4x128x128 .bf16) (x5 : Vec F S1x512 .f32) (x6 : Vec F S1024x1024 .bf16) :
    FVec F S512x1024 .f32 :=
  k0_pay18 (k0_pay2 x0)
    (k0_pay10 (k0_pay7 x1) (k0_pay8 x1 (lateCols 1 0 (by decide) (k0_pay4 i x2) (k0_pay5 x1))) (k0_pay9 i) 2#32
      (planeOf 0 x4) (scaleOf 0 x5))
    (k0_pay11 (k0_pay3 x1) (k0_pay6 i)
      (lateCols 1 128 (by decide) (k0_pay4 i x2) (k0_pay5 x1))
      (lateCols 2 128 (by decide) (k0_pay4 i x2) (k0_pay5 x1))
      (lateCols 3 128 (by decide) (k0_pay4 i x2) (k0_pay5 x1))
      (planeOf 1 x4) (scaleOf 128 x5))
    (k0_pay13 (k0_pay6 i) (k0_pay12 (k0_pay3 x1))
      (lateCols 1 256 (by decide) (k0_pay4 i x2) (k0_pay5 x1))
      (lateCols 2 256 (by decide) (k0_pay4 i x2) (k0_pay5 x1))
      (lateCols 3 256 (by decide) (k0_pay4 i x2) (k0_pay5 x1))
      (lateCols 4 256 (by decide) (k0_pay4 i x2) (k0_pay5 x1))
      (lateCols 5 256 (by decide) (k0_pay4 i x2) (k0_pay5 x1))
      (lateCols 6 256 (by decide) (k0_pay4 i x2) (k0_pay5 x1))
      (lateCols 7 256 (by decide) (k0_pay4 i x2) (k0_pay5 x1))
      (planeOf 2 x4) (scaleOf 256 x5))
    (k0_pay14 (k0_pay3 x1))
    (k0_pay16 (k0_pay15 (k0_pay3 x1) (lateCols 1 384 (by decide) (k0_pay4 i x2) (k0_pay5 x1)))
      (lateCols 2 384 (by decide) (k0_pay4 i x2) (k0_pay5 x1))
      (lateCols 3 384 (by decide) (k0_pay4 i x2) (k0_pay5 x1))
      (lateCols 4 384 (by decide) (k0_pay4 i x2) (k0_pay5 x1))
      (lateCols 5 384 (by decide) (k0_pay4 i x2) (k0_pay5 x1))
      (lateCols 6 384 (by decide) (k0_pay4 i x2) (k0_pay5 x1))
      (lateCols 7 384 (by decide) (k0_pay4 i x2) (k0_pay5 x1))
      (lateCols 8 384 (by decide) (k0_pay4 i x2) (k0_pay5 x1))
      (lateCols 9 384 (by decide) (k0_pay4 i x2) (k0_pay5 x1))
      (lateCols 10 384 (by decide) (k0_pay4 i x2) (k0_pay5 x1))
      (lateCols 11 384 (by decide) (k0_pay4 i x2) (k0_pay5 x1))
      (lateCols 12 384 (by decide) (k0_pay4 i x2) (k0_pay5 x1))
      (lateCols 13 384 (by decide) (k0_pay4 i x2) (k0_pay5 x1))
      (lateCols 14 384 (by decide) (k0_pay4 i x2) (k0_pay5 x1))
      (lateCols 15 384 (by decide) (k0_pay4 i x2) (k0_pay5 x1)))
    (k0_pay17 (k0_pay6 i)) (planeOf 3 x4) (scaleOf 384 x5) x3 x6

section Rows
variable {sig : RefSig} {κ : Kind} {sp : Space}

theorem canon_pool {i16 i0} (U : FVec F S512x512 .f32) (P : FVec F S16x512 .f32) (a : Fin 528) (b : Fin 512) :
    View.canon [(⟨Rect.unit ![16, 0] S512x512.size i16, U⟩ : View.Piece (Elt F) S528x512 .f32), ⟨Rect.unit ![0, 0] S16x512.size i0, P⟩] (ix2 a b)
      = if h : a.val < 16 then P (ix2 ⟨a.val, h⟩ b) else U (ix2 ⟨a.val - 16, by have := a.isLt; omega⟩ b) := by
  by_cases h : a.val < 16
  · rw [dif_pos h, View.canon_cons_of_not_mem]
    · have e : (ix2 a b : S528x512.Idx) = (Rect.unit (s := S528x512) ![0, 0] S16x512.size i0).emb (ix2 ⟨a.val, h⟩ b) := by
        funext d; match d with
          | ⟨0, _⟩ => exact Fin.ext (by simp [Rect.emb, Rect.unit])
          | ⟨1, _⟩ => exact Fin.ext (by simp [Rect.emb, Rect.unit])
      rw [e, View.canon_cons_emb]
    · intro hm
      obtain ⟨j, hj, e⟩ := (LoadRect.mem_set _).mp hm 0
      have e' : a.val = 16 + 1 * j := e
      omega
  · have e : (ix2 a b : S528x512.Idx) = (Rect.unit (s := S528x512) ![16, 0] S512x512.size i16).emb (ix2 ⟨a.val - 16, by have := a.isLt; omega⟩ b) := by
      funext d; match d with
        | ⟨0, _⟩ => exact Fin.ext (show a.val = 16 + 1 * (a.val - 16) by omega)
        | ⟨1, _⟩ => exact Fin.ext (by simp [Rect.emb, Rect.unit])
    rw [dif_neg h, e, View.canon_cons_emb]

/-- A load of 512 rows and 128 columns from the buffer of a block's rows and the sixteen before them. -/
theorem read_pool (v : View sig κ sp (S528x512 : Shape) .f32) (k off : ℕ) (hk : k ≤ 16) {i16 i0}
    {ik : ∀ d, (![16 - k, off] : Fin 2 → ℕ) d + S512x128.size d ≤ S528x512.size d} (U : FVec F S512x512 .f32)
    (P : FVec F S16x512 .f32) :
    View.readCov v [(⟨Rect.unit ![16, 0] S512x512.size i16, U⟩ : View.Piece (Elt F) S528x512 .f32), ⟨Rect.unit ![0, 0] S16x512.size i0, P⟩]
      (Rect.toLoadRect (Rect.unit (s := S528x512) ![16 - k, off] S512x128.size ik)) = lateCols k off hk P U := by
  rw [View.readCov_eq_canon']
  funext x
  have hx0 : (x 0).val < 512 := (x 0).isLt
  have hx1 : (x 1).val < 128 := (x 1).isLt
  have hoff : off + 128 ≤ 512 := ik 1
  have e : (Rect.toLoadRect (Rect.unit (s := S528x512) ![16 - k, off] S512x128.size ik)).idx x
      = ix2 (⟨(x 0).val + (16 - k), by omega⟩ : Fin 528) (⟨(off + (x 1).val) % 512, Nat.mod_lt _ (by decide)⟩ : Fin 512) := by
    funext d; match d with
      | ⟨0, _⟩ => exact Fin.ext (show (16 - k) + 1 * (x 0).val = (x 0).val + (16 - k) by omega)
      | ⟨1, _⟩ => exact Fin.ext (show off + 1 * (x 1).val = (off + (x 1).val) % 512 by rw [Nat.mod_eq_of_lt (by omega)]; omega)
  refine (congrArg _ e).trans ((canon_pool U P ⟨(x 0).val + (16 - k), by omega⟩ _).trans ?_)
  unfold lateCols
  by_cases h : (x 0).val + (16 - k) < 16
  · rw [dif_pos h, dif_pos h]
  · rw [dif_neg h, dif_neg h]
    congr 2
    exact Fin.ext (show (x 0).val + (16 - k) - 16 = (x 0).val - k by omega)

/-- A load of one mixing matrix from the four staged whole. -/
theorem read_plane (a : Memref sig κ sp (S4x128x128 : Shape) .bf16) (h : a.IsWhole) (X : Vec F S4x128x128 .bf16) (g : Fin 4)
    {hb : ∀ d, (![g.val, 0, 0] : Fin 3 → ℕ) d + S1x128x128.size d ≤ S4x128x128.size d} :
    View.readAt (Elt F) a.view (Rect.toLoadRect (Rect.unit (s := S4x128x128) ![g.val, 0, 0] S1x128x128.size hb)) (h.unread X) = planeOf g X := by
  rw [View.readAt_eq_ld, Memref.IsWhole.read_unread]
  funext x
  have hx : (x 0).val = 0 := Nat.lt_one_iff.mp (x 0).isLt
  refine congrArg X (funext fun d => ?_)
  match d with
  | ⟨0, _⟩ => exact Fin.ext (show g.val + 1 * (x 0).val = g.val by omega)
  | ⟨1, _⟩ => exact Fin.ext (show 0 + 1 * (x 1).val = (x 1).val by omega)
  | ⟨2, _⟩ => exact Fin.ext (show 0 + 1 * (x 2).val = (x 2).val by omega)

/-- A load of 128 scales from the row staged whole. -/
theorem read_scale (a : Memref sig κ sp (S1x512 : Shape) .f32) (h : a.IsWhole) (X : Vec F S1x512 .f32) (off : ℕ)
    {hb : ∀ d, (![0, off] : Fin 2 → ℕ) d + S1x128.size d ≤ S1x512.size d} :
    View.readAt (Elt F) a.view (Rect.toLoadRect (Rect.unit (s := S1x512) ![0, off] S1x128.size hb)) (h.unread X) = scaleOf off X := by
  rw [View.readAt_eq_ld, Memref.IsWhole.read_unread]
  funext x
  have h1 : off + 128 ≤ 512 := hb 1
  have hx : (x 1).val < 128 := (x 1).isLt
  refine congrArg X (funext fun d => ?_)
  match d with
  | ⟨0, _⟩ => exact Fin.ext (show 0 + 1 * (x 0).val = (x 0).val by omega)
  | ⟨1, _⟩ => exact Fin.ext (show off + 1 * (x 1).val = (off + (x 1).val) % 512 by rw [Nat.mod_eq_of_lt (by omega)]; omega)

end Rows

end Cert.Kernel2Ideal.Tail

end
-- ==== Proof.EvenRun.lean ====
module

public import proofs.«01_k».proof.Proof.Gen.Kernel2Ideal.Frame
public import proofs.«01_k».proof.Proof.Gen.Kernel2Ideal.Skeleton

@[expose] public section

set_option maxRecDepth 16384

noncomputable section

namespace Cert.Kernel2Ideal.Tail

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run walks the whole body once: its proof term is long
set_option maxHeartbeats 4000000 in
/-- What one grid point's body stores in the output block and in the carried rows, as pieces (last first), with the
    proof that the body, run on its input blocks and on carried rows `xc`, ends with exactly these pieces stored. -/
noncomputable def bodyRun (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S16x512 .bf16) (harg3 : arg3.IsWhole) (arg4 : Memref sig .tc .vmem S512x512 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S512x256 .f32) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S1x1024 .f32) (harg16 : arg16.IsWhole) (arg17 : Memref sig .tc .vmem S512x1024 .f32) (harg17 : arg17.IsWhole) (arg18 : Memref sig .tc .vmem S528x512 .f32) (harg18 : arg18.IsWhole) (arg19 : Memref sig .tc .vmem S512x2816 .bf16) (harg19 : arg19.IsWhole) (arg20 : Memref sig .tc .vmem S2x520x256 .f32) (harg20 : arg20.IsWhole) (arg21 : Memref sig .tc .vmem S8x5632 .f32) (harg21 : arg21.IsWhole)
    (x0 : Vec F S512x1024 .f32) (x1 : Vec F S512x512 .bf16) (x2 : Vec F S16x512 .bf16) (x3 : Vec F S512x512 .bf16) (x4 : Vec F S4x128x128 .bf16) (x5 : Vec F S1x512 .f32) (x6 : Vec F S1024x1024 .bf16) (x7 : Vec F S512x256 .f32) (x8 : Vec F S1x1024 .f32) (x9 : Vec F S1024x5632 .bf16) (x10 : Vec F S3x5632 .f32) (x11 : Vec F S2816x1024 .bf16) (x12 : Vec F S1x1024 .f32) (x13 : Vec F S1024x1024 .bf16) (x14 : Vec F S256x1024 .bf16) (x15 : Vec F S1x1024 .f32) (xc : Vec F S8x5632 .f32) :
    { L : List (View.Piece (Elt F) S512x1024 .f32) × List (View.Piece (Elt F) S8x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L.1) ∗ (∃ d, owns (c : Thread nD τ) arg18 fullShare d) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f L.2)) -∗ K ⟨⟩))
          ⊢ wp frame (wpE (defs₀ (F := F)) Variants.none c none) E (cc0_even_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨⟨?_, ?_⟩, fun E K => ?run⟩
  case run =>
    simp only [cc0_even_tail_eq_skeleton]; unfold cc0_even_tail_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%dO, %fO, -, HO⟩, ⟨%dS0, %fS0, -, HS0⟩, ⟨%dS1, %fS1, -, HS1⟩, ⟨%dS2, %fS2, -, HS2⟩, ⟨%fC, %hfC, HC⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg21.eq_unread hfC
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [HO]
    · iexists _; iexact HO
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HC

end Cert.Kernel2Ideal.Tail

end
-- ==== Proof.EvenBlocks.lean ====
/- What the even layer's tail stores at one grid point, read off the run of its body: the output block and the rows it
   carries over are the vocabulary's `evenOut` and `carryRows`. -/
module

public import proofs.«01_k».proof.Proof.EvenSpec
public import proofs.«01_k».proof.Proof.EvenRun

@[expose] public section

set_option maxRecDepth 16384

noncomputable section

namespace Cert.Kernel2Ideal.Tail

open Cert.Kernel2Ideal.Gen Cert.Tail
open Idealize.ShloMosaic Idealize.ShloMosaic.TcCoe

variable {F : FTy → Type} [FloatOps F]

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S16x512 .bf16) (harg3 : arg3.IsWhole) (arg4 : Memref sig .tc .vmem S512x512 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S512x256 .f32) (harg8 : arg8.IsWhole) (arg9 : Memref sig .tc .vmem S1x1024 .f32) (harg9 : arg9.IsWhole) (arg10 : Memref sig .tc .vmem S1024x5632 .bf16) (harg10 : arg10.IsWhole) (arg11 : Memref sig .tc .vmem S3x5632 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S256x1024 .bf16) (harg15 : arg15.IsWhole) (arg16 : Memref sig .tc .vmem S1x1024 .f32) (harg16 : arg16.IsWhole) (arg17 : Memref sig .tc .vmem S512x1024 .f32) (harg17 : arg17.IsWhole) (arg18 : Memref sig .tc .vmem S528x512 .f32) (harg18 : arg18.IsWhole) (arg19 : Memref sig .tc .vmem S512x2816 .bf16) (harg19 : arg19.IsWhole) (arg20 : Memref sig .tc .vmem S2x520x256 .f32) (harg20 : arg20.IsWhole) (arg21 : Memref sig .tc .vmem S8x5632 .f32) (harg21 : arg21.IsWhole) (x0 : Vec F S512x1024 .f32) (x1 : Vec F S512x512 .bf16) (x2 : Vec F S16x512 .bf16) (x3 : Vec F S512x512 .bf16) (x4 : Vec F S4x128x128 .bf16) (x5 : Vec F S1x512 .f32) (x6 : Vec F S1024x1024 .bf16) (x7 : Vec F S512x256 .f32) (x8 : Vec F S1x1024 .f32) (x9 : Vec F S1024x5632 .bf16) (x10 : Vec F S3x5632 .f32) (x11 : Vec F S2816x1024 .bf16) (x12 : Vec F S1x1024 .f32) (x13 : Vec F S1024x1024 .bf16) (x14 : Vec F S256x1024 .bf16) (x15 : Vec F S1x1024 .f32) (xc : Vec F S8x5632 .f32)

theorem v30_eq : (bodyRun.sl.v30 c i arg2 harg2 arg3 harg3 arg18 x1 x2)
    = lateCols 1 0 (by decide) (k0_pay4 i x2) (k0_pay5 x1) := by
  refine (show _ = lateCols (F := F) 1 0 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 1 0 (by decide) _ _).trans ?_
  rw [read_whole arg3, read_whole arg2]

theorem v50_eq : (bodyRun.sl.v50 c i arg2 harg2 arg3 harg3 arg18 x1 x2)
    = lateCols 1 128 (by decide) (k0_pay4 i x2) (k0_pay5 x1) := by
  refine (show _ = lateCols (F := F) 1 128 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 1 128 (by decide) _ _).trans ?_
  rw [read_whole arg3, read_whole arg2]

theorem v52_eq : (bodyRun.sl.v52 c i arg2 harg2 arg3 harg3 arg18 x1 x2)
    = lateCols 2 128 (by decide) (k0_pay4 i x2) (k0_pay5 x1) := by
  refine (show _ = lateCols (F := F) 2 128 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 2 128 (by decide) _ _).trans ?_
  rw [read_whole arg3, read_whole arg2]

theorem v54_eq : (bodyRun.sl.v54 c i arg2 harg2 arg3 harg3 arg18 x1 x2)
    = lateCols 3 128 (by decide) (k0_pay4 i x2) (k0_pay5 x1) := by
  refine (show _ = lateCols (F := F) 3 128 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 3 128 (by decide) _ _).trans ?_
  rw [read_whole arg3, read_whole arg2]

theorem v74_eq : (bodyRun.sl.v74 c i arg2 harg2 arg3 harg3 arg18 x1 x2)
    = lateCols 1 256 (by decide) (k0_pay4 i x2) (k0_pay5 x1) := by
  refine (show _ = lateCols (F := F) 1 256 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 1 256 (by decide) _ _).trans ?_
  rw [read_whole arg3, read_whole arg2]

theorem v76_eq : (bodyRun.sl.v76 c i arg2 harg2 arg3 harg3 arg18 x1 x2)
    = lateCols 2 256 (by decide) (k0_pay4 i x2) (k0_pay5 x1) := by
  refine (show _ = lateCols (F := F) 2 256 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 2 256 (by decide) _ _).trans ?_
  rw [read_whole arg3, read_whole arg2]

theorem v78_eq : (bodyRun.sl.v78 c i arg2 harg2 arg3 harg3 arg18 x1 x2)
    = lateCols 3 256 (by decide) (k0_pay4 i x2) (k0_pay5 x1) := by
  refine (show _ = lateCols (F := F) 3 256 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 3 256 (by decide) _ _).trans ?_
  rw [read_whole arg3, read_whole arg2]

theorem v80_eq : (bodyRun.sl.v80 c i arg2 harg2 arg3 harg3 arg18 x1 x2)
    = lateCols 4 256 (by decide) (k0_pay4 i x2) (k0_pay5 x1) := by
  refine (show _ = lateCols (F := F) 4 256 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 4 256 (by decide) _ _).trans ?_
  rw [read_whole arg3, read_whole arg2]

theorem v82_eq : (bodyRun.sl.v82 c i arg2 harg2 arg3 harg3 arg18 x1 x2)
    = lateCols 5 256 (by decide) (k0_pay4 i x2) (k0_pay5 x1) := by
  refine (show _ = lateCols (F := F) 5 256 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 5 256 (by decide) _ _).trans ?_
  rw [read_whole arg3, read_whole arg2]

theorem v84_eq : (bodyRun.sl.v84 c i arg2 harg2 arg3 harg3 arg18 x1 x2)
    = lateCols 6 256 (by decide) (k0_pay4 i x2) (k0_pay5 x1) := by
  refine (show _ = lateCols (F := F) 6 256 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 6 256 (by decide) _ _).trans ?_
  rw [read_whole arg3, read_whole arg2]

theorem v86_eq : (bodyRun.sl.v86 c i arg2 harg2 arg3 harg3 arg18 x1 x2)
    = lateCols 7 256 (by decide) (k0_pay4 i x2) (k0_pay5 x1) := by
  refine (show _ = lateCols (F := F) 7 256 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 7 256 (by decide) _ _).trans ?_
  rw [read_whole arg3, read_whole arg2]

theorem v106_eq : (bodyRun.sl.v106 c i arg2 harg2 arg3 harg3 arg18 x1 x2)
    = lateCols 1 384 (by decide) (k0_pay4 i x2) (k0_pay5 x1) := by
  refine (show _ = lateCols (F := F) 1 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 1 384 (by decide) _ _).trans ?_
  rw [read_whole arg3, read_whole arg2]

theorem v108_eq : (bodyRun.sl.v108 c i arg2 harg2 arg3 harg3 arg18 x1 x2)
    = lateCols 2 384 (by decide) (k0_pay4 i x2) (k0_pay5 x1) := by
  refine (show _ = lateCols (F := F) 2 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 2 384 (by decide) _ _).trans ?_
  rw [read_whole arg3, read_whole arg2]

theorem v110_eq : (bodyRun.sl.v110 c i arg2 harg2 arg3 harg3 arg18 x1 x2)
    = lateCols 3 384 (by decide) (k0_pay4 i x2) (k0_pay5 x1) := by
  refine (show _ = lateCols (F := F) 3 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 3 384 (by decide) _ _).trans ?_
  rw [read_whole arg3, read_whole arg2]

theorem v112_eq : (bodyRun.sl.v112 c i arg2 harg2 arg3 harg3 arg18 x1 x2)
    = lateCols 4 384 (by decide) (k0_pay4 i x2) (k0_pay5 x1) := by
  refine (show _ = lateCols (F := F) 4 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 4 384 (by decide) _ _).trans ?_
  rw [read_whole arg3, read_whole arg2]

theorem v114_eq : (bodyRun.sl.v114 c i arg2 harg2 arg3 harg3 arg18 x1 x2)
    = lateCols 5 384 (by decide) (k0_pay4 i x2) (k0_pay5 x1) := by
  refine (show _ = lateCols (F := F) 5 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 5 384 (by decide) _ _).trans ?_
  rw [read_whole arg3, read_whole arg2]

theorem v116_eq : (bodyRun.sl.v116 c i arg2 harg2 arg3 harg3 arg18 x1 x2)
    = lateCols 6 384 (by decide) (k0_pay4 i x2) (k0_pay5 x1) := by
  refine (show _ = lateCols (F := F) 6 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 6 384 (by decide) _ _).trans ?_
  rw [read_whole arg3, read_whole arg2]

theorem v118_eq : (bodyRun.sl.v118 c i arg2 harg2 arg3 harg3 arg18 x1 x2)
    = lateCols 7 384 (by decide) (k0_pay4 i x2) (k0_pay5 x1) := by
  refine (show _ = lateCols (F := F) 7 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 7 384 (by decide) _ _).trans ?_
  rw [read_whole arg3, read_whole arg2]

theorem v120_eq : (bodyRun.sl.v120 c i arg2 harg2 arg3 harg3 arg18 x1 x2)
    = lateCols 8 384 (by decide) (k0_pay4 i x2) (k0_pay5 x1) := by
  refine (show _ = lateCols (F := F) 8 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 8 384 (by decide) _ _).trans ?_
  rw [read_whole arg3, read_whole arg2]

theorem v122_eq : (bodyRun.sl.v122 c i arg2 harg2 arg3 harg3 arg18 x1 x2)
    = lateCols 9 384 (by decide) (k0_pay4 i x2) (k0_pay5 x1) := by
  refine (show _ = lateCols (F := F) 9 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 9 384 (by decide) _ _).trans ?_
  rw [read_whole arg3, read_whole arg2]

theorem v124_eq : (bodyRun.sl.v124 c i arg2 harg2 arg3 harg3 arg18 x1 x2)
    = lateCols 10 384 (by decide) (k0_pay4 i x2) (k0_pay5 x1) := by
  refine (show _ = lateCols (F := F) 10 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 10 384 (by decide) _ _).trans ?_
  rw [read_whole arg3, read_whole arg2]

theorem v126_eq : (bodyRun.sl.v126 c i arg2 harg2 arg3 harg3 arg18 x1 x2)
    = lateCols 11 384 (by decide) (k0_pay4 i x2) (k0_pay5 x1) := by
  refine (show _ = lateCols (F := F) 11 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 11 384 (by decide) _ _).trans ?_
  rw [read_whole arg3, read_whole arg2]

theorem v128_eq : (bodyRun.sl.v128 c i arg2 harg2 arg3 harg3 arg18 x1 x2)
    = lateCols 12 384 (by decide) (k0_pay4 i x2) (k0_pay5 x1) := by
  refine (show _ = lateCols (F := F) 12 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 12 384 (by decide) _ _).trans ?_
  rw [read_whole arg3, read_whole arg2]

theorem v130_eq : (bodyRun.sl.v130 c i arg2 harg2 arg3 harg3 arg18 x1 x2)
    = lateCols 13 384 (by decide) (k0_pay4 i x2) (k0_pay5 x1) := by
  refine (show _ = lateCols (F := F) 13 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 13 384 (by decide) _ _).trans ?_
  rw [read_whole arg3, read_whole arg2]

theorem v132_eq : (bodyRun.sl.v132 c i arg2 harg2 arg3 harg3 arg18 x1 x2)
    = lateCols 14 384 (by decide) (k0_pay4 i x2) (k0_pay5 x1) := by
  refine (show _ = lateCols (F := F) 14 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 14 384 (by decide) _ _).trans ?_
  rw [read_whole arg3, read_whole arg2]

theorem v134_eq : (bodyRun.sl.v134 c i arg2 harg2 arg3 harg3 arg18 x1 x2)
    = lateCols 15 384 (by decide) (k0_pay4 i x2) (k0_pay5 x1) := by
  refine (show _ = lateCols (F := F) 15 384 (by decide) (k0_pay4 i (View.readAt (Elt F) arg3.view (Rect.toLoadRect (Rect.unit ![0, 0] S16x512.size inb_S16x512_S16x512_0_0)) (harg3.unread x2)))
    (k0_pay5 (View.readAt (Elt F) arg2.view (Rect.toLoadRect (Rect.unit ![0, 0] S512x512.size inb_S512x512_S512x512_0_0)) (harg2.unread x1)))
    from read_pool _ 15 384 (by decide) _ _).trans ?_
  rw [read_whole arg3, read_whole arg2]

theorem stream_eq : (bodyRun.sl.r_12 c i arg1 harg1 arg2 harg2 arg3 harg3 arg4 harg4 arg5 harg5 arg6 harg6 arg7 harg7 arg18 x0 x1 x2 x3 x4 x5 x6) = evenIn i x0 x1 x2 x3 x4 x5 x6 := by
  refine (show _ = k0_pay18 (F := F) (k0_pay2 (View.readAt (Elt F) arg1.view (Rect.toLoadRect (Rect.unit ![0, 0] S512x1024.size inb_S512x1024_S512x1024_0_0)) (harg1.unread x0)))
    (k0_pay10 (k0_pay7 (View.readAt (Elt F) arg2.view (Rect.toLoadRect (Rect.unit ![0, 0] S512x512.size inb_S512x512_S512x512_0_0)) (harg2.unread x1))) (k0_pay8 (View.readAt (Elt F) arg2.view (Rect.toLoadRect (Rect.unit ![0, 0] S512x512.size inb_S512x512_S512x512_0_0)) (harg2.unread x1)) (bodyRun.sl.v30 c i arg2 harg2 arg3 harg3 arg18 x1 x2)) (k0_pay9 i) 2#32 (View.readAt (Elt F) arg5.view (Rect.toLoadRect (Rect.unit ![0, 0, 0] S1x128x128.size inb_S4x128x128_S1x128x128_0_0_0)) (harg5.unread x4)) (View.readAt (Elt F) arg6.view (Rect.toLoadRect (Rect.unit ![0, 0] S1x128.size inb_S1x512_S1x128_0_0)) (harg6.unread x5)))
    (k0_pay11 (k0_pay3 (View.readAt (Elt F) arg2.view (Rect.toLoadRect (Rect.unit ![0, 0] S512x512.size inb_S512x512_S512x512_0_0)) (harg2.unread x1))) (k0_pay6 i) (bodyRun.sl.v50 c i arg2 harg2 arg3 harg3 arg18 x1 x2) (bodyRun.sl.v52 c i arg2 harg2 arg3 harg3 arg18 x1 x2) (bodyRun.sl.v54 c i arg2 harg2 arg3 harg3 arg18 x1 x2) (View.readAt (Elt F) arg5.view (Rect.toLoadRect (Rect.unit ![1, 0, 0] S1x128x128.size inb_S4x128x128_S1x128x128_1_0_0)) (harg5.unread x4)) (View.readAt (Elt F) arg6.view (Rect.toLoadRect (Rect.unit ![0, 128] S1x128.size inb_S1x512_S1x128_0_128)) (harg6.unread x5)))
    (k0_pay13 (k0_pay6 i) (k0_pay12 (k0_pay3 (View.readAt (Elt F) arg2.view (Rect.toLoadRect (Rect.unit ![0, 0] S512x512.size inb_S512x512_S512x512_0_0)) (harg2.unread x1)))) (bodyRun.sl.v74 c i arg2 harg2 arg3 harg3 arg18 x1 x2) (bodyRun.sl.v76 c i arg2 harg2 arg3 harg3 arg18 x1 x2) (bodyRun.sl.v78 c i arg2 harg2 arg3 harg3 arg18 x1 x2) (bodyRun.sl.v80 c i arg2 harg2 arg3 harg3 arg18 x1 x2) (bodyRun.sl.v82 c i arg2 harg2 arg3 harg3 arg18 x1 x2) (bodyRun.sl.v84 c i arg2 harg2 arg3 harg3 arg18 x1 x2) (bodyRun.sl.v86 c i arg2 harg2 arg3 harg3 arg18 x1 x2) (View.readAt (Elt F) arg5.view (Rect.toLoadRect (Rect.unit ![2, 0, 0] S1x128x128.size inb_S4x128x128_S1x128x128_2_0_0)) (harg5.unread x4)) (View.readAt (Elt F) arg6.view (Rect.toLoadRect (Rect.unit ![0, 256] S1x128.size inb_S1x512_S1x128_0_256)) (harg6.unread x5)))
    (k0_pay14 (k0_pay3 (View.readAt (Elt F) arg2.view (Rect.toLoadRect (Rect.unit ![0, 0] S512x512.size inb_S512x512_S512x512_0_0)) (harg2.unread x1)))) (k0_pay16 (k0_pay15 (k0_pay3 (View.readAt (Elt F) arg2.view (Rect.toLoadRect (Rect.unit ![0, 0] S512x512.size inb_S512x512_S512x512_0_0)) (harg2.unread x1))) (bodyRun.sl.v106 c i arg2 harg2 arg3 harg3 arg18 x1 x2)) (bodyRun.sl.v108 c i arg2 harg2 arg3 harg3 arg18 x1 x2) (bodyRun.sl.v110 c i arg2 harg2 arg3 harg3 arg18 x1 x2) (bodyRun.sl.v112 c i arg2 harg2 arg3 harg3 arg18 x1 x2) (bodyRun.sl.v114 c i arg2 harg2 arg3 harg3 arg18 x1 x2) (bodyRun.sl.v116 c i arg2 harg2 arg3 harg3 arg18 x1 x2) (bodyRun.sl.v118 c i arg2 harg2 arg3 harg3 arg18 x1 x2) (bodyRun.sl.v120 c i arg2 harg2 arg3 harg3 arg18 x1 x2) (bodyRun.sl.v122 c i arg2 harg2 arg3 harg3 arg18 x1 x2) (bodyRun.sl.v124 c i arg2 harg2 arg3 harg3 arg18 x1 x2) (bodyRun.sl.v126 c i arg2 harg2 arg3 harg3 arg18 x1 x2) (bodyRun.sl.v128 c i arg2 harg2 arg3 harg3 arg18 x1 x2) (bodyRun.sl.v130 c i arg2 harg2 arg3 harg3 arg18 x1 x2) (bodyRun.sl.v132 c i arg2 harg2 arg3 harg3 arg18 x1 x2) (bodyRun.sl.v134 c i arg2 harg2 arg3 harg3 arg18 x1 x2)) (k0_pay17 (k0_pay6 i)) (View.readAt (Elt F) arg5.view (Rect.toLoadRect (Rect.unit ![3, 0, 0] S1x128x128.size inb_S4x128x128_S1x128x128_3_0_0)) (harg5.unread x4)) (View.readAt (Elt F) arg6.view (Rect.toLoadRect (Rect.unit ![0, 384] S1x128.size inb_S1x512_S1x128_0_384)) (harg6.unread x5)) (View.readAt (Elt F) arg4.view (Rect.toLoadRect (Rect.unit ![0, 0] S512x512.size inb_S512x512_S512x512_0_0)) (harg4.unread x3)) (View.readAt (Elt F) arg7.view (Rect.toLoadRect (Rect.unit ![0, 0] S1024x1024.size inb_S1024x1024_S1024x1024_0_0)) (harg7.unread x6)) from rfl).trans ?_
  rw [v30_eq, v50_eq, v52_eq, v54_eq, v74_eq, v76_eq, v78_eq, v80_eq, v82_eq, v84_eq, v86_eq, v106_eq, v108_eq, v110_eq, v112_eq, v114_eq, v116_eq, v118_eq, v120_eq, v122_eq, v124_eq, v126_eq, v128_eq, v130_eq, v132_eq, v134_eq, read_whole arg1, read_whole arg2, read_whole arg4, read_whole arg7]
  erw [read_plane arg5 harg5 x4 0, read_plane arg5 harg5 x4 1, read_plane arg5 harg5 x4 2, read_plane arg5 harg5 x4 3]
  rw [read_scale arg6 harg6 x5, read_scale arg6 harg6 x5, read_scale arg6 harg6 x5, read_scale arg6 harg6 x5]
  rfl

theorem normed_eq : (bodyRun.sl.r_15 c i arg1 harg1 arg2 harg2 arg3 harg3 arg4 harg4 arg5 harg5 arg6 harg6 arg7 harg7 arg9 harg9 arg18 x0 x1 x2 x3 x4 x5 x6 x8) = (normed (evenIn i x0 x1 x2 x3 x4 x5 x6) x8) := by
  refine (show _ = normed (F := F) (bodyRun.sl.r_12 c i arg1 harg1 arg2 harg2 arg3 harg3 arg4 harg4 arg5 harg5 arg6 harg6 arg7 harg7 arg18 x0 x1 x2 x3 x4 x5 x6) (View.readAt (Elt F) arg9.view (Rect.toLoadRect (Rect.unit ![0, 0] S1x1024.size inb_S1x1024_S1x1024_0_0)) (harg9.unread x8)) from rfl).trans ?_
  rw [stream_eq, read_whole arg9]

theorem v814_eq : (bodyRun.sl.v814 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 4864 x9) (cols 4864 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4864] S1024x256.size inb_S1024x5632_S1024x256_0_4864)) (harg10.unread x9))
    (View.readAt (Elt F) arg21.view (Rect.toLoadRect (Rect.unit ![0, 4864] S8x256.size inb_S8x5632_S8x256_0_4864)) (harg21.unread xc))
    from read_rows _ 1 2 (by decide) _ _ _).trans ?_
  rw [read_cols arg10, read_cols arg21, normed_eq]

theorem v563_eq : (bodyRun.sl.v563 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 1280 x9) (cols 1280 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1280] S1024x256.size inb_S1024x5632_S1024x256_0_1280)) (harg10.unread x9))
    (View.readAt (Elt F) arg21.view (Rect.toLoadRect (Rect.unit ![0, 1280] S8x256.size inb_S8x5632_S8x256_0_1280)) (harg21.unread xc))
    from read_rows _ 0 1 (by decide) _ _ _).trans ?_
  rw [read_cols arg10, read_cols arg21, normed_eq]

theorem v311_eq : (bodyRun.sl.v311 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 3072 x9) (cols 3072 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3072] S1024x256.size inb_S1024x5632_S1024x256_0_3072)) (harg10.unread x9))
    (View.readAt (Elt F) arg21.view (Rect.toLoadRect (Rect.unit ![0, 3072] S8x256.size inb_S8x5632_S8x256_0_3072)) (harg21.unread xc))
    from read_rows _ 1 1 (by decide) _ _ _).trans ?_
  rw [read_cols arg10, read_cols arg21, normed_eq]

theorem v317_eq : (bodyRun.sl.v317 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 3072 x9) (cols 3072 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3072] S1024x256.size inb_S1024x5632_S1024x256_0_3072)) (harg10.unread x9))
    (View.readAt (Elt F) arg21.view (Rect.toLoadRect (Rect.unit ![0, 3072] S8x256.size inb_S8x5632_S8x256_0_3072)) (harg21.unread xc))
    from read_rows _ 1 2 (by decide) _ _ _).trans ?_
  rw [read_cols arg10, read_cols arg21, normed_eq]

theorem v705_eq : (bodyRun.sl.v705 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 1792 x9) (cols 1792 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1792] S1024x256.size inb_S1024x5632_S1024x256_0_1792)) (harg10.unread x9))
    (View.readAt (Elt F) arg21.view (Rect.toLoadRect (Rect.unit ![0, 1792] S8x256.size inb_S8x5632_S8x256_0_1792)) (harg21.unread xc))
    from read_rows _ 0 1 (by decide) _ _ _).trans ?_
  rw [read_cols arg10, read_cols arg21, normed_eq]

theorem v530_eq : (bodyRun.sl.v530 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 3840 x9) (cols 3840 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3840] S1024x256.size inb_S1024x5632_S1024x256_0_3840)) (harg10.unread x9))
    (View.readAt (Elt F) arg21.view (Rect.toLoadRect (Rect.unit ![0, 3840] S8x256.size inb_S8x5632_S8x256_0_3840)) (harg21.unread xc))
    from read_rows _ 1 2 (by decide) _ _ _).trans ?_
  rw [read_cols arg10, read_cols arg21, normed_eq]

theorem v808_eq : (bodyRun.sl.v808 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 4864 x9) (cols 4864 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4864] S1024x256.size inb_S1024x5632_S1024x256_0_4864)) (harg10.unread x9))
    (View.readAt (Elt F) arg21.view (Rect.toLoadRect (Rect.unit ![0, 4864] S8x256.size inb_S8x5632_S8x256_0_4864)) (harg21.unread xc))
    from read_rows _ 1 1 (by decide) _ _ _).trans ?_
  rw [read_cols arg10, read_cols arg21, normed_eq]

theorem v782_eq : (bodyRun.sl.v782 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 2048 x9) (cols 2048 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2048] S1024x256.size inb_S1024x5632_S1024x256_0_2048)) (harg10.unread x9))
    (View.readAt (Elt F) arg21.view (Rect.toLoadRect (Rect.unit ![0, 2048] S8x256.size inb_S8x5632_S8x256_0_2048)) (harg21.unread xc))
    from read_rows _ 0 2 (by decide) _ _ _).trans ?_
  rw [read_cols arg10, read_cols arg21, normed_eq]

theorem v924_eq : (bodyRun.sl.v924 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 2560 x9) (cols 2560 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2560] S1024x256.size inb_S1024x5632_S1024x256_0_2560)) (harg10.unread x9))
    (View.readAt (Elt F) arg21.view (Rect.toLoadRect (Rect.unit ![0, 2560] S8x256.size inb_S8x5632_S8x256_0_2560)) (harg21.unread xc))
    from read_rows _ 0 2 (by decide) _ _ _).trans ?_
  rw [read_cols arg10, read_cols arg21, normed_eq]

theorem v214_eq : (bodyRun.sl.v214 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 0 x9) (cols 0 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 0] S1024x256.size inb_S1024x5632_S1024x256_0_0)) (harg10.unread x9))
    (View.readAt (Elt F) arg21.view (Rect.toLoadRect (Rect.unit ![0, 0] S8x256.size inb_S8x5632_S8x256_0_0)) (harg21.unread xc))
    from read_rows _ 0 2 (by decide) _ _ _).trans ?_
  rw [read_cols arg10, read_cols arg21, normed_eq]

theorem v672_eq : (bodyRun.sl.v672 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 4352 x9) (cols 4352 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4352] S1024x256.size inb_S1024x5632_S1024x256_0_4352)) (harg10.unread x9))
    (View.readAt (Elt F) arg21.view (Rect.toLoadRect (Rect.unit ![0, 4352] S8x256.size inb_S8x5632_S8x256_0_4352)) (harg21.unread xc))
    from read_rows _ 1 2 (by decide) _ _ _).trans ?_
  rw [read_cols arg10, read_cols arg21, normed_eq]

theorem v382_eq : (bodyRun.sl.v382 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 3328 x9) (cols 3328 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3328] S1024x256.size inb_S1024x5632_S1024x256_0_3328)) (harg10.unread x9))
    (View.readAt (Elt F) arg21.view (Rect.toLoadRect (Rect.unit ![0, 3328] S8x256.size inb_S8x5632_S8x256_0_3328)) (harg21.unread xc))
    from read_rows _ 1 1 (by decide) _ _ _).trans ?_
  rw [read_cols arg10, read_cols arg21, normed_eq]

theorem v421_eq : (bodyRun.sl.v421 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 768 x9) (cols 768 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 768] S1024x256.size inb_S1024x5632_S1024x256_0_768)) (harg10.unread x9))
    (View.readAt (Elt F) arg21.view (Rect.toLoadRect (Rect.unit ![0, 768] S8x256.size inb_S8x5632_S8x256_0_768)) (harg21.unread xc))
    from read_rows _ 0 1 (by decide) _ _ _).trans ?_
  rw [read_cols arg10, read_cols arg21, normed_eq]

theorem v601_eq : (bodyRun.sl.v601 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 4096 x9) (cols 4096 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4096] S1024x256.size inb_S1024x5632_S1024x256_0_4096)) (harg10.unread x9))
    (View.readAt (Elt F) arg21.view (Rect.toLoadRect (Rect.unit ![0, 4096] S8x256.size inb_S8x5632_S8x256_0_4096)) (harg21.unread xc))
    from read_rows _ 1 2 (by decide) _ _ _).trans ?_
  rw [read_cols arg10, read_cols arg21, normed_eq]

theorem v356_eq : (bodyRun.sl.v356 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 512 x9) (cols 512 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 512] S1024x256.size inb_S1024x5632_S1024x256_0_512)) (harg10.unread x9))
    (View.readAt (Elt F) arg21.view (Rect.toLoadRect (Rect.unit ![0, 512] S8x256.size inb_S8x5632_S8x256_0_512)) (harg21.unread xc))
    from read_rows _ 0 2 (by decide) _ _ _).trans ?_
  rw [read_cols arg10, read_cols arg21, normed_eq]

theorem v879_eq : (bodyRun.sl.v879 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 5120 x9) (cols 5120 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 5120] S1024x256.size inb_S1024x5632_S1024x256_0_5120)) (harg10.unread x9))
    (View.readAt (Elt F) arg21.view (Rect.toLoadRect (Rect.unit ![0, 5120] S8x256.size inb_S8x5632_S8x256_0_5120)) (harg21.unread xc))
    from read_rows _ 1 1 (by decide) _ _ _).trans ?_
  rw [read_cols arg10, read_cols arg21, normed_eq]

theorem v388_eq : (bodyRun.sl.v388 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 3328 x9) (cols 3328 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3328] S1024x256.size inb_S1024x5632_S1024x256_0_3328)) (harg10.unread x9))
    (View.readAt (Elt F) arg21.view (Rect.toLoadRect (Rect.unit ![0, 3328] S8x256.size inb_S8x5632_S8x256_0_3328)) (harg21.unread xc))
    from read_rows _ 1 2 (by decide) _ _ _).trans ?_
  rw [read_cols arg10, read_cols arg21, normed_eq]

theorem v498_eq : (bodyRun.sl.v498 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 1024 x9) (cols 1024 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1024] S1024x256.size inb_S1024x5632_S1024x256_0_1024)) (harg10.unread x9))
    (View.readAt (Elt F) arg21.view (Rect.toLoadRect (Rect.unit ![0, 1024] S8x256.size inb_S8x5632_S8x256_0_1024)) (harg21.unread xc))
    from read_rows _ 0 2 (by decide) _ _ _).trans ?_
  rw [read_cols arg10, read_cols arg21, normed_eq]

theorem v711_eq : (bodyRun.sl.v711 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 1792 x9) (cols 1792 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1792] S1024x256.size inb_S1024x5632_S1024x256_0_1792)) (harg10.unread x9))
    (View.readAt (Elt F) arg21.view (Rect.toLoadRect (Rect.unit ![0, 1792] S8x256.size inb_S8x5632_S8x256_0_1792)) (harg21.unread xc))
    from read_rows _ 0 2 (by decide) _ _ _).trans ?_
  rw [read_cols arg10, read_cols arg21, normed_eq]

theorem v743_eq : (bodyRun.sl.v743 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 4608 x9) (cols 4608 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4608] S1024x256.size inb_S1024x5632_S1024x256_0_4608)) (harg10.unread x9))
    (View.readAt (Elt F) arg21.view (Rect.toLoadRect (Rect.unit ![0, 4608] S8x256.size inb_S8x5632_S8x256_0_4608)) (harg21.unread xc))
    from read_rows _ 1 2 (by decide) _ _ _).trans ?_
  rw [read_cols arg10, read_cols arg21, normed_eq]

theorem v950_eq : (bodyRun.sl.v950 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 5376 x9) (cols 5376 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 5376] S1024x256.size inb_S1024x5632_S1024x256_0_5376)) (harg10.unread x9))
    (View.readAt (Elt F) arg21.view (Rect.toLoadRect (Rect.unit ![0, 5376] S8x256.size inb_S8x5632_S8x256_0_5376)) (harg21.unread xc))
    from read_rows _ 1 1 (by decide) _ _ _).trans ?_
  rw [read_cols arg10, read_cols arg21, normed_eq]

theorem v208_eq : (bodyRun.sl.v208 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 0 x9) (cols 0 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 0] S1024x256.size inb_S1024x5632_S1024x256_0_0)) (harg10.unread x9))
    (View.readAt (Elt F) arg21.view (Rect.toLoadRect (Rect.unit ![0, 0] S8x256.size inb_S8x5632_S8x256_0_0)) (harg21.unread xc))
    from read_rows _ 0 1 (by decide) _ _ _).trans ?_
  rw [read_cols arg10, read_cols arg21, normed_eq]

theorem v569_eq : (bodyRun.sl.v569 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 1280 x9) (cols 1280 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1280] S1024x256.size inb_S1024x5632_S1024x256_0_1280)) (harg10.unread x9))
    (View.readAt (Elt F) arg21.view (Rect.toLoadRect (Rect.unit ![0, 1280] S8x256.size inb_S8x5632_S8x256_0_1280)) (harg21.unread xc))
    from read_rows _ 0 2 (by decide) _ _ _).trans ?_
  rw [read_cols arg10, read_cols arg21, normed_eq]

theorem v595_eq : (bodyRun.sl.v595 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 4096 x9) (cols 4096 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4096] S1024x256.size inb_S1024x5632_S1024x256_0_4096)) (harg10.unread x9))
    (View.readAt (Elt F) arg21.view (Rect.toLoadRect (Rect.unit ![0, 4096] S8x256.size inb_S8x5632_S8x256_0_4096)) (harg21.unread xc))
    from read_rows _ 1 1 (by decide) _ _ _).trans ?_
  rw [read_cols arg10, read_cols arg21, normed_eq]

theorem v459_eq : (bodyRun.sl.v459 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 3584 x9) (cols 3584 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3584] S1024x256.size inb_S1024x5632_S1024x256_0_3584)) (harg10.unread x9))
    (View.readAt (Elt F) arg21.view (Rect.toLoadRect (Rect.unit ![0, 3584] S8x256.size inb_S8x5632_S8x256_0_3584)) (harg21.unread xc))
    from read_rows _ 1 2 (by decide) _ _ _).trans ?_
  rw [read_cols arg10, read_cols arg21, normed_eq]

theorem v246_eq : (bodyRun.sl.v246 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 2816 x9) (cols 2816 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2816] S1024x256.size inb_S1024x5632_S1024x256_0_2816)) (harg10.unread x9))
    (View.readAt (Elt F) arg21.view (Rect.toLoadRect (Rect.unit ![0, 2816] S8x256.size inb_S8x5632_S8x256_0_2816)) (harg21.unread xc))
    from read_rows _ 1 2 (by decide) _ _ _).trans ?_
  rw [read_cols arg10, read_cols arg21, normed_eq]

theorem v350_eq : (bodyRun.sl.v350 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 512 x9) (cols 512 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 512] S1024x256.size inb_S1024x5632_S1024x256_0_512)) (harg10.unread x9))
    (View.readAt (Elt F) arg21.view (Rect.toLoadRect (Rect.unit ![0, 512] S8x256.size inb_S8x5632_S8x256_0_512)) (harg21.unread xc))
    from read_rows _ 0 1 (by decide) _ _ _).trans ?_
  rw [read_cols arg10, read_cols arg21, normed_eq]

theorem v666_eq : (bodyRun.sl.v666 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 4352 x9) (cols 4352 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4352] S1024x256.size inb_S1024x5632_S1024x256_0_4352)) (harg10.unread x9))
    (View.readAt (Elt F) arg21.view (Rect.toLoadRect (Rect.unit ![0, 4352] S8x256.size inb_S8x5632_S8x256_0_4352)) (harg21.unread xc))
    from read_rows _ 1 1 (by decide) _ _ _).trans ?_
  rw [read_cols arg10, read_cols arg21, normed_eq]

theorem v918_eq : (bodyRun.sl.v918 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 2560 x9) (cols 2560 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2560] S1024x256.size inb_S1024x5632_S1024x256_0_2560)) (harg10.unread x9))
    (View.readAt (Elt F) arg21.view (Rect.toLoadRect (Rect.unit ![0, 2560] S8x256.size inb_S8x5632_S8x256_0_2560)) (harg21.unread xc))
    from read_rows _ 0 1 (by decide) _ _ _).trans ?_
  rw [read_cols arg10, read_cols arg21, normed_eq]

theorem v279_eq : (bodyRun.sl.v279 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 256 x9) (cols 256 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 256] S1024x256.size inb_S1024x5632_S1024x256_0_256)) (harg10.unread x9))
    (View.readAt (Elt F) arg21.view (Rect.toLoadRect (Rect.unit ![0, 256] S8x256.size inb_S8x5632_S8x256_0_256)) (harg21.unread xc))
    from read_rows _ 0 1 (by decide) _ _ _).trans ?_
  rw [read_cols arg10, read_cols arg21, normed_eq]

theorem v453_eq : (bodyRun.sl.v453 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 3584 x9) (cols 3584 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3584] S1024x256.size inb_S1024x5632_S1024x256_0_3584)) (harg10.unread x9))
    (View.readAt (Elt F) arg21.view (Rect.toLoadRect (Rect.unit ![0, 3584] S8x256.size inb_S8x5632_S8x256_0_3584)) (harg21.unread xc))
    from read_rows _ 1 1 (by decide) _ _ _).trans ?_
  rw [read_cols arg10, read_cols arg21, normed_eq]

theorem v853_eq : (bodyRun.sl.v853 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 2304 x9) (cols 2304 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2304] S1024x256.size inb_S1024x5632_S1024x256_0_2304)) (harg10.unread x9))
    (View.readAt (Elt F) arg21.view (Rect.toLoadRect (Rect.unit ![0, 2304] S8x256.size inb_S8x5632_S8x256_0_2304)) (harg21.unread xc))
    from read_rows _ 0 2 (by decide) _ _ _).trans ?_
  rw [read_cols arg10, read_cols arg21, normed_eq]

theorem v640_eq : (bodyRun.sl.v640 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 1536 x9) (cols 1536 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1536] S1024x256.size inb_S1024x5632_S1024x256_0_1536)) (harg10.unread x9))
    (View.readAt (Elt F) arg21.view (Rect.toLoadRect (Rect.unit ![0, 1536] S8x256.size inb_S8x5632_S8x256_0_1536)) (harg21.unread xc))
    from read_rows _ 0 2 (by decide) _ _ _).trans ?_
  rw [read_cols arg10, read_cols arg21, normed_eq]

theorem v776_eq : (bodyRun.sl.v776 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 2048 x9) (cols 2048 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2048] S1024x256.size inb_S1024x5632_S1024x256_0_2048)) (harg10.unread x9))
    (View.readAt (Elt F) arg21.view (Rect.toLoadRect (Rect.unit ![0, 2048] S8x256.size inb_S8x5632_S8x256_0_2048)) (harg21.unread xc))
    from read_rows _ 0 1 (by decide) _ _ _).trans ?_
  rw [read_cols arg10, read_cols arg21, normed_eq]

theorem v240_eq : (bodyRun.sl.v240 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 2816 x9) (cols 2816 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2816] S1024x256.size inb_S1024x5632_S1024x256_0_2816)) (harg10.unread x9))
    (View.readAt (Elt F) arg21.view (Rect.toLoadRect (Rect.unit ![0, 2816] S8x256.size inb_S8x5632_S8x256_0_2816)) (harg21.unread xc))
    from read_rows _ 1 1 (by decide) _ _ _).trans ?_
  rw [read_cols arg10, read_cols arg21, normed_eq]

theorem v737_eq : (bodyRun.sl.v737 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 4608 x9) (cols 4608 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 4608] S1024x256.size inb_S1024x5632_S1024x256_0_4608)) (harg10.unread x9))
    (View.readAt (Elt F) arg21.view (Rect.toLoadRect (Rect.unit ![0, 4608] S8x256.size inb_S8x5632_S8x256_0_4608)) (harg21.unread xc))
    from read_rows _ 1 1 (by decide) _ _ _).trans ?_
  rw [read_cols arg10, read_cols arg21, normed_eq]

theorem v492_eq : (bodyRun.sl.v492 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 1024 x9) (cols 1024 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1024] S1024x256.size inb_S1024x5632_S1024x256_0_1024)) (harg10.unread x9))
    (View.readAt (Elt F) arg21.view (Rect.toLoadRect (Rect.unit ![0, 1024] S8x256.size inb_S8x5632_S8x256_0_1024)) (harg21.unread xc))
    from read_rows _ 0 1 (by decide) _ _ _).trans ?_
  rw [read_cols arg10, read_cols arg21, normed_eq]

theorem v634_eq : (bodyRun.sl.v634 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 1536 x9) (cols 1536 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 1536] S1024x256.size inb_S1024x5632_S1024x256_0_1536)) (harg10.unread x9))
    (View.readAt (Elt F) arg21.view (Rect.toLoadRect (Rect.unit ![0, 1536] S8x256.size inb_S8x5632_S8x256_0_1536)) (harg21.unread xc))
    from read_rows _ 0 1 (by decide) _ _ _).trans ?_
  rw [read_cols arg10, read_cols arg21, normed_eq]

theorem v524_eq : (bodyRun.sl.v524 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 3840 x9) (cols 3840 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 3840] S1024x256.size inb_S1024x5632_S1024x256_0_3840)) (harg10.unread x9))
    (View.readAt (Elt F) arg21.view (Rect.toLoadRect (Rect.unit ![0, 3840] S8x256.size inb_S8x5632_S8x256_0_3840)) (harg21.unread xc))
    from read_rows _ 1 1 (by decide) _ _ _).trans ?_
  rw [read_cols arg10, read_cols arg21, normed_eq]

theorem v956_eq : (bodyRun.sl.v956 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 5376 x9) (cols 5376 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 5376] S1024x256.size inb_S1024x5632_S1024x256_0_5376)) (harg10.unread x9))
    (View.readAt (Elt F) arg21.view (Rect.toLoadRect (Rect.unit ![0, 5376] S8x256.size inb_S8x5632_S8x256_0_5376)) (harg21.unread xc))
    from read_rows _ 1 2 (by decide) _ _ _).trans ?_
  rw [read_cols arg10, read_cols arg21, normed_eq]

theorem v427_eq : (bodyRun.sl.v427 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 768 x9) (cols 768 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 768] S1024x256.size inb_S1024x5632_S1024x256_0_768)) (harg10.unread x9))
    (View.readAt (Elt F) arg21.view (Rect.toLoadRect (Rect.unit ![0, 768] S8x256.size inb_S8x5632_S8x256_0_768)) (harg21.unread xc))
    from read_rows _ 0 2 (by decide) _ _ _).trans ?_
  rw [read_cols arg10, read_cols arg21, normed_eq]

theorem v847_eq : (bodyRun.sl.v847 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 1 (by decide) (bodyRun.sl.v171 i) (normed (evenIn i x0 x1 x2 x3 x4 x5 x6) x8) (cols 2304 x9) (cols 2304 xc) := by
  refine (show _ = shiftOf (F := F) 1 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 2304] S1024x256.size inb_S1024x5632_S1024x256_0_2304)) (harg10.unread x9))
    (View.readAt (Elt F) arg21.view (Rect.toLoadRect (Rect.unit ![0, 2304] S8x256.size inb_S8x5632_S8x256_0_2304)) (harg21.unread xc))
    from read_rows _ 0 1 (by decide) _ _ _).trans ?_
  rw [read_cols arg10, read_cols arg21, normed_eq]

theorem v885_eq : (bodyRun.sl.v885 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 5120 x9) (cols 5120 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 5120] S1024x256.size inb_S1024x5632_S1024x256_0_5120)) (harg10.unread x9))
    (View.readAt (Elt F) arg21.view (Rect.toLoadRect (Rect.unit ![0, 5120] S8x256.size inb_S8x5632_S8x256_0_5120)) (harg21.unread xc))
    from read_rows _ 1 2 (by decide) _ _ _).trans ?_
  rw [read_cols arg10, read_cols arg21, normed_eq]

theorem v285_eq : (bodyRun.sl.v285 c i arg1 harg1 arg2 harg2 arg3 harg3 arg4 harg4 arg5 harg5 arg6 harg6 arg7 harg7 arg9 harg9 arg10 harg10 arg18 arg20 arg21 harg21 x0 x1 x2 x3 x4 x5 x6 x8 x9 xc)
    = shiftOf 2 (by decide) (bodyRun.sl.v171 i) (normed (evenIn i x0 x1 x2 x3 x4 x5 x6) x8) (cols 256 x9) (cols 256 xc) := by
  refine (show _ = shiftOf (F := F) 2 (by decide) _ (bodyRun.sl.r_15 c i arg1 harg1 arg2 harg2 arg3 harg3 arg4 harg4 arg5 harg5 arg6 harg6 arg7 harg7 arg9 harg9 arg18 x0 x1 x2 x3 x4 x5 x6 x8)
    (View.readAt (Elt F) arg10.view (Rect.toLoadRect (Rect.unit ![0, 256] S1024x256.size inb_S1024x5632_S1024x256_0_256)) (harg10.unread x9))
    (View.readAt (Elt F) arg21.view (Rect.toLoadRect (Rect.unit ![0, 256] S8x256.size inb_S8x5632_S8x256_0_256)) (harg21.unread xc))
    from read_rows _ 0 2 (by decide) _ _ _).trans ?_
  rw [read_cols arg10, read_cols arg21, normed_eq]

theorem chunk0_eq : k0_pay35 (bodyRun.sl.r_18 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_19 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_20 c arg11 harg11 x10) (bodyRun.sl.v246 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 0 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 0] S1024x256.size inb_S1024x5632_S1024x256_0_0)) (harg10.unread x9)) (View.readAt (Elt F) arg10.view (Rect.toLoadRect (Rect.unit ![0, 2816] S1024x256.size inb_S1024x5632_S1024x256_0_2816)) (harg10.unread x9))
    (View.readAt (Elt F) arg11.view (Rect.toLoadRect (Rect.unit ![0, 0] S3x256.size inb_S3x5632_S3x256_0_0)) (harg11.unread x10)) (View.readAt (Elt F) arg11.view (Rect.toLoadRect (Rect.unit ![0, 2816] S3x256.size inb_S3x5632_S3x256_0_2816)) (harg11.unread x10))
    (bodyRun.sl.v208 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v214 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v240 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v246 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v208_eq, v214_eq, v240_eq, v246_eq, normed_eq, read_cols arg10, read_cols arg10, read_cols arg11, read_cols arg11]
  rfl

theorem chunk1_eq : k0_pay49 (bodyRun.sl.r_25 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_26 c arg11 harg11 x10) (bodyRun.sl.r_27 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.v317 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 1 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 256] S1024x256.size inb_S1024x5632_S1024x256_0_256)) (harg10.unread x9)) (View.readAt (Elt F) arg10.view (Rect.toLoadRect (Rect.unit ![0, 3072] S1024x256.size inb_S1024x5632_S1024x256_0_3072)) (harg10.unread x9))
    (View.readAt (Elt F) arg11.view (Rect.toLoadRect (Rect.unit ![0, 256] S3x256.size inb_S3x5632_S3x256_0_256)) (harg11.unread x10)) (View.readAt (Elt F) arg11.view (Rect.toLoadRect (Rect.unit ![0, 3072] S3x256.size inb_S3x5632_S3x256_0_3072)) (harg11.unread x10))
    (bodyRun.sl.v279 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v285 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v311 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v317 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v279_eq, v285_eq, v311_eq, v317_eq, normed_eq, read_cols arg10, read_cols arg10, read_cols arg11, read_cols arg11]
  rfl

theorem chunk2_eq : k0_pay63 (bodyRun.sl.r_31 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_32 c arg11 harg11 x10) (bodyRun.sl.r_33 c i arg1 harg1 arg2 harg2 arg3 harg3 arg4 harg4 arg5 harg5 arg6 harg6 arg7 harg7 arg9 harg9 arg10 harg10 arg11 harg11 arg18 x0 x1 x2 x3 x4 x5 x6 x8 x9 x10) (bodyRun.sl.r_34 c arg11 harg11 x10) (bodyRun.sl.v382 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v388 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 2 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 512] S1024x256.size inb_S1024x5632_S1024x256_0_512)) (harg10.unread x9)) (View.readAt (Elt F) arg10.view (Rect.toLoadRect (Rect.unit ![0, 3328] S1024x256.size inb_S1024x5632_S1024x256_0_3328)) (harg10.unread x9))
    (View.readAt (Elt F) arg11.view (Rect.toLoadRect (Rect.unit ![0, 512] S3x256.size inb_S3x5632_S3x256_0_512)) (harg11.unread x10)) (View.readAt (Elt F) arg11.view (Rect.toLoadRect (Rect.unit ![0, 3328] S3x256.size inb_S3x5632_S3x256_0_3328)) (harg11.unread x10))
    (bodyRun.sl.v350 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v356 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v382 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v388 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v350_eq, v356_eq, v382_eq, v388_eq, normed_eq, read_cols arg10, read_cols arg10, read_cols arg11, read_cols arg11]
  rfl

theorem chunk3_eq : k0_pay76 (bodyRun.sl.r_38 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_39 c arg11 harg11 x10) (bodyRun.sl.r_40 c i arg1 harg1 arg2 harg2 arg3 harg3 arg4 harg4 arg5 harg5 arg6 harg6 arg7 harg7 arg9 harg9 arg10 harg10 arg11 harg11 arg18 x0 x1 x2 x3 x4 x5 x6 x8 x9 x10) (bodyRun.sl.r_41 c arg11 harg11 x10) (bodyRun.sl.v453 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v459 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 3 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 768] S1024x256.size inb_S1024x5632_S1024x256_0_768)) (harg10.unread x9)) (View.readAt (Elt F) arg10.view (Rect.toLoadRect (Rect.unit ![0, 3584] S1024x256.size inb_S1024x5632_S1024x256_0_3584)) (harg10.unread x9))
    (View.readAt (Elt F) arg11.view (Rect.toLoadRect (Rect.unit ![0, 768] S3x256.size inb_S3x5632_S3x256_0_768)) (harg11.unread x10)) (View.readAt (Elt F) arg11.view (Rect.toLoadRect (Rect.unit ![0, 3584] S3x256.size inb_S3x5632_S3x256_0_3584)) (harg11.unread x10))
    (bodyRun.sl.v421 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v427 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v453 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v459 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v421_eq, v427_eq, v453_eq, v459_eq, normed_eq, read_cols arg10, read_cols arg10, read_cols arg11, read_cols arg11]
  rfl

theorem chunk4_eq : k0_pay86 (bodyRun.sl.r_43 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_44 c i arg1 harg1 arg2 harg2 arg3 harg3 arg4 harg4 arg5 harg5 arg6 harg6 arg7 harg7 arg9 harg9 arg10 harg10 arg18 x0 x1 x2 x3 x4 x5 x6 x8 x9) (bodyRun.sl.r_45 c arg11 harg11 x10) (bodyRun.sl.v524 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v530 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 4 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1024] S1024x256.size inb_S1024x5632_S1024x256_0_1024)) (harg10.unread x9)) (View.readAt (Elt F) arg10.view (Rect.toLoadRect (Rect.unit ![0, 3840] S1024x256.size inb_S1024x5632_S1024x256_0_3840)) (harg10.unread x9))
    (View.readAt (Elt F) arg11.view (Rect.toLoadRect (Rect.unit ![0, 1024] S3x256.size inb_S3x5632_S3x256_0_1024)) (harg11.unread x10)) (View.readAt (Elt F) arg11.view (Rect.toLoadRect (Rect.unit ![0, 3840] S3x256.size inb_S3x5632_S3x256_0_3840)) (harg11.unread x10))
    (bodyRun.sl.v492 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v498 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v524 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v530 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v492_eq, v498_eq, v524_eq, v530_eq, normed_eq, read_cols arg10, read_cols arg10, read_cols arg11, read_cols arg11]
  rfl

theorem chunk5_eq : k0_pay97 (bodyRun.sl.r_48 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_49 c i arg1 harg1 arg2 harg2 arg3 harg3 arg4 harg4 arg5 harg5 arg6 harg6 arg7 harg7 arg9 harg9 arg10 harg10 arg18 x0 x1 x2 x3 x4 x5 x6 x8 x9) (View.readAt (Elt F) (Memref.view arg11) (Rect.toLoadRect (Rect.unit ![0, 4096] (Shape.size S3x256) inb_S3x5632_S3x256_0_4096)) (Memref.IsWhole.unread harg11 x10)) (bodyRun.sl.v595 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v601 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 5 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1280] S1024x256.size inb_S1024x5632_S1024x256_0_1280)) (harg10.unread x9)) (View.readAt (Elt F) arg10.view (Rect.toLoadRect (Rect.unit ![0, 4096] S1024x256.size inb_S1024x5632_S1024x256_0_4096)) (harg10.unread x9))
    (View.readAt (Elt F) arg11.view (Rect.toLoadRect (Rect.unit ![0, 1280] S3x256.size inb_S3x5632_S3x256_0_1280)) (harg11.unread x10)) (View.readAt (Elt F) arg11.view (Rect.toLoadRect (Rect.unit ![0, 4096] S3x256.size inb_S3x5632_S3x256_0_4096)) (harg11.unread x10))
    (bodyRun.sl.v563 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v569 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v595 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v601 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v563_eq, v569_eq, v595_eq, v601_eq, normed_eq, read_cols arg10, read_cols arg10, read_cols arg11, read_cols arg11]
  rfl

theorem chunk6_eq : k0_pay108 (bodyRun.sl.r_53 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_54 c i arg1 harg1 arg2 harg2 arg3 harg3 arg4 harg4 arg5 harg5 arg6 harg6 arg7 harg7 arg9 harg9 arg10 harg10 arg18 x0 x1 x2 x3 x4 x5 x6 x8 x9) (View.readAt (Elt F) (Memref.view arg11) (Rect.toLoadRect (Rect.unit ![0, 4352] (Shape.size S3x256) inb_S3x5632_S3x256_0_4352)) (Memref.IsWhole.unread harg11 x10)) (bodyRun.sl.v666 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v672 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 6 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1536] S1024x256.size inb_S1024x5632_S1024x256_0_1536)) (harg10.unread x9)) (View.readAt (Elt F) arg10.view (Rect.toLoadRect (Rect.unit ![0, 4352] S1024x256.size inb_S1024x5632_S1024x256_0_4352)) (harg10.unread x9))
    (View.readAt (Elt F) arg11.view (Rect.toLoadRect (Rect.unit ![0, 1536] S3x256.size inb_S3x5632_S3x256_0_1536)) (harg11.unread x10)) (View.readAt (Elt F) arg11.view (Rect.toLoadRect (Rect.unit ![0, 4352] S3x256.size inb_S3x5632_S3x256_0_4352)) (harg11.unread x10))
    (bodyRun.sl.v634 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v640 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v666 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v672 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v634_eq, v640_eq, v666_eq, v672_eq, normed_eq, read_cols arg10, read_cols arg10, read_cols arg11, read_cols arg11]
  rfl

theorem chunk7_eq : k0_pay118 (bodyRun.sl.r_57 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_58 c i arg1 harg1 arg2 harg2 arg3 harg3 arg4 harg4 arg5 harg5 arg6 harg6 arg7 harg7 arg9 harg9 arg10 harg10 arg18 x0 x1 x2 x3 x4 x5 x6 x8 x9) (View.readAt (Elt F) (Memref.view arg11) (Rect.toLoadRect (Rect.unit ![0, 4608] (Shape.size S3x256) inb_S3x5632_S3x256_0_4608)) (Memref.IsWhole.unread harg11 x10)) (bodyRun.sl.v737 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v743 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 7 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1792] S1024x256.size inb_S1024x5632_S1024x256_0_1792)) (harg10.unread x9)) (View.readAt (Elt F) arg10.view (Rect.toLoadRect (Rect.unit ![0, 4608] S1024x256.size inb_S1024x5632_S1024x256_0_4608)) (harg10.unread x9))
    (View.readAt (Elt F) arg11.view (Rect.toLoadRect (Rect.unit ![0, 1792] S3x256.size inb_S3x5632_S3x256_0_1792)) (harg11.unread x10)) (View.readAt (Elt F) arg11.view (Rect.toLoadRect (Rect.unit ![0, 4608] S3x256.size inb_S3x5632_S3x256_0_4608)) (harg11.unread x10))
    (bodyRun.sl.v705 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v711 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v737 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v743 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v705_eq, v711_eq, v737_eq, v743_eq, normed_eq, read_cols arg10, read_cols arg10, read_cols arg11, read_cols arg11]
  rfl

theorem chunk8_eq : k0_pay129 (bodyRun.sl.r_61 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_62 c i arg1 harg1 arg2 harg2 arg3 harg3 arg4 harg4 arg5 harg5 arg6 harg6 arg7 harg7 arg9 harg9 arg10 harg10 arg18 x0 x1 x2 x3 x4 x5 x6 x8 x9) (View.readAt (Elt F) (Memref.view arg11) (Rect.toLoadRect (Rect.unit ![0, 4864] (Shape.size S3x256) inb_S3x5632_S3x256_0_4864)) (Memref.IsWhole.unread harg11 x10)) (bodyRun.sl.v808 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v814 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 8 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 2048] S1024x256.size inb_S1024x5632_S1024x256_0_2048)) (harg10.unread x9)) (View.readAt (Elt F) arg10.view (Rect.toLoadRect (Rect.unit ![0, 4864] S1024x256.size inb_S1024x5632_S1024x256_0_4864)) (harg10.unread x9))
    (View.readAt (Elt F) arg11.view (Rect.toLoadRect (Rect.unit ![0, 2048] S3x256.size inb_S3x5632_S3x256_0_2048)) (harg11.unread x10)) (View.readAt (Elt F) arg11.view (Rect.toLoadRect (Rect.unit ![0, 4864] S3x256.size inb_S3x5632_S3x256_0_4864)) (harg11.unread x10))
    (bodyRun.sl.v776 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v782 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v808 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v814 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v776_eq, v782_eq, v808_eq, v814_eq, normed_eq, read_cols arg10, read_cols arg10, read_cols arg11, read_cols arg11]
  rfl

theorem chunk9_eq : k0_pay141 (bodyRun.sl.r_65 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_66 c i arg1 harg1 arg2 harg2 arg3 harg3 arg4 harg4 arg5 harg5 arg6 harg6 arg7 harg7 arg9 harg9 arg10 harg10 arg18 x0 x1 x2 x3 x4 x5 x6 x8 x9) (View.readAt (Elt F) (Memref.view arg11) (Rect.toLoadRect (Rect.unit ![0, 5120] (Shape.size S3x256) inb_S3x5632_S3x256_0_5120)) (Memref.IsWhole.unread harg11 x10)) (bodyRun.sl.v879 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v885 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 9 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 2304] S1024x256.size inb_S1024x5632_S1024x256_0_2304)) (harg10.unread x9)) (View.readAt (Elt F) arg10.view (Rect.toLoadRect (Rect.unit ![0, 5120] S1024x256.size inb_S1024x5632_S1024x256_0_5120)) (harg10.unread x9))
    (View.readAt (Elt F) arg11.view (Rect.toLoadRect (Rect.unit ![0, 2304] S3x256.size inb_S3x5632_S3x256_0_2304)) (harg11.unread x10)) (View.readAt (Elt F) arg11.view (Rect.toLoadRect (Rect.unit ![0, 5120] S3x256.size inb_S3x5632_S3x256_0_5120)) (harg11.unread x10))
    (bodyRun.sl.v847 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v853 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v879 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v885 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v847_eq, v853_eq, v879_eq, v885_eq, normed_eq, read_cols arg10, read_cols arg10, read_cols arg11, read_cols arg11]
  rfl

theorem chunk10_eq : k0_pay152 (bodyRun.sl.r_69 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc) (bodyRun.sl.r_70 c i arg1 harg1 arg2 harg2 arg3 harg3 arg4 harg4 arg5 harg5 arg6 harg6 arg7 harg7 arg9 harg9 arg10 harg10 arg18 x0 x1 x2 x3 x4 x5 x6 x8 x9) (View.readAt (Elt F) (Memref.view arg11) (Rect.toLoadRect (Rect.unit ![0, 5376] (Shape.size S3x256) inb_S3x5632_S3x256_0_5376)) (Memref.IsWhole.unread harg11 x10)) (bodyRun.sl.v950 c i arg1 harg1 arg2 harg2 arg3 harg3 arg4 harg4 arg5 harg5 arg6 harg6 arg7 harg7 arg9 harg9 arg10 harg10 arg18 arg20 arg21 harg21 x0 x1 x2 x3 x4 x5 x6 x8 x9 xc) (bodyRun.sl.v956 c i arg1 harg1 arg2 harg2 arg3 harg3 arg4 harg4 arg5 harg5 arg6 harg6 arg7 harg7 arg9 harg9 arg10 harg10 arg18 arg20 arg21 harg21 x0 x1 x2 x3 x4 x5 x6 x8 x9 xc)
    = chunk (bodyRun.sl.v171 i) (normed (evenIn i x0 x1 x2 x3 x4 x5 x6) x8) x9 x10 xc 10 := by
  refine (show _ = hidden (F := F) (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 2560] S1024x256.size inb_S1024x5632_S1024x256_0_2560)) (harg10.unread x9)) (View.readAt (Elt F) arg10.view (Rect.toLoadRect (Rect.unit ![0, 5376] S1024x256.size inb_S1024x5632_S1024x256_0_5376)) (harg10.unread x9))
    (View.readAt (Elt F) arg11.view (Rect.toLoadRect (Rect.unit ![0, 2560] S3x256.size inb_S3x5632_S3x256_0_2560)) (harg11.unread x10)) (View.readAt (Elt F) arg11.view (Rect.toLoadRect (Rect.unit ![0, 5376] S3x256.size inb_S3x5632_S3x256_0_5376)) (harg11.unread x10))
    (bodyRun.sl.v918 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v924 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v950 c i arg1 harg1 arg2 harg2 arg3 harg3 arg4 harg4 arg5 harg5 arg6 harg6 arg7 harg7 arg9 harg9 arg10 harg10 arg18 arg20 arg21 harg21 x0 x1 x2 x3 x4 x5 x6 x8 x9 xc)
    (bodyRun.sl.v956 c i arg1 harg1 arg2 harg2 arg3 harg3 arg4 harg4 arg5 harg5 arg6 harg6 arg7 harg7 arg9 harg9 arg10 harg10 arg18 arg20 arg21 harg21 x0 x1 x2 x3 x4 x5 x6 x8 x9 xc) from rfl).trans ?_
  rw [v918_eq, v924_eq, v950_eq, v956_eq, normed_eq, read_cols arg10, read_cols arg10, read_cols arg11, read_cols arg11]
  rfl

theorem hidden_eq : (bodyRun.sl.v968 c i arg1 harg1 arg2 harg2 arg3 harg3 arg4 harg4 arg5 harg5 arg6 harg6 arg7 harg7 arg9 harg9 arg10 harg10 arg11 harg11 arg18 arg19 arg20 arg21 harg21 x0 x1 x2 x3 x4 x5 x6 x8 x9 x10 xc)
    = hiddenAll (bodyRun.sl.v171 i) (normed (evenIn i x0 x1 x2 x3 x4 x5 x6) x8) x9 x10 xc := by
  refine (View.readCov_eq_canon' _ _ _).trans ?_
  rw [canon_blocks (hiddenAll (bodyRun.sl.v171 i) (normed (evenIn i x0 x1 x2 x3 x4 x5 x6) x8) x9 x10 xc) (bodyRun.sl.HS1_11 c i arg1 harg1 arg2 harg2 arg3 harg3 arg4 harg4 arg5 harg5 arg6 harg6 arg7 harg7 arg9 harg9 arg10 harg10 arg11 harg11 arg18 arg20 arg21 harg21 x0 x1 x2 x3 x4 x5 x6 x8 x9 x10 xc)
    ⟨fun x => (congrFun (chunk10_eq (F := F) ..) x).trans (hiddenAll_emb _ _ _ _ _ 10 inb_S512x2816_S512x256_0_2560 x),
     fun x => (congrFun (chunk9_eq (F := F) ..) x).trans (hiddenAll_emb _ _ _ _ _ 9 inb_S512x2816_S512x256_0_2304 x),
     fun x => (congrFun (chunk8_eq (F := F) ..) x).trans (hiddenAll_emb _ _ _ _ _ 8 inb_S512x2816_S512x256_0_2048 x),
     fun x => (congrFun (chunk7_eq (F := F) ..) x).trans (hiddenAll_emb _ _ _ _ _ 7 inb_S512x2816_S512x256_0_1792 x),
     fun x => (congrFun (chunk6_eq (F := F) ..) x).trans (hiddenAll_emb _ _ _ _ _ 6 inb_S512x2816_S512x256_0_1536 x),
     fun x => (congrFun (chunk5_eq (F := F) ..) x).trans (hiddenAll_emb _ _ _ _ _ 5 inb_S512x2816_S512x256_0_1280 x),
     fun x => (congrFun (chunk4_eq (F := F) ..) x).trans (hiddenAll_emb _ _ _ _ _ 4 inb_S512x2816_S512x256_0_1024 x),
     fun x => (congrFun (chunk3_eq (F := F) ..) x).trans (hiddenAll_emb _ _ _ _ _ 3 inb_S512x2816_S512x256_0_768 x),
     fun x => (congrFun (chunk2_eq (F := F) ..) x).trans (hiddenAll_emb _ _ _ _ _ 2 inb_S512x2816_S512x256_0_512 x),
     fun x => (congrFun (chunk1_eq (F := F) ..) x).trans (hiddenAll_emb _ _ _ _ _ 1 inb_S512x2816_S512x256_0_256 x),
     fun x => (congrFun (chunk0_eq (F := F) ..) x).trans (hiddenAll_emb _ _ _ _ _ 0 inb_S512x2816_S512x256_0_0 x), trivial⟩
    (View.cover_of_tiledL _ S512x256.size (by sl_kernel_rfl))]
  funext x
  refine congrArg _ (funext fun d => ?_)
  match d with
  | ⟨0, _⟩ => exact Fin.ext (show 0 + 1 * (x 0).val = (x 0).val by omega)
  | ⟨1, _⟩ => exact Fin.ext (show 0 + 1 * (x 1).val = (x 1).val by omega)

theorem carry0_eq : k0_pay25 (bodyRun.sl.r_12 c i arg1 harg1 arg2 harg2 arg3 harg3 arg4 harg4 arg5 harg5 arg6 harg6 arg7 harg7 arg18 x0 x1 x2 x3 x4 x5 x6) (bodyRun.sl.r_13 c arg9 harg9 x8) (bodyRun.sl.r_14 c i arg1 harg1 arg2 harg2 arg3 harg3 arg4 harg4 arg5 harg5 arg6 harg6 arg7 harg7 arg18 x0 x1 x2 x3 x4 x5 x6) bodyRun.sl.cst_90 (View.readAt (Elt F) (Memref.view arg10) (Rect.toLoadRect (Rect.unit ![0, 0] (Shape.size S1024x256) inb_S1024x5632_S1024x256_0_0)) (Memref.IsWhole.unread harg10 x9))
    = lastRows (upc (normed (evenIn i x0 x1 x2 x3 x4 x5 x6) x8) (cols 0 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 0] S1024x256.size inb_S1024x5632_S1024x256_0_0)) (harg10.unread x9))) from rfl).trans ?_
  rw [normed_eq, read_cols arg10]

theorem carry1_eq : k0_pay39 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 256] (Shape.size S1024x256) inb_S1024x5632_S1024x256_0_256)) (Memref.IsWhole.unread harg10 x9))
    = lastRows (upc (normed (evenIn i x0 x1 x2 x3 x4 x5 x6) x8) (cols 256 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 256] S1024x256.size inb_S1024x5632_S1024x256_0_256)) (harg10.unread x9))) from rfl).trans ?_
  rw [normed_eq, read_cols arg10]

theorem carry2_eq : k0_pay53 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 512] (Shape.size S1024x256) inb_S1024x5632_S1024x256_0_512)) (Memref.IsWhole.unread harg10 x9))
    = lastRows (upc (normed (evenIn i x0 x1 x2 x3 x4 x5 x6) x8) (cols 512 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 512] S1024x256.size inb_S1024x5632_S1024x256_0_512)) (harg10.unread x9))) from rfl).trans ?_
  rw [normed_eq, read_cols arg10]

theorem carry3_eq : k0_pay67 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 768] (Shape.size S1024x256) inb_S1024x5632_S1024x256_0_768)) (Memref.IsWhole.unread harg10 x9))
    = lastRows (upc (normed (evenIn i x0 x1 x2 x3 x4 x5 x6) x8) (cols 768 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 768] S1024x256.size inb_S1024x5632_S1024x256_0_768)) (harg10.unread x9))) from rfl).trans ?_
  rw [normed_eq, read_cols arg10]

theorem carry4_eq : k0_pay80 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 1024] (Shape.size S1024x256) inb_S1024x5632_S1024x256_0_1024)) (Memref.IsWhole.unread harg10 x9))
    = lastRows (upc (normed (evenIn i x0 x1 x2 x3 x4 x5 x6) x8) (cols 1024 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1024] S1024x256.size inb_S1024x5632_S1024x256_0_1024)) (harg10.unread x9))) from rfl).trans ?_
  rw [normed_eq, read_cols arg10]

theorem carry5_eq : k0_pay91 (bodyRun.sl.r_47 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 1280 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1280] S1024x256.size inb_S1024x5632_S1024x256_0_1280)) (harg10.unread x9))) from rfl).trans ?_
  rw [normed_eq, read_cols arg10]

theorem carry6_eq : k0_pay101 (bodyRun.sl.r_51 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 1536 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1536] S1024x256.size inb_S1024x5632_S1024x256_0_1536)) (harg10.unread x9))) from rfl).trans ?_
  rw [normed_eq, read_cols arg10]

theorem carry7_eq : k0_pay112 (bodyRun.sl.r_56 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 1792 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 1792] S1024x256.size inb_S1024x5632_S1024x256_0_1792)) (harg10.unread x9))) from rfl).trans ?_
  rw [normed_eq, read_cols arg10]

theorem carry8_eq : k0_pay123 (bodyRun.sl.r_59 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 2048 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 2048] S1024x256.size inb_S1024x5632_S1024x256_0_2048)) (harg10.unread x9))) from rfl).trans ?_
  rw [normed_eq, read_cols arg10]

theorem carry9_eq : k0_pay134 (bodyRun.sl.r_63 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 2304 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 2304] S1024x256.size inb_S1024x5632_S1024x256_0_2304)) (harg10.unread x9))) from rfl).trans ?_
  rw [normed_eq, read_cols arg10]

theorem carry10_eq : k0_pay145 (bodyRun.sl.r_68 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 2560 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 2560] S1024x256.size inb_S1024x5632_S1024x256_0_2560)) (harg10.unread x9))) from rfl).trans ?_
  rw [normed_eq, read_cols arg10]

theorem carry11_eq : k0_pay32 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 2816] (Shape.size S1024x256) inb_S1024x5632_S1024x256_0_2816)) (Memref.IsWhole.unread harg10 x9))
    = lastRows (upc (normed (evenIn i x0 x1 x2 x3 x4 x5 x6) x8) (cols 2816 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 2816] S1024x256.size inb_S1024x5632_S1024x256_0_2816)) (harg10.unread x9))) from rfl).trans ?_
  rw [normed_eq, read_cols arg10]

theorem carry12_eq : k0_pay47 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 3072] (Shape.size S1024x256) inb_S1024x5632_S1024x256_0_3072)) (Memref.IsWhole.unread harg10 x9))
    = lastRows (upc (normed (evenIn i x0 x1 x2 x3 x4 x5 x6) x8) (cols 3072 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 3072] S1024x256.size inb_S1024x5632_S1024x256_0_3072)) (harg10.unread x9))) from rfl).trans ?_
  rw [normed_eq, read_cols arg10]

theorem carry13_eq : k0_pay60 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 3328] (Shape.size S1024x256) inb_S1024x5632_S1024x256_0_3328)) (Memref.IsWhole.unread harg10 x9))
    = lastRows (upc (normed (evenIn i x0 x1 x2 x3 x4 x5 x6) x8) (cols 3328 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 3328] S1024x256.size inb_S1024x5632_S1024x256_0_3328)) (harg10.unread x9))) from rfl).trans ?_
  rw [normed_eq, read_cols arg10]

theorem carry14_eq : k0_pay73 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 3584] (Shape.size S1024x256) inb_S1024x5632_S1024x256_0_3584)) (Memref.IsWhole.unread harg10 x9))
    = lastRows (upc (normed (evenIn i x0 x1 x2 x3 x4 x5 x6) x8) (cols 3584 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 3584] S1024x256.size inb_S1024x5632_S1024x256_0_3584)) (harg10.unread x9))) from rfl).trans ?_
  rw [normed_eq, read_cols arg10]

theorem carry15_eq : k0_pay85 (bodyRun.sl.r_15 c i arg1 harg1 arg2 harg2 arg3 harg3 arg4 harg4 arg5 harg5 arg6 harg6 arg7 harg7 arg9 harg9 arg18 x0 x1 x2 x3 x4 x5 x6 x8) (View.readAt (Elt F) (Memref.view arg10) (Rect.toLoadRect (Rect.unit ![0, 3840] (Shape.size S1024x256) inb_S1024x5632_S1024x256_0_3840)) (Memref.IsWhole.unread harg10 x9))
    = lastRows (upc (normed (evenIn i x0 x1 x2 x3 x4 x5 x6) x8) (cols 3840 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 3840] S1024x256.size inb_S1024x5632_S1024x256_0_3840)) (harg10.unread x9))) from rfl).trans ?_
  rw [normed_eq, read_cols arg10]

theorem carry16_eq : bodyRun.sl.r_50 c i arg1 harg1 arg2 harg2 arg3 harg3 arg4 harg4 arg5 harg5 arg6 harg6 arg7 harg7 arg9 harg9 arg10 harg10 arg18 x0 x1 x2 x3 x4 x5 x6 x8 x9
    = lastRows (upc (normed (evenIn i x0 x1 x2 x3 x4 x5 x6) x8) (cols 4096 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 4096] S1024x256.size inb_S1024x5632_S1024x256_0_4096)) (harg10.unread x9))) from rfl).trans ?_
  rw [normed_eq, read_cols arg10]

theorem carry17_eq : k0_pay107 (bodyRun.sl.r_55 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 4352 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 4352] S1024x256.size inb_S1024x5632_S1024x256_0_4352)) (harg10.unread x9))) from rfl).trans ?_
  rw [normed_eq, read_cols arg10]

theorem carry18_eq : k0_pay117 (bodyRun.sl.r_58 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 4608 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 4608] S1024x256.size inb_S1024x5632_S1024x256_0_4608)) (harg10.unread x9))) from rfl).trans ?_
  rw [normed_eq, read_cols arg10]

theorem carry19_eq : k0_pay128 (bodyRun.sl.r_62 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 4864 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 4864] S1024x256.size inb_S1024x5632_S1024x256_0_4864)) (harg10.unread x9))) from rfl).trans ?_
  rw [normed_eq, read_cols arg10]

theorem carry20_eq : k0_pay140 (bodyRun.sl.r_66 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 5120 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 5120] S1024x256.size inb_S1024x5632_S1024x256_0_5120)) (harg10.unread x9))) from rfl).trans ?_
  rw [normed_eq, read_cols arg10]

theorem carry21_eq : k0_pay151 (bodyRun.sl.r_70 c i arg1 harg1 arg2 harg2 arg3 harg3 arg4 harg4 arg5 harg5 arg6 harg6 arg7 harg7 arg9 harg9 arg10 harg10 arg18 x0 x1 x2 x3 x4 x5 x6 x8 x9)
    = lastRows (upc (normed (evenIn i x0 x1 x2 x3 x4 x5 x6) x8) (cols 5376 x9)) := by
  refine (show _ = lastRows (F := F) (upc (bodyRun.sl.r_15 c i arg1 harg1 arg2 harg2 arg3 harg3 arg4 harg4 arg5 harg5 arg6 harg6 arg7 harg7 arg9 harg9 arg18 x0 x1 x2 x3 x4 x5 x6 x8) (View.readAt (Elt F) arg10.view (Rect.toLoadRect (Rect.unit ![0, 5376] S1024x256.size inb_S1024x5632_S1024x256_0_5376)) (harg10.unread x9))) from rfl).trans ?_
  rw [normed_eq, read_cols arg10]

theorem carry_cover : ∀ y, ∃ p ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 xc).1.2, y ∈ p.1.set :=
  View.cover_of_tiledL _ S8x256.size (by sl_kernel_rfl)

theorem out_cover : ∀ y, ∃ p ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 xc).1.1, y ∈ p.1.set :=
  View.cover_of_tiledL _ S512x1024.size (by sl_kernel_rfl)

/-- The rows carried over. -/
theorem canon_carry : View.canon (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 xc).1.2 = carryRows (normed (evenIn i x0 x1 x2 x3 x4 x5 x6) x8) x9 :=
  canon_blocks _ _
    ⟨fun x => (congrFun (carry21_eq (F := F) ..) x).trans (carryRows_emb _ _ 21 inb_S8x5632_S8x256_0_5376 x),
     fun x => (congrFun (carry10_eq (F := F) ..) x).trans (carryRows_emb _ _ 10 inb_S8x5632_S8x256_0_2560 x),
     fun x => (congrFun (carry20_eq (F := F) ..) x).trans (carryRows_emb _ _ 20 inb_S8x5632_S8x256_0_5120 x),
     fun x => (congrFun (carry9_eq (F := F) ..) x).trans (carryRows_emb _ _ 9 inb_S8x5632_S8x256_0_2304 x),
     fun x => (congrFun (carry19_eq (F := F) ..) x).trans (carryRows_emb _ _ 19 inb_S8x5632_S8x256_0_4864 x),
     fun x => (congrFun (carry8_eq (F := F) ..) x).trans (carryRows_emb _ _ 8 inb_S8x5632_S8x256_0_2048 x),
     fun x => (congrFun (carry18_eq (F := F) ..) x).trans (carryRows_emb _ _ 18 inb_S8x5632_S8x256_0_4608 x),
     fun x => (congrFun (carry7_eq (F := F) ..) x).trans (carryRows_emb _ _ 7 inb_S8x5632_S8x256_0_1792 x),
     fun x => (congrFun (carry17_eq (F := F) ..) x).trans (carryRows_emb _ _ 17 inb_S8x5632_S8x256_0_4352 x),
     fun x => (congrFun (carry6_eq (F := F) ..) x).trans (carryRows_emb _ _ 6 inb_S8x5632_S8x256_0_1536 x),
     fun x => (congrFun (carry16_eq (F := F) ..) x).trans (carryRows_emb _ _ 16 inb_S8x5632_S8x256_0_4096 x),
     fun x => (congrFun (carry5_eq (F := F) ..) x).trans (carryRows_emb _ _ 5 inb_S8x5632_S8x256_0_1280 x),
     fun x => (congrFun (carry15_eq (F := F) ..) x).trans (carryRows_emb _ _ 15 inb_S8x5632_S8x256_0_3840 x),
     fun x => (congrFun (carry4_eq (F := F) ..) x).trans (carryRows_emb _ _ 4 inb_S8x5632_S8x256_0_1024 x),
     fun x => (congrFun (carry14_eq (F := F) ..) x).trans (carryRows_emb _ _ 14 inb_S8x5632_S8x256_0_3584 x),
     fun x => (congrFun (carry3_eq (F := F) ..) x).trans (carryRows_emb _ _ 3 inb_S8x5632_S8x256_0_768 x),
     fun x => (congrFun (carry13_eq (F := F) ..) x).trans (carryRows_emb _ _ 13 inb_S8x5632_S8x256_0_3328 x),
     fun x => (congrFun (carry2_eq (F := F) ..) x).trans (carryRows_emb _ _ 2 inb_S8x5632_S8x256_0_512 x),
     fun x => (congrFun (carry12_eq (F := F) ..) x).trans (carryRows_emb _ _ 12 inb_S8x5632_S8x256_0_3072 x),
     fun x => (congrFun (carry1_eq (F := F) ..) x).trans (carryRows_emb _ _ 1 inb_S8x5632_S8x256_0_256 x),
     fun x => (congrFun (carry11_eq (F := F) ..) x).trans (carryRows_emb _ _ 11 inb_S8x5632_S8x256_0_2816 x),
     fun x => (congrFun (carry0_eq (F := F) ..) x).trans (carryRows_emb _ _ 0 inb_S8x5632_S8x256_0_0 x), trivial⟩
    (View.cover_of_tiledL _ S8x256.size (by sl_kernel_rfl))

theorem ple_eq : (k0_pay1 (bodyRun.sl.r_72 c i arg1 harg1 arg2 harg2 arg3 harg3 arg4 harg4 arg5 harg5 arg6 harg6 arg7 harg7 arg9 harg9 arg10 harg10 arg11 harg11 arg12 harg12 arg18 arg19 arg20 arg21 harg21 x0 x1 x2 x3 x4 x5 x6 x8 x9 x10 x11 xc) (bodyRun.sl.r_73 c i arg1 harg1 arg2 harg2 arg3 harg3 arg4 harg4 arg5 harg5 arg6 harg6 arg7 harg7 arg9 harg9 arg10 harg10 arg11 harg11 arg12 harg12 arg13 harg13 arg14 harg14 arg18 arg19 arg20 arg21 harg21 x0 x1 x2 x3 x4 x5 x6 x8 x9 x10 x11 x12 x13 xc) (View.readAt (Elt F) arg8.view (Rect.toLoadRect (Rect.unit ![0, 0] S512x256.size inb_S512x256_S512x256_0_0)) (harg8.unread x7)) (View.readAt (Elt F) arg15.view (Rect.toLoadRect (Rect.unit ![0, 0] S256x1024.size inb_S256x1024_S256x1024_0_0)) (harg15.unread x14)))
    = (ffnPle (bodyRun.sl.v171 i) (evenIn i x0 x1 x2 x3 x4 x5 x6) x7 x8 x9 x10 x11 x12 x13 x14 xc) := by
  refine (show _ = ple (ffn (F := F) (bodyRun.sl.r_12 c i arg1 harg1 arg2 harg2 arg3 harg3 arg4 harg4 arg5 harg5 arg6 harg6 arg7 harg7 arg18 x0 x1 x2 x3 x4 x5 x6) (bodyRun.sl.v968 c i arg1 harg1 arg2 harg2 arg3 harg3 arg4 harg4 arg5 harg5 arg6 harg6 arg7 harg7 arg9 harg9 arg10 harg10 arg11 harg11 arg18 arg19 arg20 arg21 harg21 x0 x1 x2 x3 x4 x5 x6 x8 x9 x10 xc) (View.readAt (Elt F) arg12.view (Rect.toLoadRect (Rect.unit ![0, 0] S2816x1024.size inb_S2816x1024_S2816x1024_0_0)) (harg12.unread x11))) (View.readAt (Elt F) arg13.view (Rect.toLoadRect (Rect.unit ![0, 0] S1x1024.size inb_S1x1024_S1x1024_0_0)) (harg13.unread x12)) (View.readAt (Elt F) arg14.view (Rect.toLoadRect (Rect.unit ![0, 0] S1024x1024.size inb_S1024x1024_S1024x1024_0_0)) (harg14.unread x13))
    (View.readAt (Elt F) arg8.view (Rect.toLoadRect (Rect.unit ![0, 0] S512x256.size inb_S512x256_S512x256_0_0)) (harg8.unread x7)) (View.readAt (Elt F) arg15.view (Rect.toLoadRect (Rect.unit ![0, 0] S256x1024.size inb_S256x1024_S256x1024_0_0)) (harg15.unread x14)) from rfl).trans ?_
  rw [stream_eq, hidden_eq, read_whole arg12, read_whole arg13, read_whole arg14, read_whole arg8, read_whole arg15]
  rfl

/-- The output block. -/
theorem canon_out : View.canon (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 xc).1.1
    = (ffnPle (bodyRun.sl.v171 i) (evenIn i x0 x1 x2 x3 x4 x5 x6) x7 x8 x9 x10 x11 x12 x13 x14 xc) := by
  refine (show _ = View.canon [(⟨Rect.unit ![0, 0] S512x1024.size inb_S512x1024_S512x1024_0_0,
    (k0_pay1 (bodyRun.sl.r_72 c i arg1 harg1 arg2 harg2 arg3 harg3 arg4 harg4 arg5 harg5 arg6 harg6 arg7 harg7 arg9 harg9 arg10 harg10 arg11 harg11 arg12 harg12 arg18 arg19 arg20 arg21 harg21 x0 x1 x2 x3 x4 x5 x6 x8 x9 x10 x11 xc) (bodyRun.sl.r_73 c i arg1 harg1 arg2 harg2 arg3 harg3 arg4 harg4 arg5 harg5 arg6 harg6 arg7 harg7 arg9 harg9 arg10 harg10 arg11 harg11 arg12 harg12 arg13 harg13 arg14 harg14 arg18 arg19 arg20 arg21 harg21 x0 x1 x2 x3 x4 x5 x6 x8 x9 x10 x11 x12 x13 xc) (View.readAt (Elt F) arg8.view (Rect.toLoadRect (Rect.unit ![0, 0] S512x256.size inb_S512x256_S512x256_0_0)) (harg8.unread x7)) (View.readAt (Elt F) arg15.view (Rect.toLoadRect (Rect.unit ![0, 0] S256x1024.size inb_S256x1024_S256x1024_0_0)) (harg15.unread x14)))⟩ : View.Piece (Elt F) S512x1024 .f32)] from rfl).trans ?_
  rw [ple_eq]
  exact View.canon_unit_zero (by funext d; match d with | ⟨0, _⟩ => rfl | ⟨1, _⟩ => rfl) _ _

end Cert.Kernel2Ideal.Tail

end
-- ==== Proof.EvenFrame.lean ====
/- The frame of the even layer's tail at any float type: the body's run at every grid point, the rows carried between
   points as the invariant, and from them the launch's final arrays. -/
module

public import proofs.«01_k».proof.Proof.EvenBlocks
public import Idealize.ShloMosaic.Lib.Pipeline.Frame
public import Idealize.ShloMosaic.Lib.Claim

@[expose] public section

set_option maxRecDepth 16384

noncomputable section

namespace Cert.Kernel2Ideal.Tail

open Cert.Kernel2Ideal.Gen Cert.Tail
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Whether a point is the first of its sequence. -/
theorem first_eq : ∀ t : Fin cfg0.N, bodyRun.sl.v171 (grid0.coords t) = if t.val % 8 = 0 then 1#1 else 0#1 :=
  (by decide +kernel : ∀ t : Fin grid0.N, bodyRun.sl.v171 (grid0.coords t) = if t.val % 8 = 0 then 1#1 else 0#1)

/-- The rows carried on from point `t`. -/
def carryAt (c : Dev nD) (t : Fin cfg0.N) : Vec F S8x5632 .f32 := carryRows (normed (evenIn (grid0.coords t) (iblk m c 0 t) (iblk m c 1 t) (iblk m c 2 t) (iblk m c 3 t) (iblk m c 4 t) (iblk m c 5 t) (iblk m c 6 t)) (iblk m c 8 t)) (iblk m c 9 t)

/-- The rows the point before `t` carried on. -/
def prevAt (c : Dev nD) (t : Fin cfg0.N) : Vec F S8x5632 .f32 :=
  carryAt m c ⟨t.val - 1, Nat.lt_of_le_of_lt (Nat.sub_le _ _) t.isLt⟩

/-- The output block of point `t`, from the rows `xc` before it. -/
def outFrom (c : Dev nD) (t : Fin cfg0.N) (xc : Vec F S8x5632 .f32) : Vec F S512x1024 .f32 :=
  ffnPle (bodyRun.sl.v171 (grid0.coords t)) (evenIn (grid0.coords t) (iblk m c 0 t) (iblk m c 1 t) (iblk m c 2 t) (iblk m c 3 t) (iblk m c 4 t) (iblk m c 5 t) (iblk m c 6 t))
    (iblk m c 7 t) (iblk m c 8 t) (iblk m c 9 t) (iblk m c 10 t) (iblk m c 11 t) (iblk m c 12 t) (iblk m c 13 t) (iblk m c 14 t) xc

/-- At the start of a sequence nothing is carried in. -/
theorem outFrom_first (c : Dev nD) (t : Fin cfg0.N) (h : t.val % 8 = 0) (xc xc' : Vec F S8x5632 .f32) :
    outFrom m c t xc = outFrom m c t xc' := by
  unfold outFrom
  rw [first_eq, if_pos h, ffnPle_first _ _ _ _ _ _ _ _ _ xc xc']

/-! ## The pipeline's proof data -/

abbrev scM0 : Memref sig .tc .vmem S528x512 .f32 := Memref.whole cc0_scratch0
abbrev scM1 : Memref sig .tc .vmem S512x2816 .bf16 := Memref.whole cc0_scratch1
abbrev scM2 : Memref sig .tc .vmem S2x520x256 .f32 := Memref.whole cc0_scratch2
abbrev scM3 : Memref sig .tc .vmem S8x5632 .f32 := Memref.whole cc0_scratch3

/-- The scratch buffers at anything and the generator register at some state. -/
theorem PhiA_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The invariant before position `n`: the carried rows are those of the point before. -/
def PhiS (c : Dev nD) : (n : ℕ) → n ≤ cfg0.N → sProp 𝕄
  | 0, _ => Pipeline.ΦA spec0 c
  | n + 1, hn => iprop(iprop((∃ d, owns (c : Thread nD τ) scM0 fullShare d) ∗ (∃ d, owns (c : Thread nD τ) scM1 fullShare d) ∗ (∃ d, owns (c : Thread nD τ) scM2 fullShare d) ∗ owns (c : Thread nD τ) scM3 fullShare (carryAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop((∃ d, owns (c : Thread nD τ) scM0 fullShare d) ∗ (∃ d, owns (c : Thread nD τ) scM1 fullShare d) ∗ (∃ d, owns (c : Thread nD τ) scM2 fullShare d) ∗ owns (c : Thread nD τ) scM3 fullShare (carryAt m c t)) ∗ (∃ r, prngReg c r)) := rfl

theorem PhiS_pos (c : Dev nD) (n : ℕ) (h : n ≤ cfg0.N) (hz : n ≠ 0) :
    PhiS m c n h = iprop(iprop((∃ d, owns (c : Thread nD τ) scM0 fullShare d) ∗ (∃ d, owns (c : Thread nD τ) scM1 fullShare d) ∗ (∃ d, owns (c : Thread nD τ) scM2 fullShare d) ∗ owns (c : Thread nD τ) scM3 fullShare (carryAt m c ⟨n - 1, by omega⟩)) ∗ (∃ r, prngReg c r)) := by
  cases n with
  | zero => exact absurd rfl hz
  | succ n => rfl

/-- The proof data: each input's buffer at its block, the output's at the point's block, the carried rows invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outFrom m c t (prevAt m c t)
    | ⟨n + 17, h⟩ => absurd (show n + 17 < 17 from h) (by omega)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = outFrom m c t (prevAt m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev ms13 (t : Fin cfg0.N) := win0_13.stage (cfg0.slots t 13)
abbrev ms14 (t : Fin cfg0.N) := win0_14.stage (cfg0.slots t 14)
abbrev ms15 (t : Fin cfg0.N) := win0_15.stage (cfg0.slots t 15)
abbrev ms16 (t : Fin cfg0.N) := win0_16.stage (cfg0.slots t 16)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).owesAt () t.succ = (dats m 0 c).owesAt () t.castSucc from rfl,
    after_0, after_1, after_2, after_3, after_4, after_5, after_6, after_7, after_8, after_9, after_10, after_11, after_12, after_13, after_14, after_15, after_16]
  rw [show (dats m 0 c).Φ t.succ = PhiS m c (t.val + 1) t.isLt from rfl, PhiS_succ]
  by_cases hz : t.val = 0
  · rw [PhiS_castSucc m c t, PhiS_zero m c _ _ hz, PhiA_eq]
    iintro ⟨⟨⟨HS0, HS1, HS2, ⟨%xc, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((bodyRun c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xc).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, ⟨%eo, H16⟩, HS0, HS1, HS2, ⟨%es, HS3⟩⟩
    isplitl [HS0 HS1 HS2 HS3 Hg]
    · isplitl [HS0 HS1 HS2 HS3]
      · isplitl [HS0]; · iexact HS0
        isplitl [HS1]; · iexact HS1
        isplitl [HS2]; · iexact HS2
        unfold owns; iexists _; isplitr
        swap; · iexact HS3
        ipureintro; exact (View.read_writes_eq_canon _ _ _ (fun _ => carry_cover ..)).trans (canon_carry ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    unfold owns; iexists _; isplitr
    swap; · iexact H16
    ipureintro; exact (View.read_writes_eq_canon _ _ _ (fun _ => out_cover ..)).trans ((canon_out ..).trans (outFrom_first m c t (by rw [hz]) _ _))
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((bodyRun c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, ⟨%eo, H16⟩, HS0, HS1, HS2, ⟨%es, HS3⟩⟩
    isplitl [HS0 HS1 HS2 HS3 Hg]
    · isplitl [HS0 HS1 HS2 HS3]
      · isplitl [HS0]; · iexact HS0
        isplitl [HS1]; · iexact HS1
        isplitl [HS2]; · iexact HS2
        unfold owns; iexists _; isplitr
        swap; · iexact HS3
        ipureintro; exact (View.read_writes_eq_canon _ _ _ (fun _ => carry_cover ..)).trans (canon_carry ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    unfold owns; iexists _; isplitr
    swap; · iexact H16
    ipureintro; exact (View.read_writes_eq_canon _ _ _ (fun _ => out_cover ..)).trans ((canon_out ..).trans rfl)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3⟩, Hg⟩
  isplitl [HS0 HS1 HS2 HS3]
  · isplitl [HS0]; · iexact HS0
    isplitl [HS1]; · iexact HS1
    isplitl [HS2]; · iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

-- the run's implicit arguments are found by unifying its conclusion with this one
set_option backward.isDefEq.respectTransparency.types false in
/-- The launch: every final state has the windows' arrays as the proof data say and all counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_main_quiescent m ρ))

end Cert.Kernel2Ideal.Tail

end
-- ==== Proof.EvenValue.lean ====
/- The even tail's result array over the extended reals, from the arguments. -/
module

public import proofs.«01_k».proof.Proof.EvenFrame
public import proofs.«01_k».proof.Proof.TailValue
public import Idealize.ShloMosaic.Lib.Pipeline.ValueKit

@[expose] public section

set_option maxRecDepth 16384

noncomputable section

namespace Cert.Kernel2Ideal.Tail

open Cert.Kernel2Ideal Cert.Kernel2Ideal.Gen Cert.Tail
open Idealize.ShloMosaic Idealize.ShloMosaic.TcCoe Idealize.SL.Sem
open Idealize.ShloMosaic.Pipeline (Dat)

/-- The sequence of global row `n`. -/
def bi (n : ℕ) : Fin 8 := ⟨n / 4096 % 8, Nat.mod_lt _ (by decide)⟩

/-- The place of global row `n` in its sequence. -/
def ti (n : ℕ) : Fin 4096 := ⟨n % 4096, Nat.mod_lt _ (by decide)⟩

/-- Column `c` of what the pooling mixer reads at global row `n`: the first 512 columns of the projections. -/
def uAt (x1 : FVec Ideal S32768x2048 .bf16) (n : ℕ) (c : Fin 512) : EReal :=
  x1 (ix2 ⟨n % 32768, Nat.mod_lt _ (by decide)⟩ ⟨c.val, by omega⟩)

/-- The same `k` rows earlier, zero before the start of the sequence. -/
def lateU (x1 : FVec Ideal S32768x2048 .bf16) (k n : ℕ) (c : Fin 512) : EReal := if n % 4096 < k then 0 else uAt x1 (n - k) c

/-- The sum over the last `w` rows of the sequence. -/
def winSum (x1 : FVec Ideal S32768x2048 .bf16) (w n : ℕ) (c : Fin 512) : EReal := ∑ k ∈ Finset.range w, lateU x1 k n c

/-- How many rows of the sequence the window of `w` rows ending at row `n` holds. -/
def winLen (w n : ℕ) : EReal :=
  FloatOps.sitofp (F := Ideal) .f32 (IntOp.minsi (IntOp.addi (BitVec.ofNat 32 (n % 4096)) 1#32) (BitVec.ofNat 32 w))

/-- A group of 128 columns from `off` on: the window's mean without the row itself, mixed by the matrix `W`. -/
def poolRow (x1 : FVec Ideal S32768x2048 .bf16) (w off : ℕ) (ho : off + 128 ≤ 512) (W : Fin 128 → Fin 128 → EReal) (n : ℕ) (j : Fin 128) : EReal :=
  ∑ q : Fin 128, (Ideal.div (winSum x1 w n ⟨off + q.val, by omega⟩) (winLen w n) - uAt x1 n ⟨off + q.val, by omega⟩) * W q j

/-- The four groups side by side, the windows being of 2, 4, 8 and 16 rows. -/
def pools (x1 : FVec Ideal S32768x2048 .bf16) (x3 : FVec Ideal S4x128x128 .f32) (n : ℕ) (k : Fin 512) : EReal :=
  if h : k.val < 128 then poolRow x1 2 0 (by decide) (fun a b => x3 (ix3 0 a b)) n ⟨k.val, h⟩
  else if h : k.val - 128 < 128 then poolRow x1 4 128 (by decide) (fun a b => x3 (ix3 1 a b)) n ⟨k.val - 128, h⟩
  else if h : k.val - 128 - 128 < 128 then poolRow x1 8 256 (by decide) (fun a b => x3 (ix3 2 a b)) n ⟨k.val - 128 - 128, h⟩
  else poolRow x1 16 384 (by decide) (fun a b => x3 (ix3 3 a b)) n ⟨k.val - 128 - 128 - 128, by omega⟩

/-- The rows after the mixers' output projection. -/
def evenX (x0 : FVec Ideal S8x4096x1024 .f32) (x1 : FVec Ideal S32768x2048 .bf16) (x2 : FVec Ideal S8x4096x512 .bf16)
    (x3 : FVec Ideal S4x128x128 .f32) (x4 : FVec Ideal S512 .f32) (x5 : FVec Ideal S1024x1024 .f32) (n : ℕ) (d : Fin 1024) : EReal :=
  x0 (ix3 (bi n) (ti n) d) + (∑ k : Fin 512, pools x1 x3 n k * x4 (ix1 k) * x5 (ix2 ⟨k.val, by omega⟩ d)
    + ∑ k : Fin 512, x2 (ix3 (bi n) (ti n) k) * x5 (ix2 ⟨512 + k.val, by omega⟩ d))

/-- The result array of the even tail, from the arguments. -/
def evenTail (x0 : FVec Ideal S8x4096x1024 .f32) (x1 : FVec Ideal S32768x2048 .bf16) (x2 : FVec Ideal S8x4096x512 .bf16)
    (x3 : FVec Ideal S4x128x128 .f32) (x4 : FVec Ideal S512 .f32) (x5 : FVec Ideal S1024x1024 .f32)
    (x6 : FVec Ideal S2x8x4096x256 .f32) (x7 : FVec Ideal S1024 .f32) (x8 : FVec Ideal S1024x5632 .f32) (x9 : FVec Ideal S3x5632 .f32)
    (x10 : FVec Ideal S2816x1024 .f32) (x11 : FVec Ideal S1024 .f32) (x12 : FVec Ideal S1024x1024 .f32) (x13 : FVec Ideal S256x1024 .f32)
    (n : ℕ) (d : Fin 1024) : EReal :=
  tailRow (evenX x0 x1 x2 x3 x4 x5) (fun k => x6 (ix4 0 (bi n) (ti n) k)) (fun k => x7 (ix1 k)) (fun a b => x8 (ix2 a b)) (fun a b => x9 (ix2 a b))
    (fun a b => x10 (ix2 a b)) (fun k => x11 (ix1 k)) (fun a b => x12 (ix2 a b)) (fun a b => x13 (ix2 a b)) n d

/-- The place in its sequence of a point's first row, as the kernel computes it. -/
def startOf (i : grid0.Coords) : BitVec 32 :=
  Scalar.select
    (Scalar.andi
      (Scalar.xori
        (Scalar.cmpi CmpIPredicate.slt
          (Scalar.remsi (Scalar.muli (BitVec.ofNat 32 (i 0).val) 512#32) (Scalar.select (Scalar.cmpi CmpIPredicate.eq 4096#32 0#32) 1#32 4096#32)) 0#32)
        (Scalar.cmpi CmpIPredicate.slt (Scalar.select (Scalar.cmpi CmpIPredicate.eq 4096#32 0#32) 1#32 4096#32) 0#32))
      (Scalar.cmpi CmpIPredicate.ne
        (Scalar.remsi (Scalar.muli (BitVec.ofNat 32 (i 0).val) 512#32) (Scalar.select (Scalar.cmpi CmpIPredicate.eq 4096#32 0#32) 1#32 4096#32)) 0#32))
    (Scalar.addi
      (Scalar.remsi (Scalar.muli (BitVec.ofNat 32 (i 0).val) 512#32) (Scalar.select (Scalar.cmpi CmpIPredicate.eq 4096#32 0#32) 1#32 4096#32))
      (Scalar.select (Scalar.cmpi CmpIPredicate.eq 4096#32 0#32) 1#32 4096#32))
    (Scalar.remsi (Scalar.muli (BitVec.ofNat 32 (i 0).val) 512#32) (Scalar.select (Scalar.cmpi CmpIPredicate.eq 4096#32 0#32) 1#32 4096#32))

theorem startOf_eq : ∀ t : Fin cfg0.N, startOf (grid0.coords t) = BitVec.ofNat 32 (512 * (t.val % 8))
    ∧ Scalar.cmpi CmpIPredicate.eq (startOf (grid0.coords t)) 0#32 = if t.val % 8 = 0 then 1#1 else 0#1 :=
  (by decide +kernel : ∀ t : Fin grid0.N, _)

theorem place_at (t : Fin cfg0.N) (r : Fin 512) :
    k0_pay6 (grid0.coords t) (ix2 r 0) = BitVec.ofNat 32 ((512 * t.val + r.val) % 4096) := by
  have e : k0_pay6 (grid0.coords t) (ix2 r 0) = IntOp.addi (startOf (grid0.coords t)) (BitVec.ofNat 32 r.val) := by
    pointwise [k0_pay6]
    rfl
  have h : (512 * t.val + r.val) % 4096 = 512 * (t.val % 8) + r.val := by have := r.isLt; omega
  rw [e, (startOf_eq t).1, h]
  exact (BitVec.ofNat_add _ _).symm

theorem halo_at (t : Fin cfg0.N) (x2 : Vec Ideal S16x512 .bf16) (r : Fin 16) (c : Fin 512) :
    k0_pay4 (F := Ideal) (grid0.coords t) x2 (ix2 r c) = if t.val % 8 = 0 then (0 : EReal) else x2 (ix2 r c) := by
  have e : k0_pay4 (F := Ideal) (grid0.coords t) x2 (ix2 r c)
      = Scalar.select (Scalar.cmpi CmpIPredicate.eq (startOf (grid0.coords t)) 0#32) (0 : EReal) (x2 (ix2 r c)) := by
    pointwise [k0_pay4]
    rfl
  rw [e, (startOf_eq t).2]
  by_cases h : t.val % 8 = 0
  · rw [if_pos h, if_pos h]; rfl
  · rw [if_neg h, if_neg h]; rfl

theorem late_at (x1 : FVec Ideal S32768x2048 .bf16) (t : Fin cfg0.N) (P : FVec Ideal S16x512 .f32) (U : FVec Ideal S512x512 .f32)
    (hU : ∀ r c, U (ix2 r c) = uAt x1 (512 * t.val + r.val) c)
    (hP : ∀ r c, P (ix2 r c) = if t.val % 8 = 0 then (0 : EReal) else uAt x1 (512 * t.val + r.val - 16) c)
    (k : ℕ) (hk : k ≤ 16) (off : ℕ) (ho : off + 128 ≤ 512) (r : Fin 512) (q : Fin 128) :
    lateCols k off hk P U (ix2 r q) = lateU x1 k (512 * t.val + r.val) ⟨off + q.val, by omega⟩ := by
  have hr := r.isLt
  have hq := q.isLt
  have ec : (⟨(off + q.val) % 512, Nat.mod_lt _ (by decide)⟩ : Fin 512) = ⟨off + q.val, by omega⟩ := Fin.ext (Nat.mod_eq_of_lt (by omega))
  unfold lateU
  by_cases h : r.val + (16 - k) < 16
  · refine (dif_pos h).trans ?_
    refine (congrArg (fun c => P (ix2 ⟨r.val + (16 - k), h⟩ c)) ec).trans ?_
    rw [hP]
    by_cases h0 : t.val % 8 = 0
    · rw [if_pos h0, if_pos (by omega)]
    · rw [if_neg h0, if_neg (by omega)]
      exact congrArg (fun n => uAt x1 n _) (show 512 * t.val + (r.val + (16 - k)) - 16 = 512 * t.val + r.val - k by omega)
  · refine (dif_neg h).trans ?_
    refine (congrArg (fun c => U (ix2 ⟨r.val - k, _⟩ c)) ec).trans ?_
    rw [hU, if_neg (by omega)]
    exact congrArg (fun n => uAt x1 n _) (show 512 * t.val + (r.val - k) = 512 * t.val + r.val - k by omega)

theorem lateU_zero (x1 : FVec Ideal S32768x2048 .bf16) (n : ℕ) (c : Fin 512) : lateU x1 0 n c = uAt x1 n c := if_neg (Nat.not_lt_zero _)

section Groups
variable (x1 : FVec Ideal S32768x2048 .bf16) (t : Fin cfg0.N) (u : Vec Ideal S512x512 .bf16) (P : FVec Ideal S16x512 .f32)
    (hu : ∀ r c, u (ix2 r c) = uAt x1 (512 * t.val + r.val) c)
    (hP : ∀ r c, P (ix2 r c) = if t.val % 8 = 0 then (0 : EReal) else uAt x1 (512 * t.val + r.val - 16) c)
include hu hP

theorem lateB (k : ℕ) (hk : k ≤ 16) (off : ℕ) (ho : off + 128 ≤ 512) (r : Fin 512) (q : Fin 128) :
    lateCols k off hk P (k0_pay5 (F := Ideal) u) (ix2 r q) = lateU x1 k (512 * t.val + r.val) ⟨off + q.val, by omega⟩ := by
  refine late_at x1 t P _ (fun r c => ?_) hP k hk off ho r q
  refine Eq.trans ?_ (hu r c)
  pointwise [k0_pay5, k0_pay3]

theorem group0 (w : Vec Ideal S1x128x128 .bf16) (s : Vec Ideal S1x128 .f32) (r : Fin 512) (j : Fin 128) :
    k0_pay10 (F := Ideal) (k0_pay7 u) (k0_pay8 u (lateCols 1 0 (by decide) P (k0_pay5 u))) (k0_pay9 (grid0.coords t)) 2#32 w s (ix2 r j)
      = poolRow x1 2 0 (by decide) (fun a b => w (ix3 0 a b)) (512 * t.val + r.val) j * s (ix2 0 j) := by
  have e9 : k0_pay9 (grid0.coords t) (ix2 r 0) = IntOp.addi (BitVec.ofNat 32 ((512 * t.val + r.val) % 4096)) 1#32 := by
    rw [← place_at t r]; pointwise [k0_pay9]
  have e7 : ∀ q : Fin 128, k0_pay7 (F := Ideal) u (ix2 r q) = uAt x1 (512 * t.val + r.val) ⟨0 + q.val, by omega⟩ := fun q => by
    refine Eq.trans ?_ (hu r ⟨0 + q.val, by omega⟩)
    pointwise [k0_pay7]
    first | done | (refine congrArg (fun c => u (ix2 r c)) (Fin.ext ?_); simp)
  have e8 : ∀ q : Fin 128, k0_pay8 (F := Ideal) u (lateCols 1 0 (by decide) P (k0_pay5 u)) (ix2 r q) = winSum x1 2 (512 * t.val + r.val) ⟨0 + q.val, by omega⟩ := fun q => by
    have e : k0_pay8 (F := Ideal) u (lateCols 1 0 (by decide) P (k0_pay5 u)) (ix2 r q)
        = k0_pay7 (F := Ideal) u (ix2 r q) + lateCols 1 0 (by decide) P (k0_pay5 (F := Ideal) u) (ix2 r q) := by
      pointwise [k0_pay8, k0_pay7]
    rw [e, e7, lateB x1 t u P hu hP 1 _ 0 (by decide)]
    unfold winSum
    simp only [Finset.sum_range_succ, Finset.sum_range_zero, zero_add, lateU_zero]
  pointwise [k0_pay10]
  unfold poolRow
  refine congrArg (· * _) (Finset.sum_congr rfl fun q _ => ?_)
  rw [e7, e8, e9]
  rfl

theorem group1 (w : Vec Ideal S1x128x128 .bf16) (s : Vec Ideal S1x128 .f32) (r : Fin 512) (j : Fin 128) :
    k0_pay11 (F := Ideal) (k0_pay3 u) (k0_pay6 (grid0.coords t)) (lateCols 1 128 (by decide) P (k0_pay5 u)) (lateCols 2 128 (by decide) P (k0_pay5 u)) (lateCols 3 128 (by decide) P (k0_pay5 u)) w s (ix2 r j)
      = poolRow x1 4 128 (by decide) (fun a b => w (ix3 0 a b)) (512 * t.val + r.val) j * s (ix2 0 j) := by
  pointwise [k0_pay11, k0_pay3]
  unfold poolRow
  refine congrArg (· * _) (Finset.sum_congr rfl fun q _ => ?_)
  rw [lateB x1 t u P hu hP 1 _ 128 (by decide), lateB x1 t u P hu hP 2 _ 128 (by decide), lateB x1 t u P hu hP 3 _ 128 (by decide), place_at t r, hu]
  unfold winSum winLen
  simp only [Finset.sum_range_succ, Finset.sum_range_zero, zero_add, lateU_zero]

theorem group2 (w : Vec Ideal S1x128x128 .bf16) (s : Vec Ideal S1x128 .f32) (r : Fin 512) (j : Fin 128) :
    k0_pay13 (F := Ideal) (k0_pay6 (grid0.coords t)) (k0_pay12 (k0_pay3 u)) (lateCols 1 256 (by decide) P (k0_pay5 u)) (lateCols 2 256 (by decide) P (k0_pay5 u)) (lateCols 3 256 (by decide) P (k0_pay5 u)) (lateCols 4 256 (by decide) P (k0_pay5 u)) (lateCols 5 256 (by decide) P (k0_pay5 u)) (lateCols 6 256 (by decide) P (k0_pay5 u)) (lateCols 7 256 (by decide) P (k0_pay5 u)) w s (ix2 r j)
      = poolRow x1 8 256 (by decide) (fun a b => w (ix3 0 a b)) (512 * t.val + r.val) j * s (ix2 0 j) := by
  pointwise [k0_pay13, k0_pay12, k0_pay3]
  unfold poolRow
  refine congrArg (· * _) (Finset.sum_congr rfl fun q _ => ?_)
  rw [lateB x1 t u P hu hP 1 _ 256 (by decide), lateB x1 t u P hu hP 2 _ 256 (by decide), lateB x1 t u P hu hP 3 _ 256 (by decide), lateB x1 t u P hu hP 4 _ 256 (by decide), lateB x1 t u P hu hP 5 _ 256 (by decide), lateB x1 t u P hu hP 6 _ 256 (by decide), lateB x1 t u P hu hP 7 _ 256 (by decide), place_at t r, hu]
  unfold winSum winLen
  simp only [Finset.sum_range_succ, Finset.sum_range_zero, zero_add, lateU_zero]

theorem group3_sum (r : Fin 512) (q : Fin 128) :
    k0_pay16 (F := Ideal) (k0_pay15 (k0_pay3 u) (lateCols 1 384 (by decide) P (k0_pay5 u))) (lateCols 2 384 (by decide) P (k0_pay5 u)) (lateCols 3 384 (by decide) P (k0_pay5 u)) (lateCols 4 384 (by decide) P (k0_pay5 u)) (lateCols 5 384 (by decide) P (k0_pay5 u)) (lateCols 6 384 (by decide) P (k0_pay5 u)) (lateCols 7 384 (by decide) P (k0_pay5 u)) (lateCols 8 384 (by decide) P (k0_pay5 u)) (lateCols 9 384 (by decide) P (k0_pay5 u)) (lateCols 10 384 (by decide) P (k0_pay5 u)) (lateCols 11 384 (by decide) P (k0_pay5 u)) (lateCols 12 384 (by decide) P (k0_pay5 u)) (lateCols 13 384 (by decide) P (k0_pay5 u)) (lateCols 14 384 (by decide) P (k0_pay5 u)) (lateCols 15 384 (by decide) P (k0_pay5 u)) (ix2 r q) = winSum x1 16 (512 * t.val + r.val) ⟨384 + q.val, by omega⟩ := by
  pointwise [k0_pay16, k0_pay15, k0_pay14, k0_pay3]
  rw [lateB x1 t u P hu hP 1 _ 384 (by decide), lateB x1 t u P hu hP 2 _ 384 (by decide), lateB x1 t u P hu hP 3 _ 384 (by decide), lateB x1 t u P hu hP 4 _ 384 (by decide), lateB x1 t u P hu hP 5 _ 384 (by decide), lateB x1 t u P hu hP 6 _ 384 (by decide), lateB x1 t u P hu hP 7 _ 384 (by decide), lateB x1 t u P hu hP 8 _ 384 (by decide), lateB x1 t u P hu hP 9 _ 384 (by decide), lateB x1 t u P hu hP 10 _ 384 (by decide), lateB x1 t u P hu hP 11 _ 384 (by decide), lateB x1 t u P hu hP 12 _ 384 (by decide), lateB x1 t u P hu hP 13 _ 384 (by decide), lateB x1 t u P hu hP 14 _ 384 (by decide), lateB x1 t u P hu hP 15 _ 384 (by decide), hu]
  unfold winSum
  simp only [Finset.sum_range_succ, Finset.sum_range_zero, zero_add, lateU_zero]

end Groups

theorem pay18_at (a : FVec Ideal S512x1024 .f32) (g0 g1 g2 : FVec Ideal S512x128 .bf16) (e f : FVec Ideal S512x128 .f32) (n : IVec S512x1 32)
    (w : Vec Ideal S1x128x128 .bf16) (s : Vec Ideal S1x128 .f32) (o : Vec Ideal S512x512 .bf16) (wo : Vec Ideal S1024x1024 .bf16) (r : Fin 512)
    (d : Fin 1024) : k0_pay18 (F := Ideal) a g0 g1 g2 e f n w s o wo (ix2 r d) = a (ix2 r d)
      + (∑ k : Fin 512, (if h : k.val < 128 then g0 (ix2 r ⟨k.val, h⟩) else if h : k.val - 128 < 128 then g1 (ix2 r ⟨k.val - 128, h⟩)
          else if h : k.val - 128 - 128 < 128 then g2 (ix2 r ⟨k.val - 128 - 128, h⟩)
          else (∑ q : Fin 128, (Ideal.div (f (ix2 r q)) (FloatOps.sitofp (F := Ideal) .f32 (n (ix2 r 0))) - e (ix2 r q))
            * w (ix3 0 q ⟨k.val - 128 - 128 - 128, by omega⟩)) * s (ix2 0 ⟨k.val - 128 - 128 - 128, by omega⟩)) * wo (ix2 ⟨k.val, by omega⟩ d)
        + ∑ k : Fin 512, o (ix2 r k) * wo (ix2 ⟨512 + k.val, by omega⟩ d)) := by
  pointwise [k0_pay18]
  refine congrArg (_ + ·) ((Fin.sum_univ_add (a := 512) (b := 512) _).trans (congrArg₂ (· + ·) (Finset.sum_congr rfl fun k _ => ?_)
    (Finset.sum_congr rfl fun k _ => ?_)))
  · have hk := k.isLt
    refine congrArg (· * wo (ix2 ⟨k.val, by omega⟩ d)) ?_
    by_cases h0 : k.val < 128
    · refine (dif_pos h0).trans (Eq.trans ?_ (dif_pos h0).symm)
      rfl
    refine (dif_neg h0).trans (Eq.trans ?_ (dif_neg h0).symm)
    by_cases h1 : k.val - 128 < 128
    · refine (dif_pos h1).trans (Eq.trans ?_ (dif_pos h1).symm)
      rfl
    refine (dif_neg h1).trans (Eq.trans ?_ (dif_neg h1).symm)
    by_cases h2 : k.val - 128 - 128 < 128
    · refine (dif_pos h2).trans (Eq.trans ?_ (dif_pos h2).symm)
      rfl
    refine (dif_neg h2).trans (Eq.trans ?_ (dif_neg h2).symm)
    exact dif_pos (show k.val - 128 - 128 - 128 < 128 by omega)
  · have hk := k.isLt
    refine congrArg (· * wo (ix2 ⟨512 + k.val, by omega⟩ d)) ?_
    refine (dif_neg (show ¬ (512 + k.val < 128) by omega)).trans ?_
    refine (dif_neg (show ¬ (512 + k.val - 128 < 128) by omega)).trans ?_
    refine (dif_neg (show ¬ (512 + k.val - 128 - 128 < 128) by omega)).trans ?_
    refine (dif_neg (show ¬ (512 + k.val - 128 - 128 - 128 < 128) by omega)).trans ?_
    exact congrArg (fun q => o (ix2 r q)) (Fin.ext (show 512 + k.val - 128 - 128 - 128 - 128 = k.val by omega))

variable (m : (ℓ : Loc nD τ sig) → Buf (Elt Ideal) ℓ)

theorem idx : ∀ t : Fin cfg0.N, win0_0.index t = ![t.val, 0] ∧ win0_1.index t = ![t.val, 0] ∧ win0_2.index t = ![32 * t.val - 1, 0] ∧ win0_3.index t = ![t.val, 0]
    ∧ win0_4.index t = ![0, 0, 0] ∧ win0_5.index t = ![0, 0] ∧ win0_6.index t = ![0, 0] ∧ win0_7.index t = ![t.val, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_16.index t = ![t.val, 0] ∧ t.val < 64 :=
  (by decide +kernel : ∀ t : Fin grid0.N, _)

theorem iblk1_at (c : Dev nD) (t : Fin cfg0.N) (r : Fin 512) (q : Fin 512) :
    (show FVec Ideal S512x512 .bf16 from iblk m c 1 t) (ix2 r q) = uAt (m ((c : Thread nD τ).loc main_arg1)) (512 * t.val + r.val) q := by
  have e := idx t
  blk_point [iblk, V, e, uAt]

theorem iblk2_at (c : Dev nD) (t : Fin cfg0.N) (h : t.val % 8 ≠ 0) (r : Fin 16) (q : Fin 512) :
    (show FVec Ideal S16x512 .bf16 from iblk m c 2 t) (ix2 r q) = uAt (m ((c : Thread nD τ).loc main_arg1)) (512 * t.val + r.val - 16) q := by
  have e := idx t
  blk_point [iblk, V, e, uAt]

theorem iblk0_at (c : Dev nD) (t : Fin cfg0.N) (r : Fin 512) (d : Fin 1024) :
    (show FVec Ideal S512x1024 .f32 from iblk m c 0 t) (ix2 r d) = (show FVec Ideal S8x4096x1024 .f32 from m ((c : Thread nD τ).loc main_arg0)) (ix3 (bi (512 * t.val + r.val)) (ti (512 * t.val + r.val)) d) := by
  have e := idx t
  blk_point [iblk, V, e, bi, ti]

theorem iblk3_at (c : Dev nD) (t : Fin cfg0.N) (r : Fin 512) (d : Fin 512) :
    (show FVec Ideal S512x512 .bf16 from iblk m c 3 t) (ix2 r d) = (show FVec Ideal S8x4096x512 .bf16 from m ((c : Thread nD τ).loc main_arg2)) (ix3 (bi (512 * t.val + r.val)) (ti (512 * t.val + r.val)) d) := by
  have e := idx t
  blk_point [iblk, V, e, bi, ti]

theorem iblk7_at (c : Dev nD) (t : Fin cfg0.N) (r : Fin 512) (d : Fin 256) :
    (show FVec Ideal S512x256 .f32 from iblk m c 7 t) (ix2 r d) = (show FVec Ideal S2x8x4096x256 .f32 from m ((c : Thread nD τ).loc main_arg6)) (ix4 0 (bi (512 * t.val + r.val)) (ti (512 * t.val + r.val)) d) := by
  have e := idx t
  blk_point [iblk, V, e, bi, ti]

theorem iblk4_at (c : Dev nD) (t : Fin cfg0.N) (g : Fin 4) (a b : Fin 128) :
    (show FVec Ideal S4x128x128 .bf16 from iblk m c 4 t) (ix3 g a b) = (show FVec Ideal S4x128x128 .f32 from m ((c : Thread nD τ).loc main_arg3)) (ix3 g a b) := by
  have e := idx t
  blk_point [iblk, V, e]

theorem iblk5_at (c : Dev nD) (t : Fin cfg0.N) (d : Fin 512) :
    (show FVec Ideal S1x512 .f32 from iblk m c 5 t) (ix2 0 d) = (show FVec Ideal S512 .f32 from m ((c : Thread nD τ).loc main_arg4)) (ix1 d) := by
  have e := idx t
  blk_point [iblk, V, e]

theorem iblk6_at (c : Dev nD) (t : Fin cfg0.N) (a : Fin 1024) (b : Fin 1024) :
    (show FVec Ideal S1024x1024 .bf16 from iblk m c 6 t) (ix2 a b) = (show FVec Ideal S1024x1024 .f32 from m ((c : Thread nD τ).loc main_arg5)) (ix2 a b) := by
  have e := idx t
  blk_point [iblk, V, e]

theorem iblk8_at (c : Dev nD) (t : Fin cfg0.N) (d : Fin 1024) :
    (show FVec Ideal S1x1024 .f32 from iblk m c 8 t) (ix2 0 d) = (show FVec Ideal S1024 .f32 from m ((c : Thread nD τ).loc main_arg7)) (ix1 d) := by
  have e := idx t
  blk_point [iblk, V, e]

theorem iblk9_at (c : Dev nD) (t : Fin cfg0.N) (a : Fin 1024) (b : Fin 5632) :
    (show FVec Ideal S1024x5632 .bf16 from iblk m c 9 t) (ix2 a b) = (show FVec Ideal S1024x5632 .f32 from m ((c : Thread nD τ).loc main_arg8)) (ix2 a b) := by
  have e := idx t
  blk_point [iblk, V, e]

theorem iblk10_at (c : Dev nD) (t : Fin cfg0.N) (a : Fin 3) (b : Fin 5632) :
    (show FVec Ideal S3x5632 .f32 from iblk m c 10 t) (ix2 a b) = (show FVec Ideal S3x5632 .f32 from m ((c : Thread nD τ).loc main_arg9)) (ix2 a b) := by
  have e := idx t
  blk_point [iblk, V, e]

theorem iblk11_at (c : Dev nD) (t : Fin cfg0.N) (a : Fin 2816) (b : Fin 1024) :
    (show FVec Ideal S2816x1024 .bf16 from iblk m c 11 t) (ix2 a b) = (show FVec Ideal S2816x1024 .f32 from m ((c : Thread nD τ).loc main_arg10)) (ix2 a b) := by
  have e := idx t
  blk_point [iblk, V, e]

theorem iblk12_at (c : Dev nD) (t : Fin cfg0.N) (d : Fin 1024) :
    (show FVec Ideal S1x1024 .f32 from iblk m c 12 t) (ix2 0 d) = (show FVec Ideal S1024 .f32 from m ((c : Thread nD τ).loc main_arg11)) (ix1 d) := by
  have e := idx t
  blk_point [iblk, V, e]

theorem iblk13_at (c : Dev nD) (t : Fin cfg0.N) (a : Fin 1024) (b : Fin 1024) :
    (show FVec Ideal S1024x1024 .bf16 from iblk m c 13 t) (ix2 a b) = (show FVec Ideal S1024x1024 .f32 from m ((c : Thread nD τ).loc main_arg12)) (ix2 a b) := by
  have e := idx t
  blk_point [iblk, V, e]

theorem iblk14_at (c : Dev nD) (t : Fin cfg0.N) (a : Fin 256) (b : Fin 1024) :
    (show FVec Ideal S256x1024 .bf16 from iblk m c 14 t) (ix2 a b) = (show FVec Ideal S256x1024 .f32 from m ((c : Thread nD τ).loc main_arg13)) (ix2 a b) := by
  have e := idx t
  blk_point [iblk, V, e]

/-- The gain's block is the same at every point. -/
theorem iblk8_eq (c : Dev nD) (t t' : Fin cfg0.N) : @Eq (FVec Ideal S1x1024 .f32) (iblk m c 8 t) (iblk m c 8 t') := by
  funext (y : S1x1024.Idx)
  obtain ⟨a, d, rfl⟩ : ∃ (a : Fin 1) (d : Fin 1024), y = ix2 a d := ⟨y 0, y 1, eq_ix2 y⟩
  obtain rfl : a = 0 := Subsingleton.elim _ _
  exact (iblk8_at m c t d).trans (iblk8_at m c t' d).symm

/-- The up-projection's weights are the same block at every point. -/
theorem iblk9_eq (c : Dev nD) (t t' : Fin cfg0.N) : @Eq (FVec Ideal S1024x5632 .bf16) (iblk m c 9 t) (iblk m c 9 t') := by
  funext (y : S1024x5632.Idx)
  obtain ⟨a, d, rfl⟩ : ∃ (a : Fin 1024) (d : Fin 5632), y = ix2 a d := ⟨y 0, y 1, eq_ix2 y⟩
  exact (iblk9_at m c t a d).trans (iblk9_at m c t' a d).symm

/-- The sixteen rows before a point's block, zero at the start of a sequence. -/
theorem halo_row (c : Dev nD) (t : Fin cfg0.N) (r : Fin 16) (q : Fin 512) :
    k0_pay4 (F := Ideal) (grid0.coords t) (iblk m c 2 t) (ix2 r q)
      = if t.val % 8 = 0 then (0 : EReal) else uAt (m ((c : Thread nD τ).loc main_arg1)) (512 * t.val + r.val - 16) q := by
  refine (halo_at t _ r q).trans ?_
  by_cases h : t.val % 8 = 0
  · rw [if_pos h, if_pos h]
  · rw [if_neg h, if_neg h]
    exact iblk2_at m c t h r q

theorem plane_row (c : Dev nD) (t : Fin cfg0.N) (g : Fin 4) : (fun a b : Fin 128 => planeOf (F := Ideal) g (iblk m c 4 t) (ix3 0 a b))
    = fun a b => (show FVec Ideal S4x128x128 .f32 from m ((c : Thread nD τ).loc main_arg3)) (ix3 g a b) :=
  funext fun a => funext fun b => iblk4_at m c t g a b

theorem scale_row (c : Dev nD) (t : Fin cfg0.N) (off : ℕ) (j : Fin 128) (k : Fin 512) (hk : k.val = off + j.val) :
    scaleOf (F := Ideal) off (iblk m c 5 t) (ix2 0 j) = (show FVec Ideal S512 .f32 from m ((c : Thread nD τ).loc main_arg4)) (ix1 k) := by
  refine Eq.trans (congrArg (fun q => (show FVec Ideal S1x512 .f32 from iblk m c 5 t) (ix2 0 q)) (Fin.ext ?_)) (iblk5_at m c t k)
  have := k.isLt
  show (off + j.val) % 512 = k.val
  rw [hk, Nat.mod_eq_of_lt (by omega)]

/-- The rows a point's block holds after the mixers' output projection. -/
theorem evenIn_row (c : Dev nD) (t : Fin cfg0.N) (r : Fin 512) (d : Fin 1024) :
    evenIn (F := Ideal) (grid0.coords t) (iblk m c 0 t) (iblk m c 1 t) (iblk m c 2 t) (iblk m c 3 t) (iblk m c 4 t) (iblk m c 5 t) (iblk m c 6 t) (ix2 r d)
      = evenX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (512 * t.val + r.val) d := by
  refine (pay18_at _ _ _ _ _ _ _ _ _ _ _ r d).trans ?_
  unfold evenX
  have e0 : k0_pay2 (F := Ideal) (iblk m c 0 t) (ix2 r d) = (show FVec Ideal S512x1024 .f32 from iblk m c 0 t) (ix2 r d) := by
    pointwise [k0_pay2]
  refine Ideal.add_congr (e0.trans (iblk0_at m c t r d)) (Ideal.add_congr (Finset.sum_congr rfl fun k _ => Ideal.mul_congr ?_ (iblk6_at m c t ⟨k.val, by omega⟩ d))
    (Finset.sum_congr rfl fun k _ => Ideal.mul_congr (iblk3_at m c t r k) (iblk6_at m c t ⟨512 + k.val, by omega⟩ d)))
  have hk := k.isLt
  unfold pools
  by_cases h0 : k.val < 128
  · rw [dif_pos h0, dif_pos h0, ← plane_row m c t 0]
    refine (group0 (m ((c : Thread nD τ).loc main_arg1)) t _ _ (iblk1_at m c t) (halo_row m c t) _ _ r ⟨k.val, h0⟩).trans (congrArg (_ * ·) ?_)
    exact scale_row m c t 0 ⟨k.val, h0⟩ k (show k.val = 0 + k.val by omega)
  rw [dif_neg h0, dif_neg h0]
  by_cases h1 : k.val - 128 < 128
  · rw [dif_pos h1, dif_pos h1, ← plane_row m c t 1]
    refine (group1 (m ((c : Thread nD τ).loc main_arg1)) t _ _ (iblk1_at m c t) (halo_row m c t) _ _ r ⟨k.val - 128, h1⟩).trans (congrArg (_ * ·) ?_)
    exact scale_row m c t 128 ⟨k.val - 128, h1⟩ k (show k.val = 128 + (k.val - 128) by omega)
  rw [dif_neg h1, dif_neg h1]
  by_cases h2 : k.val - 128 - 128 < 128
  · rw [dif_pos h2, dif_pos h2, ← plane_row m c t 2]
    refine (group2 (m ((c : Thread nD τ).loc main_arg1)) t _ _ (iblk1_at m c t) (halo_row m c t) _ _ r ⟨k.val - 128 - 128, h2⟩).trans (congrArg (_ * ·) ?_)
    exact scale_row m c t 256 ⟨k.val - 128 - 128, h2⟩ k (show k.val = 256 + (k.val - 128 - 128) by omega)
  rw [dif_neg h2, dif_neg h2, ← plane_row m c t 3]
  refine Ideal.mul_congr ?_ (scale_row m c t 384 ⟨k.val - 128 - 128 - 128, by omega⟩ k (show k.val = 384 + (k.val - 128 - 128 - 128) by omega))
  unfold poolRow
  refine Finset.sum_congr rfl fun q _ => congrArg (· * _) ?_
  have e14 : k0_pay14 (F := Ideal) (k0_pay3 (iblk m c 1 t)) (ix2 r q) = uAt (m ((c : Thread nD τ).loc main_arg1)) (512 * t.val + r.val) ⟨384 + q.val, by omega⟩ := by
    refine Eq.trans ?_ (iblk1_at m c t r ⟨384 + q.val, by omega⟩)
    pointwise [k0_pay14, k0_pay3]
  have e17 : k0_pay17 (k0_pay6 (grid0.coords t)) (ix2 r 0)
      = IntOp.minsi (IntOp.addi (BitVec.ofNat 32 ((512 * t.val + r.val) % 4096)) 1#32) 16#32 := by
    rw [← place_at t r]; pointwise [k0_pay17]
  rw [e14, e17, group3_sum (m ((c : Thread nD τ).loc main_arg1)) t _ _ (iblk1_at m c t) (halo_row m c t) r q]
  rfl

/-- What point `t` leaves in the output block. -/
theorem point (c : Dev nD) (t : Fin cfg0.N) (r : Fin 512) (d : Fin 1024) :
    outFrom m c t (prevAt m c t) (ix2 r d) = evenTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (512 * t.val + r.val) d := by
  unfold outFrom prevAt carryAt evenTail
  rw [iblk8_eq m c ⟨t.val - 1, Nat.lt_of_le_of_lt (Nat.sub_le _ _) t.isLt⟩ t, iblk9_eq m c ⟨t.val - 1, Nat.lt_of_le_of_lt (Nat.sub_le _ _) t.isLt⟩ t]
  refine (ffnPle_row (evenX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) t.val _ (first_eq t) _ (evenIn (F := Ideal) (grid0.coords ⟨t.val - 1, Nat.lt_of_le_of_lt (Nat.sub_le _ _) t.isLt⟩) (iblk m c 0 ⟨t.val - 1, Nat.lt_of_le_of_lt (Nat.sub_le _ _) t.isLt⟩) (iblk m c 1 ⟨t.val - 1, Nat.lt_of_le_of_lt (Nat.sub_le _ _) t.isLt⟩) (iblk m c 2 ⟨t.val - 1, Nat.lt_of_le_of_lt (Nat.sub_le _ _) t.isLt⟩) (iblk m c 3 ⟨t.val - 1, Nat.lt_of_le_of_lt (Nat.sub_le _ _) t.isLt⟩) (iblk m c 4 ⟨t.val - 1, Nat.lt_of_le_of_lt (Nat.sub_le _ _) t.isLt⟩) (iblk m c 5 ⟨t.val - 1, Nat.lt_of_le_of_lt (Nat.sub_le _ _) t.isLt⟩) (iblk m c 6 ⟨t.val - 1, Nat.lt_of_le_of_lt (Nat.sub_le _ _) t.isLt⟩))
    (evenIn_row m c t) (fun _ => evenIn_row m c ⟨t.val - 1, Nat.lt_of_le_of_lt (Nat.sub_le _ _) t.isLt⟩) (iblk m c 7 t) (iblk m c 8 t)
    (iblk m c 9 t) (iblk m c 10 t) (iblk m c 11 t) (iblk m c 12 t) (iblk m c 13 t) (iblk m c 14 t) r d).trans ?_
  exact tailRow_congr _ (funext fun k => iblk7_at m c t r k) (funext fun k => iblk8_at m c t k)
    (funext fun a => funext fun b => iblk9_at m c t a b) (funext fun a => funext fun b => iblk10_at m c t a b)
    (funext fun a => funext fun b => iblk11_at m c t a b) (funext fun k => iblk12_at m c t k)
    (funext fun a => funext fun b => iblk13_at m c t a b) (funext fun a => funext fun b => iblk14_at m c t a b) _ _

/-- The result array after the run. -/
theorem final (c : Dev nD) : (dats m 0 c).arrAt 16 (cfgs 0).N
    = (show FVec Ideal S32768x1024 .f32 from fun i => evenTail (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (i 0).val (i 1)) := by
  refine (dats m 0 c).arrAt_eq_of_covers 16 _ (by decide +kernel) fun t _ y => ?_
  have e := idx t
  blk_simp
  rw [after_16]
  refine (congrArg (outFrom m c t (prevAt m c t)) (eq_ix2 y)).trans ((point m c t (y 0) (y 1)).trans ?_)
  refine congrArg₂ (evenTail _ _ _ _ _ _ _ _ _ _ _ _ _ _) ?_ (Fin.ext ?_)
  · blk_simp [e]
    omega
  · blk_simp [e]

end Cert.Kernel2Ideal.Tail

end
-- ==== Proof.EvenRef.lean ====
/- The even tail's reference over the extended reals, row by row. -/
module

public import proofs.«01_k».proof.Proof.EvenValue
public import proofs.«01_k».proof.Proof.Gen.Reference2Ideal.Read
public import Idealize.ShloMosaic.Lib.KernelVsHost

@[expose] public section

set_option maxRecDepth 16384

noncomputable section

namespace Cert.Reference2Ideal.Tail

open Cert.Reference2Ideal Cert.Reference2Ideal.Gen Cert.Reference2Ideal.Read Cert.Tail Cert.Kernel2Ideal.Tail
open Idealize.ShloMosaic Idealize.ShloMosaic.TcCoe Idealize.SL.Sem

variable (x0 : FVec Ideal S8x4096x1024 .f32) (x1 : FVec Ideal S32768x2048 .bf16) (x2 : FVec Ideal S8x4096x512 .bf16)
    (x3 : FVec Ideal S4x128x128 .f32) (x4 : FVec Ideal S512 .f32) (x5 : FVec Ideal S1024x1024 .f32)
    (x6 : FVec Ideal S2x8x4096x256 .f32) (x7 : FVec Ideal S1024 .f32) (x8 : FVec Ideal S1024x5632 .f32) (x9 : FVec Ideal S3x5632 .f32)
    (x10 : FVec Ideal S2816x1024 .f32) (x11 : FVec Ideal S1024 .f32) (x12 : FVec Ideal S1024x1024 .f32) (x13 : FVec Ideal S256x1024 .f32)
    (b : Fin 8) (t : Fin 4096)

theorem v2_at (c : Fin 512) : val_main_v2 (F := Ideal) x1 (ix3 b t c) = x1 (ix2 ⟨b.val * 4096 + t.val, by omega⟩ ⟨c.val, by omega⟩) := by
  pointwise [val_main_v2, val_main_v1, val_main_v0]

theorem v2_row (n : ℕ) (c : Fin 512) : val_main_v2 (F := Ideal) x1 (ix3 (bi n) (ti n) c) = uAt x1 n c := by
  rw [v2_at]
  exact congrArg (fun q => x1 (ix2 q _)) (Fin.ext (show n / 4096 % 8 * 4096 + n % 4096 = n % 32768 by omega))

/-- A padded row of a window is the row that many steps earlier, zero before the start. -/
theorem pad_late (n e K k : ℕ) (c : Fin 512) (z : EReal) (he : e + k = n % 4096 + K) (hz : z = 0) {dec : Decidable (K ≤ e ∧ e - K < 4096)} :
    (if h : K ≤ e ∧ e - K < 4096 then val_main_v2 (F := Ideal) x1 (ix3 (bi n) ⟨e - K, h.2⟩ c) else z) = lateU x1 k n c := by
  unfold lateU
  by_cases h : n % 4096 < k
  · rw [if_pos h, dif_neg (by omega), hz]
  · rw [if_neg h, dif_pos ⟨by omega, by omega⟩, v2_at]
    exact congrArg (fun q => x1 (ix2 q _)) (Fin.ext (show n / 4096 % 8 * 4096 + (e - K) = (n - k) % 32768 by omega))

theorem v22_row (n : ℕ) (j : Fin 128) : val_main_v22 (F := Ideal) x1 x3 (ix3 (bi n) (ti n) j)
    = poolRow x1 2 0 (by decide) (fun a b => x3 (ix3 0 a b)) n j := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_call0_v0, val_main_cst, val_main_c, val_main_c_0, val_main_c_1]
  unfold poolRow winSum
  refine Finset.sum_congr rfl fun q _ => congrArg (· * _) ?_
  rw [← Finset.sum_range_reflect]
  simp only [Finset.sum_range_succ, Finset.sum_range_zero, zero_add]
  exact congrArg₂ (· - ·) (congrArg₂ Ideal.div (Ideal.add_congr (pad_late x1 n ((ti n).val) 1 (2 - 1 - 0) ⟨q.val, by omega⟩ (FloatOps.sitofp (F := Ideal) .f32 (0#32)) (by have ht : (ti n).val = n % 4096 := rfl; omega) (sitofp_zero (φ := .f32)))
    ((v2_row x1 n _).trans (lateU_zero x1 n _).symm)) rfl) (v2_row x1 n _)

theorem v45_row (n : ℕ) (j : Fin 128) : val_main_v45 (F := Ideal) x1 x3 (ix3 (bi n) (ti n) j)
    = poolRow x1 4 128 (by decide) (fun a b => x3 (ix3 1 a b)) n j := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v3, val_main_call1_v0, val_main_cst_3, val_main_c_2, val_main_c_4, val_main_c_5]
  unfold poolRow winSum
  refine Finset.sum_congr rfl fun q _ => congrArg (· * _) ?_
  rw [← Finset.sum_range_reflect]
  simp only [Finset.sum_range_succ, Finset.sum_range_zero, zero_add]
  exact congrArg₂ (· - ·) (congrArg₂ Ideal.div (Ideal.add_congr (Ideal.add_congr (Ideal.add_congr (pad_late x1 n ((ti n).val) 3 (4 - 1 - 0) ⟨128 + q.val, by omega⟩ (FloatOps.sitofp (F := Ideal) .f32 (0#32)) (by have ht : (ti n).val = n % 4096 := rfl; omega) (sitofp_zero (φ := .f32)))
    (pad_late x1 n (1 + (ti n).val) 3 (4 - 1 - 1) ⟨128 + q.val, by omega⟩ (FloatOps.sitofp (F := Ideal) .f32 (0#32)) (by have ht : (ti n).val = n % 4096 := rfl; omega) (sitofp_zero (φ := .f32))))
    (pad_late x1 n (2 + (ti n).val) 3 (4 - 1 - 2) ⟨128 + q.val, by omega⟩ (FloatOps.sitofp (F := Ideal) .f32 (0#32)) (by have ht : (ti n).val = n % 4096 := rfl; omega) (sitofp_zero (φ := .f32))))
    ((v2_row x1 n _).trans (lateU_zero x1 n _).symm)) rfl) (v2_row x1 n _)

theorem v76_row (n : ℕ) (j : Fin 128) : val_main_v76 (F := Ideal) x1 x3 (ix3 (bi n) (ti n) j)
    = poolRow x1 8 256 (by decide) (fun a b => x3 (ix3 2 a b)) n j := by
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v3, val_main_call2_v0, val_main_cst_7, val_main_c_6, val_main_c_8, val_main_c_9]
  unfold poolRow winSum
  refine Finset.sum_congr rfl fun q _ => congrArg (· * _) ?_
  rw [← Finset.sum_range_reflect]
  simp only [Finset.sum_range_succ, Finset.sum_range_zero, zero_add]
  exact congrArg₂ (· - ·) (congrArg₂ Ideal.div (Ideal.add_congr (Ideal.add_congr (Ideal.add_congr (Ideal.add_congr (Ideal.add_congr (Ideal.add_congr (Ideal.add_congr (pad_late x1 n ((ti n).val) 7 (8 - 1 - 0) ⟨256 + q.val, by omega⟩ (FloatOps.sitofp (F := Ideal) .f32 (0#32)) (by have ht : (ti n).val = n % 4096 := rfl; omega) (sitofp_zero (φ := .f32)))
    (pad_late x1 n (1 + (ti n).val) 7 (8 - 1 - 1) ⟨256 + q.val, by omega⟩ (FloatOps.sitofp (F := Ideal) .f32 (0#32)) (by have ht : (ti n).val = n % 4096 := rfl; omega) (sitofp_zero (φ := .f32))))
    (pad_late x1 n (2 + (ti n).val) 7 (8 - 1 - 2) ⟨256 + q.val, by omega⟩ (FloatOps.sitofp (F := Ideal) .f32 (0#32)) (by have ht : (ti n).val = n % 4096 := rfl; omega) (sitofp_zero (φ := .f32))))
    (pad_late x1 n (3 + (ti n).val) 7 (8 - 1 - 3) ⟨256 + q.val, by omega⟩ (FloatOps.sitofp (F := Ideal) .f32 (0#32)) (by have ht : (ti n).val = n % 4096 := rfl; omega) (sitofp_zero (φ := .f32))))
    (pad_late x1 n (4 + (ti n).val) 7 (8 - 1 - 4) ⟨256 + q.val, by omega⟩ (FloatOps.sitofp (F := Ideal) .f32 (0#32)) (by have ht : (ti n).val = n % 4096 := rfl; omega) (sitofp_zero (φ := .f32))))
    (pad_late x1 n (5 + (ti n).val) 7 (8 - 1 - 5) ⟨256 + q.val, by omega⟩ (FloatOps.sitofp (F := Ideal) .f32 (0#32)) (by have ht : (ti n).val = n % 4096 := rfl; omega) (sitofp_zero (φ := .f32))))
    (pad_late x1 n (6 + (ti n).val) 7 (8 - 1 - 6) ⟨256 + q.val, by omega⟩ (FloatOps.sitofp (F := Ideal) .f32 (0#32)) (by have ht : (ti n).val = n % 4096 := rfl; omega) (sitofp_zero (φ := .f32))))
    ((v2_row x1 n _).trans (lateU_zero x1 n _).symm)) rfl) (v2_row x1 n _)

set_option maxHeartbeats 2000000 in
theorem v123_row (n : ℕ) (j : Fin 128) : val_main_v123 (F := Ideal) x1 x3 (ix3 (bi n) (ti n) j)
    = poolRow x1 16 384 (by decide) (fun a b => x3 (ix3 3 a b)) n j := by
  pointwise [val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v3, val_main_call3_v0, val_main_cst_11, val_main_c_10, val_main_c_12, val_main_c_13]
  unfold poolRow winSum
  refine Finset.sum_congr rfl fun q _ => congrArg (· * _) ?_
  rw [← Finset.sum_range_reflect]
  simp only [Finset.sum_range_succ, Finset.sum_range_zero, zero_add]
  exact congrArg₂ (· - ·) (congrArg₂ Ideal.div (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (Ideal.add_congr (pad_late x1 n ((ti n).val) 15 (16 - 1 - 0) ⟨384 + q.val, by omega⟩ (FloatOps.sitofp (F := Ideal) .f32 (0#32)) (by have ht : (ti n).val = n % 4096 := rfl; omega) (sitofp_zero (φ := .f32)))
    (pad_late x1 n (1 + (ti n).val) 15 (16 - 1 - 1) ⟨384 + q.val, by omega⟩ (FloatOps.sitofp (F := Ideal) .f32 (0#32)) (by have ht : (ti n).val = n % 4096 := rfl; omega) (sitofp_zero (φ := .f32))))
    (pad_late x1 n (2 + (ti n).val) 15 (16 - 1 - 2) ⟨384 + q.val, by omega⟩ (FloatOps.sitofp (F := Ideal) .f32 (0#32)) (by have ht : (ti n).val = n % 4096 := rfl; omega) (sitofp_zero (φ := .f32))))
    (pad_late x1 n (3 + (ti n).val) 15 (16 - 1 - 3) ⟨384 + q.val, by omega⟩ (FloatOps.sitofp (F := Ideal) .f32 (0#32)) (by have ht : (ti n).val = n % 4096 := rfl; omega) (sitofp_zero (φ := .f32))))
    (pad_late x1 n (4 + (ti n).val) 15 (16 - 1 - 4) ⟨384 + q.val, by omega⟩ (FloatOps.sitofp (F := Ideal) .f32 (0#32)) (by have ht : (ti n).val = n % 4096 := rfl; omega) (sitofp_zero (φ := .f32))))
    (pad_late x1 n (5 + (ti n).val) 15 (16 - 1 - 5) ⟨384 + q.val, by omega⟩ (FloatOps.sitofp (F := Ideal) .f32 (0#32)) (by have ht : (ti n).val = n % 4096 := rfl; omega) (sitofp_zero (φ := .f32))))
    (pad_late x1 n (6 + (ti n).val) 15 (16 - 1 - 6) ⟨384 + q.val, by omega⟩ (FloatOps.sitofp (F := Ideal) .f32 (0#32)) (by have ht : (ti n).val = n % 4096 := rfl; omega) (sitofp_zero (φ := .f32))))
    (pad_late x1 n (7 + (ti n).val) 15 (16 - 1 - 7) ⟨384 + q.val, by omega⟩ (FloatOps.sitofp (F := Ideal) .f32 (0#32)) (by have ht : (ti n).val = n % 4096 := rfl; omega) (sitofp_zero (φ := .f32))))
    (pad_late x1 n (8 + (ti n).val) 15 (16 - 1 - 8) ⟨384 + q.val, by omega⟩ (FloatOps.sitofp (F := Ideal) .f32 (0#32)) (by have ht : (ti n).val = n % 4096 := rfl; omega) (sitofp_zero (φ := .f32))))
    (pad_late x1 n (9 + (ti n).val) 15 (16 - 1 - 9) ⟨384 + q.val, by omega⟩ (FloatOps.sitofp (F := Ideal) .f32 (0#32)) (by have ht : (ti n).val = n % 4096 := rfl; omega) (sitofp_zero (φ := .f32))))
    (pad_late x1 n (10 + (ti n).val) 15 (16 - 1 - 10) ⟨384 + q.val, by omega⟩ (FloatOps.sitofp (F := Ideal) .f32 (0#32)) (by have ht : (ti n).val = n % 4096 := rfl; omega) (sitofp_zero (φ := .f32))))
    (pad_late x1 n (11 + (ti n).val) 15 (16 - 1 - 11) ⟨384 + q.val, by omega⟩ (FloatOps.sitofp (F := Ideal) .f32 (0#32)) (by have ht : (ti n).val = n % 4096 := rfl; omega) (sitofp_zero (φ := .f32))))
    (pad_late x1 n (12 + (ti n).val) 15 (16 - 1 - 12) ⟨384 + q.val, by omega⟩ (FloatOps.sitofp (F := Ideal) .f32 (0#32)) (by have ht : (ti n).val = n % 4096 := rfl; omega) (sitofp_zero (φ := .f32))))
    (pad_late x1 n (13 + (ti n).val) 15 (16 - 1 - 13) ⟨384 + q.val, by omega⟩ (FloatOps.sitofp (F := Ideal) .f32 (0#32)) (by have ht : (ti n).val = n % 4096 := rfl; omega) (sitofp_zero (φ := .f32))))
    (pad_late x1 n (14 + (ti n).val) 15 (16 - 1 - 14) ⟨384 + q.val, by omega⟩ (FloatOps.sitofp (F := Ideal) .f32 (0#32)) (by have ht : (ti n).val = n % 4096 := rfl; omega) (sitofp_zero (φ := .f32))))
    ((v2_row x1 n _).trans (lateU_zero x1 n _).symm)) rfl) (v2_row x1 n _)

theorem v127_row (n : ℕ) (k : Fin 512) : val_main_v127 (F := Ideal) x1 x3 x4 (ix3 (bi n) (ti n) k) = pools x1 x3 n k * x4 (ix1 k) := by
  pointwise [val_main_v127, val_main_v126, val_main_v125, val_main_v124]
  refine congrArg (· * _) ?_
  unfold pools
  by_cases h0 : k.val < 128
  · rw [dif_pos h0, dif_pos h0, v22_row]
  rw [dif_neg h0, dif_neg h0]
  by_cases h1 : k.val - 128 < 128
  · rw [dif_pos h1, dif_pos h1, v45_row]
  rw [dif_neg h1, dif_neg h1]
  by_cases h2 : k.val - 128 - 128 < 128
  · rw [dif_pos h2, dif_pos h2, v76_row]
  rw [dif_neg h2, dif_neg h2, v123_row]

/-- The rows after the mixers, by global row. -/
theorem v131_row (n : ℕ) : (fun d => val_main_v131 (F := Ideal) x0 x1 x2 x3 x4 x5 (ix3 (bi n) (ti n) d)) = evenX x0 x1 x2 x3 x4 x5 n := by
  funext d
  pointwise [val_main_v131, val_main_v130, val_main_v129, val_main_v128]
  unfold evenX
  simp only [v127_row]

theorem v146_at (d : Fin 1024) : val_main_v146 (F := Ideal) x0 x1 x2 x3 x4 x5 x7 (ix3 b t d)
    = nrm (fun k => val_main_v131 (F := Ideal) x0 x1 x2 x3 x4 x5 (ix3 b t k)) (fun k => x7 (ix1 k)) d := by
  pointwise [val_main_v146, val_main_v145, val_main_v144, val_main_v143, val_main_v142, val_main_v141, val_main_v140, val_main_v139, val_main_v138,
    val_main_v137, val_main_v136, val_main_v135, val_main_v134, val_main_cst_14, val_main_cst_15, val_main_cst_16, nrm]

theorem v147_at (j : Fin 5632) : val_main_v147 (F := Ideal) x0 x1 x2 x3 x4 x5 x7 x8 (ix3 b t j)
    = upr (fun k => val_main_v146 (F := Ideal) x0 x1 x2 x3 x4 x5 x7 (ix3 b t k)) (fun k j => x8 (ix2 k j)) j := by
  pointwise [val_main_v147, upr]

/-- The up-projection `k` rows earlier, zero before the start. -/
def upk (k : ℕ) (j : Fin 5632) : EReal :=
  if t.val < k then 0 else val_main_v147 (F := Ideal) x0 x1 x2 x3 x4 x5 x7 x8 (ix3 b ⟨t.val - k, by omega⟩ j)

theorem v170_at (j : Fin 5632) : val_main_v170 (F := Ideal) x0 x1 x2 x3 x4 x5 x7 x8 x9 (ix3 b t j)
    = cvl (fun a j => x9 (ix2 a j)) (upk x0 x1 x2 x3 x4 x5 x7 x8 b t 0) (upk x0 x1 x2 x3 x4 x5 x7 x8 b t 1) (upk x0 x1 x2 x3 x4 x5 x7 x8 b t 2) j := by
  pointwise [val_main_v170, val_main_v169, val_main_v168, val_main_v167, val_main_v166, val_main_v165, val_main_v164, val_main_v163, val_main_v162,
   val_main_v161, val_main_v160, val_main_v159, val_main_v158, val_main_v157, val_main_v156, val_main_v155, val_main_v154, val_main_v153, val_main_v152,
   val_main_v151, val_main_v150, val_main_v149, val_main_v148, val_main_cst_18, val_main_call4_v0, val_main_c_17]
  have hz : (FloatOps.sitofp .f32 (0#32 : BitVec 32) : Ideal .f32) = (0 : EReal) := sitofp_zero
  have ht : t.val < 4096 := t.isLt
  unfold cvl upk
  rw [hz, add_comm, add_comm (_ * x9 (ix2 0 j)), ← add_assoc]
  refine congrArg₂ (· + ·) (congrArg₂ (· + ·) ?_ ?_) ?_
  · rw [if_neg (by omega), mul_comm]; rfl
  · rw [mul_comm]
    refine congrArg (_ * ·) ?_
    by_cases h : t.val < 1
    · rw [dif_neg (by omega), if_pos h]
    · rw [dif_pos ⟨by omega, by omega⟩, if_neg h]
      exact congrArg (fun q => val_main_v147 (F := Ideal) x0 x1 x2 x3 x4 x5 x7 x8 (ix3 b q j)) (Fin.ext (show 1 + t.val - 2 = t.val - 1 by omega))
  · rw [mul_comm]
    refine congrArg (_ * ·) ?_
    by_cases h : t.val < 2
    · rw [dif_neg (by omega), if_pos h]
    · rw [dif_pos ⟨by omega, by omega⟩, if_neg h]

theorem v174_at (j : Fin 2816) : val_main_v174 (F := Ideal) x0 x1 x2 x3 x4 x5 x7 x8 x9 (ix3 b t j)
    = hidr (fun a j => x9 (ix2 a j)) (upk x0 x1 x2 x3 x4 x5 x7 x8 b t 0) (upk x0 x1 x2 x3 x4 x5 x7 x8 b t 1) (upk x0 x1 x2 x3 x4 x5 x7 x8 b t 2) j := by
  pointwise [val_main_v174, val_main_v173, val_main_v172, val_main_v171, val_main_call5_v0, val_main_call5_v1, val_main_call5_v2,
    val_main_call5_v3, val_main_call5_v4, val_main_call5_v5, val_main_call5_cst, val_main_call5_cst_0, v170_at]
  rfl

theorem v176_at (d : Fin 1024) : val_main_v176 (F := Ideal) x0 x1 x2 x3 x4 x5 x7 x8 x9 x10 (ix3 b t d) = val_main_v131 (F := Ideal) x0 x1 x2 x3 x4 x5 (ix3 b t d)
    + ∑ j : Fin 2816, val_main_v174 (F := Ideal) x0 x1 x2 x3 x4 x5 x7 x8 x9 (ix3 b t j) * x10 (ix2 j d) := by
  pointwise [val_main_v176, val_main_v175]

theorem v189_at (d : Fin 1024) : val_main_v189 (F := Ideal) x0 x1 x2 x3 x4 x5 x7 x8 x9 x10 x11 (ix3 b t d)
    = nrm (fun k => val_main_v176 (F := Ideal) x0 x1 x2 x3 x4 x5 x7 x8 x9 x10 (ix3 b t k)) (fun k => x11 (ix1 k)) d := by
  pointwise [val_main_v189, val_main_v188, val_main_v187, val_main_v186, val_main_v185, val_main_v184, val_main_v183, val_main_v182, val_main_v181,
    val_main_v180, val_main_v179, val_main_v178, val_main_v177, val_main_cst_19, val_main_cst_20, val_main_cst_21, nrm]

theorem v199_at (d : Fin 1024) : val_main_v199 (F := Ideal) x0 x1 x2 x3 x4 x5 x6 x7 x8 x9 x10 x11 x12 x13 (ix3 b t d)
    = pler (fun k => val_main_v176 (F := Ideal) x0 x1 x2 x3 x4 x5 x7 x8 x9 x10 (ix3 b t k)) (fun k => x6 (ix4 0 b t k)) (fun k => x11 (ix1 k))
      (fun a b => x12 (ix2 a b)) (fun a b => x13 (ix2 a b)) d := by
  pointwise [val_main_v199, val_main_v198, val_main_v197, val_main_v196, val_main_v195, val_main_v194, val_main_v193, val_main_v192, val_main_v191,
    val_main_v190, val_main_v133, val_main_v132, val_main_cst_22, val_main_cst_23, pler, v189_at]
  rfl

theorem upk_row (n k : ℕ) : upk x0 x1 x2 x3 x4 x5 x7 x8 (bi n) (ti n) k
    = ups (evenX x0 x1 x2 x3 x4 x5) (fun k => x7 (ix1 k)) (fun a b => x8 (ix2 a b)) k n := by
  funext j
  unfold upk ups
  by_cases h : n % 4096 < k
  · rw [if_pos h]; exact if_pos h
  · have e1 : bi n = bi (n - k) := Fin.ext (show n / 4096 % 8 = (n - k) / 4096 % 8 by omega)
    have e2 : (⟨(ti n).val - k, Nat.lt_of_le_of_lt (Nat.sub_le _ _) (ti n).isLt⟩ : Fin 4096) = ti (n - k) :=
      Fin.ext (show n % 4096 - k = (n - k) % 4096 by omega)
    rw [if_neg h]
    refine (if_neg h).trans ?_
    rw [e1]
    refine (congrArg (fun q => val_main_v147 (F := Ideal) x0 x1 x2 x3 x4 x5 x7 x8 (ix3 (bi (n - k)) q j)) e2).trans ?_
    rw [v147_at]
    refine congrArg (fun q => upr q _ j) (funext fun d => ?_)
    rw [v146_at, v131_row]

theorem v176_row (n : ℕ) : (fun d => val_main_v176 (F := Ideal) x0 x1 x2 x3 x4 x5 x7 x8 x9 x10 (ix3 (bi n) (ti n) d))
    = mlpr (evenX x0 x1 x2 x3 x4 x5 n) (fun a j => x9 (ix2 a j)) (ups (evenX x0 x1 x2 x3 x4 x5) (fun k => x7 (ix1 k)) (fun a b => x8 (ix2 a b)) 0 n)
        (ups (evenX x0 x1 x2 x3 x4 x5) (fun k => x7 (ix1 k)) (fun a b => x8 (ix2 a b)) 1 n)
        (ups (evenX x0 x1 x2 x3 x4 x5) (fun k => x7 (ix1 k)) (fun a b => x8 (ix2 a b)) 2 n) (fun a b => x10 (ix2 a b)) := by
  funext d
  rw [v176_at]
  unfold mlpr
  simp only [v174_at, upk_row]
  exact congrArg (· + _) (congrFun (v131_row x0 x1 x2 x3 x4 x5 n) d)

theorem v200_at (n : Fin 32768) (d : Fin 1024) : val_main_v200 (F := Ideal) x0 x1 x2 x3 x4 x5 x6 x7 x8 x9 x10 x11 x12 x13 (ix2 n d)
    = val_main_v199 (F := Ideal) x0 x1 x2 x3 x4 x5 x6 x7 x8 x9 x10 x11 x12 x13 (ix3 ⟨n.val / 4096, by omega⟩ ⟨n.val % 4096, by omega⟩ d) := by
  pointwise [val_main_v200]

/-- The reference's result, row by row. -/
theorem result (n : Fin 32768) (d : Fin 1024) : val_main_v200 (F := Ideal) x0 x1 x2 x3 x4 x5 x6 x7 x8 x9 x10 x11 x12 x13 (ix2 n d)
    = evenTail x0 x1 x2 x3 x4 x5 x6 x7 x8 x9 x10 x11 x12 x13 n.val d := by
  have hn : n.val < 32768 := n.isLt
  have e1 : (⟨n.val / 4096, by omega⟩ : Fin 8) = bi n.val := Fin.ext (show n.val / 4096 = n.val / 4096 % 8 by omega)
  rw [v200_at, e1]
  refine (v199_at x0 x1 x2 x3 x4 x5 x6 x7 x8 x9 x10 x11 x12 x13 (bi n.val) (ti n.val) d).trans ?_
  unfold evenTail tailRow
  rw [v176_row]

end Cert.Reference2Ideal.Tail

end
-- ==== Proof.EvenClaim.lean ====
/- The claims about the even layer's tail: both kernels' frames, the reference's, and the equality of results. -/
module

public import proofs.«01_k».proof.Defs
public import proofs.«01_k».proof.Proof.Gen.Kernel2
public import proofs.«01_k».proof.Proof.EvenRef
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem even_defs₀ (F : FTy → Type) [FloatOps F] :
    @Eq (Defs Cert.Kernel2.nD Cert.Kernel2.τ Cert.Kernel2.sig (Elt F) Cert.Kernel2.Λ₀) (Cert.Kernel2.defs₀ (F := F)) (Cert.Kernel2Ideal.defs₀ (F := F)) := by
  unfold Cert.Kernel2.defs₀ Cert.Kernel2Ideal.defs₀
  refine congrArg Defs.onTc (funext fun l => funext fun a => ?_)
  match l, a with
  | 0, (t, s) => rfl

/-- The compiled kernel and its idealisation are one text. -/
theorem even_defs (F : FTy → Type) [FloatOps F] :
    @Eq (Defs Cert.Kernel2.nD Cert.Kernel2.τ Cert.Kernel2.sig (Elt F) (Pipeline.Sig Cert.Kernel2.Λ₀ (Fin 1) fun p => (Cert.Kernel2.pcfgs (F := F) p).Adm))
      (Cert.Kernel2.defs (F := F)) (Cert.Kernel2Ideal.defs (F := F)) :=
  congrArg (Pipeline.defs (Cert.Kernel2.pcfgs (F := F))) (even_defs₀ F)

theorem frame_even_kernel : Cert.quiescent_Kernel2 (hKernel2 := Cert.Kernel2.Gen.facts) := by
  intro m g _
  rw [even_defs]
  exact Cert.Kernel2Ideal.Tail.frame (F := Bits) m g

theorem frame_even_ideal : Cert.quiescent_Kernel2Ideal (hKernel2Ideal := Cert.Kernel2Ideal.Gen.facts) := by
  intro m g _
  exact Cert.Kernel2Ideal.Tail.frame (F := Ideal) m g

theorem frame_even_reference : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

/-- The reference's result is the kernel's array. -/
theorem even_values (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v200 (F := Ideal) (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg6)) (m ((c : Thread Cert.Kernel2Ideal.nD Cert.Kernel2Ideal.τ).loc Cert.Kernel2Ideal.main_arg7)) (m ((c : Thread Cert.Kernel2Ideal.nD Cert.Kernel2Ideal.τ).loc Cert.Kernel2Ideal.main_arg8)) (m ((c : Thread Cert.Kernel2Ideal.nD Cert.Kernel2Ideal.τ).loc Cert.Kernel2Ideal.main_arg9)) (m ((c : Thread Cert.Kernel2Ideal.nD Cert.Kernel2Ideal.τ).loc Cert.Kernel2Ideal.main_arg10)) (m ((c : Thread Cert.Kernel2Ideal.nD Cert.Kernel2Ideal.τ).loc Cert.Kernel2Ideal.main_arg11)) (m ((c : Thread Cert.Kernel2Ideal.nD Cert.Kernel2Ideal.τ).loc Cert.Kernel2Ideal.main_arg12)) (m ((c : Thread Cert.Kernel2Ideal.nD Cert.Kernel2Ideal.τ).loc Cert.Kernel2Ideal.main_arg13))
      = (Cert.Kernel2Ideal.Tail.dats m 0 c).arrAt 16 (Cert.Kernel2Ideal.cfgs 0).N := by
  rw [Cert.Kernel2Ideal.Tail.final m c]
  funext (i : Cert.Kernel2Ideal.S32768x1024.Idx)
  exact (congrArg (Cert.Reference2Ideal.Read.val_main_v200 (F := Ideal) _ _ _ _ _ _ _ _ _ _ _ _ _ _) (eq_ix2 i)).trans
    (Cert.Reference2Ideal.Tail.result _ _ _ _ _ _ _ _ _ _ _ _ _ _ (i 0) (i 1))

/-- The reference's run, its result read as a function of the arguments. -/
theorem even_reference_run (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r => ∀ c : Dev Cert.Reference2Ideal.nD,
      r.2.mem ((c.tc : Thread Cert.Reference2Ideal.nD Cert.Reference2Ideal.τ).loc Cert.Reference2Ideal.main_v200)
        = Cert.Reference2Ideal.Read.val_main_v200 (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14) :=
  (θ_run Cert.Reference2Ideal.defs _ _).mono (fun r h c => ⟨(h c).1.trans (Cert.Reference2Ideal.Read.val_main_v200_eq (F := Ideal) (StableHlo.launchContents m c)), (h c).2⟩)
    (Cert.Reference2Ideal.Value.run (F := Ideal) m g)

/-- The kernel's run: its result array, and its arguments unchanged. -/
theorem even_kernel_run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ fun r => ∀ c : Dev Cert.Kernel2Ideal.nD,
      r.2.mem ((c.tc : Thread Cert.Kernel2Ideal.nD Cert.Kernel2Ideal.τ).loc Cert.Kernel2Ideal.main_v13)
        = (Cert.Kernel2Ideal.Tail.dats m 0 c).arrAt 16 (Cert.Kernel2Ideal.cfgs 0).N
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14) :=
  (θ_run Cert.Kernel2Ideal.defs _ _).mono (fun r h c => ⟨(h.1 c).1 16, h.2.1 c⟩)
    (θ_run_and (Cert.Kernel2Ideal.Tail.run_main (F := Ideal) m g) (Cert.Kernel2Ideal.Tail.frame (F := Ideal) m g))

theorem algebraic_even : Cert.algebraic_Kernel2Ideal_Reference2Ideal (hKernel2Ideal := Cert.Kernel2Ideal.Gen.facts) (hReference2Ideal := Cert.Reference2Ideal.Gen.facts) := by
  pair_intro
  · run_from even_kernel_run m g
  · run_from even_reference_run m' g'
    exact even_values m c

end Cert.Proof

end
-- ==== Proof.ProjValue.lean ====
/- The even layer's normed input projection: what the call's array holds over the extended reals. -/
module

public import proofs.«01_k».proof.Proof.Gen.Kernel3Ideal.Value
public import proofs.«01_k».proof.Proof.OddValue
public import Idealize.ShloMosaic.Lib.Pipeline.ReadBack
public import Idealize.ShloMosaic.Lib.Pipeline.ValueKit

@[expose] public section

set_option maxRecDepth 16384

noncomputable section

namespace Cert.Kernel3Ideal.Proj

open Cert.Kernel3Ideal Cert.Kernel3Ideal.Gen Cert.Tail
open Cert.KernelIdeal.Tail (bi ti)
open Idealize.ShloMosaic Idealize.ShloMosaic.TcCoe Idealize.SL.Sem
open Idealize.ShloMosaic.Pipeline (Dat)

/-- A block's rows, normed, times the weights. -/
def blk (x0 : FVec Ideal S512x1024 .f32) (x1 : FVec Ideal S1x1024 .f32) (x2 : FVec Ideal S1024x2048 .bf16) : FVec Ideal S512x2048 .bf16 := fun y =>
  ∑ k : Fin 1024, nrm (fun k => x0 (ix2 (y 0) k)) (fun k => x1 (ix2 0 k)) k * x2 (ix2 k (y 1))

theorem pay2_at (x0 : FVec Ideal S512x1024 .f32) (x1 : FVec Ideal S1x1024 .f32) (r : Fin 512) (d : Fin 1024) :
    k0_pay2 (F := Ideal) x0 x1 (ix2 r d) = nrm (fun k => x0 (ix2 r k)) (fun k => x1 (ix2 0 k)) d := by
  pointwise [k0_pay2, nrm]

/-- The product of one chunk of 512 columns. -/
def chunk (n : FVec Ideal S512x1024 .bf16) (w : FVec Ideal S1024x512 .bf16) : FVec Ideal S512x512 .bf16 :=
  k0_pay1 n w

theorem chunk_at (n : FVec Ideal S512x1024 .bf16) (w : FVec Ideal S1024x512 .bf16) (r : Fin 512) (j : Fin 512) :
    chunk n w (ix2 r j) = ∑ k : Fin 1024, n (ix2 r k) * w (ix2 k j) := by
  pointwise [chunk, k0_pay1]

theorem ld_whole {n k : ℕ} {e : EltTy} (X : Vec Ideal (⟨2, ![n, k]⟩ : Shape) e)
    (hb : ∀ d, (![0, 0] : Fin 2 → ℕ) d + (⟨2, ![n, k]⟩ : Shape).size d ≤ (⟨2, ![n, k]⟩ : Shape).size d) :
    View.ld X (Rect.unit (s := (⟨2, ![n, k]⟩ : Shape)) ![0, 0] (⟨2, ![n, k]⟩ : Shape).size hb) = X := by
  funext x
  refine congrArg X (funext fun d => ?_)
  match d with
  | ⟨0, _⟩ => exact Fin.ext (show 0 + 1 * (x 0).val = (x 0).val by omega)
  | ⟨1, _⟩ => exact Fin.ext (show 0 + 1 * (x 1).val = (x 1).val by omega)

/-- A chunk is a block of columns of the whole product. -/
theorem chunk_emb (x0 : FVec Ideal S512x1024 .f32) (x1 : FVec Ideal S1x1024 .f32) (x2 : FVec Ideal S1024x2048 .bf16) (o : ℕ)
    (hw : ∀ d, (![0, o] : Fin 2 → ℕ) d + S1024x512.size d ≤ S1024x2048.size d) (hb : ∀ d, (![0, o] : Fin 2 → ℕ) d + S512x512.size d ≤ S512x2048.size d)
    (x : S512x512.Idx) :
    chunk (k0_pay2 (View.ld x0 r0_0) (View.ld x1 r0_1)) (show FVec Ideal S1024x512 .bf16 from View.ld (Val := Elt Ideal) (e' := .bf16) x2 (Rect.unit (s := S1024x2048) ![0, o] S1024x512.size hw)) x
      = blk x0 x1 x2 ((Rect.unit (s := S512x2048) ![0, o] S512x512.size hb).emb x) := by
  obtain ⟨r, j, rfl⟩ : ∃ (r : Fin 512) (j : Fin 512), x = ix2 r j := ⟨x 0, x 1, eq_ix2 x⟩
  have ho : o + 512 ≤ 2048 := hb 1
  have hj : j.val < 512 := j.isLt
  rw [chunk_at]
  unfold blk
  refine Finset.sum_congr rfl fun k _ => Ideal.mul_congr ?_ ?_
  · refine (congrArg₂ (fun u v => k0_pay2 (F := Ideal) u v (ix2 r k)) (ld_whole (n := 512) (k := 1024) (e := .f32) x0 _) (ld_whole (n := 1) (k := 1024) (e := .f32) x1 _)).trans ((pay2_at x0 x1 r k).trans ?_)
    refine congrArg (fun q : Fin 512 => nrm (fun k => x0 (ix2 q k)) _ k) (Fin.ext (show r.val = 0 + 1 * r.val by omega))
  · refine congrArg x2 (funext fun d => ?_)
    match d with
    | ⟨0, _⟩ => exact Fin.ext (show 0 + 1 * k.val = k.val by omega)
    | ⟨1, _⟩ => exact Fin.ext (show o + 1 * j.val = o + 1 * j.val from rfl)

/-- What one point leaves in the output block. -/
theorem out_eq (x0 : FVec Ideal S512x1024 .f32) (x1 : FVec Ideal S1x1024 .f32) (x2 : FVec Ideal S1024x2048 .bf16) :
    out0_3 (F := Ideal) x0 x1 x2 = blk x0 x1 x2 := by
  unfold out0_3
  exact canon_blocks (F := Ideal) (s := S512x2048) (e := .bf16) (blk x0 x1 x2) _
    ⟨fun x => chunk_emb x0 x1 x2 1536 inb_S1024x2048_S1024x512_0_1536 inb_S512x2048_S512x512_0_1536 x,
     fun x => chunk_emb x0 x1 x2 1024 inb_S1024x2048_S1024x512_0_1024 inb_S512x2048_S512x512_0_1024 x,
     fun x => chunk_emb x0 x1 x2 512 inb_S1024x2048_S1024x512_0_512 inb_S512x2048_S512x512_0_512 x,
     fun x => chunk_emb x0 x1 x2 0 inb_S1024x2048_S1024x512_0_0 inb_S512x2048_S512x512_0_0 x, trivial⟩
    (cover0_3 _ _ _ _)

/-- The factor of a column: the attention's scale on the queries' columns, one elsewhere. -/
def factor (j : Fin 2048) : EReal :=
  if j.val < 512 then 1 else if j.val - 512 < 512 then Ideal.ofBits .f32 0x3E000000#32 else 1

/-- Row `n`, column `j` of the projection. -/
def projE (x0 : FVec Ideal S8x4096x1024 .f32) (x1 : FVec Ideal S1024 .f32) (x2 : FVec Ideal S1024x2048 .f32) (n : ℕ) (j : Fin 2048) : EReal :=
  ∑ k : Fin 1024, nrm (fun k => x0 (ix3 (bi n) (ti n) k)) (fun k => x1 (ix1 k)) k * (x2 (ix2 k j) * factor j)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ t.val < 64 :=
  (by decide +kernel : ∀ t : Fin grid0.N, _)

theorem iblk0_at (c : Dev nD) (t : Fin cfg0.N) (r : Fin 512) (d : Fin 1024) :
    (show FVec Ideal S512x1024 .f32 from iblk m c 0 t) (ix2 r d) = (show FVec Ideal S8x4096x1024 .f32 from m ((c : Thread nD τ).loc main_arg0)) (ix3 (bi (512 * t.val + r.val)) (ti (512 * t.val + r.val)) d) := by
  have e := idx t
  blk_point [iblk, V, e, bi, ti]

theorem iblk1_at (c : Dev nD) (t : Fin cfg0.N) (d : Fin 1024) :
    (show FVec Ideal S1x1024 .f32 from iblk m c 1 t) (ix2 0 d) = (show FVec Ideal S1024 .f32 from m ((c : Thread nD τ).loc main_arg1)) (ix1 d) := by
  have e := idx t
  blk_point [iblk, V, e, bi, ti]

/-- The weights as the host leaves them: columns scaled, then narrowed. -/
def scaled (w : FVec Ideal S1024x2048 .f32) : FVec Ideal S1024x2048 .bf16 :=
  truncf .bf16 (mulf w (broadcastInDim S1024x2048 ![0, 1] bcast_S1x2048_S1024x2048_0_1 (broadcastInDim S1x2048 ![1] bcast_S2048_S1x2048_1
    (concatenate S2048 0 [⟨S512, broadcastInDim S512 ![] bcast_S_S512 (constant (F := Ideal) S_ .f32 0x3F800000#32)⟩,
      ⟨S512, broadcastInDim S512 ![] bcast_S_S512 (constant (F := Ideal) S_ .f32 0x3E000000#32)⟩,
      ⟨S1024, broadcastInDim S1024 ![] bcast_S_S1024 (constant (F := Ideal) S_ .f32 0x3F800000#32)⟩] concatenates_S512_S512_S1024_S2048_d0)))) bitsLt_bf16_f32

theorem scaled_at (w : FVec Ideal S1024x2048 .f32) (a : Fin 1024) (b : Fin 2048) : scaled w (ix2 a b) = w (ix2 a b) * factor b := by
  pointwise [scaled, factor]
  simp only [dite_eq_ite]

theorem V_scaled (c : Dev nD) : V m c main_v9 = scaled (m ((c : Thread nD τ).loc main_arg2)) := by
  unfold V hostOps0
  after_results <;> rfl

theorem iblk2_at (c : Dev nD) (t : Fin cfg0.N) (a : Fin 1024) (b : Fin 2048) :
    (show FVec Ideal S1024x2048 .bf16 from iblk m c 2 t) (ix2 a b) = (show FVec Ideal S1024x2048 .f32 from m ((c : Thread nD τ).loc main_arg2)) (ix2 a b) * factor b := by
  have e := idx t
  refine Eq.trans ?_ (scaled_at _ a b)
  unfold iblk
  rw [show V m c (Pipeline.arrRef spec0 2) = _ from V_scaled m c]
  generalize scaled (m ((c : Thread nD τ).loc main_arg2)) = W
  blk_point [e]

theorem point (c : Dev nD) (t : Fin cfg0.N) (r : Fin 512) (j : Fin 2048) :
    blk (iblk m c 0 t) (iblk m c 1 t) (iblk m c 2 t) (ix2 r j)
      = projE (m ((c : Thread nD τ).loc main_arg0)) (m ((c : Thread nD τ).loc main_arg1)) (m ((c : Thread nD τ).loc main_arg2)) (512 * t.val + r.val) j := by
  unfold blk projE
  refine Finset.sum_congr rfl fun k _ => Ideal.mul_congr ?_ (iblk2_at m c t k j)
  exact congrArg₂ (fun u v => nrm u v k) (funext fun k => iblk0_at m c t r k) (funext fun k => iblk1_at m c t k)

/-- The array after the run. -/
theorem final (c : Dev nD) : (dats m 0 c).arrAt 3 cfg0.N
    = (show FVec Ideal S32768x2048 .bf16 from fun i => projE (m ((c : Thread nD τ).loc main_arg0)) (m ((c : Thread nD τ).loc main_arg1)) (m ((c : Thread nD τ).loc main_arg2)) (i 0).val (i 1)) := by
  refine (dats m 0 c).arrAt_eq_of_covers 3 _ (by decide +kernel) fun t _ y => ?_
  have e := idx t
  blk_simp
  rw [after0_3]
  refine (congrFun (out_eq _ _ _) y).trans ((congrArg (blk (iblk m c 0 t) (iblk m c 1 t) (iblk m c 2 t)) (eq_ix2 y)).trans ((point m c t (y 0) (y 1)).trans ?_))
  refine congrArg₂ (projE _ _ _) ?_ (Fin.ext ?_)
  · blk_simp [e]
    omega
  · blk_simp [e]

end Cert.Kernel3Ideal.Proj

end
-- ==== Proof.ProjRef.lean ====
/- The even layer's input projection in the reference, over the extended reals. -/
module

public import proofs.«01_k».proof.Proof.ProjValue
public import proofs.«01_k».proof.Proof.Gen.Reference3Ideal.Read
public import Idealize.ShloMosaic.Lib.KernelVsHost
public import Idealize.ShloMosaic.Lib.IdealHost

@[expose] public section

set_option maxRecDepth 16384

noncomputable section

namespace Cert.Reference3Ideal.Proj

open Cert.Reference3Ideal Cert.Reference3Ideal.Gen Cert.Reference3Ideal.Read Cert.Tail Cert.Kernel3Ideal.Proj
open Cert.KernelIdeal.Tail (bi ti)
open Idealize.ShloMosaic Idealize.ShloMosaic.TcCoe Idealize.SL.Sem

variable (x0 : FVec Ideal S8x4096x1024 .f32) (x1 : FVec Ideal S1024 .f32) (x2 : FVec Ideal S1024x2048 .f32) (b : Fin 8) (t : Fin 4096)

/-- The attention's scale. -/
theorem eighth : Ideal.ofBits .f32 0x3E000000#32 = ((1 / 8 : ℝ) : EReal) := by
  simp [Ideal.ofBits, Ideal.ieee, -EReal.coe_mul]; norm_num

/-- A nonnegative real factor comes into a sum. -/
theorem sum_times {n : ℕ} (f : Fin n → EReal) (r : ℝ) (hr : 0 ≤ r) : (∑ k, f k) * (r : EReal) = ∑ k, f k * (r : EReal) := by
  have h : ∀ s : Finset (Fin n), (∑ k ∈ s, f k) * (r : EReal) = ∑ k ∈ s, f k * (r : EReal) := fun s => by
    classical
    induction s using Finset.induction_on with
    | empty => simp
    | insert a s ha ih =>
      rw [Finset.sum_insert ha, Finset.sum_insert ha, ← ih]
      exact EReal.right_distrib_of_nonneg_of_ne_top (EReal.coe_nonneg.mpr hr) (EReal.coe_ne_top r) _ _
  exact h Finset.univ

theorem v13_at (j : Fin 2048) : val_main_v13 (F := Ideal) x0 x1 x2 (ix3 b t j)
    = ∑ k : Fin 1024, nrm (fun k => x0 (ix3 b t k)) (fun k => x1 (ix1 k)) k * x2 (ix2 k j) := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, nrm]

theorem v20_at (j : Fin 2048) : val_main_v20 (F := Ideal) x0 x1 x2 (ix3 b t j)
    = val_main_v13 (F := Ideal) x0 x1 x2 (ix3 b t j) * factor j := by
  unfold factor
  pointwise [val_main_v20, val_main_v19, val_main_v18, val_main_v17, val_main_v16, val_main_v15, val_main_v14, val_main_cst_2]
  by_cases h0 : j.val < 512
  · rw [dif_pos h0, if_pos h0, mul_one]
  rw [dif_neg h0, if_neg h0]
  by_cases h1 : j.val - 512 < 512
  · rw [dif_pos h1, if_pos h1]
    exact congrArg (fun q => val_main_v13 (F := Ideal) x0 x1 x2 (ix3 b t q) * _) (Fin.ext (show 512 + (j.val - 512) = j.val by omega))
  rw [dif_neg h1, if_neg h1, mul_one]
  by_cases h2 : j.val - 512 - 512 < 512
  · rw [dif_pos h2]
    exact congrArg (fun q => val_main_v13 (F := Ideal) x0 x1 x2 (ix3 b t q)) (Fin.ext (show 1024 + (j.val - 512 - 512) = j.val by omega))
  · rw [dif_neg h2]
    exact congrArg (fun q => val_main_v13 (F := Ideal) x0 x1 x2 (ix3 b t q)) (Fin.ext (show 1536 + (j.val - 512 - 512 - 512) = j.val by omega))

theorem v22_at (n : Fin 32768) (j : Fin 2048) : val_main_v22 (F := Ideal) x0 x1 x2 (ix2 n j)
    = val_main_v20 (F := Ideal) x0 x1 x2 (ix3 ⟨n.val / 4096, by omega⟩ ⟨n.val % 4096, by omega⟩ j) := by
  pointwise [val_main_v22, val_main_v21]

/-- A column's factor comes into the product. -/
theorem times_factor (f : Fin 1024 → EReal) (g : Fin 1024 → EReal) (j : Fin 2048) :
    (∑ k, f k * g k) * factor j = ∑ k, f k * (g k * factor j) := by
  unfold factor
  split_ifs
  · simp only [mul_one]
  · rw [eighth, sum_times _ _ (by norm_num)]
    simp only [mul_assoc]
  · simp only [mul_one]

/-- The reference's result, row by row. -/
theorem result (n : Fin 32768) (j : Fin 2048) : val_main_v22 (F := Ideal) x0 x1 x2 (ix2 n j) = projE x0 x1 x2 n.val j := by
  have hn : n.val < 32768 := n.isLt
  have e1 : (⟨n.val / 4096, by omega⟩ : Fin 8) = bi n.val := Fin.ext (show n.val / 4096 = n.val / 4096 % 8 by omega)
  rw [v22_at, e1]
  refine (v20_at x0 x1 x2 (bi n.val) (ti n.val) j).trans ?_
  rw [v13_at, times_factor]
  rfl

end Cert.Reference3Ideal.Proj

end
-- ==== Proof.ProjClaim.lean ====
/- The claims about the even layer's input projection: both kernels' frames, the reference's, and the equality of results. -/
module

public import proofs.«01_k».proof.Defs
public import proofs.«01_k».proof.Proof.Gen.Kernel3
public import proofs.«01_k».proof.Proof.ProjRef
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem proj_defs₀ (F : FTy → Type) [FloatOps F] :
    @Eq (Defs Cert.Kernel3.nD Cert.Kernel3.τ Cert.Kernel3.sig (Elt F) Cert.Kernel3.Λ₀) (Cert.Kernel3.defs₀ (F := F)) (Cert.Kernel3Ideal.defs₀ (F := F)) := by
  unfold Cert.Kernel3.defs₀ Cert.Kernel3Ideal.defs₀
  refine congrArg Defs.onTc (funext fun l => funext fun a => ?_)
  match l, a with
  | 0, (t, s) => rfl

/-- The compiled kernel and its idealisation are one text. -/
theorem proj_defs (F : FTy → Type) [FloatOps F] :
    @Eq (Defs Cert.Kernel3.nD Cert.Kernel3.τ Cert.Kernel3.sig (Elt F) (Pipeline.Sig Cert.Kernel3.Λ₀ (Fin 1) fun p => (Cert.Kernel3.pcfgs (F := F) p).Adm))
      (Cert.Kernel3.defs (F := F)) (Cert.Kernel3Ideal.defs (F := F)) :=
  congrArg (Pipeline.defs (Cert.Kernel3.pcfgs (F := F))) (proj_defs₀ F)

theorem frame_proj_kernel : Cert.quiescent_Kernel3 (hKernel3 := Cert.Kernel3.Gen.facts) := by
  intro m g _
  rw [proj_defs]
  exact Cert.Kernel3Ideal.Gen.frame (F := Bits) m g

theorem frame_proj_ideal : Cert.quiescent_Kernel3Ideal (hKernel3Ideal := Cert.Kernel3Ideal.Gen.facts) := by
  intro m g _
  exact Cert.Kernel3Ideal.Gen.frame (F := Ideal) m g

theorem frame_proj_reference : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run (F := Ideal) m g)

/-- The reference's result is the kernel's array. -/
theorem proj_values (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v22 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2))
      = (Cert.Kernel3Ideal.Gen.dats m 0 c).arrAt 3 (Cert.Kernel3Ideal.cfgs 0).N := by
  rw [Cert.Kernel3Ideal.Proj.final m c]
  funext (i : Cert.Kernel3Ideal.S32768x2048.Idx)
  exact (congrArg (Cert.Reference3Ideal.Read.val_main_v22 (F := Ideal) _ _ _) (eq_ix2 i)).trans
    (Cert.Reference3Ideal.Proj.result _ _ _ (i 0) (i 1))

/-- The reference's run, its result read as a function of the arguments. -/
theorem proj_reference_run (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => ∀ c : Dev Cert.Reference3Ideal.nD,
      r.2.mem ((c.tc : Thread Cert.Reference3Ideal.nD Cert.Reference3Ideal.τ).loc Cert.Reference3Ideal.main_v22)
        = Cert.Reference3Ideal.Read.val_main_v22 (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2) :=
  (θ_run Cert.Reference3Ideal.defs _ _).mono (fun r h c => ⟨(h c).1.trans (Cert.Reference3Ideal.Read.val_main_v22_eq (F := Ideal) m c), (h c).2⟩)
    (Cert.Reference3Ideal.Value.run (F := Ideal) m g)

theorem algebraic_proj : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from proj_reference_run m' g'
    exact proj_values m c

end Cert.Proof

end
-- ==== Proof.ScanSpec.lean ====
/- The delta rule's scan, one grid point: the step of one pair of heads' state by one chunk, the gated rows it gives,
   and the same over the point's blocks. -/
module

public import proofs.«01_k».proof.Proof.Gen.Kernel4Ideal.Loops
public import proofs.«01_k».proof.Proof.TailSpec
public import Idealize.ShloMosaic.Lib.Pipeline.ValueKit

@[expose] public section

set_option maxRecDepth 16384

noncomputable section

namespace Cert.Kernel4Ideal.Scan

open Cert.Kernel4Ideal.Gen
open Idealize.ShloMosaic Idealize.ShloMosaic.TcCoe Idealize.SL.Sem

variable {F : FTy → Type} [FloatOps F]

/-! ## One pair of heads, one chunk -/

/-- The pair's state as one matrix with the two heads on its diagonal. -/
def diagonal (s : Vec F S1x1x128x256 .f32) : FVec F S256x256 .bf16 :=
  concatenate S256x256 0
    [⟨S128x256, concatenate S128x256 1
        [⟨S128x128, extractStridedSlice S128x128 ![0, 0] (truncf .bf16 (shapeCast S128x256 s shapeCasts_S1x1x128x256_S128x256 : FVec F S128x256 .f32) bitsLt_bf16_f32 : FVec F S128x256 .bf16) slices_S128x256_o0_0_S128x128⟩,
         ⟨S128x128, broadcast S128x128 (Scalar.ofBits .bf16 0x0000#16 : F .bf16)⟩] concatenates_S128x128_S128x128_S128x256_d1⟩,
     ⟨S128x256, concatenate S128x256 1
        [⟨S128x128, broadcast S128x128 (Scalar.ofBits .bf16 0x0000#16 : F .bf16)⟩,
         ⟨S128x128, extractStridedSlice S128x128 ![0, 128] (truncf .bf16 (shapeCast S128x256 s shapeCasts_S1x1x128x256_S128x256 : FVec F S128x256 .f32) bitsLt_bf16_f32 : FVec F S128x256 .bf16) slices_S128x256_o0_128_S128x128⟩]
        concatenates_S128x128_S128x128_S128x256_d1⟩] concatenates_S128x256_S128x256_S256x256_d0

/-- Both operators of the chunk against the state: the rows of the state's operator, then those of the queries. -/
def both (kwq : Vec F S1x1x1x192x256 .bf16) (s : Vec F S1x1x128x256 .f32) : FVec F S192x256 .f32 :=
  matmul dot_S192x256_S256x256_S192x256_1_0_0_1_n_n none (shapeCast S192x256 kwq shapeCasts_S1x1x1x192x256_S192x256 : FVec F S192x256 .bf16)
    (diagonal s) (constant S192x256 .f32 0x00000000#32 : FVec F S192x256 .f32)

/-- The decays of a chunk, one row of them repeated. -/
def decay (gl : Vec F S1x1x1x8x256 .f32) : FVec F S128x256 .f32 :=
  let v : FVec F S8x256 .f32 := shapeCast S8x256 gl shapeCasts_S1x1x1x8x256_S8x256
  concatenate S128x256 0 [⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩] concatenates_S8x256_S8x256_S8x256_S8x256_S8x256_S8x256_S8x256_S8x256_S8x256_S8x256_S8x256_S8x256_S8x256_S8x256_S8x256_S8x256_S128x256_d0

/-- The state after the chunk. -/
def nextState (kwq : Vec F S1x1x1x192x256 .bf16) (gl : Vec F S1x1x1x8x256 .f32) (n : Vec F S1x1x1x128x256 .bf16)
    (s : Vec F S1x1x128x256 .f32) : FVec F S1x1x128x256 .f32 :=
  shapeCast S1x1x128x256
    (subf (addf (mulf (shapeCast S128x256 s shapeCasts_S1x1x128x256_S128x256 : FVec F S128x256 .f32) (decay gl))
        (extf .f32 (shapeCast S128x256 n shapeCasts_S1x1x1x128x256_S128x256 : FVec F S128x256 .bf16) bitsLt_bf16_f32))
      (extractStridedSlice S128x256 ![0, 0] (both kwq s) slices_S192x256_o0_0_S128x256) : FVec F S128x256 .f32)
    shapeCasts_S128x256_S1x1x128x256

/-- The rows the chunk gives before their norm. -/
def rowsOf (kwq : Vec F S1x1x1x192x256 .bf16) (o0 : Vec F S1x64x256 .bf16) (s : Vec F S1x1x128x256 .f32) : FVec F S64x256 .f32 :=
  addf (extractStridedSlice S64x256 ![128, 0] (both kwq s) slices_S192x256_o128_0_S64x256)
    (extf .f32 (shapeCast S64x256 o0 shapeCasts_S1x64x256_S64x256 : FVec F S64x256 .bf16) bitsLt_bf16_f32)

/-- One head's rows, normed and gated. -/
def gated (o : FVec F S64x128 .f32) (nw : Vec F S1x128 .f32) (z : Vec F S1x64x128 .bf16) : FVec F S1x64x128 .bf16 :=
  let zf : FVec F S64x128 .f32 := extf .f32 (shapeCast S64x128 z shapeCasts_S1x64x128_S64x128 : FVec F S64x128 .bf16) bitsLt_bf16_f32
  shapeCast S1x64x128
    (truncf .bf16
      (mulf
        (mulf
          (mulf o (broadcastTo S64x128
            (rsqrt (addf
              (divf (shapeCast S64x1 (multiReduction .add [1] S64 (mulf o o) 0x00000000#32 reduces_S64x128_S64 (.inl rfl) rfl : FVec F S64 .f32) shapeCasts_S64_S64x1 : FVec F S64x1 .f32)
                (broadcast S64x1 (Scalar.ofBits .f32 0x43000000#32 : F .f32)))
              (broadcast S64x1 (Scalar.ofBits .f32 0x358637BD#32 : F .f32))))
            broadcasts_S64x1_S64x128))
          (broadcastTo S64x128 (shapeCast S1x128 nw shapeCasts_S1x128_S1x128 : FVec F S1x128 .f32) broadcasts_S1x128_S64x128))
        (mulf zf (logistic zf)))
      bitsLt_bf16_f32 : FVec F S64x128 .bf16)
    shapeCasts_S64x128_S1x64x128

/-- The first head's rows of the pair, -/
def firstOut (kwq : Vec F S1x1x1x192x256 .bf16) (o0 : Vec F S1x64x256 .bf16) (s : Vec F S1x1x128x256 .f32)
    (nw : Vec F S1x128 .f32) (z : Vec F S1x64x128 .bf16) : FVec F S1x64x128 .bf16 :=
  gated (extractStridedSlice S64x128 ![0, 0] (rowsOf kwq o0 s) slices_S64x256_o0_0_S64x128) nw z

/-- and the second's. -/
def secondOut (kwq : Vec F S1x1x1x192x256 .bf16) (o0 : Vec F S1x64x256 .bf16) (s : Vec F S1x1x128x256 .f32)
    (nw : Vec F S1x128 .f32) (z : Vec F S1x64x128 .bf16) : FVec F S1x64x128 .bf16 :=
  gated (extractStridedSlice S64x128 ![0, 128] (rowsOf kwq o0 s) slices_S64x256_o0_128_S64x128) nw z

/-! ## The point's blocks -/

/-- Chunk `k` of a block of eight. -/
def ch (k : ℕ) : Fin 8 := ⟨k % 8, Nat.mod_lt _ (by decide)⟩

/-- Row `r` of chunk `k` of a block. -/
def rw8 (k r : ℕ) : Fin 512 := ⟨(64 * k + r) % 512, Nat.mod_lt _ (by decide)⟩

/-- Column `c` of a block of 1024. -/
def col (c : ℕ) : Fin 1024 := ⟨c % 1024, Nat.mod_lt _ (by decide)⟩

/-- The operators of chunk `k`, the decays, the additions and the state of pair `p` of sequence `b`. -/
def kwqAt (x0 : Vec F S2x4x8x192x256 .bf16) (k : ℕ) (b : Fin 2) (p : Fin 4) : Vec F S1x1x1x192x256 .bf16 := fun z => x0 (ix5 b p (ch k) (z 3) (z 4))
def glAt (x3 : Vec F S2x4x8x8x256 .f32) (k : ℕ) (b : Fin 2) (p : Fin 4) : Vec F S1x1x1x8x256 .f32 := fun z => x3 (ix5 b p (ch k) (z 3) (z 4))
def nAt (x1 : Vec F S2x4x8x128x256 .bf16) (k : ℕ) (b : Fin 2) (p : Fin 4) : Vec F S1x1x1x128x256 .bf16 := fun z => x1 (ix5 b p (ch k) (z 3) (z 4))
def sAt (s : Vec F S2x4x128x256 .f32) (b : Fin 2) (p : Fin 4) : Vec F S1x1x128x256 .f32 := fun z => s (ix4 b p (z 2) (z 3))
/-- The rows of chunk `k` in the columns from `o`. -/
def rowsAt {w : ℕ} (x : Vec F S2x512x1024 .bf16) (k : ℕ) (b : Fin 2) (o : ℕ) : Vec F (⟨3, ![1, 64, w]⟩ : Shape) .bf16 :=
  fun z => x (ix3 b (rw8 k (z 1).val) (col (o + (z 2).val)))

/-- All pairs' states after chunk `k`. -/
def stepAll (x0 : Vec F S2x4x8x192x256 .bf16) (x1 : Vec F S2x4x8x128x256 .bf16) (x3 : Vec F S2x4x8x8x256 .f32) (k : ℕ)
    (s : Vec F S2x4x128x256 .f32) : Vec F S2x4x128x256 .f32 :=
  fun y => nextState (kwqAt x0 k (y 0) (y 1)) (glAt x3 k (y 0) (y 1)) (nAt x1 k (y 0) (y 1)) (sAt s (y 0) (y 1)) (ix4 0 0 (y 2) (y 3))

/-- All pairs' states before chunk `k`, from `s`. -/
def statesFrom (x0 : Vec F S2x4x8x192x256 .bf16) (x1 : Vec F S2x4x8x128x256 .bf16) (x3 : Vec F S2x4x8x8x256 .f32)
    (s : Vec F S2x4x128x256 .f32) : ℕ → Vec F S2x4x128x256 .f32
  | 0 => s
  | k + 1 => stepAll x0 x1 x3 k (statesFrom x0 x1 x3 s k)

/-- The pair a column belongs to. -/
def pairOf (c : ℕ) : Fin 4 := ⟨c / 256 % 4, Nat.mod_lt _ (by decide)⟩

/-- The gated rows of all chunks, `st k` the states before chunk `k`. -/
def outAll (x0 : Vec F S2x4x8x192x256 .bf16) (x2 x4 : Vec F S2x512x1024 .bf16) (x5 : Vec F S1x128 .f32)
    (st : ℕ → Vec F S2x4x128x256 .f32) : Vec F S2x512x1024 .bf16 :=
  fun y =>
    if (y 2).val / 128 % 2 = 0 then
      firstOut (kwqAt x0 ((y 1).val / 64) (y 0) (pairOf (y 2).val)) (rowsAt x2 ((y 1).val / 64) (y 0) (256 * (pairOf (y 2).val).val))
        (sAt (st ((y 1).val / 64)) (y 0) (pairOf (y 2).val)) x5 (rowsAt x4 ((y 1).val / 64) (y 0) (128 * ((y 2).val / 128)))
        (ix3 0 ⟨(y 1).val % 64, Nat.mod_lt _ (by decide)⟩ ⟨(y 2).val % 128, Nat.mod_lt _ (by decide)⟩)
    else
      secondOut (kwqAt x0 ((y 1).val / 64) (y 0) (pairOf (y 2).val)) (rowsAt x2 ((y 1).val / 64) (y 0) (256 * (pairOf (y 2).val).val))
        (sAt (st ((y 1).val / 64)) (y 0) (pairOf (y 2).val)) x5 (rowsAt x4 ((y 1).val / 64) (y 0) (128 * ((y 2).val / 128)))
        (ix3 0 ⟨(y 1).val % 64, Nat.mod_lt _ (by decide)⟩ ⟨(y 2).val % 128, Nat.mod_lt _ (by decide)⟩)

/-! ## Loads of the blocks -/

section Loads

variable {sig : RefSig} {κ : Kind} {sp : Space}

/-- One chunk of one pair. -/
theorem load5 {n w : ℕ} {e : EltTy} (a : Memref sig κ sp (⟨5, ![2, 4, 8, n, w]⟩ : Shape) e) (h : a.IsWhole)
    (X : Vec F (⟨5, ![2, 4, 8, n, w]⟩ : Shape) e) (b : Fin 2) (p : Fin 4) (k : ℕ) (hk : k < 8) {off : Fin 5 → ℕ} (ho : off = ![b.val, p.val, k, 0, 0])
    (hb : ∀ d, off d + (⟨5, ![1, 1, 1, n, w]⟩ : Shape).size d ≤ (⟨5, ![2, 4, 8, n, w]⟩ : Shape).size d) :
    View.readAt (Elt F) a.view (Rect.toLoadRect (Rect.unit (s := (⟨5, ![2, 4, 8, n, w]⟩ : Shape)) off (⟨5, ![1, 1, 1, n, w]⟩ : Shape).size hb)) (h.unread X)
      = fun z => X (ix5 b p (ch k) (z 3) (z 4)) := by
  subst ho
  rw [View.readAt_eq_ld, Memref.IsWhole.read_unread]
  funext z
  have z0 : (z 0).val = 0 := Nat.lt_one_iff.mp (z 0).isLt
  have z1 : (z 1).val = 0 := Nat.lt_one_iff.mp (z 1).isLt
  have z2 : (z 2).val = 0 := Nat.lt_one_iff.mp (z 2).isLt
  refine congrArg X (funext fun d => ?_)
  match d with
  | ⟨0, _⟩ => exact Fin.ext (show b.val + 1 * (z 0).val = b.val by omega)
  | ⟨1, _⟩ => exact Fin.ext (show p.val + 1 * (z 1).val = p.val by omega)
  | ⟨2, _⟩ => exact Fin.ext (show k + 1 * (z 2).val = k % 8 by rw [Nat.mod_eq_of_lt hk]; omega)
  | ⟨3, _⟩ => exact Fin.ext (show 0 + 1 * (z 3).val = (z 3).val by omega)
  | ⟨4, _⟩ => exact Fin.ext (show 0 + 1 * (z 4).val = (z 4).val by omega)

/-- One pair's state. -/
theorem load4 (a : Memref sig κ sp (S2x4x128x256 : Shape) .f32) (f : a.view.ty.Contents (Elt F)) (b : Fin 2) (p : Fin 4)
    (hb : ∀ d, (![b.val, p.val, 0, 0] : Fin 4 → ℕ) d + S1x1x128x256.size d ≤ S2x4x128x256.size d) :
    View.readAt (Elt F) a.view (Rect.toLoadRect (Rect.unit (s := S2x4x128x256) ![b.val, p.val, 0, 0] S1x1x128x256.size hb)) f
      = sAt (a.view.read (Elt F) f) b p := by
  rw [View.readAt_eq_ld]
  funext z
  have z0 : (z 0).val = 0 := Nat.lt_one_iff.mp (z 0).isLt
  have z1 : (z 1).val = 0 := Nat.lt_one_iff.mp (z 1).isLt
  refine congrArg (a.view.read (Elt F) f) (funext fun d => ?_)
  match d with
  | ⟨0, _⟩ => exact Fin.ext (show b.val + 1 * (z 0).val = b.val by omega)
  | ⟨1, _⟩ => exact Fin.ext (show p.val + 1 * (z 1).val = p.val by omega)
  | ⟨2, _⟩ => exact Fin.ext (show 0 + 1 * (z 2).val = (z 2).val by omega)
  | ⟨3, _⟩ => exact Fin.ext (show 0 + 1 * (z 3).val = (z 3).val by omega)

/-- The rows of one chunk. -/
theorem load3 {w : ℕ} (a : Memref sig κ sp (S2x512x1024 : Shape) .bf16) (h : a.IsWhole)
    (X : Vec F S2x512x1024 .bf16) (b : Fin 2) (k : ℕ) (hk : k < 8) (o : ℕ) {off : Fin 3 → ℕ} (ho : off = ![b.val, 64 * k, o])
    (hb : ∀ d, off d + (⟨3, ![1, 64, w]⟩ : Shape).size d ≤ S2x512x1024.size d) :
    View.readAt (Elt F) a.view (Rect.toLoadRect (Rect.unit (s := S2x512x1024) off (⟨3, ![1, 64, w]⟩ : Shape).size hb)) (h.unread X)
      = rowsAt X k b o := by
  subst ho
  rw [View.readAt_eq_ld, Memref.IsWhole.read_unread]
  funext z
  have z0 : (z 0).val = 0 := Nat.lt_one_iff.mp (z 0).isLt
  have z1 : (z 1).val < 64 := (z 1).isLt
  have z2 : (z 2).val < w := (z 2).isLt
  have hw : o + w ≤ 1024 := hb 2
  refine congrArg X (funext fun d => ?_)
  match d with
  | ⟨0, _⟩ => exact Fin.ext (show b.val + 1 * (z 0).val = b.val by omega)
  | ⟨1, _⟩ => exact Fin.ext (show 64 * k + 1 * (z 1).val = (64 * k + (z 1).val) % 512 by rw [Nat.mod_eq_of_lt (by omega)]; omega)
  | ⟨2, _⟩ => exact Fin.ext (show o + 1 * (z 2).val = (o + (z 2).val) % 1024 by rw [Nat.mod_eq_of_lt (by omega)]; omega)

end Loads

/-! ## Stores are blocks of the vocabulary's arrays -/

section Pieces

variable (arg2 : Memref sig .tc .vmem S2x4x8x192x256 .bf16) (harg2 : arg2.IsWhole) (arg3 : Memref sig .tc .vmem S2x4x8x128x256 .bf16) (harg3 : arg3.IsWhole) (arg4 : Memref sig .tc .vmem S2x512x1024 .bf16) (harg4 : arg4.IsWhole) (arg5 : Memref sig .tc .vmem S2x4x8x8x256 .f32) (harg5 : arg5.IsWhole) (arg6 : Memref sig .tc .vmem S2x512x1024 .bf16) (harg6 : arg6.IsWhole) (arg7 : Memref sig .tc .vmem S1x128 .f32) (harg7 : arg7.IsWhole) (arg8 : Memref sig .tc .vmem S2x512x1024 .bf16) (harg8 : arg8.IsWhole) (arg9 : Memref sig .tc .vmem S2x4x128x256 .f32) (harg9 : arg9.IsWhole)
  (x0 : Vec F S2x4x8x192x256 .bf16) (x1 : Vec F S2x4x8x128x256 .bf16) (x2 : Vec F S2x512x1024 .bf16) (x3 : Vec F S2x4x8x8x256 .f32) (x4 : Vec F S2x512x1024 .bf16) (x5 : Vec F S1x128 .f32)

theorem state_piece (k : ℕ) (hk : k < 8) (f9 : arg9.view.ty.Contents (Elt F)) (b : Fin 2) (p : Fin 4) {offA offG offN : Fin 5 → ℕ}
    (hA : offA = ![b.val, p.val, k, 0, 0]) (hG : offG = ![b.val, p.val, k, 0, 0]) (hN : offN = ![b.val, p.val, k, 0, 0])
    (hbA : ∀ d, offA d + S1x1x1x192x256.size d ≤ S2x4x8x192x256.size d)
    (hbG : ∀ d, offG d + S1x1x1x8x256.size d ≤ S2x4x8x8x256.size d)
    (hbN : ∀ d, offN d + S1x1x1x128x256.size d ≤ S2x4x8x128x256.size d)
    (hb hb' : ∀ d, (![b.val, p.val, 0, 0] : Fin 4 → ℕ) d + S1x1x128x256.size d ≤ S2x4x128x256.size d) (x : S1x1x128x256.Idx) :
    nextState (View.readAt (Elt F) arg2.view (Rect.toLoadRect (Rect.unit (s := S2x4x8x192x256) offA S1x1x1x192x256.size hbA)) (harg2.unread x0))
        (View.readAt (Elt F) arg5.view (Rect.toLoadRect (Rect.unit (s := S2x4x8x8x256) offG S1x1x1x8x256.size hbG)) (harg5.unread x3))
        (View.readAt (Elt F) arg3.view (Rect.toLoadRect (Rect.unit (s := S2x4x8x128x256) offN S1x1x1x128x256.size hbN)) (harg3.unread x1))
        (View.readAt (Elt F) arg9.view (Rect.toLoadRect (Rect.unit (s := S2x4x128x256) ![b.val, p.val, 0, 0] S1x1x128x256.size hb)) f9) x
      = stepAll x0 x1 x3 k (arg9.view.read (Elt F) f9) ((Rect.unit (s := S2x4x128x256) ![b.val, p.val, 0, 0] S1x1x128x256.size hb').emb x) := by
  rw [load5 (n := 192) (w := 256) arg2 harg2 x0 b p k hk hA, load5 (n := 8) (w := 256) arg5 harg5 x3 b p k hk hG,
    load5 (n := 128) (w := 256) arg3 harg3 x1 b p k hk hN, load4 arg9]
  have z0 : (x 0).val = 0 := Nat.lt_one_iff.mp (x 0).isLt
  have z1 : (x 1).val = 0 := Nat.lt_one_iff.mp (x 1).isLt
  have e0 : (Rect.unit (s := S2x4x128x256) ![b.val, p.val, 0, 0] S1x1x128x256.size hb').emb x 0 = b :=
    Fin.ext (show b.val + 1 * (x 0).val = b.val by omega)
  have e1 : (Rect.unit (s := S2x4x128x256) ![b.val, p.val, 0, 0] S1x1x128x256.size hb').emb x 1 = p :=
    Fin.ext (show p.val + 1 * (x 1).val = p.val by omega)
  unfold stepAll
  rw [e0, e1]
  refine congrArg (nextState _ _ _ _) (funext fun d => ?_)
  match d with
  | ⟨0, _⟩ => exact Fin.ext z0
  | ⟨1, _⟩ => exact Fin.ext z1
  | ⟨2, _⟩ => exact Fin.ext (show (x 2).val = 0 + 1 * (x 2).val by omega)
  | ⟨3, _⟩ => exact Fin.ext (show (x 3).val = 0 + 1 * (x 3).val by omega)

theorem first_piece (k : ℕ) (hk : k < 8) (f9 : arg9.view.ty.Contents (Elt F)) (st : ℕ → Vec F S2x4x128x256 .f32) (hst : arg9.view.read (Elt F) f9 = st k)
    (b : Fin 2) (p : Fin 4) {offA : Fin 5 → ℕ} {offO offZ offY : Fin 3 → ℕ}
    (hA : offA = ![b.val, p.val, k, 0, 0]) (hO : offO = ![b.val, 64 * k, 256 * p.val]) (hZ : offZ = ![b.val, 64 * k, 256 * p.val + 0])
    (hY : offY = ![b.val, 64 * k, 256 * p.val + 0])
    (hbA : ∀ d, offA d + S1x1x1x192x256.size d ≤ S2x4x8x192x256.size d)
    (hbO : ∀ d, offO d + S1x64x256.size d ≤ S2x512x1024.size d)
    (hbZ : ∀ d, offZ d + S1x64x128.size d ≤ S2x512x1024.size d)
    (hbY : ∀ d, offY d + S1x64x128.size d ≤ S2x512x1024.size d)
    (hbW : ∀ d, (![0, 0] : Fin 2 → ℕ) d + S1x128.size d ≤ S1x128.size d)
    (hb : ∀ d, (![b.val, p.val, 0, 0] : Fin 4 → ℕ) d + S1x1x128x256.size d ≤ S2x4x128x256.size d) (x : S1x64x128.Idx) :
    firstOut (View.readAt (Elt F) arg2.view (Rect.toLoadRect (Rect.unit (s := S2x4x8x192x256) offA S1x1x1x192x256.size hbA)) (harg2.unread x0))
        (View.readAt (Elt F) arg4.view (Rect.toLoadRect (Rect.unit (s := S2x512x1024) offO S1x64x256.size hbO)) (harg4.unread x2))
        (View.readAt (Elt F) arg9.view (Rect.toLoadRect (Rect.unit (s := S2x4x128x256) ![b.val, p.val, 0, 0] S1x1x128x256.size hb)) f9)
        (View.readAt (Elt F) arg7.view (Rect.toLoadRect (Rect.unit (s := S1x128) ![0, 0] S1x128.size hbW)) (harg7.unread x5))
        (View.readAt (Elt F) arg6.view (Rect.toLoadRect (Rect.unit (s := S2x512x1024) offZ S1x64x128.size hbZ)) (harg6.unread x4)) x
      = outAll x0 x2 x4 x5 st ((Rect.unit (s := S2x512x1024) offY S1x64x128.size hbY).emb x) := by
  rw [load5 (n := 192) (w := 256) arg2 harg2 x0 b p k hk hA, load3 (w := 256) arg4 harg4 x2 b k hk _ hO,
    load3 (w := 128) arg6 harg6 x4 b k hk _ hZ, load4 arg9, hst, Cert.Tail.read_whole (n := 1) (k := 128) arg7 harg7 x5]
  subst hY
  have z0 : (x 0).val = 0 := Nat.lt_one_iff.mp (x 0).isLt
  have z1 : (x 1).val < 64 := (x 1).isLt
  have z2 : (x 2).val < 128 := (x 2).isLt
  have hp : p.val < 4 := p.isLt
  generalize hy : (Rect.unit (s := S2x512x1024) ![b.val, 64 * k, 256 * p.val + 0] S1x64x128.size hbY).emb x = y
  have e0 : y 0 = b := by rw [← hy]; exact Fin.ext (show b.val + 1 * (x 0).val = b.val by omega)
  have e1 : (y 1).val = 64 * k + (x 1).val := by rw [← hy]; exact (show 64 * k + 1 * (x 1).val = _ by omega)
  have e2 : (y 2).val = 256 * p.val + 0 + (x 2).val := by rw [← hy]; exact (show 256 * p.val + 0 + 1 * (x 2).val = _ by omega)
  have ek : (y 1).val / 64 = k := by omega
  have ep : pairOf (y 2).val = p := Fin.ext (show (y 2).val / 256 % 4 = p.val by omega)
  have eo : 128 * ((y 2).val / 128) = 256 * p.val + 0 := by omega
  unfold outAll
  rw [if_pos (show (y 2).val / 128 % 2 = 0 by omega), ek, e0, ep, eo]
  refine congrArg (firstOut _ _ _ _ _) (funext fun d => ?_)
  match d with
  | ⟨0, _⟩ => exact Fin.ext z0
  | ⟨1, _⟩ => exact Fin.ext (show (x 1).val = (y 1).val % 64 by omega)
  | ⟨2, _⟩ => exact Fin.ext (show (x 2).val = (y 2).val % 128 by omega)

theorem second_piece (k : ℕ) (hk : k < 8) (f9 : arg9.view.ty.Contents (Elt F)) (st : ℕ → Vec F S2x4x128x256 .f32) (hst : arg9.view.read (Elt F) f9 = st k)
    (b : Fin 2) (p : Fin 4) {offA : Fin 5 → ℕ} {offO offZ offY : Fin 3 → ℕ}
    (hA : offA = ![b.val, p.val, k, 0, 0]) (hO : offO = ![b.val, 64 * k, 256 * p.val]) (hZ : offZ = ![b.val, 64 * k, 256 * p.val + 128])
    (hY : offY = ![b.val, 64 * k, 256 * p.val + 128])
    (hbA : ∀ d, offA d + S1x1x1x192x256.size d ≤ S2x4x8x192x256.size d)
    (hbO : ∀ d, offO d + S1x64x256.size d ≤ S2x512x1024.size d)
    (hbZ : ∀ d, offZ d + S1x64x128.size d ≤ S2x512x1024.size d)
    (hbY : ∀ d, offY d + S1x64x128.size d ≤ S2x512x1024.size d)
    (hbW : ∀ d, (![0, 0] : Fin 2 → ℕ) d + S1x128.size d ≤ S1x128.size d)
    (hb : ∀ d, (![b.val, p.val, 0, 0] : Fin 4 → ℕ) d + S1x1x128x256.size d ≤ S2x4x128x256.size d) (x : S1x64x128.Idx) :
    secondOut (View.readAt (Elt F) arg2.view (Rect.toLoadRect (Rect.unit (s := S2x4x8x192x256) offA S1x1x1x192x256.size hbA)) (harg2.unread x0))
        (View.readAt (Elt F) arg4.view (Rect.toLoadRect (Rect.unit (s := S2x512x1024) offO S1x64x256.size hbO)) (harg4.unread x2))
        (View.readAt (Elt F) arg9.view (Rect.toLoadRect (Rect.unit (s := S2x4x128x256) ![b.val, p.val, 0, 0] S1x1x128x256.size hb)) f9)
        (View.readAt (Elt F) arg7.view (Rect.toLoadRect (Rect.unit (s := S1x128) ![0, 0] S1x128.size hbW)) (harg7.unread x5))
        (View.readAt (Elt F) arg6.view (Rect.toLoadRect (Rect.unit (s := S2x512x1024) offZ S1x64x128.size hbZ)) (harg6.unread x4)) x
      = outAll x0 x2 x4 x5 st ((Rect.unit (s := S2x512x1024) offY S1x64x128.size hbY).emb x) := by
  rw [load5 (n := 192) (w := 256) arg2 harg2 x0 b p k hk hA, load3 (w := 256) arg4 harg4 x2 b k hk _ hO,
    load3 (w := 128) arg6 harg6 x4 b k hk _ hZ, load4 arg9, hst, Cert.Tail.read_whole (n := 1) (k := 128) arg7 harg7 x5]
  subst hY
  have z0 : (x 0).val = 0 := Nat.lt_one_iff.mp (x 0).isLt
  have z1 : (x 1).val < 64 := (x 1).isLt
  have z2 : (x 2).val < 128 := (x 2).isLt
  have hp : p.val < 4 := p.isLt
  generalize hy : (Rect.unit (s := S2x512x1024) ![b.val, 64 * k, 256 * p.val + 128] S1x64x128.size hbY).emb x = y
  have e0 : y 0 = b := by rw [← hy]; exact Fin.ext (show b.val + 1 * (x 0).val = b.val by omega)
  have e1 : (y 1).val = 64 * k + (x 1).val := by rw [← hy]; exact (show 64 * k + 1 * (x 1).val = _ by omega)
  have e2 : (y 2).val = 256 * p.val + 128 + (x 2).val := by rw [← hy]; exact (show 256 * p.val + 128 + 1 * (x 2).val = _ by omega)
  have ek : (y 1).val / 64 = k := by omega
  have ep : pairOf (y 2).val = p := Fin.ext (show (y 2).val / 256 % 4 = p.val by omega)
  have eo : 128 * ((y 2).val / 128) = 256 * p.val + 128 := by omega
  unfold outAll
  rw [if_neg (show ¬(y 2).val / 128 % 2 = 0 by omega), ek, e0, ep, eo]
  refine congrArg (secondOut _ _ _ _ _) (funext fun d => ?_)
  match d with
  | ⟨0, _⟩ => exact Fin.ext z0
  | ⟨1, _⟩ => exact Fin.ext (show (x 1).val = (y 1).val % 64 by omega)
  | ⟨2, _⟩ => exact Fin.ext (show (x 2).val = (y 2).val % 128 by omega)

end Pieces

end Cert.Kernel4Ideal.Scan

end
-- ==== Proof.ScanBlocks.lean ====
/- The delta rule's scan, one grid point: the trips of its loop store blocks of the vocabulary's arrays, so after the
   loop the state is the one after eight chunks and the output block holds the gated rows of all of them. -/
module

public import proofs.«01_k».proof.Proof.ScanSpec
public import Idealize.ShloMosaic.Lib.Ring

@[expose] public section

set_option maxRecDepth 16384

noncomputable section

namespace Cert.Kernel4Ideal.Scan

open Cert.Kernel4Ideal.Gen
open Idealize.ShloMosaic Idealize.ShloMosaic.TcCoe Idealize.ShloMosaic.Tactic Idealize.SL.Sem

variable {F : FTy → Type} [FloatOps F]

variable (𝒱 : Variants) (c : Dev nD) (bd : Option 𝒱.V) (i : grid0.Coords) (arg2 : Memref sig .tc .vmem S2x4x8x192x256 .bf16) (harg2 : arg2.IsWhole) (arg3 : Memref sig .tc .vmem S2x4x8x128x256 .bf16) (harg3 : arg3.IsWhole) (arg4 : Memref sig .tc .vmem S2x512x1024 .bf16) (harg4 : arg4.IsWhole) (arg5 : Memref sig .tc .vmem S2x4x8x8x256 .f32) (harg5 : arg5.IsWhole) (arg6 : Memref sig .tc .vmem S2x512x1024 .bf16) (harg6 : arg6.IsWhole) (arg7 : Memref sig .tc .vmem S1x128 .f32) (harg7 : arg7.IsWhole) (arg8 : Memref sig .tc .vmem S2x512x1024 .bf16) (harg8 : arg8.IsWhole) (arg9 : Memref sig .tc .vmem S2x4x128x256 .f32) (harg9 : arg9.IsWhole)
  (x0 : Vec F S2x4x8x192x256 .bf16) (x1 : Vec F S2x4x8x128x256 .bf16) (x2 : Vec F S2x512x1024 .bf16) (x3 : Vec F S2x4x8x8x256 .f32) (x4 : Vec F S2x512x1024 .bf16) (x5 : Vec F S1x128 .f32)

/-- One trip's stores into the state are blocks of the stepped states, -/
theorem trip_state (k : Fin k0_t1_loop.trips) (f8 f9) :
    View.PiecesOf (stepAll x0 x1 x3 k.val (arg9.view.read (Elt F) f9))
      ((trip_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) k).2.1 f8 f9) := by
  have hk : k.val < 8 := Nat.lt_of_lt_of_le k.isLt k0_t1_abs.2.1
  unfold trip_k0_t1
  dsimp only
  exact ⟨fun x => state_piece arg2 harg2 arg3 harg3 arg5 harg5 arg9 x0 x1 x3 k.val hk f9 1 3 (k0_off8_eq k) (k0_off23_eq k) (k0_off24_eq k) (k0_off8_inb k) (k0_off23_inb k) (k0_off24_inb k) inb_S2x4x128x256_S1x1x128x256_1_3_0_0 inb_S2x4x128x256_S1x1x128x256_1_3_0_0 x,
    fun x => state_piece arg2 harg2 arg3 harg3 arg5 harg5 arg9 x0 x1 x3 k.val hk f9 1 2 (k0_off7_eq k) (k0_off21_eq k) (k0_off22_eq k) (k0_off7_inb k) (k0_off21_inb k) (k0_off22_inb k) inb_S2x4x128x256_S1x1x128x256_1_2_0_0 inb_S2x4x128x256_S1x1x128x256_1_2_0_0 x,
    fun x => state_piece arg2 harg2 arg3 harg3 arg5 harg5 arg9 x0 x1 x3 k.val hk f9 1 1 (k0_off6_eq k) (k0_off19_eq k) (k0_off20_eq k) (k0_off6_inb k) (k0_off19_inb k) (k0_off20_inb k) inb_S2x4x128x256_S1x1x128x256_1_1_0_0 inb_S2x4x128x256_S1x1x128x256_1_1_0_0 x,
    fun x => state_piece arg2 harg2 arg3 harg3 arg5 harg5 arg9 x0 x1 x3 k.val hk f9 1 0 (k0_off5_eq k) (k0_off17_eq k) (k0_off18_eq k) (k0_off5_inb k) (k0_off17_inb k) (k0_off18_inb k) inb_S2x4x128x256_S1x1x128x256_1_0_0_0 inb_S2x4x128x256_S1x1x128x256_1_0_0_0 x,
    fun x => state_piece arg2 harg2 arg3 harg3 arg5 harg5 arg9 x0 x1 x3 k.val hk f9 0 3 (k0_off4_eq k) (k0_off15_eq k) (k0_off16_eq k) (k0_off4_inb k) (k0_off15_inb k) (k0_off16_inb k) inb_S2x4x128x256_S1x1x128x256_0_3_0_0 inb_S2x4x128x256_S1x1x128x256_0_3_0_0 x,
    fun x => state_piece arg2 harg2 arg3 harg3 arg5 harg5 arg9 x0 x1 x3 k.val hk f9 0 2 (k0_off3_eq k) (k0_off13_eq k) (k0_off14_eq k) (k0_off3_inb k) (k0_off13_inb k) (k0_off14_inb k) inb_S2x4x128x256_S1x1x128x256_0_2_0_0 inb_S2x4x128x256_S1x1x128x256_0_2_0_0 x,
    fun x => state_piece arg2 harg2 arg3 harg3 arg5 harg5 arg9 x0 x1 x3 k.val hk f9 0 1 (k0_off2_eq k) (k0_off11_eq k) (k0_off12_eq k) (k0_off2_inb k) (k0_off11_inb k) (k0_off12_inb k) inb_S2x4x128x256_S1x1x128x256_0_1_0_0 inb_S2x4x128x256_S1x1x128x256_0_1_0_0 x,
    fun x => state_piece arg2 harg2 arg3 harg3 arg5 harg5 arg9 x0 x1 x3 k.val hk f9 0 0 (k0_off1_eq k) (k0_off9_eq k) (k0_off10_eq k) (k0_off1_inb k) (k0_off9_inb k) (k0_off10_inb k) inb_S2x4x128x256_S1x1x128x256_0_0_0_0 inb_S2x4x128x256_S1x1x128x256_0_0_0_0 x, trivial⟩

/-- and cover it. -/
theorem trip_state_cover (k : Fin k0_t1_loop.trips) (f8 f9) (y : S2x4x128x256.Idx) :
    ∃ pc ∈ (trip_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) k).2.1 f8 f9, y ∈ pc.1.set :=
  View.cover_of_tiledL (s := S2x4x128x256) _ S1x1x128x256.size (by sl_kernel_rfl) y

/-- One trip's stores into the output block are blocks of the gated rows. -/
theorem trip_out (k : Fin k0_t1_loop.trips) (f8 f9) (st : ℕ → Vec F S2x4x128x256 .f32) (hst : arg9.view.read (Elt F) f9 = st k.val) :
    View.PiecesOf (outAll x0 x2 x4 x5 st)
      ((trip_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) k).1 f8 f9) := by
  have hk : k.val < 8 := Nat.lt_of_lt_of_le k.isLt k0_t1_abs.2.1
  unfold trip_k0_t1
  dsimp only
  exact ⟨fun x => second_piece arg2 harg2 arg4 harg4 arg6 harg6 arg7 harg7 arg9 x0 x2 x4 x5 k.val hk f9 st hst 1 3 (k0_off8_eq k) (k0_off46_eq k) (k0_off48_eq k) (k0_off48_eq k) (k0_off8_inb k) (k0_off46_inb k) (k0_off48_inb k) (k0_off48_inb k) inb_S1x128_S1x128_0_0 inb_S2x4x128x256_S1x1x128x256_1_3_0_0 x,
    fun x => first_piece arg2 harg2 arg4 harg4 arg6 harg6 arg7 harg7 arg9 x0 x2 x4 x5 k.val hk f9 st hst 1 3 (k0_off8_eq k) (k0_off46_eq k) (k0_off47_eq k) (k0_off47_eq k) (k0_off8_inb k) (k0_off46_inb k) (k0_off47_inb k) (k0_off47_inb k) inb_S1x128_S1x128_0_0 inb_S2x4x128x256_S1x1x128x256_1_3_0_0 x,
    fun x => second_piece arg2 harg2 arg4 harg4 arg6 harg6 arg7 harg7 arg9 x0 x2 x4 x5 k.val hk f9 st hst 1 2 (k0_off7_eq k) (k0_off43_eq k) (k0_off45_eq k) (k0_off45_eq k) (k0_off7_inb k) (k0_off43_inb k) (k0_off45_inb k) (k0_off45_inb k) inb_S1x128_S1x128_0_0 inb_S2x4x128x256_S1x1x128x256_1_2_0_0 x,
    fun x => first_piece arg2 harg2 arg4 harg4 arg6 harg6 arg7 harg7 arg9 x0 x2 x4 x5 k.val hk f9 st hst 1 2 (k0_off7_eq k) (k0_off43_eq k) (k0_off44_eq k) (k0_off44_eq k) (k0_off7_inb k) (k0_off43_inb k) (k0_off44_inb k) (k0_off44_inb k) inb_S1x128_S1x128_0_0 inb_S2x4x128x256_S1x1x128x256_1_2_0_0 x,
    fun x => second_piece arg2 harg2 arg4 harg4 arg6 harg6 arg7 harg7 arg9 x0 x2 x4 x5 k.val hk f9 st hst 1 1 (k0_off6_eq k) (k0_off40_eq k) (k0_off42_eq k) (k0_off42_eq k) (k0_off6_inb k) (k0_off40_inb k) (k0_off42_inb k) (k0_off42_inb k) inb_S1x128_S1x128_0_0 inb_S2x4x128x256_S1x1x128x256_1_1_0_0 x,
    fun x => first_piece arg2 harg2 arg4 harg4 arg6 harg6 arg7 harg7 arg9 x0 x2 x4 x5 k.val hk f9 st hst 1 1 (k0_off6_eq k) (k0_off40_eq k) (k0_off41_eq k) (k0_off41_eq k) (k0_off6_inb k) (k0_off40_inb k) (k0_off41_inb k) (k0_off41_inb k) inb_S1x128_S1x128_0_0 inb_S2x4x128x256_S1x1x128x256_1_1_0_0 x,
    fun x => second_piece arg2 harg2 arg4 harg4 arg6 harg6 arg7 harg7 arg9 x0 x2 x4 x5 k.val hk f9 st hst 1 0 (k0_off5_eq k) (k0_off37_eq k) (k0_off39_eq k) (k0_off39_eq k) (k0_off5_inb k) (k0_off37_inb k) (k0_off39_inb k) (k0_off39_inb k) inb_S1x128_S1x128_0_0 inb_S2x4x128x256_S1x1x128x256_1_0_0_0 x,
    fun x => first_piece arg2 harg2 arg4 harg4 arg6 harg6 arg7 harg7 arg9 x0 x2 x4 x5 k.val hk f9 st hst 1 0 (k0_off5_eq k) (k0_off37_eq k) (k0_off38_eq k) (k0_off38_eq k) (k0_off5_inb k) (k0_off37_inb k) (k0_off38_inb k) (k0_off38_inb k) inb_S1x128_S1x128_0_0 inb_S2x4x128x256_S1x1x128x256_1_0_0_0 x,
    fun x => second_piece arg2 harg2 arg4 harg4 arg6 harg6 arg7 harg7 arg9 x0 x2 x4 x5 k.val hk f9 st hst 0 3 (k0_off4_eq k) (k0_off34_eq k) (k0_off36_eq k) (k0_off36_eq k) (k0_off4_inb k) (k0_off34_inb k) (k0_off36_inb k) (k0_off36_inb k) inb_S1x128_S1x128_0_0 inb_S2x4x128x256_S1x1x128x256_0_3_0_0 x,
    fun x => first_piece arg2 harg2 arg4 harg4 arg6 harg6 arg7 harg7 arg9 x0 x2 x4 x5 k.val hk f9 st hst 0 3 (k0_off4_eq k) (k0_off34_eq k) (k0_off35_eq k) (k0_off35_eq k) (k0_off4_inb k) (k0_off34_inb k) (k0_off35_inb k) (k0_off35_inb k) inb_S1x128_S1x128_0_0 inb_S2x4x128x256_S1x1x128x256_0_3_0_0 x,
    fun x => second_piece arg2 harg2 arg4 harg4 arg6 harg6 arg7 harg7 arg9 x0 x2 x4 x5 k.val hk f9 st hst 0 2 (k0_off3_eq k) (k0_off31_eq k) (k0_off33_eq k) (k0_off33_eq k) (k0_off3_inb k) (k0_off31_inb k) (k0_off33_inb k) (k0_off33_inb k) inb_S1x128_S1x128_0_0 inb_S2x4x128x256_S1x1x128x256_0_2_0_0 x,
    fun x => first_piece arg2 harg2 arg4 harg4 arg6 harg6 arg7 harg7 arg9 x0 x2 x4 x5 k.val hk f9 st hst 0 2 (k0_off3_eq k) (k0_off31_eq k) (k0_off32_eq k) (k0_off32_eq k) (k0_off3_inb k) (k0_off31_inb k) (k0_off32_inb k) (k0_off32_inb k) inb_S1x128_S1x128_0_0 inb_S2x4x128x256_S1x1x128x256_0_2_0_0 x,
    fun x => second_piece arg2 harg2 arg4 harg4 arg6 harg6 arg7 harg7 arg9 x0 x2 x4 x5 k.val hk f9 st hst 0 1 (k0_off2_eq k) (k0_off28_eq k) (k0_off30_eq k) (k0_off30_eq k) (k0_off2_inb k) (k0_off28_inb k) (k0_off30_inb k) (k0_off30_inb k) inb_S1x128_S1x128_0_0 inb_S2x4x128x256_S1x1x128x256_0_1_0_0 x,
    fun x => first_piece arg2 harg2 arg4 harg4 arg6 harg6 arg7 harg7 arg9 x0 x2 x4 x5 k.val hk f9 st hst 0 1 (k0_off2_eq k) (k0_off28_eq k) (k0_off29_eq k) (k0_off29_eq k) (k0_off2_inb k) (k0_off28_inb k) (k0_off29_inb k) (k0_off29_inb k) inb_S1x128_S1x128_0_0 inb_S2x4x128x256_S1x1x128x256_0_1_0_0 x,
    fun x => second_piece arg2 harg2 arg4 harg4 arg6 harg6 arg7 harg7 arg9 x0 x2 x4 x5 k.val hk f9 st hst 0 0 (k0_off1_eq k) (k0_off25_eq k) (k0_off27_eq k) (k0_off27_eq k) (k0_off1_inb k) (k0_off25_inb k) (k0_off27_inb k) (k0_off27_inb k) inb_S1x128_S1x128_0_0 inb_S2x4x128x256_S1x1x128x256_0_0_0_0 x,
    fun x => first_piece arg2 harg2 arg4 harg4 arg6 harg6 arg7 harg7 arg9 x0 x2 x4 x5 k.val hk f9 st hst 0 0 (k0_off1_eq k) (k0_off25_eq k) (k0_off26_eq k) (k0_off26_eq k) (k0_off1_inb k) (k0_off25_inb k) (k0_off26_inb k) (k0_off26_inb k) inb_S1x128_S1x128_0_0 inb_S2x4x128x256_S1x1x128x256_0_0_0_0 x, trivial⟩

/-- Blocks of one array after blocks of it. -/
theorem pieces_append {s : Shape} {e : EltTy} (G : Vec F s e) : ∀ (L L' : List (View.Piece (Elt F) s e)),
    View.PiecesOf G L → View.PiecesOf G L' → View.PiecesOf G (L ++ L')
  | [], _, _, h' => h'
  | _ :: L, L', h, h' => ⟨h.1, pieces_append G L L' h.2 h'⟩

/-- Before trip `k`: the state buffer reads as the states before chunk `k`, and every store so far into the output block
    is a block of the gated rows. -/
theorem before_trip (G8 : arg8.view.ty.Contents (Elt F)) (G9 : arg9.view.ty.Contents (Elt F)) : ∀ k : ℕ, k ≤ k0_t1_loop.trips →
    arg9.view.read (Elt F) (arg9.view.writes (Elt F) G9 (pb_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) G8 G9 k).2)
      = statesFrom x0 x1 x3 (arg9.view.read (Elt F) G9) k
    ∧ View.PiecesOf (outAll x0 x2 x4 x5 (statesFrom x0 x1 x3 (arg9.view.read (Elt F) G9)))
        (pb_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) G8 G9 k).1
  | 0, _ => ⟨rfl, trivial⟩
  | k + 1, hk => by
    obtain ⟨h9, h8⟩ := before_trip G8 G9 k (Nat.le_of_succ_le hk)
    rw [pb_k0_t1_succ (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) G8 G9 ⟨k, hk⟩]
    refine ⟨?_, pieces_append _ _ _ (trip_out (F := F) 𝒱 c bd i arg2 harg2 arg3 harg3 arg4 harg4 arg5 harg5 arg6 harg6 arg7 harg7 arg8 harg8 arg9 harg9 x0 x1 x2 x3 x4 x5 ⟨k, hk⟩ _ _ _ h9) h8⟩
    dsimp only
    rw [View.writes_append, View.read_writes_eq_canon _ _ _ (trip_state_cover (F := F) 𝒱 c bd i arg2 harg2 arg3 harg3 arg4 harg4 arg5 harg5 arg6 harg6 arg7 harg7 arg8 harg8 arg9 harg9 x0 x1 x2 x3 x4 x5 ⟨k, hk⟩ _ _),
      Cert.Tail.canon_blocks _ _ (trip_state (F := F) 𝒱 c bd i arg2 harg2 arg3 harg3 arg4 harg4 arg5 harg5 arg6 harg6 arg7 harg7 arg8 harg8 arg9 harg9 x0 x1 x2 x3 x4 x5 ⟨k, hk⟩ _ _)
        (trip_state_cover (F := F) 𝒱 c bd i arg2 harg2 arg3 harg3 arg4 harg4 arg5 harg5 arg6 harg6 arg7 harg7 arg8 harg8 arg9 harg9 x0 x1 x2 x3 x4 x5 ⟨k, hk⟩ _ _), h9]
    rfl

theorem loop_cover (G8 : arg8.view.ty.Contents (Elt F)) (G9 : arg9.view.ty.Contents (Elt F)) (y : S2x512x1024.Idx) :
    ∃ pc ∈ (pb_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) G8 G9 k0_t1_loop.trips).1, y ∈ pc.1.set :=
  View.cover_of_tiledL (s := S2x512x1024) _ S1x64x128.size (by sl_kernel_rfl) y

/-- After the loop the state buffer reads as the states after eight chunks, -/
theorem loop_state (G8 : arg8.view.ty.Contents (Elt F)) (G9 : arg9.view.ty.Contents (Elt F)) :
    arg9.view.read (Elt F) (arg9.view.writes (Elt F) G9 (pb_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) G8 G9 k0_t1_loop.trips).2)
      = statesFrom x0 x1 x3 (arg9.view.read (Elt F) G9) 8 :=
  (before_trip (F := F) 𝒱 c bd i arg2 harg2 arg3 harg3 arg4 harg4 arg5 harg5 arg6 harg6 arg7 harg7 arg8 harg8 arg9 harg9 x0 x1 x2 x3 x4 x5 G8 G9 k0_t1_loop.trips le_rfl).1.trans
    (congrArg _ (show k0_t1_loop.trips = 8 by decide +kernel))

/-- and the output block as the gated rows. -/
theorem loop_out (G8 : arg8.view.ty.Contents (Elt F)) (G9 : arg9.view.ty.Contents (Elt F)) :
    arg8.view.read (Elt F) (arg8.view.writes (Elt F) G8 (pb_k0_t1 (F := F) 𝒱 c bd i arg2 harg2 arg3 harg3 arg4 harg4 arg5 harg5 arg6 harg6 arg7 harg7 arg8 harg8 arg9 harg9 (harg2.unread x0) (harg3.unread x1) (harg4.unread x2) (harg5.unread x3) (harg6.unread x4) (harg7.unread x5) G8 G9 k0_t1_loop.trips).1)
      = outAll x0 x2 x4 x5 (statesFrom x0 x1 x3 (arg9.view.read (Elt F) G9)) := by
  rw [View.read_writes_eq_canon _ _ _ (loop_cover (F := F) 𝒱 c bd i arg2 harg2 arg3 harg3 arg4 harg4 arg5 harg5 arg6 harg6 arg7 harg7 arg8 harg8 arg9 harg9 x0 x1 x2 x3 x4 x5 G8 G9)]
  exact Cert.Tail.canon_blocks _ _ (before_trip (F := F) 𝒱 c bd i arg2 harg2 arg3 harg3 arg4 harg4 arg5 harg5 arg6 harg6 arg7 harg7 arg8 harg8 arg9 harg9 x0 x1 x2 x3 x4 x5 G8 G9 k0_t1_loop.trips le_rfl).2
    (loop_cover (F := F) 𝒱 c bd i arg2 harg2 arg3 harg3 arg4 harg4 arg5 harg5 arg6 harg6 arg7 harg7 arg8 harg8 arg9 harg9 x0 x1 x2 x3 x4 x5 G8 G9)

end Cert.Kernel4Ideal.Scan

end
-- ==== Proof.ScanRun.lean ====
/- The delta rule's scan at one grid point: the body's run, its loop by the states before each chunk. -/
module

public import Idealize.ShloMosaic.Lib.VecWindow
public import proofs.«01_k».proof.Proof.ScanBlocks
public import proofs.«01_k».proof.Proof.Gen.Kernel4Ideal.Frame.Runs
public import Idealize.ShloMosaic.Lib.Claim

@[expose] public section

set_option maxRecDepth 16384

noncomputable section

namespace Cert.Kernel4Ideal.Scan

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run walks the whole body once: its proof term is long
set_option maxHeartbeats 4000000 in
/-- One point of the scan at the start of its sequences: the states start from zero. -/
theorem run_first (c : Dev nD) (i : grid0.Coords) (arg2 : Memref sig .tc .vmem S2x4x8x192x256 .bf16) (harg2 : arg2.IsWhole) (arg3 : Memref sig .tc .vmem S2x4x8x128x256 .bf16) (harg3 : arg3.IsWhole) (arg4 : Memref sig .tc .vmem S2x512x1024 .bf16) (harg4 : arg4.IsWhole) (arg5 : Memref sig .tc .vmem S2x4x8x8x256 .f32) (harg5 : arg5.IsWhole) (arg6 : Memref sig .tc .vmem S2x512x1024 .bf16) (harg6 : arg6.IsWhole) (arg7 : Memref sig .tc .vmem S1x128 .f32) (harg7 : arg7.IsWhole) (arg8 : Memref sig .tc .vmem S2x512x1024 .bf16) (harg8 : arg8.IsWhole) (arg9 : Memref sig .tc .vmem S2x4x128x256 .f32) (harg9 : arg9.IsWhole) (hc0 : cond0_0 i)
    (x0 : Vec F S2x4x8x192x256 .bf16) (x1 : Vec F S2x4x8x128x256 .bf16) (x2 : Vec F S2x512x1024 .bf16) (x3 : Vec F S2x4x8x8x256 .f32) (x4 : Vec F S2x512x1024 .bf16) (x5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outAll x0 x2 x4 x5 (statesFrom x0 x1 x3 k0_pay1)) ∗ owns (c : Thread nD τ) arg9 fullShare (statesFrom x0 x1 x3 k0_pay1 8)) -∗ K ⟨⟩))
      ⊢ wp frame (wpE (defs₀ (F := F)) Variants.none c none) E (cc0_gdn_scan i arg2 harg2 arg3 harg3 arg4 harg4 arg5 harg5 arg6 harg6 arg7 harg7 arg8 harg8 arg9 harg9) K := by
  simp only [cc0_gdn_scan_eq_skeleton]; unfold cc0_gdn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact (loop_out (F := F) Variants.none c none i arg2 harg2 arg3 harg3 arg4 harg4 arg5 harg5 arg6 harg6 arg7 harg7 arg8 harg8 arg9 harg9 x0 x1 x2 x3 x4 x5 _ _).trans (congrArg (fun s => outAll x0 x2 x4 x5 (statesFrom x0 x1 x3 s)) (View.read_writes_full _ _ _ _ _))
  iexists _; isplitr
  swap; · iexact HS0
  ipureintro
  rw [View.writes_append]
  exact (loop_state (F := F) Variants.none c none i arg2 harg2 arg3 harg3 arg4 harg4 arg5 harg5 arg6 harg6 arg7 harg7 arg8 harg8 arg9 harg9 x0 x1 x2 x3 x4 x5 _ _).trans (congrArg (fun s => statesFrom x0 x1 x3 s 8) (View.read_writes_full _ _ _ _ _))

-- the run walks the whole body once: its proof term is long
set_option maxHeartbeats 4000000 in
/-- One point of the scan past the start of its sequences: the states start from what the point before left. -/
theorem run_later (c : Dev nD) (i : grid0.Coords) (arg2 : Memref sig .tc .vmem S2x4x8x192x256 .bf16) (harg2 : arg2.IsWhole) (arg3 : Memref sig .tc .vmem S2x4x8x128x256 .bf16) (harg3 : arg3.IsWhole) (arg4 : Memref sig .tc .vmem S2x512x1024 .bf16) (harg4 : arg4.IsWhole) (arg5 : Memref sig .tc .vmem S2x4x8x8x256 .f32) (harg5 : arg5.IsWhole) (arg6 : Memref sig .tc .vmem S2x512x1024 .bf16) (harg6 : arg6.IsWhole) (arg7 : Memref sig .tc .vmem S1x128 .f32) (harg7 : arg7.IsWhole) (arg8 : Memref sig .tc .vmem S2x512x1024 .bf16) (harg8 : arg8.IsWhole) (arg9 : Memref sig .tc .vmem S2x4x128x256 .f32) (harg9 : arg9.IsWhole) (hc0 : ¬cond0_0 i)
    (x0 : Vec F S2x4x8x192x256 .bf16) (x1 : Vec F S2x4x8x128x256 .bf16) (x2 : Vec F S2x512x1024 .bf16) (x3 : Vec F S2x4x8x8x256 .f32) (x4 : Vec F S2x512x1024 .bf16) (x5 : Vec F S1x128 .f32) (xs : Vec F S2x4x128x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outAll x0 x2 x4 x5 (statesFrom x0 x1 x3 xs)) ∗ owns (c : Thread nD τ) arg9 fullShare (statesFrom x0 x1 x3 xs 8)) -∗ K ⟨⟩))
      ⊢ wp frame (wpE (defs₀ (F := F)) Variants.none c none) E (cc0_gdn_scan i arg2 harg2 arg3 harg3 arg4 harg4 arg5 harg5 arg6 harg6 arg7 harg7 arg8 harg8 arg9 harg9) K := by
  simp only [cc0_gdn_scan_eq_skeleton]; unfold cc0_gdn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact (loop_out (F := F) Variants.none c none i arg2 harg2 arg3 harg3 arg4 harg4 arg5 harg5 arg6 harg6 arg7 harg7 arg8 harg8 arg9 harg9 x0 x1 x2 x3 x4 x5 _ _).trans (congrArg (fun s => outAll x0 x2 x4 x5 (statesFrom x0 x1 x3 s)) (harg9.read_unread _))
  iexists _; isplitr
  swap; · iexact HS0
  ipureintro

  exact (loop_state (F := F) Variants.none c none i arg2 harg2 arg3 harg3 arg4 harg4 arg5 harg5 arg6 harg6 arg7 harg7 arg8 harg8 arg9 harg9 x0 x1 x2 x3 x4 x5 _ _).trans (congrArg (fun s => statesFrom x0 x1 x3 s 8) (harg9.read_unread _))

end Cert.Kernel4Ideal.Scan

end
-- ==== Proof.ScanFrame.lean ====
/- The frame of the delta rule's scan at any float type: the body's run at every grid point, the states carried between points
   as the invariant, and from them the launch's final arrays. -/
module

public import proofs.«01_k».proof.Proof.ScanRun
public import Idealize.ShloMosaic.Lib.Pipeline.Frame
public import Idealize.ShloMosaic.Lib.Claim

@[expose] public section

set_option maxRecDepth 16384

noncomputable section

namespace Cert.Kernel4Ideal.Scan

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The states after point `n`: from zero at the start of a sequence, else from the point before. -/
def stateAt (c : Dev nD) : (n : ℕ) → n < cfg0.N → Vec F S2x4x128x256 .f32
  | 0, h => statesFrom (iblk m c 0 ⟨0, h⟩) (iblk m c 1 ⟨0, h⟩) (iblk m c 3 ⟨0, h⟩) k0_pay1 8
  | n + 1, h => statesFrom (iblk m c 0 ⟨n + 1, h⟩) (iblk m c 1 ⟨n + 1, h⟩) (iblk m c 3 ⟨n + 1, h⟩)
      (if (n + 1) % 8 = 0 then k0_pay1 else stateAt c n (Nat.lt_of_succ_lt h)) 8

/-- The states point `t` starts from. -/
def startAt (c : Dev nD) (t : Fin cfg0.N) : Vec F S2x4x128x256 .f32 :=
  if t.val % 8 = 0 then k0_pay1 else stateAt m c (t.val - 1) (Nat.lt_of_le_of_lt (Nat.sub_le _ _) t.isLt)

theorem stateAt_eq (c : Dev nD) (t : Fin cfg0.N) :
    stateAt m c t.val t.isLt = statesFrom (iblk m c 0 t) (iblk m c 1 t) (iblk m c 3 t) (startAt m c t) 8 := by
  obtain ⟨n, hn⟩ := t
  cases n with
  | zero => rfl
  | succ n => rfl

/-- The output block of point `t`. -/
def outAt (c : Dev nD) (t : Fin cfg0.N) : Vec F S2x512x1024 .bf16 :=
  outAll (iblk m c 0 t) (iblk m c 2 t) (iblk m c 4 t) (iblk m c 5 t)
    (statesFrom (iblk m c 0 t) (iblk m c 1 t) (iblk m c 3 t) (startAt m c t))

/-! ## The pipeline's proof data -/

/-- The invariant before position `n`: the state buffer holds the states after the point before. -/
def PhiS (c : Dev nD) : (n : ℕ) → n ≤ cfg0.N → sProp 𝕄
  | 0, _ => Pipeline.ΦA spec0 c
  | n + 1, hn => iprop(iprop(owns (c : Thread nD τ) scM0_0 fullShare (stateAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (stateAt m c t.val t.isLt)) ∗ (∃ r, prngReg c r)) := rfl

theorem PhiS_pos (c : Dev nD) (n : ℕ) (h : n ≤ cfg0.N) (hz : n ≠ 0) :
    PhiS m c n h = iprop(iprop(owns (c : Thread nD τ) scM0_0 fullShare (stateAt m c (n - 1) (by omega))) ∗ (∃ r, prngReg c r)) := by
  cases n with
  | zero => exact absurd rfl hz
  | succ n => rfl

/-- The proof data: each input's buffer at its block, the output's at the point's block, the states invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = PhiS m c (t.val + 1) t.isLt from rfl, PhiS_succ, stateAt_eq]
  unfold outAt
  by_cases h0 : t.val % 8 = 0
  · rw [show startAt m c t = k0_pay1 from if_pos h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [show startAt m c t = stateAt m c (t.val - 1) (Nat.lt_of_le_of_lt (Nat.sub_le _ _) t.isLt) from if_neg h0]
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the states are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The launch: every array of the pipeline ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel4Ideal.Scan

end
-- ==== Proof.ScanPoint.lean ====
/- The delta rule's recurrence over the extended reals, and one grid point's functions read that way. -/
module

public import proofs.«01_k».proof.Proof.ScanSpec
public import Idealize.ShloMosaic.Lib.Pointwise

@[expose] public section

set_option maxRecDepth 16384
noncomputable section

namespace Cert.Scan

open Idealize.ShloMosaic

/-! ## The recurrence over the extended reals -/

/-- Column `j` of the head that column `d` of a pair belongs to. -/
def hj (d : Fin 256) (j : Fin 128) : Fin 256 := ⟨128 * (d.val / 128) + j.val, by omega⟩

/-- Chunk `n` of a sequence. -/
def cn (n : ℕ) : Fin 64 := ⟨n % 64, Nat.mod_lt _ (by decide)⟩

/-- One element of the next state: decayed, with the chunk's addition, less the state's operator against the state. -/
def nextAt (K : Fin 192 → Fin 256 → EReal) (N : Fin 128 → Fin 256 → EReal) (G : Fin 8 → Fin 256 → EReal) (s : Fin 128 → Fin 256 → EReal)
    (r : Fin 128) (d : Fin 256) : EReal :=
  s r d * G ⟨r.val % 8, Nat.mod_lt _ (by decide)⟩ d + N r d - ∑ j : Fin 128, K ⟨r.val, by omega⟩ (hj d j) * s j d

/-- One element of a chunk's rows before their norm. -/
def rowAt (K : Fin 192 → Fin 256 → EReal) (o : EReal) (s : Fin 128 → Fin 256 → EReal) (i : Fin 64) (d : Fin 256) : EReal :=
  (∑ j : Fin 128, K ⟨128 + i.val, by omega⟩ (hj d j) * s j d) + o

/-- A row normed, weighed and gated by `z`. -/
def gatedAt (o w : Fin 128 → EReal) (z : EReal) (k : Fin 128) : EReal :=
  o k * Ideal.rsqrt (Ideal.div (∑ j, o j * o j) (Ideal.ofBits .f32 0x43000000#32) + Ideal.ofBits .f32 0x358637BD#32) * w k * (z * Ideal.logistic z)

/-- The states before chunk `n` of each sequence's pairs, from zero. -/
def stAt (K : Fin 8 → Fin 4 → Fin 64 → Fin 192 → Fin 256 → EReal) (N : Fin 8 → Fin 4 → Fin 64 → Fin 128 → Fin 256 → EReal)
    (G : Fin 8 → Fin 4 → Fin 64 → Fin 8 → Fin 256 → EReal) : ℕ → Fin 8 → Fin 4 → Fin 128 → Fin 256 → EReal
  | 0 => fun _ _ _ _ => 0
  | n + 1 => fun b p => nextAt (K b p (cn n)) (N b p (cn n)) (G b p (cn n)) (stAt K N G n b p)

/-- The pair of heads column `c` belongs to, -/
def pr (c : Fin 1024) : Fin 4 := ⟨c.val / 256, by omega⟩

/-- column `k` of its head, -/
def hc (c : Fin 1024) (k : Fin 128) : Fin 1024 := ⟨128 * (c.val / 128) + k.val, by omega⟩

/-- and the same within the pair. -/
def lane (c : Fin 1024) (k : Fin 128) : Fin 256 := ⟨128 * (c.val / 128 % 2) + k.val, by omega⟩

/-- One element of the scan's result. -/
def scanAt (K : Fin 8 → Fin 4 → Fin 64 → Fin 192 → Fin 256 → EReal) (N : Fin 8 → Fin 4 → Fin 64 → Fin 128 → Fin 256 → EReal)
    (G : Fin 8 → Fin 4 → Fin 64 → Fin 8 → Fin 256 → EReal) (O : Fin 8 → Fin 4096 → Fin 1024 → EReal) (Z : Fin 8 → Fin 4096 → Fin 4096 → EReal)
    (w : Fin 128 → EReal) (b : Fin 8) (t : Fin 4096) (c : Fin 1024) : EReal :=
  gatedAt (fun k => rowAt (K b (pr c) (cn (t.val / 64))) (O b t (hc c k)) (stAt K N G (t.val / 64) b (pr c)) ⟨t.val % 64, Nat.mod_lt _ (by decide)⟩ (lane c k))
    w (Z b t ⟨3072 + c.val, by omega⟩) ⟨c.val % 128, Nat.mod_lt _ (by decide)⟩

/-- A sum over both heads' columns whose terms vanish off the head of column `e`. -/
theorem sum_head (f : Fin 256 → EReal) (e : Fin 256) (h : ∀ j : Fin 256, j.val / 128 ≠ e.val / 128 → f j = 0) :
    ∑ j : Fin 256, f j = ∑ j : Fin 128, f (hj e j) := by
  have hs : ∑ j : Fin 256, f j = ∑ j : Fin 128, f ⟨j.val, by omega⟩ + ∑ j : Fin 128, f ⟨128 + j.val, by omega⟩ :=
    Fin.sum_univ_add (a := 128) (b := 128) f
  rw [hs]
  by_cases he : e.val < 128
  · rw [Finset.sum_eq_zero (s := Finset.univ) (f := fun j : Fin 128 => f ⟨128 + j.val, by omega⟩) fun j _ => h _ (by dsimp only; omega), add_zero]
    exact Finset.sum_congr rfl fun j _ => congrArg f (Fin.ext (by simp only [hj]; omega))
  · rw [Finset.sum_eq_zero (s := Finset.univ) (f := fun j : Fin 128 => f ⟨j.val, by omega⟩) fun j _ => h _ (by dsimp only; omega), zero_add]
    exact Finset.sum_congr rfl fun j _ => congrArg f (Fin.ext (by simp only [hj]; omega))

end Cert.Scan

namespace Cert.Kernel4Ideal.Scan

open Cert.Kernel4Ideal Cert.Kernel4Ideal.Gen Cert.Scan
open Idealize.ShloMosaic Idealize.ShloMosaic.TcCoe Idealize.SL.Sem

/-! ## The point's functions at an index -/

theorem diagonal_same (s : Vec Ideal S1x1x128x256 .f32) (e : Fin 256) (j : Fin 128) : diagonal s (ix2 (hj e j) e) = s (ix4 0 0 j e) := by
  by_cases he : e.val < 128
  · have e0 : e.val / 128 = 0 := by omega
    pointwise [diagonal, hj, e0, he]
  · have e1 : e.val / 128 = 1 := by omega
    pointwise [diagonal, hj, e1, he]
    exact congrArg (fun d => s (ix4 0 0 j d)) (Fin.ext (by dsimp only; omega))

theorem diagonal_other (s : Vec Ideal S1x1x128x256 .f32) (e a : Fin 256) (h : a.val / 128 ≠ e.val / 128) : diagonal s (ix2 a e) = 0 := by
  by_cases he : e.val < 128
  · have ha : ¬ a.val < 128 := by omega
    pointwise [diagonal, he, ha]
  · have ha : a.val < 128 := by omega
    pointwise [diagonal, he, ha]

theorem both_at (kwq : Vec Ideal S1x1x1x192x256 .bf16) (s : Vec Ideal S1x1x128x256 .f32) (r : Fin 192) (e : Fin 256) :
    both kwq s (ix2 r e) = ∑ j : Fin 128, kwq (ix5 0 0 0 r (hj e j)) * s (ix4 0 0 j e) := by
  have hs : both kwq s (ix2 r e) = ∑ j : Fin 256, kwq (ix5 0 0 0 r j) * diagonal s (ix2 j e) := by
    pointwise [both]
  rw [hs, sum_head _ e fun j hj => by rw [diagonal_other s e j hj]; exact mul_zero _]
  exact Finset.sum_congr rfl fun j _ => by rw [diagonal_same]

theorem copy_at (v : FVec Ideal S8x256 .f32) (j : S128x256.Idx) (c : ℕ) (hc : c < 8) {h : ∀ b, _} :
    v (Shape.Idx.norm fun b => ⟨if b.val = (0 : Fin 2).val then c else (j b).val, h b⟩) = v (ix2 ⟨c % 8, Nat.mod_lt _ (by decide)⟩ (j 1)) := by
  rw [Shape.Idx.norm_def]
  refine congrArg v (funext fun b => ?_)
  match b with
  | ⟨0, _⟩ => exact Fin.ext (Nat.mod_eq_of_lt hc).symm
  | ⟨1, _⟩ => rfl

theorem copiesAt (v : FVec Ideal S8x256 .f32) (j : S128x256.Idx) :
    ∀ (xs : List ((s : Shape) × (s.Idx → EReal))) (hs) (c : ℕ) (hc), (∀ p ∈ xs, p = ⟨S8x256, v⟩) →
      concatenateAt S128x256 0 j xs hs c hc = v (ix2 ⟨c % 8, Nat.mod_lt _ (by decide)⟩ (j 1))
  | [], _, _, hc, _ => absurd hc (Nat.not_lt_zero _)
  | [p], hs, c, hc, hx => by
    obtain rfl := hx p List.mem_cons_self
    rw [concatenateAt_singleton]
    exact copy_at v j c hc
  | p :: q :: xs, hs, c, hc, hx => by
    obtain rfl := hx p List.mem_cons_self
    rw [concatenateAt_cons]
    split
    · next hlt => exact copy_at v j c hlt
    · next hlt =>
      rw [copiesAt v j (q :: xs) _ _ _ fun p hp => hx p (List.mem_cons_of_mem _ hp)]
      have h8 : ¬ c < 8 := hlt
      refine congrArg (fun a => v (ix2 a (j 1))) (Fin.ext ?_)
      show (c - 8) % 8 = c % 8
      omega

/-- Sixteen copies of eight rows, read at a row. -/
theorem copies_at (v : FVec Ideal S8x256 .f32) (r : Fin 128) (d : Fin 256) :
    concatenate S128x256 0 [⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩, ⟨S8x256, v⟩] concatenates_S8x256_S8x256_S8x256_S8x256_S8x256_S8x256_S8x256_S8x256_S8x256_S8x256_S8x256_S8x256_S8x256_S8x256_S8x256_S8x256_S128x256_d0 (ix2 r d)
      = v (ix2 ⟨r.val % 8, Nat.mod_lt _ (by decide)⟩ d) := by
  rw [concatenate_apply]
  exact copiesAt v (ix2 r d) _ _ r.val _ (by intro p hp; simpa using hp)

theorem decay_at (gl : Vec Ideal S1x1x1x8x256 .f32) (r : Fin 128) (d : Fin 256) :
    decay gl (ix2 r d) = gl (ix5 0 0 0 ⟨r.val % 8, Nat.mod_lt _ (by decide)⟩ d) := by
  unfold decay
  rw [copies_at]
  pointwise []

theorem next_at (kwq : Vec Ideal S1x1x1x192x256 .bf16) (gl : Vec Ideal S1x1x1x8x256 .f32) (n : Vec Ideal S1x1x1x128x256 .bf16)
    (s : Vec Ideal S1x1x128x256 .f32) (r : Fin 128) (d : Fin 256) :
    nextState kwq gl n s (ix4 0 0 r d)
      = nextAt (fun a b => kwq (ix5 0 0 0 a b)) (fun a b => n (ix5 0 0 0 a b)) (fun a b => gl (ix5 0 0 0 a b)) (fun a b => s (ix4 0 0 a b)) r d := by
  pointwise [nextState, nextAt, decay_at, both_at]

theorem rows_at (kwq : Vec Ideal S1x1x1x192x256 .bf16) (o0 : Vec Ideal S1x64x256 .bf16)
    (s : Vec Ideal S1x1x128x256 .f32) (i : Fin 64) (d : Fin 256) :
    rowsOf kwq o0 s (ix2 i d)
      = rowAt (fun a b => kwq (ix5 0 0 0 a b)) (o0 (ix3 0 i d)) (fun a b => s (ix4 0 0 a b)) i d := by
  pointwise [rowsOf, rowAt, both_at]

theorem gated_at (o : FVec Ideal S64x128 .f32) (nw : Vec Ideal S1x128 .f32) (z : Vec Ideal S1x64x128 .bf16) (i : Fin 64) (k : Fin 128) :
    gated o nw z (ix3 0 i k) = gatedAt (fun k => o (ix2 i k)) (fun k => nw (ix2 0 k)) (z (ix3 0 i k)) k := by
  pointwise [gated, gatedAt]

end Cert.Kernel4Ideal.Scan

end
-- ==== Proof.ScanValue.lean ====
/- The delta rule's scan over the extended reals: its result array from the arguments. -/
module

public import proofs.«01_k».proof.Proof.ScanFrame
public import proofs.«01_k».proof.Proof.ScanPoint
public import Idealize.ShloMosaic.Lib.Pipeline.ValueKit

@[expose] public section

set_option maxRecDepth 16384
noncomputable section

namespace Cert.Kernel4Ideal.Scan

open Cert.Kernel4Ideal Cert.Kernel4Ideal.Gen Cert.Scan
open Idealize.ShloMosaic Idealize.ShloMosaic.TcCoe Idealize.SL.Sem
open Idealize.ShloMosaic.Pipeline (Dat)

/-! ## The point's output at an index -/

theorem rowsAt_at (x : Vec Ideal S2x512x1024 .bf16) (b : Fin 2) (i : Fin 512) (c : Fin 1024) (k : Fin 128) (h : Fin 256)
    (hh : 256 * (pr c).val + h.val = (hc c k).val) :
    rowsAt (w := 256) x (i.val / 64) b (256 * (pairOf c.val).val) (ix3 0 ⟨i.val % 64, Nat.mod_lt _ (by decide)⟩ h) = x (ix3 b i (hc c k)) := by
  have hp : (pairOf c.val).val = (pr c).val := by simp only [pairOf, pr]; omega
  refine congrArg x (funext fun a => ?_)
  match a with
  | ⟨0, _⟩ => rfl
  | ⟨1, _⟩ => exact Fin.ext (show (64 * (i.val / 64) + i.val % 64) % 512 = i.val by omega)
  | ⟨2, _⟩ => exact Fin.ext (show (256 * (pairOf c.val).val + h.val) % 1024 = (hc c k).val by
      rw [hp, hh, Nat.mod_eq_of_lt (hc c k).isLt])

theorem zAt_at (x : Vec Ideal S2x512x1024 .bf16) (b : Fin 2) (i : Fin 512) (c : Fin 1024) :
    rowsAt (w := 128) x (i.val / 64) b (128 * (c.val / 128)) (ix3 0 ⟨i.val % 64, Nat.mod_lt _ (by decide)⟩ ⟨c.val % 128, Nat.mod_lt _ (by decide)⟩) = x (ix3 b i c) := by
  refine congrArg x (funext fun a => ?_)
  match a with
  | ⟨0, _⟩ => rfl
  | ⟨1, _⟩ => exact Fin.ext (show (64 * (i.val / 64) + i.val % 64) % 512 = i.val by omega)
  | ⟨2, _⟩ => exact Fin.ext (show (128 * (c.val / 128) + c.val % 128) % 1024 = c.val by omega)

theorem first_cols (o : FVec Ideal S64x256 .f32) (i : Fin 64) (k : Fin 128) :
    (extractStridedSlice S64x128 ![0, 0] o slices_S64x256_o0_0_S64x128 : FVec Ideal S64x128 .f32) (ix2 i k) = o (ix2 i ⟨k.val, by omega⟩) := by
  pointwise []

theorem second_cols (o : FVec Ideal S64x256 .f32) (i : Fin 64) (k : Fin 128) :
    (extractStridedSlice S64x128 ![0, 128] o slices_S64x256_o0_128_S64x128 : FVec Ideal S64x128 .f32) (ix2 i k) = o (ix2 i ⟨128 + k.val, by omega⟩) := by
  pointwise []

theorem outAll_at (x0 : Vec Ideal S2x4x8x192x256 .bf16) (x2 x4 : Vec Ideal S2x512x1024 .bf16) (x5 : Vec Ideal S1x128 .f32)
    (st : ℕ → Vec Ideal S2x4x128x256 .f32) (b : Fin 2) (i : Fin 512) (c : Fin 1024) :
    outAll x0 x2 x4 x5 st (ix3 b i c)
      = gatedAt (fun k => rowAt (fun a e => x0 (ix5 b (pr c) (ch (i.val / 64)) a e)) (x2 (ix3 b i (hc c k)))
            (fun a e => st (i.val / 64) (ix4 b (pr c) a e)) ⟨i.val % 64, Nat.mod_lt _ (by decide)⟩ (lane c k))
          (fun k => x5 (ix2 0 k)) (x4 (ix3 b i c)) ⟨c.val % 128, Nat.mod_lt _ (by decide)⟩ := by
  have hp : pairOf c.val = pr c := Fin.ext (by simp only [pairOf, pr]; omega)
  unfold outAll
  by_cases hl : c.val / 128 % 2 = 0
  · refine (if_pos hl).trans ((gated_at _ _ _ _ _).trans ?_)
    have hz := zAt_at x4 b i c
    refine (congrArg₂ (fun o z => gatedAt o (fun k => x5 (ix2 0 k)) z _) (funext fun k => ?_) hz)
    have hk : (⟨k.val, by omega⟩ : Fin 256) = lane c k := Fin.ext (by simp only [lane]; omega)
    refine (first_cols _ _ _).trans ((rows_at _ _ _ _ _).trans ?_)
    have ho := rowsAt_at x2 b i c k ⟨k.val, by omega⟩ (by simp only [pr, hc]; omega)
    rw [← hk]
    refine (congrArg (fun o => rowAt _ o _ _ _) ho).trans ?_
    rw [← hp]
    rfl
  · refine (if_neg hl).trans ((gated_at _ _ _ _ _).trans ?_)
    have hz := zAt_at x4 b i c
    refine (congrArg₂ (fun o z => gatedAt o (fun k => x5 (ix2 0 k)) z _) (funext fun k => ?_) hz)
    have hk : (⟨128 + k.val, by omega⟩ : Fin 256) = lane c k := Fin.ext (by simp only [lane]; omega)
    refine (second_cols _ _ _).trans ((rows_at _ _ _ _ _).trans ?_)
    have ho := rowsAt_at x2 b i c k ⟨128 + k.val, by omega⟩ (by simp only [pr, hc]; omega)
    rw [← hk]
    refine (congrArg (fun o => rowAt _ o _ _ _) ho).trans ?_
    rw [← hp]
    rfl

/-! ## The blocks are the arguments -/

variable (m : (ℓ : Loc nD τ sig) → Buf (Elt Ideal) ℓ)

/-- The sequence of row `b` of point `t`'s blocks. -/
def sq (t : ℕ) (b : Fin 2) : Fin 8 := ⟨(2 * (t / 8) + b.val) % 8, Nat.mod_lt _ (by decide)⟩

/-- The place of row `i` of point `t`'s blocks. -/
def pl (t : ℕ) (i : Fin 512) : Fin 4096 := ⟨512 * (t % 8) + i.val, by omega⟩

theorem idx : ∀ t : Fin cfg0.N, win0_0.index t = ![t.val / 8, 0, t.val % 8, 0, 0] ∧ win0_1.index t = ![t.val / 8, 0, t.val % 8, 0, 0]
    ∧ win0_2.index t = ![t.val / 8, t.val % 8, 0] ∧ win0_3.index t = ![t.val / 8, 0, t.val % 8, 0, 0] ∧ win0_4.index t = ![t.val / 8, t.val % 8, 3]
    ∧ win0_5.index t = ![0, 0] ∧ win0_6.index t = ![t.val / 8, t.val % 8, 0] ∧ t.val < 32 :=
  (by decide +kernel : ∀ t : Fin grid0.N, _)

theorem iblk0_at (c : Dev nD) (t : Fin cfg0.N) (b : Fin 2) (p : Fin 4) (k : Fin 8) (r : Fin 192) (d : Fin 256) :
    (show FVec Ideal S2x4x8x192x256 .bf16 from iblk m c 0 t) (ix5 b p k r d)
      = (show FVec Ideal S8x4x64x192x256 .bf16 from m ((c : Thread nD τ).loc main_arg0)) (ix5 (sq t.val b) p (cn (8 * (t.val % 8) + k.val)) r d) := by
  have e := idx t
  blk_point [iblk, V, e, sq, cn]

theorem iblk1_at (c : Dev nD) (t : Fin cfg0.N) (b : Fin 2) (p : Fin 4) (k : Fin 8) (r : Fin 128) (d : Fin 256) :
    (show FVec Ideal S2x4x8x128x256 .bf16 from iblk m c 1 t) (ix5 b p k r d)
      = (show FVec Ideal S8x4x64x128x256 .bf16 from m ((c : Thread nD τ).loc main_arg1)) (ix5 (sq t.val b) p (cn (8 * (t.val % 8) + k.val)) r d) := by
  have e := idx t
  blk_point [iblk, V, e, sq, cn]

theorem iblk2_at (c : Dev nD) (t : Fin cfg0.N) (b : Fin 2) (i : Fin 512) (d : Fin 1024) :
    (show FVec Ideal S2x512x1024 .bf16 from iblk m c 2 t) (ix3 b i d)
      = (show FVec Ideal S8x4096x1024 .bf16 from m ((c : Thread nD τ).loc main_arg2)) (ix3 (sq t.val b) (pl t.val i) d) := by
  have e := idx t
  blk_point [iblk, V, e, sq, pl]

theorem iblk3_at (c : Dev nD) (t : Fin cfg0.N) (b : Fin 2) (p : Fin 4) (k : Fin 8) (r : Fin 8) (d : Fin 256) :
    (show FVec Ideal S2x4x8x8x256 .f32 from iblk m c 3 t) (ix5 b p k r d)
      = (show FVec Ideal S8x4x64x8x256 .f32 from m ((c : Thread nD τ).loc main_arg3)) (ix5 (sq t.val b) p (cn (8 * (t.val % 8) + k.val)) r d) := by
  have e := idx t
  blk_point [iblk, V, e, sq, cn]

theorem iblk4_at (c : Dev nD) (t : Fin cfg0.N) (b : Fin 2) (i : Fin 512) (d : Fin 1024) :
    (show FVec Ideal S2x512x1024 .bf16 from iblk m c 4 t) (ix3 b i d)
      = (show FVec Ideal S8x4096x4096 .bf16 from m ((c : Thread nD τ).loc main_arg4)) (ix3 (sq t.val b) (pl t.val i) ⟨3072 + d.val, by omega⟩) := by
  have e := idx t
  blk_point [iblk, V, e, sq, pl]

theorem iblk5_at (c : Dev nD) (t : Fin cfg0.N) (d : Fin 128) :
    (show FVec Ideal S1x128 .f32 from iblk m c 5 t) (ix2 0 d) = (show FVec Ideal S128 .f32 from m ((c : Thread nD τ).loc main_arg5)) (ix1 d) := by
  have e := idx t
  blk_point [iblk, V, e]

/-- The arguments as functions of their indices: the operators, -/
def argK (c : Dev nD) (b : Fin 8) (p : Fin 4) (n : Fin 64) (r : Fin 192) (d : Fin 256) : EReal :=
  (show FVec Ideal S8x4x64x192x256 .bf16 from m ((c : Thread nD τ).loc main_arg0)) (ix5 b p n r d)
/-- the additions, -/
def argN (c : Dev nD) (b : Fin 8) (p : Fin 4) (n : Fin 64) (r : Fin 128) (d : Fin 256) : EReal :=
  (show FVec Ideal S8x4x64x128x256 .bf16 from m ((c : Thread nD τ).loc main_arg1)) (ix5 b p n r d)
/-- the decays, -/
def argG (c : Dev nD) (b : Fin 8) (p : Fin 4) (n : Fin 64) (r : Fin 8) (d : Fin 256) : EReal :=
  (show FVec Ideal S8x4x64x8x256 .f32 from m ((c : Thread nD τ).loc main_arg3)) (ix5 b p n r d)
/-- the rows within the chunks, -/
def argO (c : Dev nD) (b : Fin 8) (t : Fin 4096) (d : Fin 1024) : EReal :=
  (show FVec Ideal S8x4096x1024 .bf16 from m ((c : Thread nD τ).loc main_arg2)) (ix3 b t d)
/-- the projections, -/
def argZ (c : Dev nD) (b : Fin 8) (t : Fin 4096) (d : Fin 4096) : EReal :=
  (show FVec Ideal S8x4096x4096 .bf16 from m ((c : Thread nD τ).loc main_arg4)) (ix3 b t d)
/-- and the gain. -/
def argW (c : Dev nD) (k : Fin 128) : EReal := (show FVec Ideal S128 .f32 from m ((c : Thread nD τ).loc main_arg5)) (ix1 k)

/-! ## The states -/

/-- The states before each chunk of the point, from those before its first. -/
theorem states_at (c : Dev nD) (t : Fin cfg0.N) (s : Vec Ideal S2x4x128x256 .f32)
    (hs : ∀ b p r d, s (ix4 b p r d) = stAt (argK m c) (argN m c) (argG m c) (8 * (t.val % 8)) (sq t.val b) p r d) :
    ∀ k, k ≤ 8 → ∀ b p r d, statesFrom (iblk m c 0 t) (iblk m c 1 t) (iblk m c 3 t) s k (ix4 b p r d)
      = stAt (argK m c) (argN m c) (argG m c) (8 * (t.val % 8) + k) (sq t.val b) p r d
  | 0, _ => hs
  | k + 1, hk => fun b p r d => by
    have ih := states_at c t s hs k (by omega)
    have hc : (ch k).val = k := Nat.mod_eq_of_lt (by omega)
    refine (next_at (kwqAt (iblk m c 0 t) k b p) (glAt (iblk m c 3 t) k b p) (nAt (iblk m c 1 t) k b p)
      (sAt (statesFrom (iblk m c 0 t) (iblk m c 1 t) (iblk m c 3 t) s k) b p) r d).trans ?_
    have h0 : (fun a e => kwqAt (iblk m c 0 t) k b p (ix5 0 0 0 a e)) = argK m c (sq t.val b) p (cn (8 * (t.val % 8) + k)) :=
      funext fun a => funext fun e => (iblk0_at m c t b p (ch k) a e).trans (by rw [hc]; rfl)
    have h1 : (fun a e => nAt (iblk m c 1 t) k b p (ix5 0 0 0 a e)) = argN m c (sq t.val b) p (cn (8 * (t.val % 8) + k)) :=
      funext fun a => funext fun e => (iblk1_at m c t b p (ch k) a e).trans (by rw [hc]; rfl)
    have h3 : (fun a e => glAt (iblk m c 3 t) k b p (ix5 0 0 0 a e)) = argG m c (sq t.val b) p (cn (8 * (t.val % 8) + k)) :=
      funext fun a => funext fun e => (iblk3_at m c t b p (ch k) a e).trans (by rw [hc]; rfl)
    have h4 : (fun a e => sAt (statesFrom (iblk m c 0 t) (iblk m c 1 t) (iblk m c 3 t) s k) b p (ix4 0 0 a e))
        = stAt (argK m c) (argN m c) (argG m c) (8 * (t.val % 8) + k) (sq t.val b) p := funext fun a => funext fun e => ih b p a e
    rw [h0, h1, h3, h4]
    rfl

theorem zero_at (y : S2x4x128x256.Idx) : (k0_pay1 (F := Ideal) : Vec Ideal S2x4x128x256 .f32) y = 0 := by
  obtain ⟨b, p, r, d, rfl⟩ : ∃ (b : Fin 2) (p : Fin 4) (r : Fin 128) (d : Fin 256), y = ix4 b p r d := ⟨y 0, y 1, y 2, y 3, eq_ix4 y⟩
  pointwise [k0_pay1]

/-- The states point `t` starts from are the recurrence's, given those after the point before. -/
theorem start_of (c : Dev nD) (t : Fin cfg0.N)
    (hp : t.val % 8 ≠ 0 → ∀ b p r d, stateAt m c (t.val - 1) (Nat.lt_of_le_of_lt (Nat.sub_le _ _) t.isLt) (ix4 b p r d)
      = stAt (argK m c) (argN m c) (argG m c) (8 * ((t.val - 1) % 8) + 8) (sq (t.val - 1) b) p r d)
    (b : Fin 2) (p : Fin 4) (r : Fin 128) (d : Fin 256) :
    startAt m c t (ix4 b p r d) = stAt (argK m c) (argN m c) (argG m c) (8 * (t.val % 8)) (sq t.val b) p r d := by
  unfold startAt
  by_cases h : t.val % 8 = 0
  · rw [if_pos h, zero_at, h]
    rfl
  · rw [if_neg h, hp h b p r d]
    have hs : sq (t.val - 1) b = sq t.val b := Fin.ext (show (2 * ((t.val - 1) / 8) + b.val) % 8 = (2 * (t.val / 8) + b.val) % 8 by
      rw [show (t.val - 1) / 8 = t.val / 8 by omega])
    have hk : 8 * ((t.val - 1) % 8) + 8 = 8 * (t.val % 8) := by omega
    rw [hs, hk]

/-- The states after each point are the recurrence's. -/
theorem stateAt_at (c : Dev nD) (n : ℕ) : ∀ (hn : n < cfg0.N) (b : Fin 2) (p : Fin 4) (r : Fin 128) (d : Fin 256), stateAt m c n hn (ix4 b p r d)
      = stAt (argK m c) (argN m c) (argG m c) (8 * (n % 8) + 8) (sq n b) p r d := by
  induction n with
  | zero =>
    intro hn b p r d
    rw [stateAt_eq m c ⟨0, hn⟩]
    exact states_at m c ⟨0, hn⟩ _ (start_of m c ⟨0, hn⟩ fun h => absurd rfl h) 8 le_rfl b p r d
  | succ n ih =>
    intro hn b p r d
    rw [stateAt_eq m c ⟨n + 1, hn⟩]
    exact states_at m c ⟨n + 1, hn⟩ _ (start_of m c ⟨n + 1, hn⟩ fun _ => ih _) 8 le_rfl b p r d

/-- The states point `t` starts from are the recurrence's. -/
theorem startAt_at (c : Dev nD) (t : Fin cfg0.N) (b : Fin 2) (p : Fin 4) (r : Fin 128) (d : Fin 256) :
    startAt m c t (ix4 b p r d) = stAt (argK m c) (argN m c) (argG m c) (8 * (t.val % 8)) (sq t.val b) p r d :=
  start_of m c t (fun _ => stateAt_at m c (t.val - 1) _) b p r d

/-! ## The result array -/

/-- What point `t` leaves in its output block. -/
theorem point (c : Dev nD) (t : Fin cfg0.N) (b : Fin 2) (i : Fin 512) (d : Fin 1024) :
    outAt m c t (ix3 b i d) = scanAt (argK m c) (argN m c) (argG m c) (argO m c) (argZ m c) (argW m c) (sq t.val b) (pl t.val i) d := by
  unfold outAt scanAt
  refine (outAll_at _ _ _ _ _ b i d).trans ?_
  have hi : (pl t.val i).val / 64 = 8 * (t.val % 8) + i.val / 64 := by simp only [pl]; omega
  have hr : (⟨(pl t.val i).val % 64, Nat.mod_lt _ (by decide)⟩ : Fin 64) = ⟨i.val % 64, Nat.mod_lt _ (by decide)⟩ := Fin.ext (by simp only [pl]; omega)
  rw [hi, hr]
  have hch : (ch (i.val / 64)).val = i.val / 64 := Nat.mod_eq_of_lt (by omega)
  have h0 : (fun a e => (show FVec Ideal S2x4x8x192x256 .bf16 from iblk m c 0 t) (ix5 b (pr d) (ch (i.val / 64)) a e))
      = argK m c (sq t.val b) (pr d) (cn (8 * (t.val % 8) + i.val / 64)) :=
    funext fun a => funext fun e => (iblk0_at m c t b (pr d) (ch (i.val / 64)) a e).trans (by rw [hch]; rfl)
  have h4 : (fun a e => statesFrom (iblk m c 0 t) (iblk m c 1 t) (iblk m c 3 t) (startAt m c t) (i.val / 64) (ix4 b (pr d) a e))
      = stAt (argK m c) (argN m c) (argG m c) (8 * (t.val % 8) + i.val / 64) (sq t.val b) (pr d) :=
    funext fun a => funext fun e => states_at m c t _ (startAt_at m c t) (i.val / 64) (by omega) b (pr d) a e
  have h5 : (fun k => (show FVec Ideal S1x128 .f32 from iblk m c 5 t) (ix2 0 k)) = argW m c := funext fun k => iblk5_at m c t k
  have hz : (show FVec Ideal S2x512x1024 .bf16 from iblk m c 4 t) (ix3 b i d) = argZ m c (sq t.val b) (pl t.val i) ⟨3072 + d.val, by omega⟩ := iblk4_at m c t b i d
  have ho : ∀ k, (show FVec Ideal S2x512x1024 .bf16 from iblk m c 2 t) (ix3 b i (hc d k)) = argO m c (sq t.val b) (pl t.val i) (Cert.Scan.hc d k) := fun k => iblk2_at m c t b i _
  refine congrFun (?_ : gatedAt _ _ _ = gatedAt _ _ _) _
  refine (congrArg (fun z => gatedAt _ _ z) hz).trans ((congrArg (fun w => gatedAt _ w _) h5).trans (congrArg (fun o => gatedAt o _ _) (funext fun k => ?_)))
  refine (congrArg (fun K => rowAt K _ _ _ _) h0).trans ((congrArg (fun o => rowAt _ o _ _ _) (ho k)).trans (congrArg (fun s => rowAt _ _ s _ _) h4))

/-- The result array after the run. -/
theorem final (c : Dev nD) : (dats m 0 c).arrAt 6 (cfgs 0).N
    = (show FVec Ideal S8x4096x1024 .bf16 from fun i => scanAt (argK m c) (argN m c) (argG m c) (argO m c) (argZ m c) (argW m c) (i 0) (i 1) (i 2)) := by
  refine (dats m 0 c).arrAt_eq_of_covers 6 _ (by decide +kernel) fun t _ y => ?_
  have e := idx t
  blk_simp
  rw [after_6]
  refine (congrArg (outAt m c t) (eq_ix3 y)).trans ((point m c t (y 0) (y 1) (y 2)).trans ?_)
  refine congr (congrArg₂ (scanAt _ _ _ _ _ _) (Fin.ext ?_) (Fin.ext ?_)) (Fin.ext ?_)
  · blk_simp [e, sq]
    have h0 : (y 0).val < 2 := (y 0).isLt
    show (2 * (t.val / 8) + (y 0).val) % 8 = _
    omega
  · blk_simp [e, pl]
    show 512 * (t.val % 8) + (y 1).val = _
    omega
  · blk_simp [e]

end Cert.Kernel4Ideal.Scan

end
-- ==== Proof.ScanRefStep.lean ====
/- One trip of the reference's scan over the extended reals, and the arrays it reads. -/
module

public import proofs.«01_k».proof.Proof.ScanPoint
public import proofs.«01_k».proof.Proof.Gen.Reference4Ideal.Step
public import Idealize.ShloMosaic.Lib.Pointwise
public import Idealize.ShloMosaic.Lib.Pipeline.ValueKit
public import Idealize.ShloMosaic.Lib.WordCmp

@[expose] public section

set_option maxRecDepth 16384
noncomputable section

namespace Cert.Reference4Ideal.Scan

open Cert.Reference4Ideal Cert.Reference4Ideal.Gen Cert.Reference4Ideal.Step Cert.Scan
open Idealize.ShloMosaic Idealize.ShloMosaic.TcCoe Idealize.SL.Sem

/-- The pair of head `h`, -/
def hp (h : Fin 8) : Fin 4 := ⟨h.val / 2, by omega⟩

/-- its column `d` within the pair, -/
def hd (h : Fin 8) (d : Fin 128) : Fin 256 := ⟨h.val % 2 * 128 + d.val, by omega⟩

/-- and within all heads. -/
def hw (h : Fin 8) (d : Fin 128) : Fin 1024 := ⟨h.val * 128 + d.val, by omega⟩

/-- Row `i` of chunk `n`. -/
def rn (n i : Fin 64) : Fin 4096 := ⟨n.val * 64 + i.val, by omega⟩

/-! ## The loop's constants -/

section Args

variable (x0 : FVec Ideal S8x4x64x192x256 .bf16) (x1 : FVec Ideal S8x4x64x128x256 .bf16) (x2 : FVec Ideal S8x4096x1024 .bf16)
  (x3 : FVec Ideal S8x4x64x8x256 .f32)

theorem arg_kw (n : Fin 64) (b h : Fin 8) (r d : Fin 128) :
    A_main_v13 (F := Ideal) x0 x1 x2 x3 (ix5 n b h r d) = x0 (ix5 b (hp h) n ⟨r.val, by omega⟩ (hd h d)) := by
  pointwise [A_main_v13, A_main_v3, A_main_v2, A_main_v1, A_main_v0, hp, hd]

theorem arg_q (n : Fin 64) (b h : Fin 8) (i : Fin 64) (d : Fin 128) :
    A_main_v14 (F := Ideal) x0 x1 x2 x3 (ix5 n b h i d) = x0 (ix5 b (hp h) n ⟨128 + i.val, by omega⟩ (hd h d)) := by
  pointwise [A_main_v14, A_main_v3, A_main_v2, A_main_v1, A_main_v0, hp, hd]

theorem arg_n (n : Fin 64) (b h : Fin 8) (r d : Fin 128) :
    A_main_v18 (F := Ideal) x0 x1 x2 x3 (ix5 n b h r d) = x1 (ix5 b (hp h) n r (hd h d)) := by
  pointwise [A_main_v18, A_main_v17, A_main_v16, A_main_v15, hp, hd]

theorem arg_o (n : Fin 64) (b h : Fin 8) (i : Fin 64) (d : Fin 128) :
    A_main_v12 (F := Ideal) x0 x1 x2 x3 (ix5 n b h i d) = x2 (ix3 b (rn n i) (hw h d)) := by
  pointwise [A_main_v12, A_main_v11, A_main_v10, rn, hw]

theorem arg_gl (n : Fin 64) (b h : Fin 8) (r d : Fin 128) :
    A_main_v9 (F := Ideal) x0 x1 x2 x3 (ix5 n b h r d) = x3 (ix5 b (hp h) n ⟨r.val % 8, Nat.mod_lt _ (by decide)⟩ (hd h d)) := by
  pointwise [A_main_v9, A_main_v8, A_main_v7, A_main_v6, A_main_v5, A_main_v4, hp, hd]

end Args

/-! ## One trip at an index -/

theorem slices128 (j : ℕ) (hj : j < 64) : S64x8x8x128x128.Slices ![j, 0, 0, 0, 0] S1x8x8x128x128 :=
  ⟨rfl, fun a => by
    match a with
    | ⟨0, _⟩ => exact (show j + 1 ≤ 64 by omega)
    | ⟨1, _⟩ => exact (show 0 + 8 ≤ 8 by omega)
    | ⟨2, _⟩ => exact (show 0 + 8 ≤ 8 by omega)
    | ⟨3, _⟩ => exact (show 0 + 128 ≤ 128 by omega)
    | ⟨4, _⟩ => exact (show 0 + 128 ≤ 128 by omega)⟩

theorem slices64 (j : ℕ) (hj : j < 64) : S64x8x8x64x128.Slices ![j, 0, 0, 0, 0] S1x8x8x64x128 :=
  ⟨rfl, fun a => by
    match a with
    | ⟨0, _⟩ => exact (show j + 1 ≤ 64 by omega)
    | ⟨1, _⟩ => exact (show 0 + 8 ≤ 8 by omega)
    | ⟨2, _⟩ => exact (show 0 + 8 ≤ 8 by omega)
    | ⟨3, _⟩ => exact (show 0 + 64 ≤ 64 by omega)
    | ⟨4, _⟩ => exact (show 0 + 128 ≤ 128 by omega)⟩

theorem toInt_small (j : ℕ) (hj : j < 64) : (BitVec.ofNat 32 j).toInt = (j : ℤ) := by
  have e : (BitVec.ofNat 32 j).toNat = j := by rw [BitVec.toNat_ofNat]; omega
  rw [BitVec.toInt_eq_toNat_of_lt (by rw [e]; omega), e]

/-- The trip's block starts at its chunk. -/
theorem starts (j : ℕ) (hj : j < 64) (a : Fin 5) :
    ((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a (Shape.Idx.first h_S_)).toInt
      = ((![j, 0, 0, 0, 0] : Fin 5 → ℕ) a : ℤ) := by
  match a with
  | ⟨0, _⟩ => exact toInt_small j hj
  | ⟨1, _⟩ => rfl
  | ⟨2, _⟩ => rfl
  | ⟨3, _⟩ => rfl
  | ⟨4, _⟩ => rfl

theorem kw_at (j : ℕ) (hj : j < 64) (s : State Ideal) (b h : Fin 8) (r : Fin 128) (d : Fin 128) :
    b5 j s (ix4 b h r d) = s.main_v21_0 (ix5 ⟨j, hj⟩ b h r d) := by
  unfold b5 b4
  rw [WordCmp.dynamicSlice_eq_extract _ _ _ _ ![j, 0, 0, 0, 0] (slices128 j hj) (starts j hj)]
  pointwise []

theorem q_at (j : ℕ) (hj : j < 64) (s : State Ideal) (b h : Fin 8) (r : Fin 64) (d : Fin 128) :
    b11 j s (ix4 b h r d) = s.main_v21_1 (ix5 ⟨j, hj⟩ b h r d) := by
  unfold b11 b10
  rw [WordCmp.dynamicSlice_eq_extract _ _ _ _ ![j, 0, 0, 0, 0] (slices64 j hj) (starts j hj)]
  pointwise []

theorem n_at (j : ℕ) (hj : j < 64) (s : State Ideal) (b h : Fin 8) (r : Fin 128) (d : Fin 128) :
    b17 j s (ix4 b h r d) = s.main_v21_2 (ix5 ⟨j, hj⟩ b h r d) := by
  unfold b17 b16
  rw [WordCmp.dynamicSlice_eq_extract _ _ _ _ ![j, 0, 0, 0, 0] (slices128 j hj) (starts j hj)]
  pointwise []

theorem o_at (j : ℕ) (hj : j < 64) (s : State Ideal) (b h : Fin 8) (r : Fin 64) (d : Fin 128) :
    b23 j s (ix4 b h r d) = s.main_v21_3 (ix5 ⟨j, hj⟩ b h r d) := by
  unfold b23 b22
  rw [WordCmp.dynamicSlice_eq_extract _ _ _ _ ![j, 0, 0, 0, 0] (slices64 j hj) (starts j hj)]
  pointwise []

theorem gl_at (j : ℕ) (hj : j < 64) (s : State Ideal) (b h : Fin 8) (r : Fin 128) (d : Fin 128) :
    b29 j s (ix4 b h r d) = s.main_v21_4 (ix5 ⟨j, hj⟩ b h r d) := by
  unfold b29 b28
  rw [WordCmp.dynamicSlice_eq_extract _ _ _ _ ![j, 0, 0, 0, 0] (slices128 j hj) (starts j hj)]
  pointwise []

theorem state_at (j : ℕ) (hj : j < 64) (s : State Ideal) (b h : Fin 8) (r d : Fin 128) :
    (step j s).main_v21_6 (ix4 b h r d)
      = s.main_v21_6 (ix4 b h r d) * s.main_v21_4 (ix5 ⟨j, hj⟩ b h r d) + s.main_v21_2 (ix5 ⟨j, hj⟩ b h r d)
        - ∑ k : Fin 128, s.main_v21_0 (ix5 ⟨j, hj⟩ b h r k) * s.main_v21_6 (ix4 b h k d) := by
  show b35 j s (ix4 b h r d) = _
  pointwise [b35, b34, b33, b32, kw_at j hj, n_at j hj, gl_at j hj]

theorem rows_at (j : ℕ) (hj : j < 64) (s : State Ideal) (b h : Fin 8) (i : Fin 64) (d : Fin 128) :
    b31 j s (ix4 b h i d) = (∑ k : Fin 128, s.main_v21_1 (ix5 ⟨j, hj⟩ b h i k) * s.main_v21_6 (ix4 b h k d)) + s.main_v21_3 (ix5 ⟨j, hj⟩ b h i d) := by
  pointwise [b31, b30, q_at j hj, o_at j hj]

theorem out_at (j : ℕ) (hj : j < 64) (s : State Ideal) (n : Fin 64) (b h : Fin 8) (i : Fin 64) (d : Fin 128) :
    (step j s).main_v21_7 (ix5 n b h i d) = if n.val = j then b31 j s (ix4 b h i d) else s.main_v21_7 (ix5 n b h i d) := by
  show b41 j s (ix5 n b h i d) = _
  unfold b41 b36
  rw [WordCmp.dynamicUpdateSlice_eq_update _ _ _ _ ![j, 0, 0, 0, 0] (slices64 j hj) (starts j hj)]
  by_cases hn : n.val = j
  · subst hn
    rw [if_pos rfl]
    pointwise []
    exact dif_pos ⟨le_refl _, Nat.lt_succ_self _⟩
  · rw [if_neg hn]
    pointwise []
    exact dif_neg fun h => hn (by omega)

end Cert.Reference4Ideal.Scan

end
-- ==== Proof.ScanRefRun.lean ====
/- The reference's scan as a recurrence: each trip of its loop takes one state to the next, and the result is read off
   the state after the last trip. -/
module

public import proofs.«01_k».proof.Proof.Gen.Reference4Ideal.Run
public import proofs.«01_k».proof.Proof.Gen.Reference4Ideal.Step

@[expose] public section

set_option maxRecDepth 8192

noncomputable section

namespace Cert.Reference4Ideal.Scan

open Idealize.ShloMosaic Idealize.ShloMosaic.TcCoe Idealize.SL.Sem Idealize.ShloMosaic.StableHlo
open Cert.Reference4Ideal Cert.Reference4Ideal.Gen Cert.Reference4Ideal.Value
open Cert.Reference4Ideal.Step (State step init)

variable {F : FTy → Type} [FloatOps F]

/-- The loop's buffers hold the state `s`, and its counter the number `j`. -/
structure Carries (X : Valuation τ sig (Elt F)) (s : State F) (j : ℕ) : Prop where
  kw : X (Proc.devRef .tc main_v21_0) = s.main_v21_0
  q : X (Proc.devRef .tc main_v21_1) = s.main_v21_1
  n : X (Proc.devRef .tc main_v21_2) = s.main_v21_2
  o : X (Proc.devRef .tc main_v21_3) = s.main_v21_3
  gl : X (Proc.devRef .tc main_v21_4) = s.main_v21_4
  num : X (Proc.devRef .tc main_v21_5) = constantI S_ 32 (BitVec.ofNat 32 j)
  st : X (Proc.devRef .tc main_v21_6) = s.main_v21_6
  out : X (Proc.devRef .tc main_v21_7) = s.main_v21_7

variable {X : Valuation τ sig (Elt F)} {s : State F} {j : ℕ}

theorem next_st (h : Carries X s j) : step_main_v21_6 X = (step j s).main_v21_6 := by
  unfold step_main_v21_6
  rw [h.kw, h.n, h.gl, h.num, h.st]
  rfl

theorem next_out (h : Carries X s j) : step_main_v21_7 X = (step j s).main_v21_7 := by
  unfold step_main_v21_7
  rw [h.q, h.o, h.num, h.st, h.out]
  rfl

theorem next_num (h : Carries X s j) : step_main_v21_5 X = constantI S_ 32 (BitVec.ofNat 32 (j + 1)) := by
  unfold step_main_v21_5
  rw [h.num]
  exact funext fun _ => (BitVec.ofNat_add ..).symm

/-- One trip. -/
theorem Carries.next (h : Carries X s j) : Carries (STEP X) (step j s) (j + 1) :=
  { kw := (STEP_main_v21_0 X).trans h.kw, q := (STEP_main_v21_1 X).trans h.q, n := (STEP_main_v21_2 X).trans h.n,
    o := (STEP_main_v21_3 X).trans h.o, gl := (STEP_main_v21_4 X).trans h.gl, num := (STEP_main_v21_5 X).trans (next_num h),
    st := (STEP_main_v21_6 X).trans (next_st h), out := (STEP_main_v21_7 X).trans (next_out h) }

variable (m : (ℓ : Loc nD τ sig) → Buf (Elt F) ℓ) (c : Dev nD)

/-- The state after `n` trips. -/
def iter : ℕ → State F
  | 0 => init (m ((c : Thread nD τ).loc main_arg0)) (m ((c : Thread nD τ).loc main_arg1)) (m ((c : Thread nD τ).loc main_arg2)) (m ((c : Thread nD τ).loc main_arg3))
  | n + 1 => step n (iter n)

set_option maxRecDepth 65536 in
/-- What the operations before the loop leave. -/
theorem entry : Carries (entryContents preI m c) (iter m c 0) 0 := by
  constructor <;> (simp only [entryContents, afterL_cons, afterL_nil]; after_reads_simp) <;> rfl

theorem carries (k : ℕ) : Carries (STEP^[k] (entryContents preI m c)) (iter m c k) k := by
  induction k with
  | zero => exact entry m c
  | succ k ih =>
    rw [Function.iterate_succ_apply']
    exact ih.next

theorem result_of (h : Carries X s j) {x4 : (⟨S8x4096x4096, .bf16⟩ : BufTy).Contents (Elt F)} (h4 : X (Proc.devRef .tc main_arg4) = x4)
    {x5 : (⟨S128, .f32⟩ : BufTy).Contents (Elt F)} (h5 : X (Proc.devRef .tc main_arg5) = x5) :
    out_main_v43 X = Step.R_main_v43 s x4 x5 := by
  unfold out_main_v43
  rw [h.out, h4, h5]
  rfl

/-- The reference's run: its result from the state after all trips, the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v43) = Step.R_main_v43 (iter m c 64) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_of (carries m c 64) (iter_main_arg4 m c 64) (iter_main_arg5 m c 64)), (h c).2⟩)
    (Value.run m ρ)

end Cert.Reference4Ideal.Scan

end
-- ==== Proof.ScanRef.lean ====
/- The reference's scan over the extended reals, at an index: the same recurrence over the chunks. -/
module

public import proofs.«01_k».proof.Proof.ScanRefStep
public import proofs.«01_k».proof.Proof.ScanRefRun

@[expose] public section

set_option maxRecDepth 16384
noncomputable section

namespace Cert.Reference4Ideal.Scan

open Cert.Reference4Ideal Cert.Reference4Ideal.Gen Cert.Reference4Ideal.Step Cert.Scan
open Idealize.ShloMosaic Idealize.ShloMosaic.TcCoe Idealize.SL.Sem

variable (m : (ℓ : Loc nD τ sig) → Buf (Elt Ideal) ℓ) (c : Dev nD)

/-- The reference's arguments at an index: the operators and queries, -/
def argK (b : Fin 8) (p : Fin 4) (n : Fin 64) (r : Fin 192) (d : Fin 256) : EReal :=
  (show FVec Ideal S8x4x64x192x256 .bf16 from m ((c : Thread nD τ).loc main_arg0)) (ix5 b p n r d)
/-- the additions, -/
def argN (b : Fin 8) (p : Fin 4) (n : Fin 64) (r : Fin 128) (d : Fin 256) : EReal :=
  (show FVec Ideal S8x4x64x128x256 .bf16 from m ((c : Thread nD τ).loc main_arg1)) (ix5 b p n r d)
/-- the decays, -/
def argG (b : Fin 8) (p : Fin 4) (n : Fin 64) (r : Fin 8) (d : Fin 256) : EReal :=
  (show FVec Ideal S8x4x64x8x256 .f32 from m ((c : Thread nD τ).loc main_arg3)) (ix5 b p n r d)
/-- the rows within the chunks, -/
def argO (b : Fin 8) (t : Fin 4096) (d : Fin 1024) : EReal :=
  (show FVec Ideal S8x4096x1024 .bf16 from m ((c : Thread nD τ).loc main_arg2)) (ix3 b t d)
/-- the projections, -/
def argZ (b : Fin 8) (t : Fin 4096) (d : Fin 4096) : EReal :=
  (show FVec Ideal S8x4096x4096 .bf16 from m ((c : Thread nD τ).loc main_arg4)) (ix3 b t d)
/-- and the gain. -/
def argW (k : Fin 128) : EReal := (show FVec Ideal S128 .f32 from m ((c : Thread nD τ).loc main_arg5)) (ix1 k)

/-! ## The arrays the loop only reads -/

theorem iter_kw (n : ℕ) : (iter m c n).main_v21_0 = (iter m c 0).main_v21_0 := by
  induction n with
  | zero => rfl
  | succ n ih => exact ih

theorem iter_q (n : ℕ) : (iter m c n).main_v21_1 = (iter m c 0).main_v21_1 := by
  induction n with
  | zero => rfl
  | succ n ih => exact ih

theorem iter_n (n : ℕ) : (iter m c n).main_v21_2 = (iter m c 0).main_v21_2 := by
  induction n with
  | zero => rfl
  | succ n ih => exact ih

theorem iter_o (n : ℕ) : (iter m c n).main_v21_3 = (iter m c 0).main_v21_3 := by
  induction n with
  | zero => rfl
  | succ n ih => exact ih

theorem iter_gl (n : ℕ) : (iter m c n).main_v21_4 = (iter m c 0).main_v21_4 := by
  induction n with
  | zero => rfl
  | succ n ih => exact ih

theorem kw_iter (k : ℕ) (n : Fin 64) (b h : Fin 8) (r d : Fin 128) :
    (iter m c k).main_v21_0 (ix5 n b h r d) = argK m c b (hp h) n ⟨r.val, by omega⟩ (hd h d) := by
  rw [iter_kw]; exact arg_kw (m ((c : Thread nD τ).loc main_arg0)) (m ((c : Thread nD τ).loc main_arg1)) (m ((c : Thread nD τ).loc main_arg2)) (m ((c : Thread nD τ).loc main_arg3)) n b h r d

theorem q_iter (k : ℕ) (n : Fin 64) (b h : Fin 8) (i : Fin 64) (d : Fin 128) :
    (iter m c k).main_v21_1 (ix5 n b h i d) = argK m c b (hp h) n ⟨128 + i.val, by omega⟩ (hd h d) := by
  rw [iter_q]; exact arg_q (m ((c : Thread nD τ).loc main_arg0)) (m ((c : Thread nD τ).loc main_arg1)) (m ((c : Thread nD τ).loc main_arg2)) (m ((c : Thread nD τ).loc main_arg3)) n b h i d

theorem n_iter (k : ℕ) (n : Fin 64) (b h : Fin 8) (r d : Fin 128) :
    (iter m c k).main_v21_2 (ix5 n b h r d) = argN m c b (hp h) n r (hd h d) := by
  rw [iter_n]; exact arg_n (m ((c : Thread nD τ).loc main_arg0)) (m ((c : Thread nD τ).loc main_arg1)) (m ((c : Thread nD τ).loc main_arg2)) (m ((c : Thread nD τ).loc main_arg3)) n b h r d

theorem o_iter (k : ℕ) (n : Fin 64) (b h : Fin 8) (i : Fin 64) (d : Fin 128) :
    (iter m c k).main_v21_3 (ix5 n b h i d) = argO m c b (rn n i) (hw h d) := by
  rw [iter_o]; exact arg_o (m ((c : Thread nD τ).loc main_arg0)) (m ((c : Thread nD τ).loc main_arg1)) (m ((c : Thread nD τ).loc main_arg2)) (m ((c : Thread nD τ).loc main_arg3)) n b h i d

theorem gl_iter (k : ℕ) (n : Fin 64) (b h : Fin 8) (r d : Fin 128) :
    (iter m c k).main_v21_4 (ix5 n b h r d) = argG m c b (hp h) n ⟨r.val % 8, Nat.mod_lt _ (by decide)⟩ (hd h d) := by
  rw [iter_gl]; exact arg_gl (m ((c : Thread nD τ).loc main_arg0)) (m ((c : Thread nD τ).loc main_arg1)) (m ((c : Thread nD τ).loc main_arg2)) (m ((c : Thread nD τ).loc main_arg3)) n b h r d

/-! ## The state and the rows -/

theorem hj_hd (h : Fin 8) (d k : Fin 128) : hj (hd h d) k = hd h k := Fin.ext (by
  show 128 * ((h.val % 2 * 128 + d.val) / 128) + k.val = h.val % 2 * 128 + k.val
  omega)

theorem cn_of_lt (n : ℕ) (hn : n < 64) : cn n = ⟨n, hn⟩ := Fin.ext (Nat.mod_eq_of_lt hn)

theorem stAt_zero (b : Fin 8) (p : Fin 4) (r : Fin 128) (d : Fin 256) : stAt (argK m c) (argN m c) (argG m c) 0 b p r d = 0 := rfl

theorem stAt_succ (n : ℕ) (b : Fin 8) (p : Fin 4) :
    stAt (argK m c) (argN m c) (argG m c) (n + 1) b p
      = nextAt (argK m c b p (cn n)) (argN m c b p (cn n)) (argG m c b p (cn n)) (stAt (argK m c) (argN m c) (argG m c) n b p) := rfl

/-- The reference's state after `n` trips is the recurrence's. -/
theorem state_iter (n : ℕ) (hn : n ≤ 64) (b h : Fin 8) (r d : Fin 128) :
    (iter m c n).main_v21_6 (ix4 b h r d) = stAt (argK m c) (argN m c) (argG m c) n b (hp h) r (hd h d) := by
  induction n generalizing r d with
  | zero =>
    rw [stAt_zero]
    show K_main_v19 (F := Ideal) (ix4 b h r d) = 0
    pointwise [K_main_v19, K_main_cst]
  | succ n ih =>
    refine (state_at n (by omega) (iter m c n) b h r d).trans ?_
    rw [stAt_succ, ih (by omega) r d, gl_iter, n_iter, cn_of_lt n (by omega)]
    refine congrArg (_ - ·) (Finset.sum_congr rfl fun k _ => ?_)
    rw [kw_iter, ih (by omega) k d, hj_hd]

/-- The rows of one chunk. -/
theorem rows_iter (n : ℕ) (hn : n < 64) (b h : Fin 8) (i : Fin 64) (d : Fin 128) :
    b31 n (iter m c n) (ix4 b h i d)
      = rowAt (argK m c b (hp h) ⟨n, hn⟩) (argO m c b (rn ⟨n, hn⟩ i) (hw h d)) (stAt (argK m c) (argN m c) (argG m c) n b (hp h)) i (hd h d) := by
  refine (rows_at n hn (iter m c n) b h i d).trans ?_
  rw [o_iter]
  refine congrArg (· + _) (Finset.sum_congr rfl fun k _ => ?_)
  rw [q_iter, state_iter m c n (by omega) b h k d, hj_hd]

/-- The rows written so far. -/
theorem out_iter (k : ℕ) (hk : k ≤ 64) (n : Fin 64) (hn : n.val < k) (b h : Fin 8) (i : Fin 64) (d : Fin 128) :
    (iter m c k).main_v21_7 (ix5 n b h i d)
      = rowAt (argK m c b (hp h) n) (argO m c b (rn n i) (hw h d)) (stAt (argK m c) (argN m c) (argG m c) n.val b (hp h)) i (hd h d) := by
  induction k with
  | zero => exact absurd hn (Nat.not_lt_zero _)
  | succ k ih =>
    refine (out_at k (by omega) (iter m c k) n b h i d).trans ?_
    by_cases e : n.val = k
    · subst e
      rw [if_pos rfl]
      exact rows_iter m c n.val n.isLt b h i d
    · rw [if_neg e]
      exact ih (by omega) (by omega)

/-! ## The result -/

theorem gated_of (s : State Ideal) (x4 : FVec Ideal S8x4096x4096 .bf16) (x5 : FVec Ideal S128 .f32) (b : Fin 8) (t : Fin 4096) (k : Fin 1024) :
    R_main_v43 (F := Ideal) s x4 x5 (ix3 b t k)
      = gatedAt (fun d => s.main_v21_7 (ix5 ⟨t.val / 64, by omega⟩ b ⟨k.val / 128, by omega⟩ ⟨t.val % 64, Nat.mod_lt _ (by decide)⟩ d)) (fun d => x5 (ix1 d))
          (x4 (ix3 b t ⟨3072 + k.val, by omega⟩)) ⟨k.val % 128, Nat.mod_lt _ (by decide)⟩ := by
  pointwise [R_main_v43, gatedAt, Ideal.logistic]

/-- The reference's result at an index. -/
theorem result (b : Fin 8) (t : Fin 4096) (k : Fin 1024) :
    R_main_v43 (F := Ideal) (iter m c 64) (m ((c : Thread nD τ).loc main_arg4)) (m ((c : Thread nD τ).loc main_arg5)) (ix3 b t k)
      = scanAt (argK m c) (argN m c) (argG m c) (argO m c) (argZ m c) (argW m c) b t k := by
  refine (gated_of _ _ _ b t k).trans ?_
  refine congrArg (fun o => gatedAt o _ _ _) (funext fun d => ?_)
  refine (out_iter m c 64 (le_refl _) ⟨t.val / 64, by omega⟩ (show t.val / 64 < 64 by omega) b ⟨k.val / 128, by omega⟩ ⟨t.val % 64, Nat.mod_lt _ (by decide)⟩ d).trans ?_
  have e1 : hp ⟨k.val / 128, by omega⟩ = pr k := Fin.ext (show k.val / 128 / 2 = k.val / 256 by omega)
  have e2 : rn ⟨t.val / 64, by omega⟩ ⟨t.val % 64, Nat.mod_lt _ (by decide)⟩ = t := Fin.ext (show t.val / 64 * 64 + t.val % 64 = t.val by omega)
  have e3 : hw ⟨k.val / 128, by omega⟩ d = hc k d := Fin.ext (show k.val / 128 * 128 + d.val = 128 * (k.val / 128) + d.val by omega)
  have e4 : hd ⟨k.val / 128, by omega⟩ d = lane k d := Fin.ext (show k.val / 128 % 2 * 128 + d.val = 128 * (k.val / 128 % 2) + d.val by omega)
  have e5 : cn (t.val / 64) = ⟨t.val / 64, by omega⟩ := cn_of_lt _ (by omega)
  rw [e1, e2, e3, e4, e5]

end Cert.Reference4Ideal.Scan

end
-- ==== Proof.ScanClaim.lean ====
/- The claims about the delta rule's scan: both kernels' frames, the reference's, and the equality of results. -/
module

public import proofs.«01_k».proof.Defs
public import proofs.«01_k».proof.Proof.Gen.Kernel4
public import proofs.«01_k».proof.Proof.ScanValue
public import proofs.«01_k».proof.Proof.ScanRef
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

theorem scan_defs₀ (F : FTy → Type) [FloatOps F] :
    @Eq (Defs Cert.Kernel4.nD Cert.Kernel4.τ Cert.Kernel4.sig (Elt F) Cert.Kernel4.Λ₀) (Cert.Kernel4.defs₀ (F := F)) (Cert.Kernel4Ideal.defs₀ (F := F)) := by
  unfold Cert.Kernel4.defs₀ Cert.Kernel4Ideal.defs₀
  refine congrArg Defs.onTc (funext fun l => funext fun a => ?_)
  match l, a with
  | 0, (t, s) => rfl

/-- The compiled kernel and its idealisation are one text. -/
theorem scan_defs (F : FTy → Type) [FloatOps F] :
    @Eq (Defs Cert.Kernel4.nD Cert.Kernel4.τ Cert.Kernel4.sig (Elt F) (Pipeline.Sig Cert.Kernel4.Λ₀ (Fin 1) fun p => (Cert.Kernel4.pcfgs (F := F) p).Adm))
      (Cert.Kernel4.defs (F := F)) (Cert.Kernel4Ideal.defs (F := F)) :=
  congrArg (Pipeline.defs (Cert.Kernel4.pcfgs (F := F))) (scan_defs₀ F)

theorem frame_scan_kernel : Cert.quiescent_Kernel4 (hKernel4 := Cert.Kernel4.Gen.facts) := by
  intro m g _
  rw [scan_defs]
  exact Cert.Kernel4Ideal.Scan.frame (F := Bits) m g

theorem frame_scan_ideal : Cert.quiescent_Kernel4Ideal (hKernel4Ideal := Cert.Kernel4Ideal.Gen.facts) := by
  intro m g _
  exact Cert.Kernel4Ideal.Scan.frame (F := Ideal) m g

theorem frame_scan_reference : Cert.quiescent_Reference4Ideal (hReference4Ideal := Cert.Reference4Ideal.Gen.facts) := by
  intro m g _
  exact (θ_run Cert.Reference4Ideal.defs _ _).mono (fun r h => ⟨fun c => (h c).2, sem_eq_zero_of_no_sems (by decide) r.2⟩)
    (Cert.Reference4Ideal.Scan.run (F := Ideal) m g)

/-- The reference's result is the kernel's array, where the arguments agree. -/
theorem scan_values (m : (ℓ : Loc Cert.Kernel4Ideal.nD Cert.Kernel4Ideal.τ Cert.Kernel4Ideal.sig) → Buf (Elt Ideal) ℓ) (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) :
    Cert.Reference4Ideal.Step.R_main_v43 (F := Ideal) (Cert.Reference4Ideal.Scan.iter m' c 64) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))
      = (Cert.Kernel4Ideal.Scan.dats m 0 c).arrAt 6 (Cert.Kernel4Ideal.cfgs 0).N := by
  rw [Cert.Kernel4Ideal.Scan.final m c, ← h4, ← h5]
  funext (i : Cert.Kernel4Ideal.S8x4096x1024.Idx)
  refine (congrArg (Cert.Reference4Ideal.Step.R_main_v43 (F := Ideal) _ _ _) (eq_ix3 i)).trans ((Cert.Reference4Ideal.Scan.result m' c (i 0) (i 1) (i 2)).trans ?_)
  have eK : Cert.Reference4Ideal.Scan.argK m' c = Cert.Kernel4Ideal.Scan.argK m c := by unfold Cert.Reference4Ideal.Scan.argK Cert.Kernel4Ideal.Scan.argK; rw [h0]
  have eN : Cert.Reference4Ideal.Scan.argN m' c = Cert.Kernel4Ideal.Scan.argN m c := by unfold Cert.Reference4Ideal.Scan.argN Cert.Kernel4Ideal.Scan.argN; rw [h1]
  have eO : Cert.Reference4Ideal.Scan.argO m' c = Cert.Kernel4Ideal.Scan.argO m c := by unfold Cert.Reference4Ideal.Scan.argO Cert.Kernel4Ideal.Scan.argO; rw [h2]
  have eG : Cert.Reference4Ideal.Scan.argG m' c = Cert.Kernel4Ideal.Scan.argG m c := by unfold Cert.Reference4Ideal.Scan.argG Cert.Kernel4Ideal.Scan.argG; rw [h3]
  have eZ : Cert.Reference4Ideal.Scan.argZ m' c = Cert.Kernel4Ideal.Scan.argZ m c := by unfold Cert.Reference4Ideal.Scan.argZ Cert.Kernel4Ideal.Scan.argZ; rw [h4]
  have eW : Cert.Reference4Ideal.Scan.argW m' c = Cert.Kernel4Ideal.Scan.argW m c := by unfold Cert.Reference4Ideal.Scan.argW Cert.Kernel4Ideal.Scan.argW; rw [h5]
  rw [eK, eN, eO, eG, eZ, eW]

theorem algebraic_scan : Cert.algebraic_Kernel4Ideal_Reference4Ideal (hKernel4Ideal := Cert.Kernel4Ideal.Gen.facts) (hReference4Ideal := Cert.Reference4Ideal.Gen.facts) := by
  pair_intro
  · run_from Cert.Kernel4Ideal.Scan.run_main m g
  · run_from Cert.Reference4Ideal.Scan.run m' g'
    obtain ⟨h0, h1, h2, h3, h4, h5⟩ := hagree c
    exact scan_values m m' c h0 h1 h2 h3 h4 h5

end Cert.Proof

end
-- ==== Proof.OpsClaim.lean ====
/- The frames of the call that computes the delta rule's operators. -/
module

public import proofs.«01_k».proof.Defs
public import proofs.«01_k».proof.Proof.Gen.Kernel5
public import proofs.«01_k».proof.Proof.Gen.Kernel5Ideal.Frame
public import Idealize.ShloMosaic.Lib.Claim

@[expose] public section

set_option maxRecDepth 16384

noncomputable section

namespace Cert.Proof

open Idealize.ShloMosaic Idealize.ShloMosaic.TcCoe Idealize.SL.Sem

theorem ops_defs₀ (F : FTy → Type) [FloatOps F] :
    @Eq (Defs Cert.Kernel5.nD Cert.Kernel5.τ Cert.Kernel5.sig (Elt F) Cert.Kernel5.Λ₀) (Cert.Kernel5.defs₀ (F := F)) (Cert.Kernel5Ideal.defs₀ (F := F)) := by
  unfold Cert.Kernel5.defs₀ Cert.Kernel5Ideal.defs₀
  refine congrArg Defs.onTc (funext fun l => funext fun a => ?_)
  match l, a with
  | 0, (t, s) => rfl

/-- The compiled kernel and its idealisation are one text. -/
theorem ops_defs (F : FTy → Type) [FloatOps F] :
    @Eq (Defs Cert.Kernel5.nD Cert.Kernel5.τ Cert.Kernel5.sig (Elt F) (Pipeline.Sig Cert.Kernel5.Λ₀ (Fin 1) fun p => (Cert.Kernel5.pcfgs (F := F) p).Adm))
      (Cert.Kernel5.defs (F := F)) (Cert.Kernel5Ideal.defs (F := F)) :=
  congrArg (Pipeline.defs (Cert.Kernel5.pcfgs (F := F))) (ops_defs₀ F)

theorem frame_ops_kernel : Cert.quiescent_Kernel5 (hKernel5 := Cert.Kernel5.Gen.facts) := by
  intro m g _
  rw [ops_defs]
  exact Cert.Kernel5Ideal.Gen.frame (F := Bits) m g

theorem frame_ops_ideal : Cert.quiescent_Kernel5Ideal (hKernel5Ideal := Cert.Kernel5Ideal.Gen.facts) := by
  intro m g _
  exact Cert.Kernel5Ideal.Gen.frame (F := Ideal) m g

end Cert.Proof

end
-- ==== Proof.lean ====
/- The proof of the claims about the layer tails, the even layer's input projection, the delta rule's scan and its
   operators: each program's facts, frame and value claim, proved in the modules under Proof/, put together here. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Step
public import proofs.«01_k».proof.Proof.Gen.Kernel5
public import proofs.«01_k».proof.Proof.Gen.Kernel5Ideal
public import proofs.«01_k».proof.Proof.Gen.Kernel5Ideal.Frame
public import proofs.«01_k».proof.Proof.OddClaim
public import proofs.«01_k».proof.Proof.EvenClaim
public import proofs.«01_k».proof.Proof.ProjClaim
public import proofs.«01_k».proof.Proof.ScanClaim
public import proofs.«01_k».proof.Proof.OpsClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts,
    frame_odd_kernel, frame_odd_ideal, frame_odd_reference, frame_even_kernel, frame_even_ideal, frame_even_reference,
    frame_proj_kernel, frame_proj_ideal, frame_proj_reference,
    frame_scan_kernel, frame_scan_ideal, frame_scan_reference, frame_ops_kernel, frame_ops_ideal,
    trivial, algebraic_odd, trivial, algebraic_even, trivial, algebraic_proj, trivial, algebraic_scan, trivial⟩

end Cert.Proof

end
